-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelFf2 (m : (ℓ : Loc Cert.KernelFf2.nD Cert.KernelFf2.τ Cert.KernelFf2.sig) → Buf (Elt Bits) ℓ) : Prop :=
  True

def Pre_KernelFf2Ideal (m : (ℓ : Loc Cert.KernelFf2Ideal.nD Cert.KernelFf2Ideal.τ Cert.KernelFf2Ideal.sig) → Buf (Elt Ideal) ℓ) : Prop :=
  True

def Pre_ReferenceFf2Ideal (m : (ℓ : Loc Cert.ReferenceFf2Ideal.nD Cert.ReferenceFf2Ideal.τ Cert.ReferenceFf2Ideal.sig) → Buf (Elt Ideal) ℓ) : Prop :=
  True

def Pre_KernelFf1 (m : (ℓ : Loc Cert.KernelFf1.nD Cert.KernelFf1.τ Cert.KernelFf1.sig) → Buf (Elt Bits) ℓ) : Prop :=
  True

def Pre_KernelFf1Ideal (m : (ℓ : Loc Cert.KernelFf1Ideal.nD Cert.KernelFf1Ideal.τ Cert.KernelFf1Ideal.sig) → Buf (Elt Ideal) ℓ) : Prop :=
  True

def Pre_ReferenceFf1Ideal (m : (ℓ : Loc Cert.ReferenceFf1Ideal.nD Cert.ReferenceFf1Ideal.τ Cert.ReferenceFf1Ideal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6)) (m ((c.tc : Thread Cert.KernelFfnIdeal.nD Cert.KernelFfnIdeal.τ).loc Cert.KernelFfnIdeal.main_arg7))).1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6)) (m ((c.tc : Thread Cert.KernelFfnIdeal.nD Cert.KernelFfnIdeal.τ).loc Cert.KernelFfnIdeal.main_arg7))).2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6)) (m ((c.tc : Thread Cert.KernelFfnIdeal.nD Cert.KernelFfnIdeal.τ).loc Cert.KernelFfnIdeal.main_arg7))).2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6)) (m ((c.tc : Thread Cert.KernelFfnIdeal.nD Cert.KernelFfnIdeal.τ).loc Cert.KernelFfnIdeal.main_arg7))).2.2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6)) (m ((c.tc : Thread Cert.KernelFfnIdeal.nD Cert.KernelFfnIdeal.τ).loc Cert.KernelFfnIdeal.main_arg7))).2.2.2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6)) (m ((c.tc : Thread Cert.KernelFfnIdeal.nD Cert.KernelFfnIdeal.τ).loc Cert.KernelFfnIdeal.main_arg7))).2.2.2.2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6)) (m ((c.tc : Thread Cert.KernelFfnIdeal.nD Cert.KernelFfnIdeal.τ).loc Cert.KernelFfnIdeal.main_arg7))).2.2.2.2.2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6)) (m ((c.tc : Thread Cert.KernelFfnIdeal.nD Cert.KernelFfnIdeal.τ).loc Cert.KernelFfnIdeal.main_arg7))).2.2.2.2.2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5)) (m ((c.tc : Thread Cert.ReferenceFfnIdeal.nD Cert.ReferenceFfnIdeal.τ).loc Cert.ReferenceFfnIdeal.main_arg6)) (m ((c.tc : Thread Cert.ReferenceFfnIdeal.nD Cert.ReferenceFfnIdeal.τ).loc Cert.ReferenceFfnIdeal.main_arg7))).1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5)) (m ((c.tc : Thread Cert.ReferenceFfnIdeal.nD Cert.ReferenceFfnIdeal.τ).loc Cert.ReferenceFfnIdeal.main_arg6)) (m ((c.tc : Thread Cert.ReferenceFfnIdeal.nD Cert.ReferenceFfnIdeal.τ).loc Cert.ReferenceFfnIdeal.main_arg7))).2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5)) (m ((c.tc : Thread Cert.ReferenceFfnIdeal.nD Cert.ReferenceFfnIdeal.τ).loc Cert.ReferenceFfnIdeal.main_arg6)) (m ((c.tc : Thread Cert.ReferenceFfnIdeal.nD Cert.ReferenceFfnIdeal.τ).loc Cert.ReferenceFfnIdeal.main_arg7))).2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5)) (m ((c.tc : Thread Cert.ReferenceFfnIdeal.nD Cert.ReferenceFfnIdeal.τ).loc Cert.ReferenceFfnIdeal.main_arg6)) (m ((c.tc : Thread Cert.ReferenceFfnIdeal.nD Cert.ReferenceFfnIdeal.τ).loc Cert.ReferenceFfnIdeal.main_arg7))).2.2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5)) (m ((c.tc : Thread Cert.ReferenceFfnIdeal.nD Cert.ReferenceFfnIdeal.τ).loc Cert.ReferenceFfnIdeal.main_arg6)) (m ((c.tc : Thread Cert.ReferenceFfnIdeal.nD Cert.ReferenceFfnIdeal.τ).loc Cert.ReferenceFfnIdeal.main_arg7))).2.2.2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5)) (m ((c.tc : Thread Cert.ReferenceFfnIdeal.nD Cert.ReferenceFfnIdeal.τ).loc Cert.ReferenceFfnIdeal.main_arg6)) (m ((c.tc : Thread Cert.ReferenceFfnIdeal.nD Cert.ReferenceFfnIdeal.τ).loc Cert.ReferenceFfnIdeal.main_arg7))).2.2.2.2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5)) (m ((c.tc : Thread Cert.ReferenceFfnIdeal.nD Cert.ReferenceFfnIdeal.τ).loc Cert.ReferenceFfnIdeal.main_arg6)) (m ((c.tc : Thread Cert.ReferenceFfnIdeal.nD Cert.ReferenceFfnIdeal.τ).loc Cert.ReferenceFfnIdeal.main_arg7))).2.2.2.2.2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5)) (m ((c.tc : Thread Cert.ReferenceFfnIdeal.nD Cert.ReferenceFfnIdeal.τ).loc Cert.ReferenceFfnIdeal.main_arg6)) (m ((c.tc : Thread Cert.ReferenceFfnIdeal.nD Cert.ReferenceFfnIdeal.τ).loc Cert.ReferenceFfnIdeal.main_arg7))).2.2.2.2.2.2.2 = (fun _ => 1#1)

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_KernelDxIdeal_finite_dx [hPre_finite_dx : Cert.Pre_finite_dx.Facts] (m : (ℓ : Loc Cert.KernelDxIdeal.nD Cert.KernelDxIdeal.τ Cert.KernelDxIdeal.sig) → Buf (Elt Ideal) ℓ) : Prop :=
  ∀ c : Dev Cert.KernelDxIdeal.nD,
    (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4))).1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4))).2.1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4))).2.2.1 = (fun _ => 1#1)
    ∧ (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4))).2.2.2 = (fun _ => 1#1)

def Pre_ReferenceDxIdeal (m : (ℓ : Loc Cert.ReferenceDxIdeal.nD Cert.ReferenceDxIdeal.τ Cert.ReferenceDxIdeal.sig) → Buf (Elt Ideal) ℓ) : Prop :=
  True

def Pre_ReferenceDxIdeal_finite_dx [hPre_finite_dx : Cert.Pre_finite_dx.Facts] (m : (ℓ : Loc Cert.ReferenceDxIdeal.nD Cert.ReferenceDxIdeal.τ Cert.ReferenceDxIdeal.sig) → Buf (Elt Ideal) ℓ) : Prop :=
  ∀ c : Dev Cert.ReferenceDxIdeal.nD,
    (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4))).1 = (fun _ => 1#1)
    ∧ (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4))).2.1 = (fun _ => 1#1)
    ∧ (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4))).2.2.1 = (fun _ => 1#1)
    ∧ (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4))).2.2.2 = (fun _ => 1#1)

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_fwd [hPre_finite_fwd : Cert.Pre_finite_fwd.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5))).1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5))).2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5))).2.2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5))).2.2.2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5))).2.2.2.2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5))).2.2.2.2.2 = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_fwd [hPre_finite_fwd : Cert.Pre_finite_fwd.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5))).1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5))).2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5))).2.2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5))).2.2.2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5))).2.2.2.2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelFf2 [hKernelFf2 : Cert.KernelFf2.Facts] : Prop :=
  ∀ (m : (ℓ : Loc Cert.KernelFf2.nD Cert.KernelFf2.τ Cert.KernelFf2.sig) → Buf (Elt Bits) ℓ) (g : Dev Cert.KernelFf2.nD → PrngReg), Pre_KernelFf2 m →
    θ_run (Cert.KernelFf2.defs (F := Bits)) (onTc (τ := Cert.KernelFf2.τ) (Cert.KernelFf2.main (F := Bits))) ⟨m, fun _ => 0, g⟩ (fun r => (∀ c : Dev Cert.KernelFf2.nD,
      r.2.mem ((c.tc : Thread Cert.KernelFf2.nD Cert.KernelFf2.τ).loc Cert.KernelFf2.main_arg0) = m ((c.tc : Thread Cert.KernelFf2.nD Cert.KernelFf2.τ).loc Cert.KernelFf2.main_arg0)
      ∧ r.2.mem ((c.tc : Thread Cert.KernelFf2.nD Cert.KernelFf2.τ).loc Cert.KernelFf2.main_arg1) = m ((c.tc : Thread Cert.KernelFf2.nD Cert.KernelFf2.τ).loc Cert.KernelFf2.main_arg1))
      ∧ r.2.sem = fun _ => 0)

def quiescent_KernelFf2Ideal [hKernelFf2Ideal : Cert.KernelFf2Ideal.Facts] : Prop :=
  ∀ (m : (ℓ : Loc Cert.KernelFf2Ideal.nD Cert.KernelFf2Ideal.τ Cert.KernelFf2Ideal.sig) → Buf (Elt Ideal) ℓ) (g : Dev Cert.KernelFf2Ideal.nD → PrngReg), Pre_KernelFf2Ideal m →
    θ_run (Cert.KernelFf2Ideal.defs (F := Ideal)) (onTc (τ := Cert.KernelFf2Ideal.τ) (Cert.KernelFf2Ideal.main (F := Ideal))) ⟨m, fun _ => 0, g⟩ (fun r => (∀ c : Dev Cert.KernelFf2Ideal.nD,
      r.2.mem ((c.tc : Thread Cert.KernelFf2Ideal.nD Cert.KernelFf2Ideal.τ).loc Cert.KernelFf2Ideal.main_arg0) = m ((c.tc : Thread Cert.KernelFf2Ideal.nD Cert.KernelFf2Ideal.τ).loc Cert.KernelFf2Ideal.main_arg0)
      ∧ r.2.mem ((c.tc : Thread Cert.KernelFf2Ideal.nD Cert.KernelFf2Ideal.τ).loc Cert.KernelFf2Ideal.main_arg1) = m ((c.tc : Thread Cert.KernelFf2Ideal.nD Cert.KernelFf2Ideal.τ).loc Cert.KernelFf2Ideal.main_arg1))
      ∧ r.2.sem = fun _ => 0)

def quiescent_ReferenceFf2Ideal [hReferenceFf2Ideal : Cert.ReferenceFf2Ideal.Facts] : Prop :=
  ∀ (m : (ℓ : Loc Cert.ReferenceFf2Ideal.nD Cert.ReferenceFf2Ideal.τ Cert.ReferenceFf2Ideal.sig) → Buf (Elt Ideal) ℓ) (g : Dev Cert.ReferenceFf2Ideal.nD → PrngReg), Pre_ReferenceFf2Ideal m →
    θ_run (Cert.ReferenceFf2Ideal.defs (F := Ideal)) (onTc (τ := Cert.ReferenceFf2Ideal.τ) (Cert.ReferenceFf2Ideal.main (F := Ideal))) ⟨m, fun _ => 0, g⟩ (fun r => (∀ c : Dev Cert.ReferenceFf2Ideal.nD,
      r.2.mem ((c.tc : Thread Cert.ReferenceFf2Ideal.nD Cert.ReferenceFf2Ideal.τ).loc Cert.ReferenceFf2Ideal.main_arg0) = m ((c.tc : Thread Cert.ReferenceFf2Ideal.nD Cert.ReferenceFf2Ideal.τ).loc Cert.ReferenceFf2Ideal.main_arg0)
      ∧ r.2.mem ((c.tc : Thread Cert.ReferenceFf2Ideal.nD Cert.ReferenceFf2Ideal.τ).loc Cert.ReferenceFf2Ideal.main_arg1) = m ((c.tc : Thread Cert.ReferenceFf2Ideal.nD Cert.ReferenceFf2Ideal.τ).loc Cert.ReferenceFf2Ideal.main_arg1))
      ∧ r.2.sem = fun _ => 0)

def quiescent_KernelFf1 [hKernelFf1 : Cert.KernelFf1.Facts] : Prop :=
  ∀ (m : (ℓ : Loc Cert.KernelFf1.nD Cert.KernelFf1.τ Cert.KernelFf1.sig) → Buf (Elt Bits) ℓ) (g : Dev Cert.KernelFf1.nD → PrngReg), Pre_KernelFf1 m →
    θ_run (Cert.KernelFf1.defs (F := Bits)) (onTc (τ := Cert.KernelFf1.τ) (Cert.KernelFf1.main (F := Bits))) ⟨m, fun _ => 0, g⟩ (fun r => (∀ c : Dev Cert.KernelFf1.nD,
      r.2.mem ((c.tc : Thread Cert.KernelFf1.nD Cert.KernelFf1.τ).loc Cert.KernelFf1.main_arg0) = m ((c.tc : Thread Cert.KernelFf1.nD Cert.KernelFf1.τ).loc Cert.KernelFf1.main_arg0)
      ∧ r.2.mem ((c.tc : Thread Cert.KernelFf1.nD Cert.KernelFf1.τ).loc Cert.KernelFf1.main_arg1) = m ((c.tc : Thread Cert.KernelFf1.nD Cert.KernelFf1.τ).loc Cert.KernelFf1.main_arg1))
      ∧ r.2.sem = fun _ => 0)

def quiescent_KernelFf1Ideal [hKernelFf1Ideal : Cert.KernelFf1Ideal.Facts] : Prop :=
  ∀ (m : (ℓ : Loc Cert.KernelFf1Ideal.nD Cert.KernelFf1Ideal.τ Cert.KernelFf1Ideal.sig) → Buf (Elt Ideal) ℓ) (g : Dev Cert.KernelFf1Ideal.nD → PrngReg), Pre_KernelFf1Ideal m →
    θ_run (Cert.KernelFf1Ideal.defs (F := Ideal)) (onTc (τ := Cert.KernelFf1Ideal.τ) (Cert.KernelFf1Ideal.main (F := Ideal))) ⟨m, fun _ => 0, g⟩ (fun r => (∀ c : Dev Cert.KernelFf1Ideal.nD,
      r.2.mem ((c.tc : Thread Cert.KernelFf1Ideal.nD Cert.KernelFf1Ideal.τ).loc Cert.KernelFf1Ideal.main_arg0) = m ((c.tc : Thread Cert.KernelFf1Ideal.nD Cert.KernelFf1Ideal.τ).loc Cert.KernelFf1Ideal.main_arg0)
      ∧ r.2.mem ((c.tc : Thread Cert.KernelFf1Ideal.nD Cert.KernelFf1Ideal.τ).loc Cert.KernelFf1Ideal.main_arg1) = m ((c.tc : Thread Cert.KernelFf1Ideal.nD Cert.KernelFf1Ideal.τ).loc Cert.KernelFf1Ideal.main_arg1))
      ∧ r.2.sem = fun _ => 0)

def quiescent_ReferenceFf1Ideal [hReferenceFf1Ideal : Cert.ReferenceFf1Ideal.Facts] : Prop :=
  ∀ (m : (ℓ : Loc Cert.ReferenceFf1Ideal.nD Cert.ReferenceFf1Ideal.τ Cert.ReferenceFf1Ideal.sig) → Buf (Elt Ideal) ℓ) (g : Dev Cert.ReferenceFf1Ideal.nD → PrngReg), Pre_ReferenceFf1Ideal m →
    θ_run (Cert.ReferenceFf1Ideal.defs (F := Ideal)) (onTc (τ := Cert.ReferenceFf1Ideal.τ) (Cert.ReferenceFf1Ideal.main (F := Ideal))) ⟨m, fun _ => 0, g⟩ (fun r => (∀ c : Dev Cert.ReferenceFf1Ideal.nD,
      r.2.mem ((c.tc : Thread Cert.ReferenceFf1Ideal.nD Cert.ReferenceFf1Ideal.τ).loc Cert.ReferenceFf1Ideal.main_arg0) = m ((c.tc : Thread Cert.ReferenceFf1Ideal.nD Cert.ReferenceFf1Ideal.τ).loc Cert.ReferenceFf1Ideal.main_arg0)
      ∧ r.2.mem ((c.tc : Thread Cert.ReferenceFf1Ideal.nD Cert.ReferenceFf1Ideal.τ).loc Cert.ReferenceFf1Ideal.main_arg1) = m ((c.tc : Thread Cert.ReferenceFf1Ideal.nD Cert.ReferenceFf1Ideal.τ).loc Cert.ReferenceFf1Ideal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ r.2.sem = fun _ => 0)

def quiescent_KernelDxIdeal_pre_finite_dx [hKernelDxIdeal : Cert.KernelDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal_finite_dx m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4))
      ∧ r.2.sem = fun _ => 0)

def quiescent_ReferenceDxIdeal_pre_finite_dx [hReferenceDxIdeal : Cert.ReferenceDxIdeal.Facts] [hPre_finite_dx : Cert.Pre_finite_dx.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal_finite_dx m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4)
      ∧ r.2.mem ((c.tc : Thread Cert.KernelFwd.nD Cert.KernelFwd.τ).loc Cert.KernelFwd.main_arg5) = m ((c.tc : Thread Cert.KernelFwd.nD Cert.KernelFwd.τ).loc Cert.KernelFwd.main_arg5))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5))
      ∧ r.2.sem = fun _ => 0)

def quiescent_KernelFwdIdeal_pre_finite_fwd [hKernelFwdIdeal : Cert.KernelFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_fwd m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5))
      ∧ r.2.sem = fun _ => 0)

def quiescent_ReferenceFwdIdeal_pre_finite_fwd [hReferenceFwdIdeal : Cert.ReferenceFwdIdeal.Facts] [hPre_finite_fwd : Cert.Pre_finite_fwd.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_fwd m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5))
      ∧ r.2.sem = fun _ => 0)

def preserves_Kernel_KernelIdeal : Prop :=
  IdealRules.named_const.Statement Cert.KernelIdeal.κ "gelu_c0c1" .f32 0x3D122279#32 ((80338380498831 / 2251799813685248 : ℝ) : EReal)
  ∧ IdealRules.named_const.Statement Cert.KernelIdeal.κ "gelu_6c0c1" .f32 0x3E5B33B6#32 ((241015141496493 / 1125899906842624 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v92_1)) (v1 : (c : Dev Cert.KernelIdeal.nD) → Buf (Elt Ideal) ((c.tc : Thread Cert.KernelIdeal.nD Cert.KernelIdeal.τ).loc Cert.KernelIdeal.main_v92_2)) (v2 : (c : Dev Cert.KernelIdeal.nD) → Buf (Elt Ideal) ((c.tc : Thread Cert.KernelIdeal.nD Cert.KernelIdeal.τ).loc Cert.KernelIdeal.main_v92_3)) (v3 : (c : Dev Cert.KernelIdeal.nD) → Buf (Elt Ideal) ((c.tc : Thread Cert.KernelIdeal.nD Cert.KernelIdeal.τ).loc Cert.KernelIdeal.main_v92_4)) (v4 : (c : Dev Cert.KernelIdeal.nD) → Buf (Elt Ideal) ((c.tc : Thread Cert.KernelIdeal.nD Cert.KernelIdeal.τ).loc Cert.KernelIdeal.main_v92_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92_1) = v0 c
          ∧ r.2.mem ((c.tc : Thread Cert.KernelIdeal.nD Cert.KernelIdeal.τ).loc Cert.KernelIdeal.main_v92_2) = v1 c
          ∧ r.2.mem ((c.tc : Thread Cert.KernelIdeal.nD Cert.KernelIdeal.τ).loc Cert.KernelIdeal.main_v92_3) = v2 c
          ∧ r.2.mem ((c.tc : Thread Cert.KernelIdeal.nD Cert.KernelIdeal.τ).loc Cert.KernelIdeal.main_v92_4) = v3 c
          ∧ r.2.mem ((c.tc : Thread Cert.KernelIdeal.nD Cert.KernelIdeal.τ).loc Cert.KernelIdeal.main_v92_5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v365) = v0 c
          ∧ r.2.mem ((c.tc : Thread Cert.ReferenceIdeal.nD Cert.ReferenceIdeal.τ).loc Cert.ReferenceIdeal.main_v369) = v1 c
          ∧ r.2.mem ((c.tc : Thread Cert.ReferenceIdeal.nD Cert.ReferenceIdeal.τ).loc Cert.ReferenceIdeal.main_v223) = v2 c
          ∧ r.2.mem ((c.tc : Thread Cert.ReferenceIdeal.nD Cert.ReferenceIdeal.τ).loc Cert.ReferenceIdeal.main_v373) = v3 c
          ∧ r.2.mem ((c.tc : Thread Cert.ReferenceIdeal.nD Cert.ReferenceIdeal.τ).loc Cert.ReferenceIdeal.main_v379) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelFf2_KernelFf2Ideal : Prop :=
  True

def algebraic_KernelFf2Ideal_ReferenceFf2Ideal [hKernelFf2Ideal : Cert.KernelFf2Ideal.Facts] [hReferenceFf2Ideal : Cert.ReferenceFf2Ideal.Facts] : Prop :=
  ∀ (m : (ℓ : Loc Cert.KernelFf2Ideal.nD Cert.KernelFf2Ideal.τ Cert.KernelFf2Ideal.sig) → Buf (Elt Ideal) ℓ) (g : Dev Cert.KernelFf2Ideal.nD → PrngReg)
    (m' : (ℓ : Loc Cert.ReferenceFf2Ideal.nD Cert.ReferenceFf2Ideal.τ Cert.ReferenceFf2Ideal.sig) → Buf (Elt Ideal) ℓ) (g' : Dev Cert.ReferenceFf2Ideal.nD → PrngReg), Pre_KernelFf2Ideal m →
    (∀ c : Dev Cert.KernelFf2Ideal.nD,
      m' ((c.tc : Thread Cert.ReferenceFf2Ideal.nD Cert.ReferenceFf2Ideal.τ).loc Cert.ReferenceFf2Ideal.main_arg0) = m ((c.tc : Thread Cert.KernelFf2Ideal.nD Cert.KernelFf2Ideal.τ).loc Cert.KernelFf2Ideal.main_arg0)
      ∧ m' ((c.tc : Thread Cert.ReferenceFf2Ideal.nD Cert.ReferenceFf2Ideal.τ).loc Cert.ReferenceFf2Ideal.main_arg1) = m ((c.tc : Thread Cert.KernelFf2Ideal.nD Cert.KernelFf2Ideal.τ).loc Cert.KernelFf2Ideal.main_arg1)) →
    ∃ (v0 : (c : Dev Cert.KernelFf2Ideal.nD) → Buf (Elt Ideal) ((c.tc : Thread Cert.KernelFf2Ideal.nD Cert.KernelFf2Ideal.τ).loc Cert.KernelFf2Ideal.main_v2)),
      θ_run (Cert.KernelFf2Ideal.defs (F := Ideal)) (onTc (τ := Cert.KernelFf2Ideal.τ) (Cert.KernelFf2Ideal.main (F := Ideal))) ⟨m, fun _ => 0, g⟩ (fun r => ∀ c : Dev Cert.KernelFf2Ideal.nD,
          r.2.mem ((c.tc : Thread Cert.KernelFf2Ideal.nD Cert.KernelFf2Ideal.τ).loc Cert.KernelFf2Ideal.main_v2) = v0 c
          ∧ r.2.mem ((c.tc : Thread Cert.KernelFf2Ideal.nD Cert.KernelFf2Ideal.τ).loc Cert.KernelFf2Ideal.main_arg0) = m ((c.tc : Thread Cert.KernelFf2Ideal.nD Cert.KernelFf2Ideal.τ).loc Cert.KernelFf2Ideal.main_arg0)
          ∧ r.2.mem ((c.tc : Thread Cert.KernelFf2Ideal.nD Cert.KernelFf2Ideal.τ).loc Cert.KernelFf2Ideal.main_arg1) = m ((c.tc : Thread Cert.KernelFf2Ideal.nD Cert.KernelFf2Ideal.τ).loc Cert.KernelFf2Ideal.main_arg1))
      ∧ θ_run (Cert.ReferenceFf2Ideal.defs (F := Ideal)) (onTc (τ := Cert.ReferenceFf2Ideal.τ) (Cert.ReferenceFf2Ideal.main (F := Ideal))) ⟨m', fun _ => 0, g'⟩ (fun r => ∀ c : Dev Cert.ReferenceFf2Ideal.nD,
          r.2.mem ((c.tc : Thread Cert.ReferenceFf2Ideal.nD Cert.ReferenceFf2Ideal.τ).loc Cert.ReferenceFf2Ideal.main_v8) = v0 c
          ∧ r.2.mem ((c.tc : Thread Cert.ReferenceFf2Ideal.nD Cert.ReferenceFf2Ideal.τ).loc Cert.ReferenceFf2Ideal.main_arg0) = m' ((c.tc : Thread Cert.ReferenceFf2Ideal.nD Cert.ReferenceFf2Ideal.τ).loc Cert.ReferenceFf2Ideal.main_arg0)
          ∧ r.2.mem ((c.tc : Thread Cert.ReferenceFf2Ideal.nD Cert.ReferenceFf2Ideal.τ).loc Cert.ReferenceFf2Ideal.main_arg1) = m' ((c.tc : Thread Cert.ReferenceFf2Ideal.nD Cert.ReferenceFf2Ideal.τ).loc Cert.ReferenceFf2Ideal.main_arg1))

def preserves_KernelFf1_KernelFf1Ideal : Prop :=
  True

def algebraic_KernelFf1Ideal_ReferenceFf1Ideal [hKernelFf1Ideal : Cert.KernelFf1Ideal.Facts] [hReferenceFf1Ideal : Cert.ReferenceFf1Ideal.Facts] : Prop :=
  ∀ (m : (ℓ : Loc Cert.KernelFf1Ideal.nD Cert.KernelFf1Ideal.τ Cert.KernelFf1Ideal.sig) → Buf (Elt Ideal) ℓ) (g : Dev Cert.KernelFf1Ideal.nD → PrngReg)
    (m' : (ℓ : Loc Cert.ReferenceFf1Ideal.nD Cert.ReferenceFf1Ideal.τ Cert.ReferenceFf1Ideal.sig) → Buf (Elt Ideal) ℓ) (g' : Dev Cert.ReferenceFf1Ideal.nD → PrngReg), Pre_KernelFf1Ideal m →
    (∀ c : Dev Cert.KernelFf1Ideal.nD,
      m' ((c.tc : Thread Cert.ReferenceFf1Ideal.nD Cert.ReferenceFf1Ideal.τ).loc Cert.ReferenceFf1Ideal.main_arg0) = m ((c.tc : Thread Cert.KernelFf1Ideal.nD Cert.KernelFf1Ideal.τ).loc Cert.KernelFf1Ideal.main_arg0)
      ∧ m' ((c.tc : Thread Cert.ReferenceFf1Ideal.nD Cert.ReferenceFf1Ideal.τ).loc Cert.ReferenceFf1Ideal.main_arg1) = m ((c.tc : Thread Cert.KernelFf1Ideal.nD Cert.KernelFf1Ideal.τ).loc Cert.KernelFf1Ideal.main_arg1)) →
    ∃ (v0 : (c : Dev Cert.KernelFf1Ideal.nD) → Buf (Elt Ideal) ((c.tc : Thread Cert.KernelFf1Ideal.nD Cert.KernelFf1Ideal.τ).loc Cert.KernelFf1Ideal.main_v2)),
      θ_run (Cert.KernelFf1Ideal.defs (F := Ideal)) (onTc (τ := Cert.KernelFf1Ideal.τ) (Cert.KernelFf1Ideal.main (F := Ideal))) ⟨m, fun _ => 0, g⟩ (fun r => ∀ c : Dev Cert.KernelFf1Ideal.nD,
          r.2.mem ((c.tc : Thread Cert.KernelFf1Ideal.nD Cert.KernelFf1Ideal.τ).loc Cert.KernelFf1Ideal.main_v2) = v0 c
          ∧ r.2.mem ((c.tc : Thread Cert.KernelFf1Ideal.nD Cert.KernelFf1Ideal.τ).loc Cert.KernelFf1Ideal.main_arg0) = m ((c.tc : Thread Cert.KernelFf1Ideal.nD Cert.KernelFf1Ideal.τ).loc Cert.KernelFf1Ideal.main_arg0)
          ∧ r.2.mem ((c.tc : Thread Cert.KernelFf1Ideal.nD Cert.KernelFf1Ideal.τ).loc Cert.KernelFf1Ideal.main_arg1) = m ((c.tc : Thread Cert.KernelFf1Ideal.nD Cert.KernelFf1Ideal.τ).loc Cert.KernelFf1Ideal.main_arg1))
      ∧ θ_run (Cert.ReferenceFf1Ideal.defs (F := Ideal)) (onTc (τ := Cert.ReferenceFf1Ideal.τ) (Cert.ReferenceFf1Ideal.main (F := Ideal))) ⟨m', fun _ => 0, g'⟩ (fun r => ∀ c : Dev Cert.ReferenceFf1Ideal.nD,
          r.2.mem ((c.tc : Thread Cert.ReferenceFf1Ideal.nD Cert.ReferenceFf1Ideal.τ).loc Cert.ReferenceFf1Ideal.main_v8) = v0 c
          ∧ r.2.mem ((c.tc : Thread Cert.ReferenceFf1Ideal.nD Cert.ReferenceFf1Ideal.τ).loc Cert.ReferenceFf1Ideal.main_arg0) = m' ((c.tc : Thread Cert.ReferenceFf1Ideal.nD Cert.ReferenceFf1Ideal.τ).loc Cert.ReferenceFf1Ideal.main_arg0)
          ∧ r.2.mem ((c.tc : Thread Cert.ReferenceFf1Ideal.nD Cert.ReferenceFf1Ideal.τ).loc Cert.ReferenceFf1Ideal.main_arg1) = m' ((c.tc : Thread Cert.ReferenceFf1Ideal.nD Cert.ReferenceFf1Ideal.τ).loc Cert.ReferenceFf1Ideal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v8) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v8) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)) →
    ∃ (v0 : (c : Dev Cert.KernelFfnIdeal.nD) → Buf (Elt Ideal) ((c.tc : Thread Cert.KernelFfnIdeal.nD Cert.KernelFfnIdeal.τ).loc Cert.KernelFfnIdeal.main_v24_0)) (v1 : (c : Dev Cert.KernelFfnIdeal.nD) → Buf (Elt Ideal) ((c.tc : Thread Cert.KernelFfnIdeal.nD Cert.KernelFfnIdeal.τ).loc Cert.KernelFfnIdeal.main_v24_1)) (v2 : (c : Dev Cert.KernelFfnIdeal.nD) → Buf (Elt Ideal) ((c.tc : Thread Cert.KernelFfnIdeal.nD Cert.KernelFfnIdeal.τ).loc Cert.KernelFfnIdeal.main_v24_2)) (v3 : (c : Dev Cert.KernelFfnIdeal.nD) → Buf (Elt Ideal) ((c.tc : Thread Cert.KernelFfnIdeal.nD Cert.KernelFfnIdeal.τ).loc Cert.KernelFfnIdeal.main_v24_3)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v24_0) = v0 c
          ∧ r.2.mem ((c.tc : Thread Cert.KernelFfnIdeal.nD Cert.KernelFfnIdeal.τ).loc Cert.KernelFfnIdeal.main_v24_1) = v1 c
          ∧ r.2.mem ((c.tc : Thread Cert.KernelFfnIdeal.nD Cert.KernelFfnIdeal.τ).loc Cert.KernelFfnIdeal.main_v24_2) = v2 c
          ∧ r.2.mem ((c.tc : Thread Cert.KernelFfnIdeal.nD Cert.KernelFfnIdeal.τ).loc Cert.KernelFfnIdeal.main_v24_3) = v3 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v98) = v0 c
          ∧ r.2.mem ((c.tc : Thread Cert.ReferenceFfnIdeal.nD Cert.ReferenceFfnIdeal.τ).loc Cert.ReferenceFfnIdeal.main_v99) = v1 c
          ∧ r.2.mem ((c.tc : Thread Cert.ReferenceFfnIdeal.nD Cert.ReferenceFfnIdeal.τ).loc Cert.ReferenceFfnIdeal.main_v101) = v2 c
          ∧ r.2.mem ((c.tc : Thread Cert.ReferenceFfnIdeal.nD Cert.ReferenceFfnIdeal.τ).loc Cert.ReferenceFfnIdeal.main_v106) = v3 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7))

def preserves_KernelDx_KernelDxIdeal : Prop :=
  True

def algebraic_KernelDxIdeal_ReferenceDxIdeal_pre_finite_dx [hKernelDxIdeal : Cert.KernelDxIdeal.Facts] [hReferenceDxIdeal : Cert.ReferenceDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal_finite_dx m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)) →
    ∃ (v0 : (c : Dev Cert.KernelDxIdeal.nD) → Buf (Elt Ideal) ((c.tc : Thread Cert.KernelDxIdeal.nD Cert.KernelDxIdeal.τ).loc Cert.KernelDxIdeal.main_v6_0)) (v1 : (c : Dev Cert.KernelDxIdeal.nD) → Buf (Elt Ideal) ((c.tc : Thread Cert.KernelDxIdeal.nD Cert.KernelDxIdeal.τ).loc Cert.KernelDxIdeal.main_v6_1)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v6_0) = v0 c
          ∧ r.2.mem ((c.tc : Thread Cert.KernelDxIdeal.nD Cert.KernelDxIdeal.τ).loc Cert.KernelDxIdeal.main_v6_1) = v1 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v44) = v0 c
          ∧ r.2.mem ((c.tc : Thread Cert.ReferenceDxIdeal.nD Cert.ReferenceDxIdeal.τ).loc Cert.ReferenceDxIdeal.main_v47) = v1 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4))

def preserves_KernelFwd_KernelFwdIdeal : Prop :=
  True

def algebraic_KernelFwdIdeal_ReferenceFwdIdeal_pre_finite_fwd [hKernelFwdIdeal : Cert.KernelFwdIdeal.Facts] [hReferenceFwdIdeal : Cert.ReferenceFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_fwd m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)
      ∧ m' ((c.tc : Thread Cert.ReferenceFwdIdeal.nD Cert.ReferenceFwdIdeal.τ).loc Cert.ReferenceFwdIdeal.main_arg5) = m ((c.tc : Thread Cert.KernelFwdIdeal.nD Cert.KernelFwdIdeal.τ).loc Cert.KernelFwdIdeal.main_arg5)) →
    ∃ (v0 : (c : Dev Cert.KernelFwdIdeal.nD) → Buf (Elt Ideal) ((c.tc : Thread Cert.KernelFwdIdeal.nD Cert.KernelFwdIdeal.τ).loc Cert.KernelFwdIdeal.main_v7_0)) (v1 : (c : Dev Cert.KernelFwdIdeal.nD) → Buf (Elt Ideal) ((c.tc : Thread Cert.KernelFwdIdeal.nD Cert.KernelFwdIdeal.τ).loc Cert.KernelFwdIdeal.main_v7_1)) (v2 : (c : Dev Cert.KernelFwdIdeal.nD) → Buf (Elt Ideal) ((c.tc : Thread Cert.KernelFwdIdeal.nD Cert.KernelFwdIdeal.τ).loc Cert.KernelFwdIdeal.main_v7_2)) (v3 : (c : Dev Cert.KernelFwdIdeal.nD) → Buf (Elt Ideal) ((c.tc : Thread Cert.KernelFwdIdeal.nD Cert.KernelFwdIdeal.τ).loc Cert.KernelFwdIdeal.main_v7_3)) (v4 : (c : Dev Cert.KernelFwdIdeal.nD) → Buf (Elt Ideal) ((c.tc : Thread Cert.KernelFwdIdeal.nD Cert.KernelFwdIdeal.τ).loc Cert.KernelFwdIdeal.main_v7_4)) (v5 : (c : Dev Cert.KernelFwdIdeal.nD) → Buf (Elt Ideal) ((c.tc : Thread Cert.KernelFwdIdeal.nD Cert.KernelFwdIdeal.τ).loc Cert.KernelFwdIdeal.main_v7_5)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v7_0) = v0 c
          ∧ r.2.mem ((c.tc : Thread Cert.KernelFwdIdeal.nD Cert.KernelFwdIdeal.τ).loc Cert.KernelFwdIdeal.main_v7_1) = v1 c
          ∧ r.2.mem ((c.tc : Thread Cert.KernelFwdIdeal.nD Cert.KernelFwdIdeal.τ).loc Cert.KernelFwdIdeal.main_v7_2) = v2 c
          ∧ r.2.mem ((c.tc : Thread Cert.KernelFwdIdeal.nD Cert.KernelFwdIdeal.τ).loc Cert.KernelFwdIdeal.main_v7_3) = v3 c
          ∧ r.2.mem ((c.tc : Thread Cert.KernelFwdIdeal.nD Cert.KernelFwdIdeal.τ).loc Cert.KernelFwdIdeal.main_v7_4) = v4 c
          ∧ r.2.mem ((c.tc : Thread Cert.KernelFwdIdeal.nD Cert.KernelFwdIdeal.τ).loc Cert.KernelFwdIdeal.main_v7_5) = v5 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
          ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v78) = v0 c
          ∧ r.2.mem ((c.tc : Thread Cert.ReferenceFwdIdeal.nD Cert.ReferenceFwdIdeal.τ).loc Cert.ReferenceFwdIdeal.main_v79) = v1 c
          ∧ r.2.mem ((c.tc : Thread Cert.ReferenceFwdIdeal.nD Cert.ReferenceFwdIdeal.τ).loc Cert.ReferenceFwdIdeal.main_v81) = v2 c
          ∧ r.2.mem ((c.tc : Thread Cert.ReferenceFwdIdeal.nD Cert.ReferenceFwdIdeal.τ).loc Cert.ReferenceFwdIdeal.main_v83) = v3 c
          ∧ r.2.mem ((c.tc : Thread Cert.ReferenceFwdIdeal.nD Cert.ReferenceFwdIdeal.τ).loc Cert.ReferenceFwdIdeal.main_v84) = v4 c
          ∧ r.2.mem ((c.tc : Thread Cert.ReferenceFwdIdeal.nD Cert.ReferenceFwdIdeal.τ).loc Cert.ReferenceFwdIdeal.main_v86) = v5 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5))

def Claim : Prop :=
  ∃ (hKernel : Cert.Kernel.Facts) (hKernelIdeal : Cert.KernelIdeal.Facts) (hReferenceIdeal : Cert.ReferenceIdeal.Facts) (hKernelFf2 : Cert.KernelFf2.Facts) (hKernelFf2Ideal : Cert.KernelFf2Ideal.Facts) (hReferenceFf2Ideal : Cert.ReferenceFf2Ideal.Facts) (hKernelFf1 : Cert.KernelFf1.Facts) (hKernelFf1Ideal : Cert.KernelFf1Ideal.Facts) (hReferenceFf1Ideal : Cert.ReferenceFf1Ideal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelFfn : Cert.KernelFfn.Facts) (hKernelFfnIdeal : Cert.KernelFfnIdeal.Facts) (hReferenceFfnIdeal : Cert.ReferenceFfnIdeal.Facts) (hKernelDx : Cert.KernelDx.Facts) (hKernelDxIdeal : Cert.KernelDxIdeal.Facts) (hReferenceDxIdeal : Cert.ReferenceDxIdeal.Facts) (hKernelFwd : Cert.KernelFwd.Facts) (hKernelFwdIdeal : Cert.KernelFwdIdeal.Facts) (hReferenceFwdIdeal : Cert.ReferenceFwdIdeal.Facts) (hPre_finite_ffn : Cert.Pre_finite_ffn.Facts) (hPre_finite_dx : Cert.Pre_finite_dx.Facts) (hPre_finite_fwd : Cert.Pre_finite_fwd.Facts),
    quiescent_Kernel (hKernel := hKernel)
    ∧ quiescent_KernelIdeal (hKernelIdeal := hKernelIdeal)
    ∧ quiescent_ReferenceIdeal (hReferenceIdeal := hReferenceIdeal)
    ∧ quiescent_KernelFf2 (hKernelFf2 := hKernelFf2)
    ∧ quiescent_KernelFf2Ideal (hKernelFf2Ideal := hKernelFf2Ideal)
    ∧ quiescent_ReferenceFf2Ideal (hReferenceFf2Ideal := hReferenceFf2Ideal)
    ∧ quiescent_KernelFf1 (hKernelFf1 := hKernelFf1)
    ∧ quiescent_KernelFf1Ideal (hKernelFf1Ideal := hKernelFf1Ideal)
    ∧ quiescent_ReferenceFf1Ideal (hReferenceFf1Ideal := hReferenceFf1Ideal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelDx (hKernelDx := hKernelDx)
    ∧ quiescent_KernelDxIdeal (hKernelDxIdeal := hKernelDxIdeal)
    ∧ quiescent_KernelDxIdeal_pre_finite_dx (hKernelDxIdeal := hKernelDxIdeal) (hPre_finite_dx := hPre_finite_dx)
    ∧ quiescent_ReferenceDxIdeal (hReferenceDxIdeal := hReferenceDxIdeal)
    ∧ quiescent_ReferenceDxIdeal_pre_finite_dx (hReferenceDxIdeal := hReferenceDxIdeal) (hPre_finite_dx := hPre_finite_dx)
    ∧ quiescent_KernelFwd (hKernelFwd := hKernelFwd)
    ∧ quiescent_KernelFwdIdeal (hKernelFwdIdeal := hKernelFwdIdeal)
    ∧ quiescent_KernelFwdIdeal_pre_finite_fwd (hKernelFwdIdeal := hKernelFwdIdeal) (hPre_finite_fwd := hPre_finite_fwd)
    ∧ quiescent_ReferenceFwdIdeal (hReferenceFwdIdeal := hReferenceFwdIdeal)
    ∧ quiescent_ReferenceFwdIdeal_pre_finite_fwd (hReferenceFwdIdeal := hReferenceFwdIdeal) (hPre_finite_fwd := hPre_finite_fwd)
    ∧ preserves_Kernel_KernelIdeal
    ∧ algebraic_KernelIdeal_ReferenceIdeal (hKernelIdeal := hKernelIdeal) (hReferenceIdeal := hReferenceIdeal)
    ∧ preserves_KernelFf2_KernelFf2Ideal
    ∧ algebraic_KernelFf2Ideal_ReferenceFf2Ideal (hKernelFf2Ideal := hKernelFf2Ideal) (hReferenceFf2Ideal := hReferenceFf2Ideal)
    ∧ preserves_KernelFf1_KernelFf1Ideal
    ∧ algebraic_KernelFf1Ideal_ReferenceFf1Ideal (hKernelFf1Ideal := hKernelFf1Ideal) (hReferenceFf1Ideal := hReferenceFf1Ideal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelDx_KernelDxIdeal
    ∧ algebraic_KernelDxIdeal_ReferenceDxIdeal_pre_finite_dx (hKernelDxIdeal := hKernelDxIdeal) (hReferenceDxIdeal := hReferenceDxIdeal) (hPre_finite_dx := hPre_finite_dx)
    ∧ preserves_KernelFwd_KernelFwdIdeal
    ∧ algebraic_KernelFwdIdeal_ReferenceFwdIdeal_pre_finite_fwd (hKernelFwdIdeal := hKernelFwdIdeal) (hReferenceFwdIdeal := hReferenceFwdIdeal) (hPre_finite_fwd := hPre_finite_fwd)
-- ==== Pre_finite_dx.lean ====
abbrev S4096x5120 : Shape := ⟨2, ![4096, 5120]⟩
abbrev S4096x1024 : Shape := ⟨2, ![4096, 1024]⟩
abbrev S1024 : Shape := ⟨1, ![1024]⟩
abbrev S1024x5120 : Shape := ⟨2, ![1024, 5120]⟩
abbrev S_ : Shape := ⟨0, ![]⟩

class Facts : Prop where
  bcast_S_S4096x5120 : S_.BroadcastsInDim S4096x5120 (![] : Fin 0 → Fin S4096x5120.rank)
  bcast_S_S4096x1024 : S_.BroadcastsInDim S4096x1024 (![] : Fin 0 → Fin S4096x1024.rank)
  bcast_S_S1024 : S_.BroadcastsInDim S1024 (![] : Fin 0 → Fin S1024.rank)
  bcast_S_S1024x5120 : S_.BroadcastsInDim S1024x5120 (![] : Fin 0 → Fin S1024x5120.rank)

variable [Facts]

def fn {F : FTy → Type} [FloatOps F] (main_arg0 : FVec F S4096x5120 .f32) (main_arg1 : FVec F S4096x1024 .f32) (main_arg2 : FVec F S4096x1024 .f32) (main_arg3 : FVec F S1024 .f32) (main_arg4 : FVec F S1024x5120 .f32) : IVec S4096x5120 1 × IVec S4096x1024 1 × IVec S1024 1 × IVec S1024x5120 1 :=
  let main_v0 : FVec F S4096x5120 .f32 := Host.absf main_arg0
  let main_cst : FVec F S_ .f32 := constant S_ .f32 0x7F800000#32
  let main_v1 : FVec F S4096x5120 .f32 := broadcastInDim S4096x5120 ![] bcast_S_S4096x5120 main_cst
  let main_v2 : IVec S4096x5120 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5120 .f32 := Host.absf main_arg4
  let main_cst_2 : FVec F S_ .f32 := constant S_ .f32 0x7F800000#32
  let main_v10 : FVec F S1024x5120 .f32 := broadcastInDim S1024x5120 ![] bcast_S_S1024x5120 main_cst_2
  let main_v11 : IVec S1024x5120 1 := cmpf .olt main_v9 main_v10
  (main_v2, main_v5, main_v8, main_v11)
-- ==== Pre_finite_ffn.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn_part1 {F : FTy → Type} [FloatOps F] (main_arg6 : FVec F S1024x4096 .f32) (main_arg7 : FVec F S4096x1024 .f32) (main_v2 : IVec S4096x1024 1) (main_v5 : IVec S4096x1024 1) (main_v8 : IVec S4096x1024 1) (main_v11 : IVec S4096x1024 1) (main_v14 : IVec S1024 1) (main_v17 : IVec S1024 1) : IVec S4096x1024 1 × IVec S4096x1024 1 × IVec S4096x1024 1 × IVec S4096x1024 1 × IVec S1024 1 × IVec S1024 1 × IVec S1024x4096 1 × IVec S4096x1024 1 :=
  let main_v18 : FVec F S1024x4096 .f32 := Host.absf main_arg6
  let main_cst_5 : FVec F S_ .f32 := constant S_ .f32 0x7F800000#32
  let main_v19 : FVec F S1024x4096 .f32 := broadcastInDim S1024x4096 ![] bcast_S_S1024x4096 main_cst_5
  let main_v20 : IVec S1024x4096 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S1024 .f32) (main_arg5 : FVec F S1024 .f32) (main_arg6 : FVec F S1024x4096 .f32) (main_arg7 : FVec F S4096x1024 .f32) : IVec S4096x1024 1 × IVec S4096x1024 1 × IVec S4096x1024 1 × IVec S4096x1024 1 × IVec S1024 1 × IVec S1024 1 × IVec S1024x4096 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_v2 main_v5 main_v8 main_v11 main_v14 main_v17
-- ==== Pre_finite_fwd.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn {F : FTy → Type} [FloatOps F] (main_arg0 : FVec F S4096x1024 .f32) (main_arg1 : FVec F S1024 .f32) (main_arg2 : FVec F S1024x4096 .f32) (main_arg3 : FVec F S4096x1024 .f32) (main_arg4 : FVec F S1024 .f32) (main_arg5 : FVec F S4096x1024 .f32) : IVec S4096x1024 1 × IVec S1024 1 × IVec S1024x4096 1 × IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Kernel.lean ====
abbrev S4096x5120 : Shape := ⟨2, ![4096, 5120]⟩
abbrev S4096x1024 : Shape := ⟨2, ![4096, 1024]⟩
abbrev S4x256x256 : Shape := ⟨3, ![4, 256, 256]⟩
abbrev S1024 : Shape := ⟨1, ![1024]⟩
abbrev S4x128x128 : Shape := ⟨3, ![4, 128, 128]⟩
abbrev S4x128 : Shape := ⟨2, ![4, 128]⟩
abbrev S1024x1024 : Shape := ⟨2, ![1024, 1024]⟩
abbrev S1x4096x1024 : Shape := ⟨3, ![1, 4096, 1024]⟩
abbrev S_ : Shape := ⟨0, ![]⟩
abbrev S4096 : Shape := ⟨1, ![4096]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4096x1 : Shape := ⟨3, ![1, 4096, 1]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S1x4096x1x256 : Shape := ⟨4, ![1, 4096, 1, 256]⟩
abbrev S1x4096x4x256 : Shape := ⟨4, ![1, 4096, 4, 256]⟩
abbrev S4096x4x256 : Shape := ⟨3, ![4096, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x128x1 : Shape := ⟨3, ![4, 128, 1]⟩
abbrev S8x128 : Shape := ⟨2, ![8, 128]⟩
abbrev S1x1024 : Shape := ⟨2, ![1, 1024]⟩
abbrev S2x4x128x256 : Shape := ⟨4, ![2, 4, 128, 256]⟩
abbrev S128x512 : Shape := ⟨2, ![128, 512]⟩
abbrev S8x1024 : Shape := ⟨2, ![8, 1024]⟩
abbrev S8x5120 : Shape := ⟨2, ![8, 5120]⟩
abbrev S256x5120 : Shape := ⟨2, ![256, 5120]⟩
abbrev S256x1024 : Shape := ⟨2, ![256, 1024]⟩
abbrev S272x1024 : Shape := ⟨2, ![272, 1024]⟩
abbrev S128x1024 : Shape := ⟨2, ![128, 1024]⟩
abbrev S16x1024 : Shape := ⟨2, ![16, 1024]⟩
abbrev S256 : Shape := ⟨1, ![256]⟩
abbrev S256x1 : Shape := ⟨2, ![256, 1]⟩
abbrev S128x256 : Shape := ⟨2, ![128, 256]⟩
abbrev S1x128x1 : Shape := ⟨3, ![1, 128, 1]⟩
abbrev S256x256 : Shape := ⟨2, ![256, 256]⟩
abbrev S1x256x256 : Shape := ⟨3, ![1, 256, 256]⟩
abbrev S1x256 : Shape := ⟨2, ![1, 256]⟩
abbrev S272x256 : Shape := ⟨2, ![272, 256]⟩
abbrev S1x64x256 : Shape := ⟨3, ![1, 64, 256]⟩
abbrev S64x256 : Shape := ⟨2, ![64, 256]⟩
abbrev S1x1x64x256 : Shape := ⟨4, ![1, 1, 64, 256]⟩

abbrev nBuf : Space → Nat
  | .hbm => 138
  | .vmem => 32
  | .smem => 0
  | _ => 0

abbrev hbmTy0_0 (i : Nat) : BufTy := match i % 128 with
  | 0 => ⟨S4096x5120, .f32⟩
  | 1 => ⟨S4096x1024, .f32⟩
  | 2 => ⟨S4x256x256, .f32⟩
  | 3 => ⟨S1024, .f32⟩
  | 4 => ⟨S1024, .f32⟩
  | 5 => ⟨S1024, .f32⟩
  | 6 => ⟨S4x128x128, .f32⟩
  | 7 => ⟨S4x128, .f32⟩
  | 8 => ⟨S4x256x256, .f32⟩
  | 9 => ⟨S1024x1024, .f32⟩
  | 10 => ⟨S4096x1024, .f32⟩
  | 11 => ⟨S1x4096x1024, .f32⟩
  | 12 => ⟨S_, .f32⟩
  | 13 => ⟨S_, .f32⟩
  | 14 => ⟨S1x4096x1024, .f32⟩
  | 15 => ⟨S4096, .i32⟩
  | 16 => ⟨S_, .i32⟩
  | 17 => ⟨S4096, .i32⟩
  | 18 => ⟨S4096, .i32⟩
  | 19 => ⟨S1x4096x256, .f32⟩
  | 20 => ⟨S1x2x256, .f32⟩
  | 21 => ⟨S_, .f32⟩
  | 22 => ⟨S1x2x256, .f32⟩
  | 23 => ⟨S1x4094x256, .f32⟩
  | 24 => ⟨S1x4096x256, .f32⟩
  | 25 => ⟨S_, .i32⟩
  | 26 => ⟨S4096, .i32⟩
  | 27 => ⟨S4096, .i32⟩
  | 28 => ⟨S4096, .f32⟩
  | 29 => ⟨S1x4096x1, .f32⟩
  | 30 => ⟨S1x4096x256, .f32⟩
  | 31 => ⟨S1x4096x256, .f32⟩
  | 32 => ⟨S1x4096x256, .f32⟩
  | 33 => ⟨S1x4096x256, .f32⟩
  | 34 => ⟨S1x4096x256, .f32⟩
  | 35 => ⟨S1x4096x256, .f32⟩
  | 36 => ⟨S1x4x256, .f32⟩
  | 37 => ⟨S_, .f32⟩
  | 38 => ⟨S1x4x256, .f32⟩
  | 39 => ⟨S1x4092x256, .f32⟩
  | 40 => ⟨S1x4096x256, .f32⟩
  | 41 => ⟨S_, .i32⟩
  | 42 => ⟨S4096, .i32⟩
  | 43 => ⟨S4096, .i32⟩
  | 44 => ⟨S4096, .f32⟩
  | 45 => ⟨S1x4096x1, .f32⟩
  | 46 => ⟨S1x4096x256, .f32⟩
  | 47 => ⟨S1x4096x256, .f32⟩
  | 48 => ⟨S1x4096x256, .f32⟩
  | 49 => ⟨S1x4096x256, .f32⟩
  | 50 => ⟨S1x4096x256, .f32⟩
  | 51 => ⟨S1x4096x256, .f32⟩
  | 52 => ⟨S1x8x256, .f32⟩
  | 53 => ⟨S_, .f32⟩
  | 54 => ⟨S1x8x256, .f32⟩
  | 55 => ⟨S1x4088x256, .f32⟩
  | 56 => ⟨S1x4096x256, .f32⟩
  | 57 => ⟨S_, .i32⟩
  | 58 => ⟨S4096, .i32⟩
  | 59 => ⟨S4096, .i32⟩
  | 60 => ⟨S4096, .f32⟩
  | 61 => ⟨S1x4096x1, .f32⟩
  | 62 => ⟨S1x4096x256, .f32⟩
  | 63 => ⟨S1x4096x256, .f32⟩
  | 64 => ⟨S1x4096x256, .f32⟩
  | 65 => ⟨S1x4096x256, .f32⟩
  | 66 => ⟨S1x4096x256, .f32⟩
  | 67 => ⟨S1x4096x256, .f32⟩
  | 68 => ⟨S1x16x256, .f32⟩
  | 69 => ⟨S_, .f32⟩
  | 70 => ⟨S1x16x256, .f32⟩
  | 71 => ⟨S1x4080x256, .f32⟩
  | 72 => ⟨S1x4096x256, .f32⟩
  | 73 => ⟨S_, .i32⟩
  | 74 => ⟨S4096, .i32⟩
  | 75 => ⟨S4096, .i32⟩
  | 76 => ⟨S4096, .f32⟩
  | 77 => ⟨S1x4096x1, .f32⟩
  | 78 => ⟨S1x4096x256, .f32⟩
  | 79 => ⟨S1x4096x256, .f32⟩
  | 80 => ⟨S1x4096x256, .f32⟩
  | 81 => ⟨S1x4096x256, .f32⟩
  | 82 => ⟨S1x4096x256, .f32⟩
  | 83 => ⟨S1x4096x1x256, .f32⟩
  | 84 => ⟨S1x4096x1x256, .f32⟩
  | 85 => ⟨S1x4096x1x256, .f32⟩
  | 86 => ⟨S1x4096x1x256, .f32⟩
  | 87 => ⟨S1x4096x4x256, .f32⟩
  | 88 => ⟨S4096x4x256, .f32⟩
  | 89 => ⟨S4096x1024, .f32⟩
  | 90 => ⟨S128, .i32⟩
  | 91 => ⟨S_, .i32⟩
  | 92 => ⟨S_, .i32⟩
  | 93 => ⟨S128, .i32⟩
  | 94 => ⟨S128, .i32⟩
  | 95 => ⟨S128, .i32⟩
  | 96 => ⟨S_, .i32⟩
  | 97 => ⟨S128, .i32⟩
  | 98 => ⟨S128, .i1⟩
  | 99 => ⟨S128, .i32⟩
  | 100 => ⟨S128, .i32⟩
  | 101 => ⟨S_, .i32⟩
  | 102 => ⟨S128, .i32⟩
  | 103 => ⟨S128, .i1⟩
  | 104 => ⟨S128, .i1⟩
  | 105 => ⟨S_, .i32⟩
  | 106 => ⟨S128, .i32⟩
  | 107 => ⟨S128, .i32⟩
  | 108 => ⟨S128, .i32⟩
  | 109 => ⟨S128x1, .i32⟩
  | 110 => ⟨S1x128, .i32⟩
  | 111 => ⟨S128x128, .i32⟩
  | 112 => ⟨S128x128, .i32⟩
  | 113 => ⟨S128x128, .i1⟩
  | 114 => ⟨S128x128, .f32⟩
  | 115 => ⟨S1x128x128, .f32⟩
  | 116 => ⟨S4x128x128, .f32⟩
  | 117 => ⟨S4x128x128, .f32⟩
  | 118 => ⟨S4x128x128, .bf16⟩
  | 119 => ⟨S4x128x128, .bf16⟩
  | 120 => ⟨S4x128x1, .f32⟩
  | 121 => ⟨S_, .f32⟩
  | 122 => ⟨S8x128, .f32⟩
  | 123 => ⟨S4096x1024, .bf16⟩
  | 124 => ⟨S4096x1024, .bf16⟩
  | 125 => ⟨S4x256x256, .bf16⟩
  | 126 => ⟨S1x1024, .f32⟩
  | 127 => ⟨S1x1024, .f32⟩
  | _ => ⟨S4096x5120, .f32⟩

abbrev hbmTy0_1 (i : Nat) : BufTy := match i % 128 with
  | 0 => ⟨S1x1024, .f32⟩
  | 1 => ⟨S4x256x256, .bf16⟩
  | 2 => ⟨S1024x1024, .bf16⟩
  | 3 => ⟨S4096x5120, .bf16⟩
  | 4 => ⟨S2x4x128x256, .bf16⟩
  | 5 => ⟨S2x4x128x256, .bf16⟩
  | 6 => ⟨S4x128x128, .f32⟩
  | 7 => ⟨S128x512, .f32⟩
  | 8 => ⟨S8x1024, .f32⟩
  | 9 => ⟨S8x5120, .f32⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | .local _ .vmem, ⟨0, _⟩ => ⟨S256x5120, .f32⟩
  | .local _ .vmem, ⟨1, _⟩ => ⟨S256x5120, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S4x256x256, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S4x128x128, .bf16⟩
  | .local _ .vmem, ⟨11, _⟩ => ⟨S4x128x128, .bf16⟩
  | .local _ .vmem, ⟨12, _⟩ => ⟨S4x128x1, .f32⟩
  | .local _ .vmem, ⟨13, _⟩ => ⟨S4x256x256, .bf16⟩
  | .local _ .vmem, ⟨14, _⟩ => ⟨S1024x1024, .bf16⟩
  | .local _ .vmem, ⟨15, _⟩ => ⟨S128x128, .f32⟩
  | .local _ .vmem, ⟨16, _⟩ => ⟨S8x128, .f32⟩
  | .local _ .vmem, ⟨17, _⟩ => ⟨S256x5120, .bf16⟩
  | .local _ .vmem, ⟨18, _⟩ => ⟨S256x5120, .bf16⟩
  | .local _ .vmem, ⟨19, _⟩ => ⟨S2x4x128x256, .bf16⟩
  | .local _ .vmem, ⟨20, _⟩ => ⟨S2x4x128x256, .bf16⟩
  | .local _ .vmem, ⟨21, _⟩ => ⟨S4x128x128, .f32⟩
  | .local _ .vmem, ⟨22, _⟩ => ⟨S128x512, .f32⟩
  | .local _ .vmem, ⟨23, _⟩ => ⟨S8x1024, .f32⟩
  | .local _ .vmem, ⟨24, _⟩ => ⟨S8x5120, .f32⟩
  | .local _ .vmem, ⟨25, _⟩ => ⟨S272x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S128x1024, .f32⟩
  | .local _ .vmem, ⟨30, _⟩ => ⟨S4x256x256, .f32⟩
  | .local _ .vmem, ⟨31, _⟩ => ⟨S4x256x256, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_call0_cst : Ref sig .tc := ⟨.hbm, 12, rfl⟩
abbrev main_call0_call0_v0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_7 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_c : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_c_0 : Ref sig .tc := ⟨.hbm, 105, rfl⟩
abbrev main_call1_v12 : Ref sig .tc := ⟨.hbm, 106, rfl⟩
abbrev main_call1_v13 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_8 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92_0 : Ref sig .tc := ⟨.hbm, 131, rfl⟩
abbrev main_v92_1 : Ref sig .tc := ⟨.hbm, 132, rfl⟩
abbrev main_v92_2 : Ref sig .tc := ⟨.hbm, 133, rfl⟩
abbrev main_v92_3 : Ref sig .tc := ⟨.hbm, 134, rfl⟩
abbrev main_v92_4 : Ref sig .tc := ⟨.hbm, 135, rfl⟩
abbrev main_v92_5 : Ref sig .tc := ⟨.hbm, 136, rfl⟩
abbrev main_v92_6 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_536 : BitVec 32 := 15#32
  let v816 : BitVec 1 := Scalar.cmpi .eq arg0 c15_i32_536
  let v817 : BitVec 32 := Scalar.extui v816
  let c0_i32_537 : BitVec 32 := 0#32
  let v818 : BitVec 1 := Scalar.cmpi .ne v817 c0_i32_537
  v818

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x5120 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S2x4x128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x4x128x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x5120 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KernelIdeal.lean ====
variable {F : FTy → Type} [FloatOps F] [Named F]
def κ : String → Option EReal := fun
  | "gelu_6c0c1" => some ((241015141496493 / 1125899906842624 : ℝ) : EReal)
  | "gelu_c0c1" => some ((80338380498831 / 2251799813685248 : ℝ) : EReal)
  | _ => none
-- ==== ReferenceIdeal.lean ====
abbrev S4096x5120 : Shape := ⟨2, ![4096, 5120]⟩
abbrev S4096x1024 : Shape := ⟨2, ![4096, 1024]⟩
abbrev S4x256x256 : Shape := ⟨3, ![4, 256, 256]⟩
abbrev S1024 : Shape := ⟨1, ![1024]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩
abbrev S5120 : Shape := ⟨1, ![5120]⟩
abbrev S1x4096x5120 : Shape := ⟨3, ![1, 4096, 5120]⟩
abbrev S1x1x5120 : Shape := ⟨3, ![1, 1, 5120]⟩
abbrev S1x4096x1024 : Shape := ⟨3, ![1, 4096, 1024]⟩
abbrev S4096 : Shape := ⟨1, ![4096]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4096x1 : Shape := ⟨3, ![1, 4096, 1]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S1x4096x1x256 : Shape := ⟨4, ![1, 4096, 1, 256]⟩
abbrev S1x4096x4x256 : Shape := ⟨4, ![1, 4096, 4, 256]⟩
abbrev S4x256x1x4096 : Shape := ⟨4, ![4, 256, 1, 4096]⟩
abbrev S1x1x1024 : Shape := ⟨3, ![1, 1, 1024]⟩
abbrev S1x4096 : Shape := ⟨2, ![1, 4096]⟩
abbrev S1x32x128x4x256 : Shape := ⟨5, ![1, 32, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x32x256x128 : Shape := ⟨5, ![4, 1, 32, 256, 128]⟩
abbrev S128x4 : Shape := ⟨2, ![128, 4]⟩
abbrev S1x1x128x4x1 : Shape := ⟨5, ![1, 1, 128, 4, 1]⟩
abbrev S4x256x1x32x128 : Shape := ⟨5, ![4, 256, 1, 32, 128]⟩
abbrev S4x1x32x128x256 : Shape := ⟨5, ![4, 1, 32, 128, 256]⟩
abbrev S1x128x4 : Shape := ⟨3, ![1, 128, 4]⟩
abbrev S1x1024 : Shape := ⟨2, ![1, 1024]⟩
abbrev S4x1x4096x256 : Shape := ⟨4, ![4, 1, 4096, 256]⟩
abbrev S1x5120 : Shape := ⟨2, ![1, 5120]⟩
abbrev S2x2x4x64x256 : Shape := ⟨5, ![2, 2, 4, 64, 256]⟩
abbrev S2x4x2x64x256 : Shape := ⟨5, ![2, 4, 2, 64, 256]⟩
abbrev S2x4x128x256 : Shape := ⟨4, ![2, 4, 128, 256]⟩
abbrev S128x4x1 : Shape := ⟨3, ![128, 4, 1]⟩
abbrev S128x4x128 : Shape := ⟨3, ![128, 4, 128]⟩
abbrev S128x512 : Shape := ⟨2, ![128, 512]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 516
  | .vmem => 0
  | .smem => 0
  | _ => 0

abbrev hbmTy0_0 (i : Nat) : BufTy := match i % 128 with
  | 0 => ⟨S4096x5120, .f32⟩
  | 1 => ⟨S4096x1024, .f32⟩
  | 2 => ⟨S4x256x256, .f32⟩
  | 3 => ⟨S1024, .f32⟩
  | 4 => ⟨S1024, .f32⟩
  | 5 => ⟨S1024, .f32⟩
  | 6 => ⟨S4x128x128, .f32⟩
  | 7 => ⟨S4x128, .f32⟩
  | 8 => ⟨S4x256x256, .f32⟩
  | 9 => ⟨S1024x1024, .f32⟩
  | 10 => ⟨S_, .f32⟩
  | 11 => ⟨S5120, .f32⟩
  | 12 => ⟨S1x4096x5120, .f32⟩
  | 13 => ⟨S1x1x5120, .f32⟩
  | 14 => ⟨S1x4096x5120, .f32⟩
  | 15 => ⟨S1x4096x5120, .f32⟩
  | 16 => ⟨S1x4096x1024, .f32⟩
  | 17 => ⟨S1x4096x1024, .f32⟩
  | 18 => ⟨S1x4096x1024, .f32⟩
  | 19 => ⟨S1x4096x1024, .f32⟩
  | 20 => ⟨S1x4096x1024, .f32⟩
  | 21 => ⟨S_, .f32⟩
  | 22 => ⟨S_, .f32⟩
  | 23 => ⟨S1x4096x1024, .f32⟩
  | 24 => ⟨S4096, .i32⟩
  | 25 => ⟨S_, .i32⟩
  | 26 => ⟨S4096, .i32⟩
  | 27 => ⟨S4096, .i32⟩
  | 28 => ⟨S1x4096x256, .f32⟩
  | 29 => ⟨S1x2x256, .f32⟩
  | 30 => ⟨S_, .f32⟩
  | 31 => ⟨S1x2x256, .f32⟩
  | 32 => ⟨S1x4094x256, .f32⟩
  | 33 => ⟨S1x4096x256, .f32⟩
  | 34 => ⟨S_, .f32⟩
  | 35 => ⟨S1x2x256, .f32⟩
  | 36 => ⟨S_, .i32⟩
  | 37 => ⟨S4096, .i32⟩
  | 38 => ⟨S4096, .i32⟩
  | 39 => ⟨S4096, .f32⟩
  | 40 => ⟨S1x4096x1, .f32⟩
  | 41 => ⟨S1x4096x256, .f32⟩
  | 42 => ⟨S1x4096x256, .f32⟩
  | 43 => ⟨S1x4096x256, .f32⟩
  | 44 => ⟨S1x4096x256, .f32⟩
  | 45 => ⟨S1x4096x256, .f32⟩
  | 46 => ⟨S1x4096x256, .f32⟩
  | 47 => ⟨S1x4x256, .f32⟩
  | 48 => ⟨S_, .f32⟩
  | 49 => ⟨S1x4x256, .f32⟩
  | 50 => ⟨S1x4092x256, .f32⟩
  | 51 => ⟨S1x4096x256, .f32⟩
  | 52 => ⟨S_, .f32⟩
  | 53 => ⟨S1x4x256, .f32⟩
  | 54 => ⟨S_, .i32⟩
  | 55 => ⟨S4096, .i32⟩
  | 56 => ⟨S4096, .i32⟩
  | 57 => ⟨S4096, .f32⟩
  | 58 => ⟨S1x4096x1, .f32⟩
  | 59 => ⟨S1x4096x256, .f32⟩
  | 60 => ⟨S1x4096x256, .f32⟩
  | 61 => ⟨S1x4096x256, .f32⟩
  | 62 => ⟨S1x4096x256, .f32⟩
  | 63 => ⟨S1x4096x256, .f32⟩
  | 64 => ⟨S1x4096x256, .f32⟩
  | 65 => ⟨S1x8x256, .f32⟩
  | 66 => ⟨S_, .f32⟩
  | 67 => ⟨S1x8x256, .f32⟩
  | 68 => ⟨S1x4088x256, .f32⟩
  | 69 => ⟨S1x4096x256, .f32⟩
  | 70 => ⟨S_, .f32⟩
  | 71 => ⟨S1x8x256, .f32⟩
  | 72 => ⟨S_, .i32⟩
  | 73 => ⟨S4096, .i32⟩
  | 74 => ⟨S4096, .i32⟩
  | 75 => ⟨S4096, .f32⟩
  | 76 => ⟨S1x4096x1, .f32⟩
  | 77 => ⟨S1x4096x256, .f32⟩
  | 78 => ⟨S1x4096x256, .f32⟩
  | 79 => ⟨S1x4096x256, .f32⟩
  | 80 => ⟨S1x4096x256, .f32⟩
  | 81 => ⟨S1x4096x256, .f32⟩
  | 82 => ⟨S1x4096x256, .f32⟩
  | 83 => ⟨S1x16x256, .f32⟩
  | 84 => ⟨S_, .f32⟩
  | 85 => ⟨S1x16x256, .f32⟩
  | 86 => ⟨S1x4080x256, .f32⟩
  | 87 => ⟨S1x4096x256, .f32⟩
  | 88 => ⟨S_, .f32⟩
  | 89 => ⟨S1x16x256, .f32⟩
  | 90 => ⟨S_, .i32⟩
  | 91 => ⟨S4096, .i32⟩
  | 92 => ⟨S4096, .i32⟩
  | 93 => ⟨S4096, .f32⟩
  | 94 => ⟨S1x4096x1, .f32⟩
  | 95 => ⟨S1x4096x256, .f32⟩
  | 96 => ⟨S1x4096x256, .f32⟩
  | 97 => ⟨S1x4096x256, .f32⟩
  | 98 => ⟨S1x4096x256, .f32⟩
  | 99 => ⟨S1x4096x256, .f32⟩
  | 100 => ⟨S1x4096x1x256, .f32⟩
  | 101 => ⟨S1x4096x1x256, .f32⟩
  | 102 => ⟨S1x4096x1x256, .f32⟩
  | 103 => ⟨S1x4096x1x256, .f32⟩
  | 104 => ⟨S1x4096x4x256, .f32⟩
  | 105 => ⟨S4x256x1x4096, .f32⟩
  | 106 => ⟨S1x4096x4x256, .f32⟩
  | 107 => ⟨S1x4096x1024, .f32⟩
  | 108 => ⟨S1x1x1024, .f32⟩
  | 109 => ⟨S1x4096x1024, .f32⟩
  | 110 => ⟨S1x4096x1024, .f32⟩
  | 111 => ⟨S1x4096x1024, .f32⟩
  | 112 => ⟨S1x4096x1024, .f32⟩
  | 113 => ⟨S1x4096x1024, .f32⟩
  | 114 => ⟨S_, .f32⟩
  | 115 => ⟨S1x4096x1024, .f32⟩
  | 116 => ⟨S1x4096x1024, .f32⟩
  | 117 => ⟨S_, .f32⟩
  | 118 => ⟨S1x4096x1024, .f32⟩
  | 119 => ⟨S1x4096x1024, .f32⟩
  | 120 => ⟨S1x4096x1024, .f32⟩
  | 121 => ⟨S_, .f32⟩
  | 122 => ⟨S1x4096x1024, .f32⟩
  | 123 => ⟨S1x4096x1024, .f32⟩
  | 124 => ⟨S1x4096x1024, .f32⟩
  | 125 => ⟨S_, .f32⟩
  | 126 => ⟨S1x4096x1024, .f32⟩
  | 127 => ⟨S1x4096x1024, .f32⟩
  | _ => ⟨S4096x5120, .f32⟩

abbrev hbmTy0_1 (i : Nat) : BufTy := match i % 128 with
  | 0 => ⟨S_, .f32⟩
  | 1 => ⟨S1x4096x1024, .f32⟩
  | 2 => ⟨S1x4096x1024, .f32⟩
  | 3 => ⟨S1x4096x1024, .f32⟩
  | 4 => ⟨S_, .f32⟩
  | 5 => ⟨S1x4096x1024, .f32⟩
  | 6 => ⟨S1x4096x1024, .f32⟩
  | 7 => ⟨S_, .f32⟩
  | 8 => ⟨S1x4096x1024, .f32⟩
  | 9 => ⟨S1x4096x1024, .f32⟩
  | 10 => ⟨S1x4096x1024, .f32⟩
  | 11 => ⟨S1x4096x1024, .f32⟩
  | 12 => ⟨S1x4096x1024, .f32⟩
  | 13 => ⟨S1x4096x1024, .f32⟩
  | 14 => ⟨S_, .f32⟩
  | 15 => ⟨S1x4096x1024, .f32⟩
  | 16 => ⟨S1x4096x1024, .f32⟩
  | 17 => ⟨S_, .f32⟩
  | 18 => ⟨S1x4096x1024, .f32⟩
  | 19 => ⟨S1x4096x1024, .f32⟩
  | 20 => ⟨S1x4096x1024, .f32⟩
  | 21 => ⟨S_, .f32⟩
  | 22 => ⟨S1x4096x1024, .f32⟩
  | 23 => ⟨S1x4096x1024, .f32⟩
  | 24 => ⟨S1x4096x1024, .f32⟩
  | 25 => ⟨S_, .f32⟩
  | 26 => ⟨S1x4096x1024, .f32⟩
  | 27 => ⟨S1x4096x1024, .f32⟩
  | 28 => ⟨S_, .f32⟩
  | 29 => ⟨S1x4096x1024, .f32⟩
  | 30 => ⟨S1x4096x1024, .f32⟩
  | 31 => ⟨S1x4096x1024, .f32⟩
  | 32 => ⟨S_, .f32⟩
  | 33 => ⟨S1x4096x1024, .f32⟩
  | 34 => ⟨S1x4096x1024, .f32⟩
  | 35 => ⟨S_, .f32⟩
  | 36 => ⟨S1x4096x1024, .f32⟩
  | 37 => ⟨S1x4096x1024, .f32⟩
  | 38 => ⟨S1x4096x1024, .f32⟩
  | 39 => ⟨S_, .f32⟩
  | 40 => ⟨S1x4096, .f32⟩
  | 41 => ⟨S1x4096x1, .f32⟩
  | 42 => ⟨S_, .f32⟩
  | 43 => ⟨S1x4096x1, .f32⟩
  | 44 => ⟨S1x4096x1, .f32⟩
  | 45 => ⟨S1x4096x1024, .f32⟩
  | 46 => ⟨S1x4096x1024, .f32⟩
  | 47 => ⟨S1x4096x1024, .f32⟩
  | 48 => ⟨S_, .f32⟩
  | 49 => ⟨S1x4096, .f32⟩
  | 50 => ⟨S1x4096x1, .f32⟩
  | 51 => ⟨S_, .f32⟩
  | 52 => ⟨S1x4096x1, .f32⟩
  | 53 => ⟨S1x4096x1, .f32⟩
  | 54 => ⟨S_, .f32⟩
  | 55 => ⟨S1x4096x1, .f32⟩
  | 56 => ⟨S1x4096x1, .f32⟩
  | 57 => ⟨S1x4096x1, .f32⟩
  | 58 => ⟨S1x4096x1, .f32⟩
  | 59 => ⟨S_, .f32⟩
  | 60 => ⟨S1x4096x1, .f32⟩
  | 61 => ⟨S1x4096x1, .f32⟩
  | 62 => ⟨S1x4096x1024, .f32⟩
  | 63 => ⟨S1x4096x1024, .f32⟩
  | 64 => ⟨S1x1x1024, .f32⟩
  | 65 => ⟨S1x4096x1024, .f32⟩
  | 66 => ⟨S1x4096x1024, .f32⟩
  | 67 => ⟨S1x1x1024, .f32⟩
  | 68 => ⟨S1x4096x1024, .f32⟩
  | 69 => ⟨S1x4096x1024, .f32⟩
  | 70 => ⟨S1x32x128x4x256, .f32⟩
  | 71 => ⟨S128, .i32⟩
  | 72 => ⟨S128x1, .i32⟩
  | 73 => ⟨S_, .i32⟩
  | 74 => ⟨S_, .i32⟩
  | 75 => ⟨S128x1, .i32⟩
  | 76 => ⟨S128x1, .i32⟩
  | 77 => ⟨S128x1, .i32⟩
  | 78 => ⟨S_, .i32⟩
  | 79 => ⟨S128x1, .i32⟩
  | 80 => ⟨S128x1, .i1⟩
  | 81 => ⟨S128x1, .i32⟩
  | 82 => ⟨S128x1, .i32⟩
  | 83 => ⟨S_, .i32⟩
  | 84 => ⟨S128x1, .i32⟩
  | 85 => ⟨S128x1, .i1⟩
  | 86 => ⟨S128x1, .i1⟩
  | 87 => ⟨S_, .i32⟩
  | 88 => ⟨S128x1, .i32⟩
  | 89 => ⟨S128x1, .i32⟩
  | 90 => ⟨S128x1, .i32⟩
  | 91 => ⟨S1x128, .i32⟩
  | 92 => ⟨S_, .i32⟩
  | 93 => ⟨S_, .i32⟩
  | 94 => ⟨S1x128, .i32⟩
  | 95 => ⟨S1x128, .i32⟩
  | 96 => ⟨S1x128, .i32⟩
  | 97 => ⟨S_, .i32⟩
  | 98 => ⟨S1x128, .i32⟩
  | 99 => ⟨S1x128, .i1⟩
  | 100 => ⟨S1x128, .i32⟩
  | 101 => ⟨S1x128, .i32⟩
  | 102 => ⟨S_, .i32⟩
  | 103 => ⟨S1x128, .i32⟩
  | 104 => ⟨S1x128, .i1⟩
  | 105 => ⟨S1x128, .i1⟩
  | 106 => ⟨S_, .i32⟩
  | 107 => ⟨S1x128, .i32⟩
  | 108 => ⟨S1x128, .i32⟩
  | 109 => ⟨S1x128, .i32⟩
  | 110 => ⟨S128x128, .i32⟩
  | 111 => ⟨S128x128, .i32⟩
  | 112 => ⟨S128x128, .i1⟩
  | 113 => ⟨S1x128x128, .i1⟩
  | 114 => ⟨S_, .f32⟩
  | 115 => ⟨S_, .f32⟩
  | 116 => ⟨S4x128x128, .i1⟩
  | 117 => ⟨S4x128x128, .f32⟩
  | 118 => ⟨S4x128x128, .f32⟩
  | 119 => ⟨S_, .f32⟩
  | 120 => ⟨S4x128x128, .f32⟩
  | 121 => ⟨S4x1x32x256x128, .f32⟩
  | 122 => ⟨S1x32x128x4x256, .f32⟩
  | 123 => ⟨S128x4, .f32⟩
  | 124 => ⟨S1x1x128x4x1, .f32⟩
  | 125 => ⟨S1x32x128x4x256, .f32⟩
  | 126 => ⟨S1x32x128x4x256, .f32⟩
  | 127 => ⟨S1x32x128x4x256, .f32⟩
  | _ => ⟨S4096x5120, .f32⟩

abbrev hbmTy0_2 (i : Nat) : BufTy := match i % 128 with
  | 0 => ⟨S1x32x128x4x256, .f32⟩
  | 1 => ⟨S4x256x1x32x128, .f32⟩
  | 2 => ⟨S1x32x128x4x256, .f32⟩
  | 3 => ⟨S1x4096x1024, .f32⟩
  | 4 => ⟨S1x4096x1024, .f32⟩
  | 5 => ⟨S1x4096x1024, .f32⟩
  | 6 => ⟨S_, .f32⟩
  | 7 => ⟨S1x4096x1024, .f32⟩
  | 8 => ⟨S1x4096x1024, .f32⟩
  | 9 => ⟨S_, .f32⟩
  | 10 => ⟨S1x4096x1024, .f32⟩
  | 11 => ⟨S1x4096x1024, .f32⟩
  | 12 => ⟨S_, .f32⟩
  | 13 => ⟨S1x4096x1024, .f32⟩
  | 14 => ⟨S1x4096x1024, .f32⟩
  | 15 => ⟨S1x4096x1024, .f32⟩
  | 16 => ⟨S1x4096x1024, .f32⟩
  | 17 => ⟨S1x4096x1024, .f32⟩
  | 18 => ⟨S1x4096x1024, .f32⟩
  | 19 => ⟨S_, .f32⟩
  | 20 => ⟨S1x4096x1024, .f32⟩
  | 21 => ⟨S1x4096x1024, .f32⟩
  | 22 => ⟨S_, .f32⟩
  | 23 => ⟨S1x4096x1024, .f32⟩
  | 24 => ⟨S1x4096x1024, .f32⟩
  | 25 => ⟨S_, .f32⟩
  | 26 => ⟨S1x4096x1024, .f32⟩
  | 27 => ⟨S1x4096x1024, .f32⟩
  | 28 => ⟨S1x4096x1024, .f32⟩
  | 29 => ⟨S1x4096x1024, .f32⟩
  | 30 => ⟨S1x4096x1024, .f32⟩
  | 31 => ⟨S1x4096x1024, .f32⟩
  | 32 => ⟨S1x4096x1024, .f32⟩
  | 33 => ⟨S1024x1024, .f32⟩
  | 34 => ⟨S1024x1024, .f32⟩
  | 35 => ⟨S1x4096x1024, .f32⟩
  | 36 => ⟨S1x4096x1024, .f32⟩
  | 37 => ⟨S1x4096x1024, .f32⟩
  | 38 => ⟨S1x4096x1024, .f32⟩
  | 39 => ⟨S1x4096x1024, .f32⟩
  | 40 => ⟨S1x4096x1024, .f32⟩
  | 41 => ⟨S1x4096x1024, .f32⟩
  | 42 => ⟨S1x32x128x4x256, .f32⟩
  | 43 => ⟨S4x256x1x32x128, .f32⟩
  | 44 => ⟨S4x1x32x128x256, .f32⟩
  | 45 => ⟨S1x32x128x4x256, .f32⟩
  | 46 => ⟨S4x256x256, .f32⟩
  | 47 => ⟨S4x256x256, .f32⟩
  | 48 => ⟨S1x32x128x4x256, .f32⟩
  | 49 => ⟨S1x32x128x4x256, .f32⟩
  | 50 => ⟨S1x4096x1024, .f32⟩
  | 51 => ⟨S_, .f32⟩
  | 52 => ⟨S1x128x4, .f32⟩
  | 53 => ⟨S1x1x128x4x1, .f32⟩
  | 54 => ⟨S_, .f32⟩
  | 55 => ⟨S128x4, .f32⟩
  | 56 => ⟨S4x128, .f32⟩
  | 57 => ⟨S4x1x32x256x128, .f32⟩
  | 58 => ⟨S4x128x128, .f32⟩
  | 59 => ⟨S4x1x32x256x128, .f32⟩
  | 60 => ⟨S1x32x128x4x256, .f32⟩
  | 61 => ⟨S_, .f32⟩
  | 62 => ⟨S4x128x128, .f32⟩
  | 63 => ⟨S4x128x128, .f32⟩
  | 64 => ⟨S1x4096x1024, .f32⟩
  | 65 => ⟨S_, .f32⟩
  | 66 => ⟨S1x1024, .f32⟩
  | 67 => ⟨S1x1x1024, .f32⟩
  | 68 => ⟨S_, .f32⟩
  | 69 => ⟨S1024, .f32⟩
  | 70 => ⟨S1x4096x1024, .f32⟩
  | 71 => ⟨S_, .f32⟩
  | 72 => ⟨S1x1024, .f32⟩
  | 73 => ⟨S1x1x1024, .f32⟩
  | 74 => ⟨S1x4096x1024, .f32⟩
  | 75 => ⟨S1x4096x1024, .f32⟩
  | 76 => ⟨S_, .f32⟩
  | 77 => ⟨S1024, .f32⟩
  | 78 => ⟨S1x4096x1024, .f32⟩
  | 79 => ⟨S_, .f32⟩
  | 80 => ⟨S1x4096, .f32⟩
  | 81 => ⟨S1x4096x1, .f32⟩
  | 82 => ⟨S1x4096x1024, .f32⟩
  | 83 => ⟨S1x4096x1024, .f32⟩
  | 84 => ⟨S1x4096x1, .f32⟩
  | 85 => ⟨S_, .f32⟩
  | 86 => ⟨S1x4096x1, .f32⟩
  | 87 => ⟨S1x4096x1, .f32⟩
  | 88 => ⟨S_, .f32⟩
  | 89 => ⟨S4096, .f32⟩
  | 90 => ⟨S1x4096, .f32⟩
  | 91 => ⟨S1x4096x1024, .f32⟩
  | 92 => ⟨S1x4096x1024, .f32⟩
  | 93 => ⟨S1x4096x1024, .f32⟩
  | 94 => ⟨S1x4096x1024, .f32⟩
  | 95 => ⟨S1x4096x1024, .f32⟩
  | 96 => ⟨S1x4096x1024, .f32⟩
  | 97 => ⟨S_, .f32⟩
  | 98 => ⟨S1x4096, .f32⟩
  | 99 => ⟨S1x4096x1, .f32⟩
  | 100 => ⟨S_, .f32⟩
  | 101 => ⟨S1x4096x1, .f32⟩
  | 102 => ⟨S1x4096x1, .f32⟩
  | 103 => ⟨S_, .f32⟩
  | 104 => ⟨S4096, .f32⟩
  | 105 => ⟨S1x4096, .f32⟩
  | 106 => ⟨S1x4096x1024, .f32⟩
  | 107 => ⟨S1x4096x1024, .f32⟩
  | 108 => ⟨S1x4096x1024, .f32⟩
  | 109 => ⟨S1x4096x1024, .f32⟩
  | 110 => ⟨S_, .f32⟩
  | 111 => ⟨S1x4096x1024, .f32⟩
  | 112 => ⟨S1x4096x1024, .f32⟩
  | 113 => ⟨S1x4096x1024, .f32⟩
  | 114 => ⟨S_, .f32⟩
  | 115 => ⟨S1x4096x1024, .f32⟩
  | 116 => ⟨S1x4096x1024, .f32⟩
  | 117 => ⟨S1x4096x1024, .f32⟩
  | 118 => ⟨S_, .f32⟩
  | 119 => ⟨S1x4096x1024, .f32⟩
  | 120 => ⟨S1x4096x1024, .f32⟩
  | 121 => ⟨S1x4096x1024, .f32⟩
  | 122 => ⟨S1x4096x1024, .f32⟩
  | 123 => ⟨S1x4096x1024, .f32⟩
  | 124 => ⟨S1x4096x1024, .f32⟩
  | 125 => ⟨S_, .f32⟩
  | 126 => ⟨S1x4096x1024, .f32⟩
  | 127 => ⟨S1x4096x1024, .f32⟩
  | _ => ⟨S4096x5120, .f32⟩

abbrev hbmTy0_3 (i : Nat) : BufTy := match i % 128 with
  | 0 => ⟨S1x4096x1024, .f32⟩
  | 1 => ⟨S_, .f32⟩
  | 2 => ⟨S1x4096x1024, .f32⟩
  | 3 => ⟨S1x4096x1024, .f32⟩
  | 4 => ⟨S1x4096x1024, .f32⟩
  | 5 => ⟨S_, .f32⟩
  | 6 => ⟨S1x4096x1024, .f32⟩
  | 7 => ⟨S1x4096x1024, .f32⟩
  | 8 => ⟨S1x4096x1024, .f32⟩
  | 9 => ⟨S1x4096x1024, .f32⟩
  | 10 => ⟨S1x4096x1024, .f32⟩
  | 11 => ⟨S_, .f32⟩
  | 12 => ⟨S1x1024, .f32⟩
  | 13 => ⟨S1x1x1024, .f32⟩
  | 14 => ⟨S1x4096x1024, .f32⟩
  | 15 => ⟨S1x4096x1024, .f32⟩
  | 16 => ⟨S_, .f32⟩
  | 17 => ⟨S1024, .f32⟩
  | 18 => ⟨S1x4096x4x256, .f32⟩
  | 19 => ⟨S4x256x1x4096, .f32⟩
  | 20 => ⟨S4x1x4096x256, .f32⟩
  | 21 => ⟨S1x4096x4x256, .f32⟩
  | 22 => ⟨S4x256x256, .f32⟩
  | 23 => ⟨S4x256x256, .f32⟩
  | 24 => ⟨S1x4096x1x256, .f32⟩
  | 25 => ⟨S1x4096x256, .f32⟩
  | 26 => ⟨S1x4096x1x256, .f32⟩
  | 27 => ⟨S1x4096x256, .f32⟩
  | 28 => ⟨S1x4096x1x256, .f32⟩
  | 29 => ⟨S1x4096x256, .f32⟩
  | 30 => ⟨S1x4096x1x256, .f32⟩
  | 31 => ⟨S1x4096x256, .f32⟩
  | 32 => ⟨S1x4096x256, .f32⟩
  | 33 => ⟨S_, .f32⟩
  | 34 => ⟨S1x4096x1024, .f32⟩
  | 35 => ⟨S1x4096x256, .f32⟩
  | 36 => ⟨S1x4096x256, .f32⟩
  | 37 => ⟨S1x4096x256, .f32⟩
  | 38 => ⟨S1x16x256, .f32⟩
  | 39 => ⟨S1x4080x256, .f32⟩
  | 40 => ⟨S_, .f32⟩
  | 41 => ⟨S1x4096x256, .f32⟩
  | 42 => ⟨S1x4096x256, .f32⟩
  | 43 => ⟨S_, .f32⟩
  | 44 => ⟨S1x4096x1024, .f32⟩
  | 45 => ⟨S1x4096x256, .f32⟩
  | 46 => ⟨S_, .f32⟩
  | 47 => ⟨S1x4096x1024, .f32⟩
  | 48 => ⟨S1x4096x1024, .f32⟩
  | 49 => ⟨S1x4096x256, .f32⟩
  | 50 => ⟨S1x4096x256, .f32⟩
  | 51 => ⟨S1x4096x256, .f32⟩
  | 52 => ⟨S1x8x256, .f32⟩
  | 53 => ⟨S1x4088x256, .f32⟩
  | 54 => ⟨S_, .f32⟩
  | 55 => ⟨S1x4096x256, .f32⟩
  | 56 => ⟨S1x4096x256, .f32⟩
  | 57 => ⟨S_, .f32⟩
  | 58 => ⟨S1x4096x1024, .f32⟩
  | 59 => ⟨S1x4096x1024, .f32⟩
  | 60 => ⟨S1x4096x256, .f32⟩
  | 61 => ⟨S_, .f32⟩
  | 62 => ⟨S1x4096x1024, .f32⟩
  | 63 => ⟨S1x4096x1024, .f32⟩
  | 64 => ⟨S1x4096x256, .f32⟩
  | 65 => ⟨S1x4096x256, .f32⟩
  | 66 => ⟨S1x4096x256, .f32⟩
  | 67 => ⟨S1x4x256, .f32⟩
  | 68 => ⟨S1x4092x256, .f32⟩
  | 69 => ⟨S_, .f32⟩
  | 70 => ⟨S1x4096x256, .f32⟩
  | 71 => ⟨S1x4096x256, .f32⟩
  | 72 => ⟨S_, .f32⟩
  | 73 => ⟨S1x4096x1024, .f32⟩
  | 74 => ⟨S1x4096x1024, .f32⟩
  | 75 => ⟨S1x4096x256, .f32⟩
  | 76 => ⟨S_, .f32⟩
  | 77 => ⟨S1x4096x1024, .f32⟩
  | 78 => ⟨S1x4096x1024, .f32⟩
  | 79 => ⟨S1x4096x256, .f32⟩
  | 80 => ⟨S1x4096x256, .f32⟩
  | 81 => ⟨S1x4096x256, .f32⟩
  | 82 => ⟨S1x2x256, .f32⟩
  | 83 => ⟨S1x4094x256, .f32⟩
  | 84 => ⟨S_, .f32⟩
  | 85 => ⟨S1x4096x256, .f32⟩
  | 86 => ⟨S1x4096x256, .f32⟩
  | 87 => ⟨S_, .f32⟩
  | 88 => ⟨S1x4096x1024, .f32⟩
  | 89 => ⟨S1x4096x1024, .f32⟩
  | 90 => ⟨S_, .f32⟩
  | 91 => ⟨S_, .f32⟩
  | 92 => ⟨S1x4096x1024, .f32⟩
  | 93 => ⟨S1x4096x1024, .f32⟩
  | 94 => ⟨S_, .f32⟩
  | 95 => ⟨S1x4096x5120, .f32⟩
  | 96 => ⟨S_, .f32⟩
  | 97 => ⟨S1x4096x5120, .f32⟩
  | 98 => ⟨S1x4096x5120, .f32⟩
  | 99 => ⟨S_, .f32⟩
  | 100 => ⟨S1x4096x5120, .f32⟩
  | 101 => ⟨S1x4096x5120, .f32⟩
  | 102 => ⟨S_, .f32⟩
  | 103 => ⟨S1x4096x5120, .f32⟩
  | 104 => ⟨S1x4096x5120, .f32⟩
  | 105 => ⟨S_, .f32⟩
  | 106 => ⟨S1x4096x5120, .f32⟩
  | 107 => ⟨S1x4096x5120, .f32⟩
  | 108 => ⟨S_, .f32⟩
  | 109 => ⟨S1x5120, .f32⟩
  | 110 => ⟨S1x1x5120, .f32⟩
  | 111 => ⟨S_, .f32⟩
  | 112 => ⟨S5120, .f32⟩
  | 113 => ⟨S2x2x4x64x256, .f32⟩
  | 114 => ⟨S2x4x2x64x256, .f32⟩
  | 115 => ⟨S2x4x128x256, .f32⟩
  | 116 => ⟨S2x4x128x256, .bf16⟩
  | 117 => ⟨S2x2x4x64x256, .f32⟩
  | 118 => ⟨S2x4x2x64x256, .f32⟩
  | 119 => ⟨S2x4x128x256, .f32⟩
  | 120 => ⟨S2x4x128x256, .bf16⟩
  | 121 => ⟨S128x4, .f32⟩
  | 122 => ⟨S128x4x1, .f32⟩
  | 123 => ⟨S128x4x128, .f32⟩
  | 124 => ⟨S128x512, .f32⟩
  | 125 => ⟨S1x1024, .f32⟩
  | 126 => ⟨S1x1024, .f32⟩
  | 127 => ⟨S1x1024, .f32⟩
  | _ => ⟨S4096x5120, .f32⟩

abbrev hbmTy0_4 (i : Nat) : BufTy := match i % 128 with
  | 0 => ⟨S3x1024, .f32⟩
  | 1 => ⟨S_, .f32⟩
  | 2 => ⟨S5x1024, .f32⟩
  | 3 => ⟨S8x1024, .f32⟩
  | _ => ⟨S4096x5120, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_call0_cst : Ref sig .tc := ⟨.hbm, 21, rfl⟩
abbrev main_call0_call0_v0 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_12 : Ref sig .tc := ⟨.hbm, 114, rfl⟩
abbrev main_v88 : Ref sig .tc := ⟨.hbm, 115, rfl⟩
abbrev main_v89 : Ref sig .tc := ⟨.hbm, 116, rfl⟩
abbrev main_cst_13 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_14 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_15 : Ref sig .tc := ⟨.hbm, 125, rfl⟩
abbrev main_v96 : Ref sig .tc := ⟨.hbm, 126, rfl⟩
abbrev main_v97 : Ref sig .tc := ⟨.hbm, 127, rfl⟩
abbrev main_cst_16 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_17 : Ref sig .tc := ⟨.hbm, 132, rfl⟩
abbrev main_v101 : Ref sig .tc := ⟨.hbm, 133, rfl⟩
abbrev main_v102 : Ref sig .tc := ⟨.hbm, 134, rfl⟩
abbrev main_cst_18 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_19 : Ref sig .tc := ⟨.hbm, 142, rfl⟩
abbrev main_v109 : Ref sig .tc := ⟨.hbm, 143, rfl⟩
abbrev main_v110 : Ref sig .tc := ⟨.hbm, 144, rfl⟩
abbrev main_cst_20 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_21 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_22 : Ref sig .tc := ⟨.hbm, 153, rfl⟩
abbrev main_v117 : Ref sig .tc := ⟨.hbm, 154, rfl⟩
abbrev main_v118 : Ref sig .tc := ⟨.hbm, 155, rfl⟩
abbrev main_cst_23 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_24 : Ref sig .tc := ⟨.hbm, 160, rfl⟩
abbrev main_v122 : Ref sig .tc := ⟨.hbm, 161, rfl⟩
abbrev main_v123 : Ref sig .tc := ⟨.hbm, 162, rfl⟩
abbrev main_cst_25 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_26 : Ref sig .tc := ⟨.hbm, 167, rfl⟩
abbrev main_v127 : Ref sig .tc := ⟨.hbm, 168, rfl⟩
abbrev main_v128 : Ref sig .tc := ⟨.hbm, 169, rfl⟩
abbrev main_cst_27 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_28 : Ref sig .tc := ⟨.hbm, 176, rfl⟩
abbrev main_v134 : Ref sig .tc := ⟨.hbm, 177, rfl⟩
abbrev main_v135 : Ref sig .tc := ⟨.hbm, 178, rfl⟩
abbrev main_cst_29 : Ref sig .tc := ⟨.hbm, 179, rfl⟩
abbrev main_v136 : Ref sig .tc := ⟨.hbm, 180, rfl⟩
abbrev main_v137 : Ref sig .tc := ⟨.hbm, 181, rfl⟩
abbrev main_cst_30 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_31 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_c_32 : Ref sig .tc := ⟨.hbm, 201, rfl⟩
abbrev main_call1_v0 : Ref sig .tc := ⟨.hbm, 202, rfl⟩
abbrev main_call1_v1 : Ref sig .tc := ⟨.hbm, 203, rfl⟩
abbrev main_call1_v2 : Ref sig .tc := ⟨.hbm, 204, rfl⟩
abbrev main_call1_v3 : Ref sig .tc := ⟨.hbm, 205, rfl⟩
abbrev main_call1_v4 : Ref sig .tc := ⟨.hbm, 206, rfl⟩
abbrev main_call1_v5 : Ref sig .tc := ⟨.hbm, 207, rfl⟩
abbrev main_call1_v6 : Ref sig .tc := ⟨.hbm, 208, rfl⟩
abbrev main_call1_v7 : Ref sig .tc := ⟨.hbm, 209, rfl⟩
abbrev main_call1_v8 : Ref sig .tc := ⟨.hbm, 210, rfl⟩
abbrev main_call1_c : Ref sig .tc := ⟨.hbm, 211, rfl⟩
abbrev main_call1_v9 : Ref sig .tc := ⟨.hbm, 212, rfl⟩
abbrev main_call1_v10 : Ref sig .tc := ⟨.hbm, 213, rfl⟩
abbrev main_call1_v11 : Ref sig .tc := ⟨.hbm, 214, rfl⟩
abbrev main_call1_c_0 : Ref sig .tc := ⟨.hbm, 215, rfl⟩
abbrev main_call1_v12 : Ref sig .tc := ⟨.hbm, 216, rfl⟩
abbrev main_call1_v13 : Ref sig .tc := ⟨.hbm, 217, rfl⟩
abbrev main_v155 : Ref sig .tc := ⟨.hbm, 218, rfl⟩
abbrev main_v156 : Ref sig .tc := ⟨.hbm, 219, rfl⟩
abbrev main_c_33 : Ref sig .tc := ⟨.hbm, 220, rfl⟩
abbrev main_call2_v0 : Ref sig .tc := ⟨.hbm, 221, rfl⟩
abbrev main_call2_v1 : Ref sig .tc := ⟨.hbm, 222, rfl⟩
abbrev main_call2_v2 : Ref sig .tc := ⟨.hbm, 223, rfl⟩
abbrev main_call2_v3 : Ref sig .tc := ⟨.hbm, 224, rfl⟩
abbrev main_call2_v4 : Ref sig .tc := ⟨.hbm, 225, rfl⟩
abbrev main_call2_v5 : Ref sig .tc := ⟨.hbm, 226, rfl⟩
abbrev main_call2_v6 : Ref sig .tc := ⟨.hbm, 227, rfl⟩
abbrev main_call2_v7 : Ref sig .tc := ⟨.hbm, 228, rfl⟩
abbrev main_call2_v8 : Ref sig .tc := ⟨.hbm, 229, rfl⟩
abbrev main_call2_c : Ref sig .tc := ⟨.hbm, 230, rfl⟩
abbrev main_call2_v9 : Ref sig .tc := ⟨.hbm, 231, rfl⟩
abbrev main_call2_v10 : Ref sig .tc := ⟨.hbm, 232, rfl⟩
abbrev main_call2_v11 : Ref sig .tc := ⟨.hbm, 233, rfl⟩
abbrev main_call2_c_0 : Ref sig .tc := ⟨.hbm, 234, rfl⟩
abbrev main_call2_v12 : Ref sig .tc := ⟨.hbm, 235, rfl⟩
abbrev main_call2_v13 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_cst_34 : Ref sig .tc := ⟨.hbm, 242, rfl⟩
abbrev main_call3_v0 : Ref sig .tc := ⟨.hbm, 243, rfl⟩
abbrev main_v162_1 : Ref sig .tc := ⟨.hbm, 244, rfl⟩
abbrev main_call3_v2 : Ref sig .tc := ⟨.hbm, 245, rfl⟩
abbrev main_v162_0 : Ref sig .tc := ⟨.hbm, 246, rfl⟩
abbrev main_call3_cst : Ref sig .tc := ⟨.hbm, 247, rfl⟩
abbrev main_v162_2 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_cst_35 : Ref sig .tc := ⟨.hbm, 262, rfl⟩
abbrev main_v176 : Ref sig .tc := ⟨.hbm, 263, rfl⟩
abbrev main_v177 : Ref sig .tc := ⟨.hbm, 264, rfl⟩
abbrev main_cst_36 : Ref sig .tc := ⟨.hbm, 265, rfl⟩
abbrev main_v178 : Ref sig .tc := ⟨.hbm, 266, rfl⟩
abbrev main_v179 : Ref sig .tc := ⟨.hbm, 267, rfl⟩
abbrev main_cst_37 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_cst_38 : Ref sig .tc := ⟨.hbm, 275, rfl⟩
abbrev main_v186 : Ref sig .tc := ⟨.hbm, 276, rfl⟩
abbrev main_v187 : Ref sig .tc := ⟨.hbm, 277, rfl⟩
abbrev main_cst_39 : Ref sig .tc := ⟨.hbm, 278, rfl⟩
abbrev main_v188 : Ref sig .tc := ⟨.hbm, 279, rfl⟩
abbrev main_v189 : Ref sig .tc := ⟨.hbm, 280, rfl⟩
abbrev main_cst_40 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_cst_41 : Ref sig .tc := ⟨.hbm, 307, rfl⟩
abbrev main_v215 : Ref sig .tc := ⟨.hbm, 308, rfl⟩
abbrev main_v216 : Ref sig .tc := ⟨.hbm, 309, rfl⟩
abbrev main_cst_42 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_call4_cst : Ref sig .tc := ⟨.hbm, 317, rfl⟩
abbrev main_call4_v0 : Ref sig .tc := ⟨.hbm, 318, rfl⟩
abbrev main_v223 : Ref sig .tc := ⟨.hbm, 319, rfl⟩
abbrev main_v224 : Ref sig .tc := ⟨.hbm, 320, rfl⟩
abbrev main_cst_43 : Ref sig .tc := ⟨.hbm, 321, rfl⟩
abbrev main_v225 : Ref sig .tc := ⟨.hbm, 322, rfl⟩
abbrev main_v226 : Ref sig .tc := ⟨.hbm, 323, rfl⟩
abbrev main_cst_44 : Ref sig .tc := ⟨.hbm, 324, rfl⟩
abbrev main_v227 : Ref sig .tc := ⟨.hbm, 325, rfl⟩
abbrev main_v228 : Ref sig .tc := ⟨.hbm, 326, rfl⟩
abbrev main_cst_45 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_v232 : Ref sig .tc := ⟨.hbm, 331, rfl⟩
abbrev main_cst_46 : Ref sig .tc := ⟨.hbm, 332, rfl⟩
abbrev main_v233 : Ref sig .tc := ⟨.hbm, 333, rfl⟩
abbrev main_v234 : Ref sig .tc := ⟨.hbm, 334, rfl⟩
abbrev main_cst_47 : Ref sig .tc := ⟨.hbm, 335, rfl⟩
abbrev main_v235 : Ref sig .tc := ⟨.hbm, 336, rfl⟩
abbrev main_v236 : Ref sig .tc := ⟨.hbm, 337, rfl⟩
abbrev main_v237 : Ref sig .tc := ⟨.hbm, 338, rfl⟩
abbrev main_v238 : Ref sig .tc := ⟨.hbm, 339, rfl⟩
abbrev main_v239 : Ref sig .tc := ⟨.hbm, 340, rfl⟩
abbrev main_cst_48 : Ref sig .tc := ⟨.hbm, 341, rfl⟩
abbrev main_v240 : Ref sig .tc := ⟨.hbm, 342, rfl⟩
abbrev main_v241 : Ref sig .tc := ⟨.hbm, 343, rfl⟩
abbrev main_cst_49 : Ref sig .tc := ⟨.hbm, 344, rfl⟩
abbrev main_v242 : Ref sig .tc := ⟨.hbm, 345, rfl⟩
abbrev main_v243 : Ref sig .tc := ⟨.hbm, 346, rfl⟩
abbrev main_v244 : Ref sig .tc := ⟨.hbm, 347, rfl⟩
abbrev main_v245 : Ref sig .tc := ⟨.hbm, 348, rfl⟩
abbrev main_v246 : Ref sig .tc := ⟨.hbm, 349, rfl⟩
abbrev main_v247 : Ref sig .tc := ⟨.hbm, 350, rfl⟩
abbrev main_v248 : Ref sig .tc := ⟨.hbm, 351, rfl⟩
abbrev main_v249 : Ref sig .tc := ⟨.hbm, 352, rfl⟩
abbrev main_cst_50 : Ref sig .tc := ⟨.hbm, 353, rfl⟩
abbrev main_v250 : Ref sig .tc := ⟨.hbm, 354, rfl⟩
abbrev main_v251 : Ref sig .tc := ⟨.hbm, 355, rfl⟩
abbrev main_cst_51 : Ref sig .tc := ⟨.hbm, 356, rfl⟩
abbrev main_v252 : Ref sig .tc := ⟨.hbm, 357, rfl⟩
abbrev main_v253 : Ref sig .tc := ⟨.hbm, 358, rfl⟩
abbrev main_cst_52 : Ref sig .tc := ⟨.hbm, 359, rfl⟩
abbrev main_v254 : Ref sig .tc := ⟨.hbm, 360, rfl⟩
abbrev main_v255 : Ref sig .tc := ⟨.hbm, 361, rfl⟩
abbrev main_v256 : Ref sig .tc := ⟨.hbm, 362, rfl⟩
abbrev main_v257 : Ref sig .tc := ⟨.hbm, 363, rfl⟩
abbrev main_v258 : Ref sig .tc := ⟨.hbm, 364, rfl⟩
abbrev main_v259 : Ref sig .tc := ⟨.hbm, 365, rfl⟩
abbrev main_cst_53 : Ref sig .tc := ⟨.hbm, 366, rfl⟩
abbrev main_v260 : Ref sig .tc := ⟨.hbm, 367, rfl⟩
abbrev main_v261 : Ref sig .tc := ⟨.hbm, 368, rfl⟩
abbrev main_v262 : Ref sig .tc := ⟨.hbm, 369, rfl⟩
abbrev main_cst_54 : Ref sig .tc := ⟨.hbm, 370, rfl⟩
abbrev main_v263 : Ref sig .tc := ⟨.hbm, 371, rfl⟩
abbrev main_v264 : Ref sig .tc := ⟨.hbm, 372, rfl⟩
abbrev main_v265 : Ref sig .tc := ⟨.hbm, 373, rfl⟩
abbrev main_cst_55 : Ref sig .tc := ⟨.hbm, 374, rfl⟩
abbrev main_v266 : Ref sig .tc := ⟨.hbm, 375, rfl⟩
abbrev main_v267 : Ref sig .tc := ⟨.hbm, 376, rfl⟩
abbrev main_v268 : Ref sig .tc := ⟨.hbm, 377, rfl⟩
abbrev main_v269 : Ref sig .tc := ⟨.hbm, 378, rfl⟩
abbrev main_v270 : Ref sig .tc := ⟨.hbm, 379, rfl⟩
abbrev main_v271 : Ref sig .tc := ⟨.hbm, 380, rfl⟩
abbrev main_cst_56 : Ref sig .tc := ⟨.hbm, 381, rfl⟩
abbrev main_v272 : Ref sig .tc := ⟨.hbm, 382, rfl⟩
abbrev main_v273 : Ref sig .tc := ⟨.hbm, 383, rfl⟩
abbrev main_v274 : Ref sig .tc := ⟨.hbm, 384, rfl⟩
abbrev main_cst_57 : Ref sig .tc := ⟨.hbm, 385, rfl⟩
abbrev main_v275 : Ref sig .tc := ⟨.hbm, 386, rfl⟩
abbrev main_v276 : Ref sig .tc := ⟨.hbm, 387, rfl⟩
abbrev main_v277 : Ref sig .tc := ⟨.hbm, 388, rfl⟩
abbrev main_cst_58 : Ref sig .tc := ⟨.hbm, 389, rfl⟩
abbrev main_v278 : Ref sig .tc := ⟨.hbm, 390, rfl⟩
abbrev main_v279 : Ref sig .tc := ⟨.hbm, 391, rfl⟩
abbrev main_v280 : Ref sig .tc := ⟨.hbm, 392, rfl⟩
abbrev main_v281 : Ref sig .tc := ⟨.hbm, 393, rfl⟩
abbrev main_v282 : Ref sig .tc := ⟨.hbm, 394, rfl⟩
abbrev main_cst_59 : Ref sig .tc := ⟨.hbm, 395, rfl⟩
abbrev main_v283 : Ref sig .tc := ⟨.hbm, 396, rfl⟩
abbrev main_v284 : Ref sig .tc := ⟨.hbm, 397, rfl⟩
abbrev main_v285 : Ref sig .tc := ⟨.hbm, 398, rfl⟩
abbrev main_v286 : Ref sig .tc := ⟨.hbm, 399, rfl⟩
abbrev main_cst_60 : Ref sig .tc := ⟨.hbm, 400, rfl⟩
abbrev main_v287 : Ref sig .tc := ⟨.hbm, 401, rfl⟩
abbrev main_v288 : Ref sig .tc := ⟨.hbm, 402, rfl⟩
abbrev main_v289 : Ref sig .tc := ⟨.hbm, 403, rfl⟩
abbrev main_v290 : Ref sig .tc := ⟨.hbm, 404, rfl⟩
abbrev main_v291 : Ref sig .tc := ⟨.hbm, 405, rfl⟩
abbrev main_v292 : Ref sig .tc := ⟨.hbm, 406, rfl⟩
abbrev main_v293 : Ref sig .tc := ⟨.hbm, 407, rfl⟩
abbrev main_v294 : Ref sig .tc := ⟨.hbm, 408, rfl⟩
abbrev main_v295 : Ref sig .tc := ⟨.hbm, 409, rfl⟩
abbrev main_v296 : Ref sig .tc := ⟨.hbm, 410, rfl⟩
abbrev main_v297 : Ref sig .tc := ⟨.hbm, 411, rfl⟩
abbrev main_v298 : Ref sig .tc := ⟨.hbm, 412, rfl⟩
abbrev main_v299 : Ref sig .tc := ⟨.hbm, 413, rfl⟩
abbrev main_v300 : Ref sig .tc := ⟨.hbm, 414, rfl⟩
abbrev main_v301 : Ref sig .tc := ⟨.hbm, 415, rfl⟩
abbrev main_v302 : Ref sig .tc := ⟨.hbm, 416, rfl⟩
abbrev main_cst_61 : Ref sig .tc := ⟨.hbm, 417, rfl⟩
abbrev main_v303 : Ref sig .tc := ⟨.hbm, 418, rfl⟩
abbrev main_v304 : Ref sig .tc := ⟨.hbm, 419, rfl⟩
abbrev main_v305 : Ref sig .tc := ⟨.hbm, 420, rfl⟩
abbrev main_v306 : Ref sig .tc := ⟨.hbm, 421, rfl⟩
abbrev main_v307 : Ref sig .tc := ⟨.hbm, 422, rfl⟩
abbrev main_v308 : Ref sig .tc := ⟨.hbm, 423, rfl⟩
abbrev main_cst_62 : Ref sig .tc := ⟨.hbm, 424, rfl⟩
abbrev main_v309 : Ref sig .tc := ⟨.hbm, 425, rfl⟩
abbrev main_v310 : Ref sig .tc := ⟨.hbm, 426, rfl⟩
abbrev main_cst_63 : Ref sig .tc := ⟨.hbm, 427, rfl⟩
abbrev main_v311 : Ref sig .tc := ⟨.hbm, 428, rfl⟩
abbrev main_v312 : Ref sig .tc := ⟨.hbm, 429, rfl⟩
abbrev main_cst_64 : Ref sig .tc := ⟨.hbm, 430, rfl⟩
abbrev main_v313 : Ref sig .tc := ⟨.hbm, 431, rfl⟩
abbrev main_v314 : Ref sig .tc := ⟨.hbm, 432, rfl⟩
abbrev main_v315 : Ref sig .tc := ⟨.hbm, 433, rfl⟩
abbrev main_v316 : Ref sig .tc := ⟨.hbm, 434, rfl⟩
abbrev main_v317 : Ref sig .tc := ⟨.hbm, 435, rfl⟩
abbrev main_v318 : Ref sig .tc := ⟨.hbm, 436, rfl⟩
abbrev main_v319 : Ref sig .tc := ⟨.hbm, 437, rfl⟩
abbrev main_cst_65 : Ref sig .tc := ⟨.hbm, 438, rfl⟩
abbrev main_v320 : Ref sig .tc := ⟨.hbm, 439, rfl⟩
abbrev main_v321 : Ref sig .tc := ⟨.hbm, 440, rfl⟩
abbrev main_cst_66 : Ref sig .tc := ⟨.hbm, 441, rfl⟩
abbrev main_v322 : Ref sig .tc := ⟨.hbm, 442, rfl⟩
abbrev main_v323 : Ref sig .tc := ⟨.hbm, 443, rfl⟩
abbrev main_v324 : Ref sig .tc := ⟨.hbm, 444, rfl⟩
abbrev main_cst_67 : Ref sig .tc := ⟨.hbm, 445, rfl⟩
abbrev main_v325 : Ref sig .tc := ⟨.hbm, 446, rfl⟩
abbrev main_v326 : Ref sig .tc := ⟨.hbm, 447, rfl⟩
abbrev main_v327 : Ref sig .tc := ⟨.hbm, 448, rfl⟩
abbrev main_v328 : Ref sig .tc := ⟨.hbm, 449, rfl⟩
abbrev main_v329 : Ref sig .tc := ⟨.hbm, 450, rfl⟩
abbrev main_v330 : Ref sig .tc := ⟨.hbm, 451, rfl⟩
abbrev main_v331 : Ref sig .tc := ⟨.hbm, 452, rfl⟩
abbrev main_cst_68 : Ref sig .tc := ⟨.hbm, 453, rfl⟩
abbrev main_v332 : Ref sig .tc := ⟨.hbm, 454, rfl⟩
abbrev main_v333 : Ref sig .tc := ⟨.hbm, 455, rfl⟩
abbrev main_cst_69 : Ref sig .tc := ⟨.hbm, 456, rfl⟩
abbrev main_v334 : Ref sig .tc := ⟨.hbm, 457, rfl⟩
abbrev main_v335 : Ref sig .tc := ⟨.hbm, 458, rfl⟩
abbrev main_v336 : Ref sig .tc := ⟨.hbm, 459, rfl⟩
abbrev main_cst_70 : Ref sig .tc := ⟨.hbm, 460, rfl⟩
abbrev main_v337 : Ref sig .tc := ⟨.hbm, 461, rfl⟩
abbrev main_v338 : Ref sig .tc := ⟨.hbm, 462, rfl⟩
abbrev main_v339 : Ref sig .tc := ⟨.hbm, 463, rfl⟩
abbrev main_v340 : Ref sig .tc := ⟨.hbm, 464, rfl⟩
abbrev main_v341 : Ref sig .tc := ⟨.hbm, 465, rfl⟩
abbrev main_v342 : Ref sig .tc := ⟨.hbm, 466, rfl⟩
abbrev main_v343 : Ref sig .tc := ⟨.hbm, 467, rfl⟩
abbrev main_cst_71 : Ref sig .tc := ⟨.hbm, 468, rfl⟩
abbrev main_v344 : Ref sig .tc := ⟨.hbm, 469, rfl⟩
abbrev main_v345 : Ref sig .tc := ⟨.hbm, 470, rfl⟩
abbrev main_cst_72 : Ref sig .tc := ⟨.hbm, 471, rfl⟩
abbrev main_v346 : Ref sig .tc := ⟨.hbm, 472, rfl⟩
abbrev main_v347 : Ref sig .tc := ⟨.hbm, 473, rfl⟩
abbrev main_call5_call0_cst : Ref sig .tc := ⟨.hbm, 474, rfl⟩
abbrev main_call5_call0_v0 : Ref sig .tc := ⟨.hbm, 475, rfl⟩
abbrev main_v348 : Ref sig .tc := ⟨.hbm, 476, rfl⟩
abbrev main_v349 : Ref sig .tc := ⟨.hbm, 477, rfl⟩
abbrev main_cst_73 : Ref sig .tc := ⟨.hbm, 478, rfl⟩
abbrev main_v350 : Ref sig .tc := ⟨.hbm, 479, rfl⟩
abbrev main_cst_74 : Ref sig .tc := ⟨.hbm, 480, rfl⟩
abbrev main_v351 : Ref sig .tc := ⟨.hbm, 481, rfl⟩
abbrev main_v352 : Ref sig .tc := ⟨.hbm, 482, rfl⟩
abbrev main_cst_75 : Ref sig .tc := ⟨.hbm, 483, rfl⟩
abbrev main_v353 : Ref sig .tc := ⟨.hbm, 484, rfl⟩
abbrev main_v354 : Ref sig .tc := ⟨.hbm, 485, rfl⟩
abbrev main_cst_76 : Ref sig .tc := ⟨.hbm, 486, rfl⟩
abbrev main_v355 : Ref sig .tc := ⟨.hbm, 487, rfl⟩
abbrev main_v356 : Ref sig .tc := ⟨.hbm, 488, rfl⟩
abbrev main_cst_77 : Ref sig .tc := ⟨.hbm, 489, rfl⟩
abbrev main_v357 : Ref sig .tc := ⟨.hbm, 490, rfl⟩
abbrev main_v358 : Ref sig .tc := ⟨.hbm, 491, rfl⟩
abbrev main_cst_78 : Ref sig .tc := ⟨.hbm, 492, rfl⟩
abbrev main_v359 : Ref sig .tc := ⟨.hbm, 493, rfl⟩
abbrev main_v360 : Ref sig .tc := ⟨.hbm, 494, rfl⟩
abbrev main_cst_79 : Ref sig .tc := ⟨.hbm, 495, rfl⟩
abbrev main_v361 : Ref sig .tc := ⟨.hbm, 496, rfl⟩
abbrev main_v362 : Ref sig .tc := ⟨.hbm, 497, rfl⟩
abbrev main_v363 : Ref sig .tc := ⟨.hbm, 498, rfl⟩
abbrev main_v364 : Ref sig .tc := ⟨.hbm, 499, rfl⟩
abbrev main_v365 : Ref sig .tc := ⟨.hbm, 500, rfl⟩
abbrev main_v366 : Ref sig .tc := ⟨.hbm, 501, rfl⟩
abbrev main_v367 : Ref sig .tc := ⟨.hbm, 502, rfl⟩
abbrev main_v368 : Ref sig .tc := ⟨.hbm, 503, rfl⟩
abbrev main_v369 : Ref sig .tc := ⟨.hbm, 504, rfl⟩
abbrev main_v370 : Ref sig .tc := ⟨.hbm, 505, rfl⟩
abbrev main_v371 : Ref sig .tc := ⟨.hbm, 506, rfl⟩
abbrev main_v372 : Ref sig .tc := ⟨.hbm, 507, rfl⟩
abbrev main_v373 : Ref sig .tc := ⟨.hbm, 508, rfl⟩
abbrev main_v374 : Ref sig .tc := ⟨.hbm, 509, rfl⟩
abbrev main_v375 : Ref sig .tc := ⟨.hbm, 510, rfl⟩
abbrev main_v376 : Ref sig .tc := ⟨.hbm, 511, rfl⟩
abbrev main_v377 : Ref sig .tc := ⟨.hbm, 512, rfl⟩
abbrev main_cst_80 : Ref sig .tc := ⟨.hbm, 513, rfl⟩
abbrev main_v378 : Ref sig .tc := ⟨.hbm, 514, rfl⟩
abbrev main_v379 : Ref sig .tc := ⟨.hbm, 515, rfl⟩

abbrev nD : Nat := 1
abbrev τ : Topo := Topo.v7x

variable {F : FTy → Type} [FloatOps F]
-- ==== KernelFf2.lean ====
abbrev S4096x4096 : Shape := ⟨2, ![4096, 4096]⟩
abbrev S4096x1024 : Shape := ⟨2, ![4096, 1024]⟩
abbrev S2x4x512x1024 : Shape := ⟨4, ![2, 4, 512, 1024]⟩
abbrev S2048x1024 : Shape := ⟨2, ![2048, 1024]⟩
abbrev S2x1x512x1024 : Shape := ⟨4, ![2, 1, 512, 1024]⟩
abbrev S1024x1024 : Shape := ⟨2, ![1024, 1024]⟩
abbrev S512x1024 : Shape := ⟨2, ![512, 1024]⟩
abbrev S1x1x512x1024 : Shape := ⟨4, ![1, 1, 512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S2x4x512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1x512x1024, .bf16⟩
  | .local _ .vmem, ⟨5, _⟩ => ⟨S2x1x512x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceFf2Ideal.lean ====
abbrev S4096x4096 : Shape := ⟨2, ![4096, 4096]⟩
abbrev S4096x1024 : Shape := ⟨2, ![4096, 1024]⟩
abbrev S_ : Shape := ⟨0, ![]⟩
abbrev S1x4096x4096 : Shape := ⟨3, ![1, 4096, 4096]⟩
abbrev S1x4096x1024 : Shape := ⟨3, ![1, 4096, 1024]⟩
abbrev S1024x4096 : Shape := ⟨2, ![1024, 4096]⟩
abbrev S4x2x512x1024 : Shape := ⟨4, ![4, 2, 512, 1024]⟩
abbrev S2x4x512x1024 : Shape := ⟨4, ![2, 4, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S1x4096x4096, .f32⟩
  | .hbm, ⟨5, _⟩ => ⟨S1x4096x1024, .f32⟩
  | .hbm, ⟨6, _⟩ => ⟨S1x4096x1024, .f32⟩
  | .hbm, ⟨7, _⟩ => ⟨S1024x4096, .f32⟩
  | .hbm, ⟨8, _⟩ => ⟨S4096x1024, .f32⟩
  | .hbm, ⟨9, _⟩ => ⟨S4x2x512x1024, .f32⟩
  | .hbm, ⟨10, _⟩ => ⟨S2x4x512x1024, .f32⟩
  | .hbm, ⟨11, _⟩ => ⟨S2x4x512x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelFf1.lean ====
abbrev S4096x1024 : Shape := ⟨2, ![4096, 1024]⟩
abbrev S4096x4096 : Shape := ⟨2, ![4096, 4096]⟩
abbrev S2x4x512x1024 : Shape := ⟨4, ![2, 4, 512, 1024]⟩
abbrev S2048x1024 : Shape := ⟨2, ![2048, 1024]⟩
abbrev S2x1x512x1024 : Shape := ⟨4, ![2, 1, 512, 1024]⟩
abbrev S1024x1024 : Shape := ⟨2, ![1024, 1024]⟩
abbrev S512x1024 : Shape := ⟨2, ![512, 1024]⟩
abbrev S1x1x512x1024 : Shape := ⟨4, ![1, 1, 512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S2x4x512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1x512x1024, .bf16⟩
  | .local _ .vmem, ⟨5, _⟩ => ⟨S2x1x512x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ReferenceFf1Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1x4096x1024 : Shape := ⟨3, ![1, 4096, 1024]⟩
abbrev S1x4096x4096 : Shape := ⟨3, ![1, 4096, 4096]⟩
abbrev S2x512x4x1024 : Shape := ⟨4, ![2, 512, 4, 1024]⟩
abbrev S2x4x512x1024 : Shape := ⟨4, ![2, 4, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S1x4096x1024, .f32⟩
  | .hbm, ⟨5, _⟩ => ⟨S1x4096x4096, .f32⟩
  | .hbm, ⟨6, _⟩ => ⟨S1x4096x4096, .f32⟩
  | .hbm, ⟨7, _⟩ => ⟨S4096x1024, .f32⟩
  | .hbm, ⟨8, _⟩ => ⟨S1024x4096, .f32⟩
  | .hbm, ⟨9, _⟩ => ⟨S2x512x4x1024, .f32⟩
  | .hbm, ⟨10, _⟩ => ⟨S2x4x512x1024, .f32⟩
  | .hbm, ⟨11, _⟩ => ⟨S2x4x512x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelIn.lean ====
abbrev S4096x1024 : Shape := ⟨2, ![4096, 1024]⟩
abbrev S4096x5120 : Shape := ⟨2, ![4096, 5120]⟩
abbrev S2x4x512x1280 : Shape := ⟨4, ![2, 4, 512, 1280]⟩
abbrev S2048x1024 : Shape := ⟨2, ![2048, 1024]⟩
abbrev S2048x1280 : Shape := ⟨2, ![2048, 1280]⟩
abbrev S2x1x512x1280 : Shape := ⟨4, ![2, 1, 512, 1280]⟩
abbrev S1024x1280 : Shape := ⟨2, ![1024, 1280]⟩
abbrev S512x1280 : Shape := ⟨2, ![512, 1280]⟩
abbrev S1x1x512x1280 : Shape := ⟨4, ![1, 1, 512, 1280]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5120, .f32⟩
  | .hbm, ⟨2, _⟩ => ⟨S4096x1024, .bf16⟩
  | .hbm, ⟨3, _⟩ => ⟨S4096x5120, .bf16⟩
  | .hbm, ⟨4, _⟩ => ⟨S2x4x512x1280, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S2x1x512x1280, .bf16⟩
  | .local _ .vmem, ⟨5, _⟩ => ⟨S2x1x512x1280, .bf16⟩
  | .local _ .vmem, ⟨6, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ReferenceInIdeal.lean ====
abbrev S4096x1024 : Shape := ⟨2, ![4096, 1024]⟩
abbrev S4096x5120 : Shape := ⟨2, ![4096, 5120]⟩
abbrev S_ : Shape := ⟨0, ![]⟩
abbrev S1024x5120 : Shape := ⟨2, ![1024, 5120]⟩
abbrev S1x4096x1024 : Shape := ⟨3, ![1, 4096, 1024]⟩
abbrev S1x4096x5120 : Shape := ⟨3, ![1, 4096, 5120]⟩
abbrev S5120x1024 : Shape := ⟨2, ![5120, 1024]⟩
abbrev S2x512x4x1280 : Shape := ⟨4, ![2, 512, 4, 1280]⟩
abbrev S2x4x512x1280 : Shape := ⟨4, ![2, 4, 512, 1280]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5120, .f32⟩
  | .hbm, ⟨2, _⟩ => ⟨S_, .f32⟩
  | .hbm, ⟨3, _⟩ => ⟨S1024x5120, .f32⟩
  | .hbm, ⟨4, _⟩ => ⟨S1x4096x1024, .f32⟩
  | .hbm, ⟨5, _⟩ => ⟨S1x4096x5120, .f32⟩
  | .hbm, ⟨6, _⟩ => ⟨S1x4096x5120, .f32⟩
  | .hbm, ⟨7, _⟩ => ⟨S5120x1024, .f32⟩
  | .hbm, ⟨8, _⟩ => ⟨S1024x5120, .f32⟩
  | .hbm, ⟨9, _⟩ => ⟨S2x512x4x1280, .f32⟩
  | .hbm, ⟨10, _⟩ => ⟨S2x4x512x1280, .f32⟩
  | .hbm, ⟨11, _⟩ => ⟨S2x4x512x1280, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelOut.lean ====
abbrev S4096x1024 : Shape := ⟨2, ![4096, 1024]⟩
abbrev S_ : Shape := ⟨0, ![]⟩
abbrev S8x128 : Shape := ⟨2, ![8, 128]⟩
abbrev S2x4x128x1024 : Shape := ⟨4, ![2, 4, 128, 1024]⟩
abbrev S2048x1024 : Shape := ⟨2, ![2048, 1024]⟩
abbrev S1024x1024 : Shape := ⟨2, ![1024, 1024]⟩
abbrev S128x1024 : Shape := ⟨2, ![128, 1024]⟩
abbrev S1x1x128x1024 : Shape := ⟨4, ![1, 1, 128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S8x128, .f32⟩
  | .hbm, ⟨4, _⟩ => ⟨S4096x1024, .bf16⟩
  | .hbm, ⟨5, _⟩ => ⟨S4096x1024, .bf16⟩
  | .hbm, ⟨6, _⟩ => ⟨S2x4x128x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S2x4x128x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S2x4x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== ReferenceOutIdeal.lean ====
abbrev S4096x1024 : Shape := ⟨2, ![4096, 1024]⟩
abbrev S_ : Shape := ⟨0, ![]⟩
abbrev S1024x1024 : Shape := ⟨2, ![1024, 1024]⟩
abbrev S1x4096x1024 : Shape := ⟨3, ![1, 4096, 1024]⟩
abbrev S4x2x128x1024 : Shape := ⟨4, ![4, 2, 128, 1024]⟩
abbrev S2x4x128x1024 : Shape := ⟨4, ![2, 4, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S1x4096x1024, .f32⟩
  | .hbm, ⟨5, _⟩ => ⟨S1x4096x1024, .f32⟩
  | .hbm, ⟨6, _⟩ => ⟨S1x4096x1024, .f32⟩
  | .hbm, ⟨7, _⟩ => ⟨S1024x1024, .f32⟩
  | .hbm, ⟨8, _⟩ => ⟨S1024x1024, .f32⟩
  | .hbm, ⟨9, _⟩ => ⟨S4x2x128x1024, .f32⟩
  | .hbm, ⟨10, _⟩ => ⟨S2x4x128x1024, .f32⟩
  | .hbm, ⟨11, _⟩ => ⟨S2x4x128x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelFfn.lean ====
abbrev S4096x1024 : Shape := ⟨2, ![4096, 1024]⟩
abbrev S1024 : Shape := ⟨1, ![1024]⟩
abbrev S1024x4096 : Shape := ⟨2, ![1024, 4096]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S8x1024 : Shape := ⟨2, ![8, 1024]⟩
abbrev S256x1024 : Shape := ⟨2, ![256, 1024]⟩
abbrev S256x4096 : Shape := ⟨2, ![256, 4096]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 39
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1x4096x1024, .f32⟩
  | .hbm, ⟨9, _⟩ => ⟨S1x4096x1024, .f32⟩
  | .hbm, ⟨10, _⟩ => ⟨S_, .f32⟩
  | .hbm, ⟨11, _⟩ => ⟨S1x4096, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x4096, .f32⟩
  | .hbm, ⟨26, _⟩ => ⟨S4096x4096, .f32⟩
  | .hbm, ⟨27, _⟩ => ⟨S1024x4096, .bf16⟩
  | .hbm, ⟨28, _⟩ => ⟨S1024x4x1024, .bf16⟩
  | .hbm, ⟨29, _⟩ => ⟨S4x1024x1024, .bf16⟩
  | .hbm, ⟨30, _⟩ => ⟨S4096x1024, .bf16⟩
  | .hbm, ⟨31, _⟩ => ⟨S4x1024x1024, .bf16⟩
  | .hbm, ⟨32, _⟩ => ⟨S4096x1024, .bf16⟩
  | .hbm, ⟨33, _⟩ => ⟨S1x1024, .f32⟩
  | .hbm, ⟨34, _⟩ => ⟨S1x1024, .f32⟩
  | .hbm, ⟨35, _⟩ => ⟨S4096x4096, .bf16⟩
  | .hbm, ⟨36, _⟩ => ⟨S4096x1024, .f32⟩
  | .hbm, ⟨37, _⟩ => ⟨S4096x1024, .bf16⟩
  | .hbm, ⟨38, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x4096, .f32⟩
  | .local _ .vmem, ⟨3, _⟩ => ⟨S256x4096, .f32⟩
  | .local _ .vmem, ⟨4, _⟩ => ⟨S4x1024x1024, .bf16⟩
  | .local _ .vmem, ⟨5, _⟩ => ⟨S4x1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S256x4096, .bf16⟩
  | .local _ .vmem, ⟨15, _⟩ => ⟨S256x4096, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v24_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceFfnIdeal.lean ====
abbrev S4096x1024 : Shape := ⟨2, ![4096, 1024]⟩
abbrev S1024 : Shape := ⟨1, ![1024]⟩
abbrev S1024x4096 : Shape := ⟨2, ![1024, 4096]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩
abbrev S1x1024 : Shape := ⟨2, ![1, 1024]⟩
abbrev S4096 : Shape := ⟨1, ![4096]⟩
abbrev S4096x4096 : Shape := ⟨2, ![4096, 4096]⟩
abbrev S2x1024 : Shape := ⟨2, ![2, 1024]⟩
abbrev S6x1024 : Shape := ⟨2, ![6, 1024]⟩
abbrev S8x1024 : Shape := ⟨2, ![8, 1024]⟩

abbrev nBuf : Space → Nat
  | .hbm => 140
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S1024, .f32⟩
  | 5 => ⟨S1024, .f32⟩
  | 6 => ⟨S1024x4096, .f32⟩
  | 7 => ⟨S4096x1024, .f32⟩
  | 8 => ⟨S1x4096x1024, .f32⟩
  | 9 => ⟨S1x4096x1024, .f32⟩
  | 10 => ⟨S_, .f32⟩
  | 11 => ⟨S1x4096, .f32⟩
  | 12 => ⟨S1x4096x1, .f32⟩
  | 13 => ⟨S_, .f32⟩
  | 14 => ⟨S1x4096x1, .f32⟩
  | 15 => ⟨S1x4096x1, .f32⟩
  | 16 => ⟨S_, .f32⟩
  | 17 => ⟨S1x4096x1, .f32⟩
  | 18 => ⟨S1x4096x1, .f32⟩
  | 19 => ⟨S1x4096x1, .f32⟩
  | 20 => ⟨S1x4096x1, .f32⟩
  | 21 => ⟨S_, .f32⟩
  | 22 => ⟨S1x4096x1, .f32⟩
  | 23 => ⟨S1x4096x1, .f32⟩
  | 24 => ⟨S1x4096x1024, .f32⟩
  | 25 => ⟨S1x4096x1024, .f32⟩
  | 26 => ⟨S1x1x1024, .f32⟩
  | 27 => ⟨S1x4096x1024, .f32⟩
  | 28 => ⟨S1x4096x1024, .f32⟩
  | 29 => ⟨S1x4096x4096, .f32⟩
  | 30 => ⟨S_, .f32⟩
  | 31 => ⟨S1x4096x4096, .f32⟩
  | 32 => ⟨S1x4096x4096, .f32⟩
  | 33 => ⟨S_, .f32⟩
  | 34 => ⟨S1x4096x4096, .f32⟩
  | 35 => ⟨S1x4096x4096, .i1⟩
  | 36 => ⟨S_, .f32⟩
  | 37 => ⟨S1x4096x4096, .f32⟩
  | 38 => ⟨S1x4096x4096, .f32⟩
  | 39 => ⟨S_, .f32⟩
  | 40 => ⟨S1x4096x4096, .f32⟩
  | 41 => ⟨S1x4096x4096, .f32⟩
  | 42 => ⟨S1x4096x1024, .f32⟩
  | 43 => ⟨S1x4096x1024, .f32⟩
  | 44 => ⟨S1024x4096, .f32⟩
  | 45 => ⟨S4096x1024, .f32⟩
  | 46 => ⟨S1x4096x4096, .f32⟩
  | 47 => ⟨S1x4096x4096, .f32⟩
  | 48 => ⟨S_, .f32⟩
  | 49 => ⟨S1x4096x4096, .f32⟩
  | 50 => ⟨S1x4096x4096, .f32⟩
  | 51 => ⟨S4096x1024, .f32⟩
  | 52 => ⟨S1024x4096, .f32⟩
  | 53 => ⟨S1x4096x1024, .f32⟩
  | 54 => ⟨S1x4096x1024, .f32⟩
  | 55 => ⟨S_, .f32⟩
  | 56 => ⟨S1x1024, .f32⟩
  | 57 => ⟨S1x1x1024, .f32⟩
  | 58 => ⟨S1x4096x1024, .f32⟩
  | 59 => ⟨S1x4096x1024, .f32⟩
  | 60 => ⟨S_, .f32⟩
  | 61 => ⟨S1024, .f32⟩
  | 62 => ⟨S1x4096x1024, .f32⟩
  | 63 => ⟨S_, .f32⟩
  | 64 => ⟨S1x4096, .f32⟩
  | 65 => ⟨S1x4096x1, .f32⟩
  | 66 => ⟨S1x4096x1024, .f32⟩
  | 67 => ⟨S1x4096x1024, .f32⟩
  | 68 => ⟨S1x4096x1, .f32⟩
  | 69 => ⟨S_, .f32⟩
  | 70 => ⟨S1x4096x1, .f32⟩
  | 71 => ⟨S1x4096x1, .f32⟩
  | 72 => ⟨S_, .f32⟩
  | 73 => ⟨S4096, .f32⟩
  | 74 => ⟨S1x4096, .f32⟩
  | 75 => ⟨S1x4096x1024, .f32⟩
  | 76 => ⟨S1x4096x1024, .f32⟩
  | 77 => ⟨S1x4096x1024, .f32⟩
  | 78 => ⟨S1x4096x1024, .f32⟩
  | 79 => ⟨S1x4096x1024, .f32⟩
  | 80 => ⟨S1x4096x1024, .f32⟩
  | 81 => ⟨S1x4096x1024, .f32⟩
  | 82 => ⟨S1x4096x1024, .f32⟩
  | 83 => ⟨S1x4096x1024, .f32⟩
  | 84 => ⟨S_, .f32⟩
  | 85 => ⟨S1x4096, .f32⟩
  | 86 => ⟨S1x4096x1, .f32⟩
  | 87 => ⟨S_, .f32⟩
  | 88 => ⟨S1x4096x1, .f32⟩
  | 89 => ⟨S1x4096x1, .f32⟩
  | 90 => ⟨S_, .f32⟩
  | 91 => ⟨S1x4096x1, .f32⟩
  | 92 => ⟨S1x4096x1, .f32⟩
  | 93 => ⟨S1x4096x1, .f32⟩
  | 94 => ⟨S1x4096x1, .f32⟩
  | 95 => ⟨S_, .f32⟩
  | 96 => ⟨S1x4096x1, .f32⟩
  | 97 => ⟨S1x4096x1, .f32⟩
  | 98 => ⟨S1x4096x1024, .f32⟩
  | 99 => ⟨S1x4096x1024, .f32⟩
  | 100 => ⟨S1x1x1024, .f32⟩
  | 101 => ⟨S1x4096x1024, .f32⟩
  | 102 => ⟨S1x4096x1024, .f32⟩
  | 103 => ⟨S1x4096x1024, .f32⟩
  | 104 => ⟨S_, .f32⟩
  | 105 => ⟨S1x1024, .f32⟩
  | 106 => ⟨S1x1x1024, .f32⟩
  | 107 => ⟨S1x4096x1024, .f32⟩
  | 108 => ⟨S1x4096x1024, .f32⟩
  | 109 => ⟨S_, .f32⟩
  | 110 => ⟨S1024, .f32⟩
  | 111 => ⟨S1x4096x1024, .f32⟩
  | 112 => ⟨S_, .f32⟩
  | 113 => ⟨S1x4096, .f32⟩
  | 114 => ⟨S1x4096x1, .f32⟩
  | 115 => ⟨S1x4096x1024, .f32⟩
  | 116 => ⟨S1x4096x1024, .f32⟩
  | 117 => ⟨S1x4096x1, .f32⟩
  | 118 => ⟨S_, .f32⟩
  | 119 => ⟨S1x4096x1, .f32⟩
  | 120 => ⟨S1x4096x1, .f32⟩
  | 121 => ⟨S_, .f32⟩
  | 122 => ⟨S4096, .f32⟩
  | 123 => ⟨S1x4096, .f32⟩
  | 124 => ⟨S1x4096x1024, .f32⟩
  | 125 => ⟨S1x4096x1024, .f32⟩
  | 126 => ⟨S1x4096x1024, .f32⟩
  | 127 => ⟨S1x4096x1024, .f32⟩
  | _ => ⟨S4096x1024, .f32⟩

abbrev hbmTy0_1 (i : Nat) : BufTy := match i % 128 with
  | 0 => ⟨S1x4096x1024, .f32⟩
  | 1 => ⟨S4096x4096, .f32⟩
  | 2 => ⟨S4096x4096, .bf16⟩
  | 3 => ⟨S4096x1024, .f32⟩
  | 4 => ⟨S4096x1024, .f32⟩
  | 5 => ⟨S4096x1024, .bf16⟩
  | 6 => ⟨S1x1024, .f32⟩
  | 7 => ⟨S1x1024, .f32⟩
  | 8 => ⟨S2x1024, .f32⟩
  | 9 => ⟨S_, .f32⟩
  | 10 => ⟨S6x1024, .f32⟩
  | 11 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_cst_18 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_19 : Ref sig .tc := ⟨.hbm, 118, rfl⟩
abbrev main_v88 : Ref sig .tc := ⟨.hbm, 119, rfl⟩
abbrev main_v89 : Ref sig .tc := ⟨.hbm, 120, rfl⟩
abbrev main_cst_20 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_21 : Ref sig .tc := ⟨.hbm, 137, rfl⟩
abbrev main_v105 : Ref sig .tc := ⟨.hbm, 138, rfl⟩
abbrev main_v106 : Ref sig .tc := ⟨.hbm, 139, rfl⟩

abbrev nD : Nat := 1
abbrev τ : Topo := Topo.v7x

variable {F : FTy → Type} [FloatOps F]
-- ==== KernelDx.lean ====
abbrev S4096x5120 : Shape := ⟨2, ![4096, 5120]⟩
abbrev S4096x1024 : Shape := ⟨2, ![4096, 1024]⟩
abbrev S1024 : Shape := ⟨1, ![1024]⟩
abbrev S1024x5120 : Shape := ⟨2, ![1024, 5120]⟩
abbrev S_ : Shape := ⟨0, ![]⟩
abbrev S8x128 : Shape := ⟨2, ![8, 128]⟩
abbrev S1024x4x1280 : Shape := ⟨3, ![1024, 4, 1280]⟩
abbrev S4x1024x1280 : Shape := ⟨3, ![4, 1024, 1280]⟩
abbrev S1x1024 : Shape := ⟨2, ![1, 1024]⟩
abbrev S8x1024 : Shape := ⟨2, ![8, 1024]⟩
abbrev S512x5120 : Shape := ⟨2, ![512, 5120]⟩
abbrev S512x1024 : Shape := ⟨2, ![512, 1024]⟩
abbrev S512x1280 : Shape := ⟨2, ![512, 1280]⟩
abbrev S1x1024x1280 : Shape := ⟨3, ![1, 1024, 1280]⟩
abbrev S1024x1280 : Shape := ⟨2, ![1024, 1280]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x5120, .f32⟩
  | .hbm, ⟨5, _⟩ => ⟨S_, .f32⟩
  | .hbm, ⟨6, _⟩ => ⟨S8x128, .f32⟩
  | .hbm, ⟨7, _⟩ => ⟨S1024x5120, .bf16⟩
  | .hbm, ⟨8, _⟩ => ⟨S1024x4x1280, .bf16⟩
  | .hbm, ⟨9, _⟩ => ⟨S4x1024x1280, .bf16⟩
  | .hbm, ⟨10, _⟩ => ⟨S4096x5120, .bf16⟩
  | .hbm, ⟨11, _⟩ => ⟨S1x1024, .f32⟩
  | .hbm, ⟨12, _⟩ => ⟨S4096x1024, .f32⟩
  | .hbm, ⟨13, _⟩ => ⟨S8x1024, .f32⟩
  | .local _ .vmem, ⟨0, _⟩ => ⟨S512x5120, .bf16⟩
  | .local _ .vmem, ⟨1, _⟩ => ⟨S512x5120, .bf16⟩
  | .local _ .vmem, ⟨2, _⟩ => ⟨S4x1024x1280, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceDxIdeal.lean ====
abbrev S4096x5120 : Shape := ⟨2, ![4096, 5120]⟩
abbrev S4096x1024 : Shape := ⟨2, ![4096, 1024]⟩
abbrev S1024 : Shape := ⟨1, ![1024]⟩
abbrev S1024x5120 : Shape := ⟨2, ![1024, 5120]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x5120 : Shape := ⟨3, ![1, 4096, 5120]⟩
abbrev S5120x1024 : Shape := ⟨2, ![5120, 1024]⟩
abbrev S1x1024 : Shape := ⟨2, ![1, 1024]⟩
abbrev S4096 : Shape := ⟨1, ![4096]⟩
abbrev S7x1024 : Shape := ⟨2, ![7, 1024]⟩
abbrev S8x1024 : Shape := ⟨2, ![8, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x5120, .f32⟩
  | .hbm, ⟨5, _⟩ => ⟨S1x4096x1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1x4096x5120, .f32⟩
  | .hbm, ⟨27, _⟩ => ⟨S1x4096x5120, .f32⟩
  | .hbm, ⟨28, _⟩ => ⟨S5120x1024, .f32⟩
  | .hbm, ⟨29, _⟩ => ⟨S1024x5120, .f32⟩
  | .hbm, ⟨30, _⟩ => ⟨S1x4096x1024, .f32⟩
  | .hbm, ⟨31, _⟩ => ⟨S1x4096x1024, .f32⟩
  | .hbm, ⟨32, _⟩ => ⟨S_, .f32⟩
  | .hbm, ⟨33, _⟩ => ⟨S1x1024, .f32⟩
  | .hbm, ⟨34, _⟩ => ⟨S1x1x1024, .f32⟩
  | .hbm, ⟨35, _⟩ => ⟨S1x4096x1024, .f32⟩
  | .hbm, ⟨36, _⟩ => ⟨S1x4096x1024, .f32⟩
  | .hbm, ⟨37, _⟩ => ⟨S_, .f32⟩
  | .hbm, ⟨38, _⟩ => ⟨S1024, .f32⟩
  | .hbm, ⟨39, _⟩ => ⟨S1x4096x1024, .f32⟩
  | .hbm, ⟨40, _⟩ => ⟨S_, .f32⟩
  | .hbm, ⟨41, _⟩ => ⟨S1x4096, .f32⟩
  | .hbm, ⟨42, _⟩ => ⟨S1x4096x1, .f32⟩
  | .hbm, ⟨43, _⟩ => ⟨S1x4096x1024, .f32⟩
  | .hbm, ⟨44, _⟩ => ⟨S1x4096x1024, .f32⟩
  | .hbm, ⟨45, _⟩ => ⟨S1x4096x1, .f32⟩
  | .hbm, ⟨46, _⟩ => ⟨S_, .f32⟩
  | .hbm, ⟨47, _⟩ => ⟨S1x4096x1, .f32⟩
  | .hbm, ⟨48, _⟩ => ⟨S1x4096x1, .f32⟩
  | .hbm, ⟨49, _⟩ => ⟨S_, .f32⟩
  | .hbm, ⟨50, _⟩ => ⟨S4096, .f32⟩
  | .hbm, ⟨51, _⟩ => ⟨S1x4096, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S4096x1024, .f32⟩
  | .hbm, ⟨58, _⟩ => ⟨S4096x1024, .f32⟩
  | .hbm, ⟨59, _⟩ => ⟨S1x1024, .f32⟩
  | .hbm, ⟨60, _⟩ => ⟨S_, .f32⟩
  | .hbm, ⟨61, _⟩ => ⟨S7x1024, .f32⟩
  | .hbm, ⟨62, _⟩ => ⟨S8x1024, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== KernelFwd.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S8x1024 : Shape := ⟨2, ![8, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 19
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S4096x1024, .bf16⟩
  | .hbm, ⟨10, _⟩ => ⟨S4x1024x1024, .bf16⟩
  | .hbm, ⟨11, _⟩ => ⟨S1x1024, .f32⟩
  | .hbm, ⟨12, _⟩ => ⟨S1x1024, .f32⟩
  | .hbm, ⟨13, _⟩ => ⟨S4096x1024, .bf16⟩
  | .hbm, ⟨14, _⟩ => ⟨S4096x4096, .f32⟩
  | .hbm, ⟨15, _⟩ => ⟨S4096x4096, .bf16⟩
  | .hbm, ⟨16, _⟩ => ⟨S4096x1024, .bf16⟩
  | .hbm, ⟨17, _⟩ => ⟨S4096x1024, .f32⟩
  | .hbm, ⟨18, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1024, .bf16⟩
  | .local _ .vmem, ⟨4, _⟩ => ⟨S4x1024x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x4096, .f32⟩
  | .local _ .vmem, ⟨11, _⟩ => ⟨S256x4096, .f32⟩
  | .local _ .vmem, ⟨12, _⟩ => ⟨S256x4096, .bf16⟩
  | .local _ .vmem, ⟨13, _⟩ => ⟨S256x4096, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceFwdIdeal.lean ====
abbrev S4096x1024 : Shape := ⟨2, ![4096, 1024]⟩
abbrev S1024 : Shape := ⟨1, ![1024]⟩
abbrev S1024x4096 : Shape := ⟨2, ![1024, 4096]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩
abbrev S1x1024 : Shape := ⟨2, ![1, 1024]⟩
abbrev S4096 : Shape := ⟨1, ![4096]⟩
abbrev S2x1024 : Shape := ⟨2, ![2, 1024]⟩
abbrev S4096x4096 : Shape := ⟨2, ![4096, 4096]⟩
abbrev S6x1024 : Shape := ⟨2, ![6, 1024]⟩
abbrev S8x1024 : Shape := ⟨2, ![8, 1024]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1x4096x1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x4096, .f32⟩
  | .hbm, ⟨24, _⟩ => ⟨S_, .f32⟩
  | .hbm, ⟨25, _⟩ => ⟨S1x4096x4096, .f32⟩
  | .hbm, ⟨26, _⟩ => ⟨S1x4096x4096, .f32⟩
  | .hbm, ⟨27, _⟩ => ⟨S1x4096x4096, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S_, .f32⟩
  | .hbm, ⟨33, _⟩ => ⟨S1x4096, .f32⟩
  | .hbm, ⟨34, _⟩ => ⟨S1x4096x1, .f32⟩
  | .hbm, ⟨35, _⟩ => ⟨S_, .f32⟩
  | .hbm, ⟨36, _⟩ => ⟨S1x4096x1, .f32⟩
  | .hbm, ⟨37, _⟩ => ⟨S1x4096x1, .f32⟩
  | .hbm, ⟨38, _⟩ => ⟨S_, .f32⟩
  | .hbm, ⟨39, _⟩ => ⟨S1x4096x1, .f32⟩
  | .hbm, ⟨40, _⟩ => ⟨S1x4096x1, .f32⟩
  | .hbm, ⟨41, _⟩ => ⟨S1x4096x1, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S1x4096x1024, .f32⟩
  | .hbm, ⟨47, _⟩ => ⟨S1x4096x1024, .f32⟩
  | .hbm, ⟨48, _⟩ => ⟨S1x1x1024, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S_, .f32⟩
  | .hbm, ⟨55, _⟩ => ⟨S1x4096x1024, .f32⟩
  | .hbm, ⟨56, _⟩ => ⟨S1x4096x1024, .f32⟩
  | .hbm, ⟨57, _⟩ => ⟨S_, .f32⟩
  | .hbm, ⟨58, _⟩ => ⟨S1x4096, .f32⟩
  | .hbm, ⟨59, _⟩ => ⟨S_, .f32⟩
  | .hbm, ⟨60, _⟩ => ⟨S1x4096, .f32⟩
  | .hbm, ⟨61, _⟩ => ⟨S1x4096, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1x4096, .f32⟩
  | .hbm, ⟨70, _⟩ => ⟨S_, .f32⟩
  | .hbm, ⟨71, _⟩ => ⟨S1x4096, .f32⟩
  | .hbm, ⟨72, _⟩ => ⟨S1x4096, .f32⟩
  | .hbm, ⟨73, _⟩ => ⟨S1x4096x1024, .f32⟩
  | .hbm, ⟨74, _⟩ => ⟨S1x4096x1024, .f32⟩
  | .hbm, ⟨75, _⟩ => ⟨S1x4096x1024, .f32⟩
  | .hbm, ⟨76, _⟩ => ⟨S_, .f32⟩
  | .hbm, ⟨77, _⟩ => ⟨S1x1024, .f32⟩
  | .hbm, ⟨78, _⟩ => ⟨S1x1x1024, .f32⟩
  | .hbm, ⟨79, _⟩ => ⟨S1x4096x1024, .f32⟩
  | .hbm, ⟨80, _⟩ => ⟨S1x4096x1024, .f32⟩
  | .hbm, ⟨81, _⟩ => ⟨S_, .f32⟩
  | .hbm, ⟨82, _⟩ => ⟨S1024, .f32⟩
  | .hbm, ⟨83, _⟩ => ⟨S1x4096x1024, .f32⟩
  | .hbm, ⟨84, _⟩ => ⟨S_, .f32⟩
  | .hbm, ⟨85, _⟩ => ⟨S1x4096, .f32⟩
  | .hbm, ⟨86, _⟩ => ⟨S1x4096x1, .f32⟩
  | .hbm, ⟨87, _⟩ => ⟨S1x4096x1024, .f32⟩
  | .hbm, ⟨88, _⟩ => ⟨S1x4096x1024, .f32⟩
  | .hbm, ⟨89, _⟩ => ⟨S1x4096x1, .f32⟩
  | .hbm, ⟨90, _⟩ => ⟨S_, .f32⟩
  | .hbm, ⟨91, _⟩ => ⟨S1x4096x1, .f32⟩
  | .hbm, ⟨92, _⟩ => ⟨S1x4096x1, .f32⟩
  | .hbm, ⟨93, _⟩ => ⟨S_, .f32⟩
  | .hbm, ⟨94, _⟩ => ⟨S4096, .f32⟩
  | .hbm, ⟨95, _⟩ => ⟨S1x4096, .f32⟩
  | .hbm, ⟨96, _⟩ => ⟨S1x4096x1024, .f32⟩
  | .hbm, ⟨97, _⟩ => ⟨S1x4096x1024, .f32⟩
  | .hbm, ⟨98, _⟩ => ⟨S1x4096x1024, .f32⟩
  | .hbm, ⟨99, _⟩ => ⟨S1x4096x1024, .f32⟩
  | .hbm, ⟨100, _⟩ => ⟨S1x4096x1024, .f32⟩
  | .hbm, ⟨101, _⟩ => ⟨S1024, .f32⟩
  | .hbm, ⟨102, _⟩ => ⟨S1x1024, .f32⟩
  | .hbm, ⟨103, _⟩ => ⟨S1x1024, .f32⟩
  | .hbm, ⟨104, _⟩ => ⟨S2x1024, .f32⟩
  | .hbm, ⟨105, _⟩ => ⟨S4096x1024, .f32⟩
  | .hbm, ⟨106, _⟩ => ⟨S4096x1024, .bf16⟩
  | .hbm, ⟨107, _⟩ => ⟨S4096x4096, .f32⟩
  | .hbm, ⟨108, _⟩ => ⟨S4096x4096, .f32⟩
  | .hbm, ⟨109, _⟩ => ⟨S4096x4096, .bf16⟩
  | .hbm, ⟨110, _⟩ => ⟨S4096x1024, .f32⟩
  | .hbm, ⟨111, _⟩ => ⟨S4096x1024, .bf16⟩
  | .hbm, ⟨112, _⟩ => ⟨S4096x1024, .f32⟩
  | .hbm, ⟨113, _⟩ => ⟨S_, .f32⟩
  | .hbm, ⟨114, _⟩ => ⟨S6x1024, .f32⟩
  | .hbm, ⟨115, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_cst_11 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_cst_18 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_19 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]
-- ==== Proof.Mix.Runs.lean ====
/- What the runs of the token mixer's backward body share: the conditions of its two branches over the 16 points,
   where its windows are idle, its memrefs, and its scratch. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an output stored at every point, under no condition). -/
theorem liveAt0_14 : ∀ t : Fin cfg0.N, cfg0.idle 14 (grid0.coords t) = false := fun _ => rfl
/-- Window 17 is never idle (an output stored at every point, under no condition). -/
theorem liveAt0_17 : ∀ t : Fin cfg0.N, cfg0.idle 17 (grid0.coords t) = false := fun _ => rfl
/-- Window 19 is never idle (an output stored at every point, under no condition). -/
theorem liveAt0_19 : ∀ t : Fin cfg0.N, cfg0.idle 19 (grid0.coords t) = false := fun _ => rfl
/-- Window 20 is never idle (an output stored at every point, under no condition). -/
theorem liveAt0_20 : ∀ t : Fin cfg0.N, cfg0.idle 20 (grid0.coords t) = false := fun _ => rfl
/-- At the points of case A the printed configuration (`Cfg.idle`) calls output 15 idle: the case stores nothing into it. -/
theorem idleAt0_15_A : ∀ t : Fin cfg0.N, cond0_0 (grid0.coords t) → ¬cond0_1 (grid0.coords t) → cfg0.idle 15 (grid0.coords t) = true := by decide +kernel
/-- At the points of case A the pipeline does not write output 15's block back. -/
theorem noFlush0_15_A : ∀ t : Fin cfg0.N, cond0_0 (grid0.coords t) → ¬cond0_1 (grid0.coords t) → (cfg0.win 15).flush t = false := by decide +kernel
/-- At the points of case B the printed configuration (`Cfg.idle`) calls output 15 idle: the case stores nothing into it. -/
theorem idleAt0_15_B : ∀ t : Fin cfg0.N, ¬cond0_0 (grid0.coords t) → ¬cond0_1 (grid0.coords t) → cfg0.idle 15 (grid0.coords t) = true := by decide +kernel
/-- At the points of case B the pipeline does not write output 15's block back. -/
theorem noFlush0_15_B : ∀ t : Fin cfg0.N, ¬cond0_0 (grid0.coords t) → ¬cond0_1 (grid0.coords t) → (cfg0.win 15).flush t = false := by decide +kernel
/-- At the points of case C the printed configuration (`Cfg.idle`) calls output 15 live: the case stores into it. -/
theorem liveAt0_15_C : ∀ t : Fin cfg0.N, ¬cond0_0 (grid0.coords t) → cond0_1 (grid0.coords t) → cfg0.idle 15 (grid0.coords t) = false := by decide +kernel
/-- At the points of case A the printed configuration (`Cfg.idle`) calls output 16 idle: the case stores nothing into it. -/
theorem idleAt0_16_A : ∀ t : Fin cfg0.N, cond0_0 (grid0.coords t) → ¬cond0_1 (grid0.coords t) → cfg0.idle 16 (grid0.coords t) = true := by decide +kernel
/-- At the points of case A the pipeline does not write output 16's block back. -/
theorem noFlush0_16_A : ∀ t : Fin cfg0.N, cond0_0 (grid0.coords t) → ¬cond0_1 (grid0.coords t) → (cfg0.win 16).flush t = false := by decide +kernel
/-- At the points of case B the printed configuration (`Cfg.idle`) calls output 16 idle: the case stores nothing into it. -/
theorem idleAt0_16_B : ∀ t : Fin cfg0.N, ¬cond0_0 (grid0.coords t) → ¬cond0_1 (grid0.coords t) → cfg0.idle 16 (grid0.coords t) = true := by decide +kernel
/-- At the points of case B the pipeline does not write output 16's block back. -/
theorem noFlush0_16_B : ∀ t : Fin cfg0.N, ¬cond0_0 (grid0.coords t) → ¬cond0_1 (grid0.coords t) → (cfg0.win 16).flush t = false := by decide +kernel
/-- At the points of case C the printed configuration (`Cfg.idle`) calls output 16 live: the case stores into it. -/
theorem liveAt0_16_C : ∀ t : Fin cfg0.N, ¬cond0_0 (grid0.coords t) → cond0_1 (grid0.coords t) → cfg0.idle 16 (grid0.coords t) = false := by decide +kernel
/-- At the points of case A the printed configuration (`Cfg.idle`) calls output 18 idle: the case stores nothing into it. -/
theorem idleAt0_18_A : ∀ t : Fin cfg0.N, cond0_0 (grid0.coords t) → ¬cond0_1 (grid0.coords t) → cfg0.idle 18 (grid0.coords t) = true := by decide +kernel
/-- At the points of case A the pipeline does not write output 18's block back. -/
theorem noFlush0_18_A : ∀ t : Fin cfg0.N, cond0_0 (grid0.coords t) → ¬cond0_1 (grid0.coords t) → (cfg0.win 18).flush t = false := by decide +kernel
/-- At the points of case B the printed configuration (`Cfg.idle`) calls output 18 idle: the case stores nothing into it. -/
theorem idleAt0_18_B : ∀ t : Fin cfg0.N, ¬cond0_0 (grid0.coords t) → ¬cond0_1 (grid0.coords t) → cfg0.idle 18 (grid0.coords t) = true := by decide +kernel
/-- At the points of case B the pipeline does not write output 18's block back. -/
theorem noFlush0_18_B : ∀ t : Fin cfg0.N, ¬cond0_0 (grid0.coords t) → ¬cond0_1 (grid0.coords t) → (cfg0.win 18).flush t = false := by decide +kernel
/-- At the points of case C the printed configuration (`Cfg.idle`) calls output 18 live: the case stores into it. -/
theorem liveAt0_18_C : ∀ t : Fin cfg0.N, ¬cond0_0 (grid0.coords t) → cond0_1 (grid0.coords t) → cfg0.idle 18 (grid0.coords t) = false := by decide +kernel

/-! ## The kernel body on any staging memrefs: a subtype the run finds -/

/-- One staging buffer of output window 14, through which its contents are stated (`View.read_writes_of_cover`: the
    choice does not matter). -/
abbrev VO0_14 : View sig .tc .vmem S256x5120 .bf16 := (Memref.whole cc0_stg14_0 : Memref sig .tc .vmem S256x5120 .bf16).view
/-- One staging buffer of output window 15, through which its contents are stated (`View.read_writes_of_cover`: the
    choice does not matter). -/
abbrev VO0_15 : View sig .tc .vmem S2x4x128x256 .bf16 := (Memref.whole cc0_stg15_0 : Memref sig .tc .vmem S2x4x128x256 .bf16).view
/-- One staging buffer of output window 16, through which its contents are stated (`View.read_writes_of_cover`: the
    choice does not matter). -/
abbrev VO0_16 : View sig .tc .vmem S2x4x128x256 .bf16 := (Memref.whole cc0_stg16_0 : Memref sig .tc .vmem S2x4x128x256 .bf16).view
/-- One staging buffer of output window 17, through which its contents are stated (`View.read_writes_of_cover`: the
    choice does not matter). -/
abbrev VO0_17 : View sig .tc .vmem S4x128x128 .f32 := (Memref.whole cc0_stg17_0 : Memref sig .tc .vmem S4x128x128 .f32).view
/-- One staging buffer of output window 18, through which its contents are stated (`View.read_writes_of_cover`: the
    choice does not matter). -/
abbrev VO0_18 : View sig .tc .vmem S128x512 .f32 := (Memref.whole cc0_stg18_0 : Memref sig .tc .vmem S128x512 .f32).view
/-- One staging buffer of output window 19, through which its contents are stated (`View.read_writes_of_cover`: the
    choice does not matter). -/
abbrev VO0_19 : View sig .tc .vmem S8x1024 .f32 := (Memref.whole cc0_stg19_0 : Memref sig .tc .vmem S8x1024 .f32).view
/-- One staging buffer of output window 20, through which its contents are stated (`View.read_writes_of_cover`: the
    choice does not matter). -/
abbrev VO0_20 : View sig .tc .vmem S8x5120 .f32 := (Memref.whole cc0_stg20_0 : Memref sig .tc .vmem S8x5120 .f32).view
/-- Each window's current staging memref at point `t`, spelled as the pipeline passes it (`bodyAt0`), and its wholeness. -/
abbrev ms0_0 (t : Fin cfg0.N) : Memref sig .tc .vmem S256x5120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x128x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x128x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x256x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x5120 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2x4x128x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x4x128x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4x128x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S128x512 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x1024 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S8x5120 .f32 := win0_20.stage (cfg0.slots t 20)
abbrev hs0_20 (t : Fin cfg0.N) : (ms0_20 t).IsWhole := hstage0_20 ((cfg0.slots t 20).cast nbuf0_20)
/-- The scratch operands: whole scoped buffers of the kernel's own, passed beside the windows. -/
abbrev scM0_0 : Memref sig .tc .vmem S272x1024 .f32 := Memref.whole cc0_scratch0
abbrev scM0_1 : Memref sig .tc .vmem S256x1024 .f32 := Memref.whole cc0_scratch1
abbrev scM0_2 : Memref sig .tc .vmem S256x1024 .f32 := Memref.whole cc0_scratch2
abbrev scM0_3 : Memref sig .tc .vmem S256x1024 .f32 := Memref.whole cc0_scratch3
abbrev scM0_4 : Memref sig .tc .vmem S128x1024 .f32 := Memref.whole cc0_scratch4
abbrev scM0_5 : Memref sig .tc .vmem S4x256x256 .f32 := Memref.whole cc0_scratch5
abbrev scM0_6 : Memref sig .tc .vmem S4x256x256 .f32 := Memref.whole cc0_scratch6
/-- The scratch `arg22` the kernel carries between points, as a view: what it holds is stated through it. -/
abbrev VS0_0 : View sig .tc .vmem S272x1024 .f32 := scM0_0.view
/-- The scratch `arg26` the kernel carries between points, as a view: what it holds is stated through it. -/
abbrev VS0_4 : View sig .tc .vmem S128x1024 .f32 := scM0_4.view
/-- The scratch `arg27` the kernel carries between points, as a view: what it holds is stated through it. -/
abbrev VS0_5 : View sig .tc .vmem S4x256x256 .f32 := scM0_5.view
/-- The scratch `arg28` the kernel carries between points, as a view: what it holds is stated through it. -/
abbrev VS0_6 : View sig .tc .vmem S4x256x256 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Mix

end
-- ==== Proof.Mix.RunA.lean ====
/- The whole body of the token mixer's backward call, run at the first point (its accumulators are cleared first). -/
module

public import proofs.«01_k».proof.Proof.Mix.Runs

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1656000 in
/-- The body run at the first point (its accumulators are cleared first): the pieces its stores leave in each buffer, last first, with the proof that from the
    inputs at their blocks, the accumulated outputs and carried scratch at what the point before left, it runs to the end
    with those pieces written and the inputs as they were. -/
noncomputable def kernelRun0_A (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole) (hc0 : cond0_0 i) (hc1 : ¬cond0_1 i)
    (x0 : Vec F S256x5120 .f32) (x1 : Vec F S256x1024 .bf16) (x2 : Vec F S256x1024 .bf16) (x3 : Vec F S4x256x256 .bf16) (x4 : Vec F S1x1024 .f32) (x5 : Vec F S1x1024 .f32) (x6 : Vec F S1x1024 .f32) (x7 : Vec F S4x128x128 .bf16) (x8 : Vec F S4x128x128 .bf16) (x9 : Vec F S4x128x1 .f32) (x10 : Vec F S4x256x256 .bf16) (x11 : Vec F S1024x1024 .bf16) (x12 : Vec F S128x128 .f32) (x13 : Vec F S8x128 .f32) :
    Σ' (L14 : List (View.Piece (Elt F) S256x5120 .bf16)), Σ' (L15 : List (View.Piece (Elt F) S2x4x128x256 .bf16)), Σ' (L16 : List (View.Piece (Elt F) S2x4x128x256 .bf16)), Σ' (L17 : List (View.Piece (Elt F) S4x128x128 .f32)), Σ' (L18 : List (View.Piece (Elt F) S128x512 .f32)), Σ' (L19 : List (View.Piece (Elt F) S8x1024 .f32)), Σ' (L20 : List (View.Piece (Elt F) S8x5120 .f32)), Σ' (LS0 : List (View.Piece (Elt F) S272x1024 .f32)), Σ' (LS4 : List (View.Piece (Elt F) S128x1024 .f32)), Σ' (LS5 : List (View.Piece (Elt F) S4x256x256 .f32)), Σ' (LS6 : List (View.Piece (Elt F) S4x256x256 .f32)), Σ' (LT1 : List (View.Piece (Elt F) S256x1024 .f32)), Σ' (LT2 : List (View.Piece (Elt F) S256x1024 .f32)), { LT3 : List (View.Piece (Elt F) S256x1024 .f32) //
      ∀ (xi15 : Vec F S2x4x128x256 .bf16) (xi16 : Vec F S2x4x128x256 .bf16) (xi18 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xi15 ∗ owns (c : Thread nD τ) arg17 fullShare xi16 ∗ (∃ d, owns (c : Thread nD τ) arg18 fullShare d) ∗ owns (c : Thread nD τ) arg19 fullShare xi18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ owns (c : Thread nD τ) arg16 fullShare xi15 ∗ owns (c : Thread nD τ) arg17 fullShare xi16 ∗ (∃ f, arg18.view.loc (c : Thread nD τ) ↦[arg18.view.set]{fullShare} arg18.view.writes (Elt F) f L17) ∗ owns (c : Thread nD τ) arg19 fullShare xi18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LT1) ∗ (∃ f, arg24.view.loc (c : Thread nD τ) ↦[arg24.view.set]{fullShare} arg24.view.writes (Elt F) f LT2) ∗ (∃ f, arg25.view.loc (c : Thread nD τ) ↦[arg25.view.set]{fullShare} arg25.view.writes (Elt F) f LT3) ∗ (∃ f, arg26.view.loc (c : Thread nD τ) ↦[arg26.view.set]{fullShare} arg26.view.writes (Elt F) f LS4) ∗ (∃ f, arg27.view.loc (c : Thread nD τ) ↦[arg27.view.set]{fullShare} arg27.view.writes (Elt F) f LS5) ∗ (∃ f, arg28.view.loc (c : Thread nD τ) ↦[arg28.view.set]{fullShare} arg28.view.writes (Elt F) f LS6)) -∗ K ⟨⟩))
          ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, [], [], ?_, [], ?_, ?_, ?_, ?_, ?_, ?_, ?_, ?_, ?_, fun xi15 xi16 xi18 E K => ?run⟩
  case run =>
    simp only [cc0_mix_bwd_eq_skeleton]; unfold cc0_mix_bwd_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%d17, %f17, -, H17⟩, ⟨%f18, %hf18, H18⟩, ⟨%d19, %f19, -, H19⟩, ⟨%d20, %f20, -, H20⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16; obtain rfl := harg19.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]
    · iexists _; isplitr; · ipureintro; exact harg19.read_unread _
      iexact H18
    isplitl [H19]; · iexists _; iexact H19
    isplitl [H20]; · iexists _; iexact H20
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Mix

end
-- ==== Proof.Mix.RunB.lean ====
/- The whole body of the token mixer's backward call, run at an inner point. -/
module

public import proofs.«01_k».proof.Proof.Mix.RunA

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body run at an inner point: the pieces its stores leave in each buffer, last first, with the proof that from the
    inputs at their blocks, the accumulated outputs and carried scratch at what the point before left, it runs to the end
    with those pieces written and the inputs as they were. -/
noncomputable def kernelRun0_B (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole) (hc0 : ¬cond0_0 i) (hc1 : ¬cond0_1 i)
    (x0 : Vec F S256x5120 .f32) (x1 : Vec F S256x1024 .bf16) (x2 : Vec F S256x1024 .bf16) (x3 : Vec F S4x256x256 .bf16) (x4 : Vec F S1x1024 .f32) (x5 : Vec F S1x1024 .f32) (x6 : Vec F S1x1024 .f32) (x7 : Vec F S4x128x128 .bf16) (x8 : Vec F S4x128x128 .bf16) (x9 : Vec F S4x128x1 .f32) (x10 : Vec F S4x256x256 .bf16) (x11 : Vec F S1024x1024 .bf16) (x12 : Vec F S128x128 .f32) (x13 : Vec F S8x128 .f32) (xo17 : Vec F S4x128x128 .f32) (xo19 : Vec F S8x1024 .f32) (xo20 : Vec F S8x5120 .f32) (xs0 : Vec F S272x1024 .f32) (xs4 : Vec F S128x1024 .f32) (xs5 : Vec F S4x256x256 .f32) (xs6 : Vec F S4x256x256 .f32) :
    Σ' (L14 : List (View.Piece (Elt F) S256x5120 .bf16)), Σ' (L15 : List (View.Piece (Elt F) S2x4x128x256 .bf16)), Σ' (L16 : List (View.Piece (Elt F) S2x4x128x256 .bf16)), Σ' (L17 : List (View.Piece (Elt F) S4x128x128 .f32)), Σ' (L18 : List (View.Piece (Elt F) S128x512 .f32)), Σ' (L19 : List (View.Piece (Elt F) S8x1024 .f32)), Σ' (L20 : List (View.Piece (Elt F) S8x5120 .f32)), Σ' (LS0 : List (View.Piece (Elt F) S272x1024 .f32)), Σ' (LS4 : List (View.Piece (Elt F) S128x1024 .f32)), Σ' (LS5 : List (View.Piece (Elt F) S4x256x256 .f32)), Σ' (LS6 : List (View.Piece (Elt F) S4x256x256 .f32)), Σ' (LT1 : List (View.Piece (Elt F) S256x1024 .f32)), Σ' (LT2 : List (View.Piece (Elt F) S256x1024 .f32)), { LT3 : List (View.Piece (Elt F) S256x1024 .f32) //
      ∀ (xi15 : Vec F S2x4x128x256 .bf16) (xi16 : Vec F S2x4x128x256 .bf16) (xi18 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xi15 ∗ owns (c : Thread nD τ) arg17 fullShare xi16 ∗ owns (c : Thread nD τ) arg18 fullShare xo17 ∗ owns (c : Thread nD τ) arg19 fullShare xi18 ∗ owns (c : Thread nD τ) arg20 fullShare xo19 ∗ owns (c : Thread nD τ) arg21 fullShare xo20 ∗ owns (c : Thread nD τ) arg22 fullShare xs0 ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs4 ∗ owns (c : Thread nD τ) arg27 fullShare xs5 ∗ owns (c : Thread nD τ) arg28 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ owns (c : Thread nD τ) arg16 fullShare xi15 ∗ owns (c : Thread nD τ) arg17 fullShare xi16 ∗ (∃ f, arg18.view.loc (c : Thread nD τ) ↦[arg18.view.set]{fullShare} arg18.view.writes (Elt F) f L17) ∗ owns (c : Thread nD τ) arg19 fullShare xi18 ∗ (arg20.view.loc (c : Thread nD τ) ↦[arg20.view.set]{fullShare} arg20.view.writes (Elt F) (harg20.unread xo19) L19) ∗ (arg21.view.loc (c : Thread nD τ) ↦[arg21.view.set]{fullShare} arg21.view.writes (Elt F) (harg21.unread xo20) L20) ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LT1) ∗ (∃ f, arg24.view.loc (c : Thread nD τ) ↦[arg24.view.set]{fullShare} arg24.view.writes (Elt F) f LT2) ∗ (∃ f, arg25.view.loc (c : Thread nD τ) ↦[arg25.view.set]{fullShare} arg25.view.writes (Elt F) f LT3) ∗ (∃ f, arg26.view.loc (c : Thread nD τ) ↦[arg26.view.set]{fullShare} arg26.view.writes (Elt F) f LS4) ∗ (∃ f, arg27.view.loc (c : Thread nD τ) ↦[arg27.view.set]{fullShare} arg27.view.writes (Elt F) f LS5) ∗ (∃ f, arg28.view.loc (c : Thread nD τ) ↦[arg28.view.set]{fullShare} arg28.view.writes (Elt F) f LS6)) -∗ K ⟨⟩))
          ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, [], [], ?_, [], ?_, ?_, ?_, ?_, ?_, ?_, ?_, ?_, ?_, fun xi15 xi16 xi18 E K => ?run⟩
  case run =>
    simp only [cc0_mix_bwd_eq_skeleton]; unfold cc0_mix_bwd_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hfs0; obtain rfl := harg26.eq_unread hfs4; obtain rfl := harg27.eq_unread hfs5; obtain rfl := harg28.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]
    · iexists _; isplitr; · ipureintro; exact harg19.read_unread _
      iexact H18
    isplitl [H19]; · iexact H19
    isplitl [H20]; · iexact H20
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Mix

end
-- ==== Proof.Mix.RunC.lean ====
/- The whole body of the token mixer's backward call, run at the last point (its accumulators are written out). -/
module

public import proofs.«01_k».proof.Proof.Mix.RunB

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2312000 in
/-- The body run at the last point (its accumulators are written out): the pieces its stores leave in each buffer, last first, with the proof that from the
    inputs at their blocks, the accumulated outputs and carried scratch at what the point before left, it runs to the end
    with those pieces written and the inputs as they were. -/
noncomputable def kernelRun0_C (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole) (hc0 : ¬cond0_0 i) (hc1 : cond0_1 i)
    (x0 : Vec F S256x5120 .f32) (x1 : Vec F S256x1024 .bf16) (x2 : Vec F S256x1024 .bf16) (x3 : Vec F S4x256x256 .bf16) (x4 : Vec F S1x1024 .f32) (x5 : Vec F S1x1024 .f32) (x6 : Vec F S1x1024 .f32) (x7 : Vec F S4x128x128 .bf16) (x8 : Vec F S4x128x128 .bf16) (x9 : Vec F S4x128x1 .f32) (x10 : Vec F S4x256x256 .bf16) (x11 : Vec F S1024x1024 .bf16) (x12 : Vec F S128x128 .f32) (x13 : Vec F S8x128 .f32) (xo17 : Vec F S4x128x128 .f32) (xo19 : Vec F S8x1024 .f32) (xo20 : Vec F S8x5120 .f32) (xs0 : Vec F S272x1024 .f32) (xs4 : Vec F S128x1024 .f32) (xs5 : Vec F S4x256x256 .f32) (xs6 : Vec F S4x256x256 .f32) :
    Σ' (L14 : List (View.Piece (Elt F) S256x5120 .bf16)), Σ' (L15 : List (View.Piece (Elt F) S2x4x128x256 .bf16)), Σ' (L16 : List (View.Piece (Elt F) S2x4x128x256 .bf16)), Σ' (L17 : List (View.Piece (Elt F) S4x128x128 .f32)), Σ' (L18 : List (View.Piece (Elt F) S128x512 .f32)), Σ' (L19 : List (View.Piece (Elt F) S8x1024 .f32)), Σ' (L20 : List (View.Piece (Elt F) S8x5120 .f32)), Σ' (LS0 : List (View.Piece (Elt F) S272x1024 .f32)), Σ' (LS4 : List (View.Piece (Elt F) S128x1024 .f32)), Σ' (LS5 : List (View.Piece (Elt F) S4x256x256 .f32)), Σ' (LS6 : List (View.Piece (Elt F) S4x256x256 .f32)), Σ' (LT1 : List (View.Piece (Elt F) S256x1024 .f32)), Σ' (LT2 : List (View.Piece (Elt F) S256x1024 .f32)), { LT3 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xo17 ∗ (∃ d, owns (c : Thread nD τ) arg19 fullShare d) ∗ owns (c : Thread nD τ) arg20 fullShare xo19 ∗ owns (c : Thread nD τ) arg21 fullShare xo20 ∗ owns (c : Thread nD τ) arg22 fullShare xs0 ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs4 ∗ owns (c : Thread nD τ) arg27 fullShare xs5 ∗ owns (c : Thread nD τ) arg28 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (arg20.view.loc (c : Thread nD τ) ↦[arg20.view.set]{fullShare} arg20.view.writes (Elt F) (harg20.unread xo19) L19) ∗ (arg21.view.loc (c : Thread nD τ) ↦[arg21.view.set]{fullShare} arg21.view.writes (Elt F) (harg21.unread xo20) L20) ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LT1) ∗ (∃ f, arg24.view.loc (c : Thread nD τ) ↦[arg24.view.set]{fullShare} arg24.view.writes (Elt F) f LT2) ∗ (∃ f, arg25.view.loc (c : Thread nD τ) ↦[arg25.view.set]{fullShare} arg25.view.writes (Elt F) f LT3) ∗ (∃ f, arg26.view.loc (c : Thread nD τ) ↦[arg26.view.set]{fullShare} arg26.view.writes (Elt F) f LS4) ∗ (∃ f, arg27.view.loc (c : Thread nD τ) ↦[arg27.view.set]{fullShare} arg27.view.writes (Elt F) f LS5) ∗ (∃ f, arg28.view.loc (c : Thread nD τ) ↦[arg28.view.set]{fullShare} arg28.view.writes (Elt F) f LS6)) -∗ K ⟨⟩))
          ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, ?_, ?_, ?_, ?_, ?_, fun E K => ?run⟩
  case run =>
    simp only [cc0_mix_bwd_eq_skeleton]; unfold cc0_mix_bwd_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%f17, %hf17, H17⟩, ⟨%d18, %f18, -, H18⟩, ⟨%f19, %hf19, H19⟩, ⟨%f20, %hf20, H20⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg18.eq_unread hf17; obtain rfl := harg20.eq_unread hf19; obtain rfl := harg21.eq_unread hf20; obtain rfl := harg22.eq_unread hfs0; obtain rfl := harg26.eq_unread hfs4; obtain rfl := harg27.eq_unread hfs5; obtain rfl := harg28.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexact H19
    isplitl [H20]; · iexact H20
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Mix

end
-- ==== Proof.Mix.Leaves.lean ====
/- What each kind of point of the token mixer's backward call leaves in its output windows and carried scratch: that the
   stores cover the buffer (where they do), and the contents they leave. -/
module

public import proofs.«01_k».proof.Proof.Mix.RunC

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section First

/-! ## At the first point -/

variable (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole) (hc0 : cond0_0 i) (hc1 : ¬cond0_1 i) (x0 : Vec F S256x5120 .f32) (x1 : Vec F S256x1024 .bf16) (x2 : Vec F S256x1024 .bf16) (x3 : Vec F S4x256x256 .bf16) (x4 : Vec F S1x1024 .f32) (x5 : Vec F S1x1024 .f32) (x6 : Vec F S1x1024 .f32) (x7 : Vec F S4x128x128 .bf16) (x8 : Vec F S4x128x128 .bf16) (x9 : Vec F S4x128x1 .f32) (x10 : Vec F S4x256x256 .bf16) (x11 : Vec F S1024x1024 .bf16) (x12 : Vec F S128x128 .f32) (x13 : Vec F S8x128 .f32)

theorem cover0_A_14 (y : S256x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).1, y ∈ pc.1.set :=
  View.cover_of_tiledBy _ ![256, 256] (by sl_kernel_rfl) y

def out0_A_14 : Vec F S256x5120 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).1)

def out0_A_15 : Vec F S2x4x128x256 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.1)

def out0_A_16 : Vec F S2x4x128x256 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.1)

theorem cover0_A_17 (y : S4x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.1, y ∈ pc.1.set :=
  View.cover_of_tiledBy _ ![1, 128, 128] (by sl_kernel_rfl) y

def out0_A_17 : Vec F S4x128x128 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.1)

def out0_A_18 : Vec F S128x512 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.2.1)

theorem cover0_A_19 (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.2.2.1, y ∈ pc.1.set :=
  View.cover_of_tiledBy _ ![1, 256] (by sl_kernel_rfl) y

def out0_A_19 : Vec F S8x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.2.2.1)

theorem cover0_A_20 (y : S8x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.2.2.2.1, y ∈ pc.1.set :=
  View.cover_of_tiledBy _ ![1, 256] (by sl_kernel_rfl) y

def out0_A_20 : Vec F S8x5120 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.2.2.2.1)

theorem scover0_A_0 (y : S272x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.2.2.2.2.1, y ∈ pc.1.set :=
  View.cover_of_tiledBy _ ![16, 256] (by sl_kernel_rfl) y

def sout0_A_0 : Vec F S272x1024 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.2.2.2.2.1)

theorem scover0_A_4 (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.2.2.2.2.2.1, y ∈ pc.1.set :=
  View.cover_of_tiledL (s := S128x1024) _ S128x1024.size (by sl_kernel_rfl) y

def sout0_A_4 : Vec F S128x1024 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.2.2.2.2.2.1)

theorem scover0_A_5 (y : S4x256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.2.2.2.2.2.2.1, y ∈ pc.1.set :=
  View.cover_of_wholeMem _ (by sl_whole_mem) y

def sout0_A_5 : Vec F S4x256x256 .f32 :=
  VS0_5.read (Elt F) (VS0_5.writes (Elt F) VS0_5.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.2.2.2.2.2.2.1)

theorem scover0_A_6 (y : S4x256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.2.2.2.2.2.2.2.1, y ∈ pc.1.set :=
  View.cover_of_wholeMem _ (by sl_whole_mem) y

def sout0_A_6 : Vec F S4x256x256 .f32 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13).2.2.2.2.2.2.2.2.2.2.1)

end First

section Inner

/-! ## At an inner point -/

variable (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole) (hc0 : ¬cond0_0 i) (hc1 : ¬cond0_1 i) (x0 : Vec F S256x5120 .f32) (x1 : Vec F S256x1024 .bf16) (x2 : Vec F S256x1024 .bf16) (x3 : Vec F S4x256x256 .bf16) (x4 : Vec F S1x1024 .f32) (x5 : Vec F S1x1024 .f32) (x6 : Vec F S1x1024 .f32) (x7 : Vec F S4x128x128 .bf16) (x8 : Vec F S4x128x128 .bf16) (x9 : Vec F S4x128x1 .f32) (x10 : Vec F S4x256x256 .bf16) (x11 : Vec F S1024x1024 .bf16) (x12 : Vec F S128x128 .f32) (x13 : Vec F S8x128 .f32) (xo17 : Vec F S4x128x128 .f32) (xo19 : Vec F S8x1024 .f32) (xo20 : Vec F S8x5120 .f32) (xs0 : Vec F S272x1024 .f32) (xs4 : Vec F S128x1024 .f32) (xs5 : Vec F S4x256x256 .f32) (xs6 : Vec F S4x256x256 .f32)

theorem cover0_B_14 (y : S256x5120.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).1, y ∈ pc.1.set :=
  View.cover_of_tiledBy _ ![256, 256] (by sl_kernel_rfl) y

def out0_B_14 : Vec F S256x5120 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).1)

def out0_B_15 : Vec F S2x4x128x256 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.1)

def out0_B_16 : Vec F S2x4x128x256 .bf16 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.1)

theorem cover0_B_17 (y : S4x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.1, y ∈ pc.1.set :=
  View.cover_of_tiledL (s := S4x128x128) _ S1x128x128.size (by sl_kernel_rfl) y

def out0_B_17 : Vec F S4x128x128 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.1)

def out0_B_18 : Vec F S128x512 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.1)

def out0_B_19 : Vec F S8x1024 .f32 :=
  arg20.view.read (Elt F) (arg20.view.writes (Elt F) (harg20.unread xo19) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.1)

def out0_B_20 : Vec F S8x5120 .f32 :=
  arg21.view.read (Elt F) (arg21.view.writes (Elt F) (harg21.unread xo20) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.1)

theorem scover0_B_0 (y : S272x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.1, y ∈ pc.1.set :=
  View.cover_of_tiledBy _ ![16, 256] (by sl_kernel_rfl) y

def sout0_B_0 : Vec F S272x1024 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.1)

theorem scover0_B_4 (y : S128x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.2.1, y ∈ pc.1.set :=
  View.cover_of_tiledL (s := S128x1024) _ S128x1024.size (by sl_kernel_rfl) y

def sout0_B_4 : Vec F S128x1024 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.2.1)

theorem scover0_B_5 (y : S4x256x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.2.2.1, y ∈ pc.1.set :=
  View.cover_of_tiledL (s := S4x256x256) _ S1x256x256.size (by sl_kernel_rfl) y

def sout0_B_5 : Vec F S4x256x256 .f32 :=
  VS0_5.read (Elt F) (VS0_5.writes (Elt F) VS0_5.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.2.2.1)

theorem scover0_B_6 (y : S4x256x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.2.2.2.1, y ∈ pc.1.set :=
  View.cover_of_tiledL (s := S4x256x256) _ S1x256x256.size (by sl_kernel_rfl) y

def sout0_B_6 : Vec F S4x256x256 .f32 :=
  VS0_6.read (Elt F) (VS0_6.writes (Elt F) VS0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.2.2.2.1)

end Inner

section Last

/-! ## At the last point -/

variable (c : Dev nD) (i : grid0.Coords) (arg1 : Memref sig .tc .vmem S256x5120 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .bf16) (harg9 : arg9.IsWhole) (arg10 : Memref sig .tc .vmem S4x128x1 .f32) (harg10 : arg10.IsWhole) (arg11 : Memref sig .tc .vmem S4x256x256 .bf16) (harg11 : arg11.IsWhole) (arg12 : Memref sig .tc .vmem S1024x1024 .bf16) (harg12 : arg12.IsWhole) (arg13 : Memref sig .tc .vmem S128x128 .f32) (harg13 : arg13.IsWhole) (arg14 : Memref sig .tc .vmem S8x128 .f32) (harg14 : arg14.IsWhole) (arg15 : Memref sig .tc .vmem S256x5120 .bf16) (harg15 : arg15.IsWhole) (arg16 : Memref sig .tc .vmem S2x4x128x256 .bf16) (harg16 : arg16.IsWhole) (arg17 : Memref sig .tc .vmem S2x4x128x256 .bf16) (harg17 : arg17.IsWhole) (arg18 : Memref sig .tc .vmem S4x128x128 .f32) (harg18 : arg18.IsWhole) (arg19 : Memref sig .tc .vmem S128x512 .f32) (harg19 : arg19.IsWhole) (arg20 : Memref sig .tc .vmem S8x1024 .f32) (harg20 : arg20.IsWhole) (arg21 : Memref sig .tc .vmem S8x5120 .f32) (harg21 : arg21.IsWhole) (arg22 : Memref sig .tc .vmem S272x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S128x1024 .f32) (harg26 : arg26.IsWhole) (arg27 : Memref sig .tc .vmem S4x256x256 .f32) (harg27 : arg27.IsWhole) (arg28 : Memref sig .tc .vmem S4x256x256 .f32) (harg28 : arg28.IsWhole) (hc0 : ¬cond0_0 i) (hc1 : cond0_1 i) (x0 : Vec F S256x5120 .f32) (x1 : Vec F S256x1024 .bf16) (x2 : Vec F S256x1024 .bf16) (x3 : Vec F S4x256x256 .bf16) (x4 : Vec F S1x1024 .f32) (x5 : Vec F S1x1024 .f32) (x6 : Vec F S1x1024 .f32) (x7 : Vec F S4x128x128 .bf16) (x8 : Vec F S4x128x128 .bf16) (x9 : Vec F S4x128x1 .f32) (x10 : Vec F S4x256x256 .bf16) (x11 : Vec F S1024x1024 .bf16) (x12 : Vec F S128x128 .f32) (x13 : Vec F S8x128 .f32) (xo17 : Vec F S4x128x128 .f32) (xo19 : Vec F S8x1024 .f32) (xo20 : Vec F S8x5120 .f32) (xs0 : Vec F S272x1024 .f32) (xs4 : Vec F S128x1024 .f32) (xs5 : Vec F S4x256x256 .f32) (xs6 : Vec F S4x256x256 .f32)

theorem cover0_C_14 (y : S256x5120.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).1, y ∈ pc.1.set :=
  View.cover_of_tiledBy _ ![256, 256] (by sl_kernel_rfl) y

def out0_C_14 : Vec F S256x5120 .bf16 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).1)

theorem cover0_C_15 (y : S2x4x128x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.1, y ∈ pc.1.set :=
  View.cover_of_tiledL (s := S2x4x128x256) _ S1x1x64x256.size (by sl_kernel_rfl) y

def out0_C_15 : Vec F S2x4x128x256 .bf16 :=
  VO0_15.read (Elt F) (VO0_15.writes (Elt F) VO0_15.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.1)

theorem cover0_C_16 (y : S2x4x128x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.1, y ∈ pc.1.set :=
  View.cover_of_tiledL (s := S2x4x128x256) _ S1x1x64x256.size (by sl_kernel_rfl) y

def out0_C_16 : Vec F S2x4x128x256 .bf16 :=
  VO0_16.read (Elt F) (VO0_16.writes (Elt F) VO0_16.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.1)

theorem cover0_C_17 (y : S4x128x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.1, y ∈ pc.1.set :=
  View.cover_of_tiledL (s := S4x128x128) _ S1x128x128.size (by sl_kernel_rfl) y

def out0_C_17 : Vec F S4x128x128 .f32 :=
  VO0_17.read (Elt F) (VO0_17.writes (Elt F) VO0_17.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.1)

theorem cover0_C_18 (y : S128x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.1, y ∈ pc.1.set :=
  View.cover_of_tiledL (s := S128x512) _ S128x128.size (by sl_kernel_rfl) y

def out0_C_18 : Vec F S128x512 .f32 :=
  VO0_18.read (Elt F) (VO0_18.writes (Elt F) VO0_18.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.1)

def out0_C_19 : Vec F S8x1024 .f32 :=
  arg20.view.read (Elt F) (arg20.view.writes (Elt F) (harg20.unread xo19) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.1)

def out0_C_20 : Vec F S8x5120 .f32 :=
  arg21.view.read (Elt F) (arg21.view.writes (Elt F) (harg21.unread xo20) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.1)

theorem scover0_C_0 (y : S272x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.1, y ∈ pc.1.set :=
  View.cover_of_tiledBy _ ![16, 256] (by sl_kernel_rfl) y

def sout0_C_0 : Vec F S272x1024 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.1)

theorem scover0_C_4 (y : S128x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.2.1, y ∈ pc.1.set :=
  View.cover_of_tiledL (s := S128x1024) _ S128x1024.size (by sl_kernel_rfl) y

def sout0_C_4 : Vec F S128x1024 .f32 :=
  VS0_4.read (Elt F) (VS0_4.writes (Elt F) VS0_4.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.2.1)

theorem scover0_C_5 (y : S4x256x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.2.2.1, y ∈ pc.1.set :=
  View.cover_of_tiledL (s := S4x256x256) _ S1x256x256.size (by sl_kernel_rfl) y

def sout0_C_5 : Vec F S4x256x256 .f32 :=
  VS0_5.read (Elt F) (VS0_5.writes (Elt F) VS0_5.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.2.2.1)

theorem scover0_C_6 (y : S4x256x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.2.2.2.1, y ∈ pc.1.set :=
  View.cover_of_tiledL (s := S4x256x256) _ S1x256x256.size (by sl_kernel_rfl) y

def sout0_C_6 : Vec F S4x256x256 .f32 :=
  VS0_6.read (Elt F) (VS0_6.writes (Elt F) VS0_6.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 xo17 xo19 xo20 xs0 xs4 xs5 xs6).2.2.2.2.2.2.2.2.2.2.1)

end Last

end Cert.KernelIdeal.Mix

end
-- ==== Proof.Mix.Held.lean ====
/- What the output windows and the carried scratch of the token mixer's backward call hold after each point, and that the
   body leaves it: the frame. -/
module

public import proofs.«01_k».proof.Proof.Mix.Leaves
public import Idealize.ShloMosaic.Lib.Claim

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The outputs in window order, then the carried scratch. -/
abbrev Held (F : FTy → Type) : Type := Vec F S256x5120 .bf16 × Vec F S2x4x128x256 .bf16 × Vec F S2x4x128x256 .bf16 × Vec F S4x128x128 .f32 × Vec F S128x512 .f32 × Vec F S8x1024 .f32 × Vec F S8x5120 .f32 × Vec F S272x1024 .f32 × Vec F S128x1024 .f32 × Vec F S4x256x256 .f32 × Vec F S4x256x256 .f32

/-- What the first point leaves. -/
def stepA (c : Dev nD) (t : Fin cfg0.N) (h0 : t.val % 16 = 0) (h1 : ¬t.val % 16 = 15) : Held F :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))

/-- What an inner point leaves, over what the point before left. -/
def stepB (c : Dev nD) (t : Fin cfg0.N) (h0 : ¬t.val % 16 = 0) (h1 : ¬t.val % 16 = 15) (p : Held F) : Held F :=
  (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2)

/-- What the last point leaves, over what the point before left. -/
def stepC (c : Dev nD) (t : Fin cfg0.N) (h0 : ¬t.val % 16 = 0) (h1 : t.val % 16 = 15) (p : Held F) : Held F :=
  (out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, out0_C_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2, sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.2.1 p.2.2.2.2.2.2.1 p.2.2.2.2.2.2.2.1 p.2.2.2.2.2.2.2.2.1 p.2.2.2.2.2.2.2.2.2.1 p.2.2.2.2.2.2.2.2.2.2)

/-- What the outputs and the carried scratch hold after the body at position `n`. -/
def outsAt0 (c : Dev nD) : (n : ℕ) → n < cfg0.N → Held F
  | 0, hn => stepA m c ⟨0, hn⟩ (Nat.zero_mod _) (fun h => absurd h (by decide : ¬0 % 16 = 15))
  | n + 1, hn =>
    if h0 : (n + 1) % 16 = 0 then
      if h1 : (n + 1) % 16 = 15 then
        False.elim (by have hN : n + 1 < 16 := lt_of_lt_of_eq hn (show cfg0.N = 16 from N_0); omega)
      else stepA m c ⟨n + 1, hn⟩ h0 h1
    else
      if h1 : (n + 1) % 16 = 15 then stepC m c ⟨n + 1, hn⟩ h0 h1 (outsAt0 c n (Nat.lt_of_succ_lt hn))
      else stepB m c ⟨n + 1, hn⟩ h0 h1 (outsAt0 c n (Nat.lt_of_succ_lt hn))

/-- `outsAt0` at a point of case A: that case's contents. -/
theorem outsAt0_A (c : Dev nD) (t : Fin cfg0.N) (h0 : t.val % 16 = 0) (h1 : ¬t.val % 16 = 15) :
    outsAt0 m c t.val t.isLt = stepA m c t h0 h1 := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = stepB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = stepC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.2.2.2.2.2.2.1) ∗ owns (c : Thread nD τ) scM0_5 fullShare ((outsAt0 m c n hn).2.2.2.2.2.2.2.2.2.1) ∗ owns (c : Thread nD τ) scM0_6 fullShare ((outsAt0 m c n hn).2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.2.2.2.2.2.2.1) ∗ owns (c : Thread nD τ) scM0_5 fullShare ((outsAt0 m c n hn).2.2.2.2.2.2.2.2.2.1) ∗ owns (c : Thread nD τ) scM0_6 fullShare ((outsAt0 m c n hn).2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c (n - 1) (by omega)).2.2.2.2.2.2.2.2.1) ∗ owns (c : Thread nD τ) scM0_5 fullShare ((outsAt0 m c (n - 1) (by omega)).2.2.2.2.2.2.2.2.2.1) ∗ owns (c : Thread nD τ) scM0_6 fullShare ((outsAt0 m c (n - 1) (by omega)).2.2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨17, _⟩ => (outsAt0 m c t.val t.isLt).2.2.2.1
    | ⟨18, _⟩ => (outsAt0 m c t.val t.isLt).2.2.2.2.1
    | ⟨19, _⟩ => (outsAt0 m c t.val t.isLt).2.2.2.2.2.1
    | ⟨20, _⟩ => (outsAt0 m c t.val t.isLt).2.2.2.2.2.2.1
    | ⟨_ + 21, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_16 (c : Dev nD) (t : Fin cfg0.N) : (dats m 0 c).after 16 t = (outsAt0 m c t.val t.isLt).2.2.1 := by dsimp only [dats]
theorem after0_17 (c : Dev nD) (t : Fin cfg0.N) : (dats m 0 c).after 17 t = (outsAt0 m c t.val t.isLt).2.2.2.1 := by dsimp only [dats]
theorem after0_18 (c : Dev nD) (t : Fin cfg0.N) : (dats m 0 c).after 18 t = (outsAt0 m c t.val t.isLt).2.2.2.2.1 := by dsimp only [dats]
theorem after0_19 (c : Dev nD) (t : Fin cfg0.N) : (dats m 0 c).after 19 t = (outsAt0 m c t.val t.isLt).2.2.2.2.2.1 := by dsimp only [dats]
theorem after0_20 (c : Dev nD) (t : Fin cfg0.N) : (dats m 0 c).after 20 t = (outsAt0 m c t.val t.isLt).2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 16 = 0) (h1 : ¬t.val % 16 = 15) (d) :
    (dats m 0 c).before 17 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 19's current staging buffer holds what the body left at the point before: the point is
    not the first, the buffer was not written back between (`flush0_19`), the window is live and uncut (Lib/Pipeline/Frame.lean
    `Dat.before_out_kept`). -/
theorem before0_19_B (c : Dev nD) (t : Fin cfg0.N) (h0 : ¬t.val % 16 = 0) (h1 : ¬t.val % 16 = 15) (d) :
    (dats m 0 c).before 19 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]
/-- At a point of case B output 20's current staging buffer holds what the body left at the point before: the point is
    not the first, the buffer was not written back between (`flush0_20`), the window is live and uncut (Lib/Pipeline/Frame.lean
    `Dat.before_out_kept`). -/
theorem before0_20_B (c : Dev nD) (t : Fin cfg0.N) (h0 : ¬t.val % 16 = 0) (h1 : ¬t.val % 16 = 15) (d) :
    (dats m 0 c).before 20 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]
/-- At a point of case C output 17's current staging buffer holds what the body left at the point before: the point is
    not the first, the buffer was not written back between (`flush0_17`), the window is live and uncut (Lib/Pipeline/Frame.lean
    `Dat.before_out_kept`). -/
theorem before0_17_C (c : Dev nD) (t : Fin cfg0.N) (h0 : ¬t.val % 16 = 0) (h1 : t.val % 16 = 15) (d) :
    (dats m 0 c).before 17 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case C output 19's current staging buffer holds what the body left at the point before: the point is
    not the first, the buffer was not written back between (`flush0_19`), the window is live and uncut (Lib/Pipeline/Frame.lean
    `Dat.before_out_kept`). -/
theorem before0_19_C (c : Dev nD) (t : Fin cfg0.N) (h0 : ¬t.val % 16 = 0) (h1 : t.val % 16 = 15) (d) :
    (dats m 0 c).before 19 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]
/-- At a point of case C output 20's current staging buffer holds what the body left at the point before: the point is
    not the first, the buffer was not written back between (`flush0_20`), the window is live and uncut (Lib/Pipeline/Frame.lean
    `Dat.before_out_kept`). -/
theorem before0_20_C (c : Dev nD) (t : Fin cfg0.N) (h0 : ¬t.val % 16 = 0) (h1 : t.val % 16 = 15) (d) :
    (dats m 0 c).before 20 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]

/-! ## The body obligation, at a generic point -/

end Cert.KernelIdeal.Mix

end
-- ==== Proof.Mix.Frame.lean ====
/- The body of the token mixer's backward call at every point, and the frame: every run ends, the arguments unchanged. -/
module

public import proofs.«01_k».proof.Proof.Mix.Held
public import Idealize.ShloMosaic.Lib.Claim

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

set_option maxHeartbeats 33600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [Dat.leavesExact_idle (dats m 0 c) 15 t (idleAt0_15_A t ((hcond0_0 t).mpr h0) (fun h => h1 ((hcond0_1 t).mp h))) (noFlush0_15_A t ((hcond0_0 t).mpr h0) (fun h => h1 ((hcond0_1 t).mp h)))]
      rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
      rw [show (dats m 0 c).leavesExact 17 t = owns (c : Thread nD τ) (ms0_17 t) fullShare ((dats m 0 c).after 17 t) from by
      unfold Dat.leavesExact; rw [liveAt0_17 t], after0_17]
      rw [Dat.leavesExact_idle (dats m 0 c) 18 t (idleAt0_18_A t ((hcond0_0 t).mpr h0) (fun h => h1 ((hcond0_1 t).mp h))) (noFlush0_18_A t ((hcond0_0 t).mpr h0) (fun h => h1 ((hcond0_1 t).mp h)))]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      by_cases hz : t.val = 0
      · rw [PhiS_castSucc m c t, PhiS_zero m c _ _ hz, PhiA0_eq]
        rw [outsAt0_A m c t h0 h1]
        unfold stepA out0_A_14 out0_A_17 out0_A_19 out0_A_20 sout0_A_0 sout0_A_4 sout0_A_5 sout0_A_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexact H15
        isplitl [H16]; · iexact H16
        isplitl [H17]; · iexists _; iexact H17
        isplitl [H18]; · iexact H18
        isplitl [H19]; · iexists _; iexact H19
        isplitl [H20]; · iexists _; iexact H20
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, H13, ⟨%e14, H14⟩, H15, H16, ⟨%e17, H17⟩, H18, ⟨%e19, H19⟩, ⟨%e20, H20⟩, ⟨%es0, HS0⟩, ⟨%fT1, HS1⟩, ⟨%fT2, HS2⟩, ⟨%fT3, HS3⟩, ⟨%es4, HS4⟩, ⟨%es5, HS5⟩, ⟨%es6, HS6⟩⟩
        isplitl [HS0 HS1 HS2 HS3 HS4 HS5 HS6 Hg]
        · isplitl [HS0 HS1 HS2 HS3 HS4 HS5 HS6]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS6
            ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]; · iexists _; iexact H15
        isplitl [H16]; · iexists _; iexact H16
        isplitl [H17]
        · unfold owns; iexists _; isplitr
          swap; · iexact H17
          ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H18]; · iexists _; iexact H18
        isplitl [H19]
        · unfold owns; iexists _; isplitr
          swap; · iexact H19
          ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; have hN : t.val < 16 := lt_of_lt_of_eq t.isLt (show cfg0.N = 16 from N_0); omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15_C t (fun h => h0 ((hcond0_0 t).mp h)) ((hcond0_1 t).mpr h1)], after0_15]
      rw [show (dats m 0 c).leavesExact 16 t = owns (c : Thread nD τ) (ms0_16 t) fullShare ((dats m 0 c).after 16 t) from by
      unfold Dat.leavesExact; rw [liveAt0_16_C t (fun h => h0 ((hcond0_0 t).mp h)) ((hcond0_1 t).mpr h1)], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18_C t (fun h => h0 ((hcond0_0 t).mp h)) ((hcond0_1 t).mpr h1)], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        simp only [before0_17_C m c t h0 h1, before0_19_C m c t h0 h1, before0_20_C m c t h0 h1]
        unfold stepC out0_C_14 out0_C_15 out0_C_16 out0_C_17 out0_C_18 out0_C_19 out0_C_20 sout0_C_0 sout0_C_4 sout0_C_5 sout0_C_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ _ _ _ _).2.2.2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexists _; iexact H16
        isplitl [H17]; · iexact H17
        isplitl [H18]; · iexists _; iexact H18
        isplitl [H19]; · iexact H19
        isplitl [H20]; · iexact H20
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, H13, ⟨%e14, H14⟩, ⟨%e15, H15⟩, ⟨%e16, H16⟩, ⟨%e17, H17⟩, ⟨%e18, H18⟩, H19, H20, ⟨%es0, HS0⟩, ⟨%fT1, HS1⟩, ⟨%fT2, HS2⟩, ⟨%fT3, HS3⟩, ⟨%es4, HS4⟩, ⟨%es5, HS5⟩, ⟨%es6, HS6⟩⟩
        isplitl [HS0 HS1 HS2 HS3 HS4 HS5 HS6 Hg]
        · isplitl [HS0 HS1 HS2 HS3 HS4 HS5 HS6]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · unfold owns; iexists _; isplitr
              swap; · iexact HS4
              ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scover0_C_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS6
            ipureintro; exact View.read_writes_of_cover _ _ _ _ _ (scover0_C_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]
        · unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H18]
        · unfold owns; iexists _; isplitr
          swap; · iexact H18
          ipureintro; exact View.read_writes_of_cover _ _ _ _ _ (cover0_C_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H19]
        · unfold owns; iexists _; isplitr
          swap; · iexact H19
          ipureintro; rfl
        unfold owns; iexists _; isplitr
        swap; · iexact H20
        ipureintro; rfl
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [Dat.leavesExact_idle (dats m 0 c) 15 t (idleAt0_15_B t (fun h => h0 ((hcond0_0 t).mp h)) (fun h => h1 ((hcond0_1 t).mp h))) (noFlush0_15_B t (fun h => h0 ((hcond0_0 t).mp h)) (fun h => h1 ((hcond0_1 t).mp h)))]
      rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
      rw [show (dats m 0 c).leavesExact 17 t = owns (c : Thread nD τ) (ms0_17 t) fullShare ((dats m 0 c).after 17 t) from by
      unfold Dat.leavesExact; rw [liveAt0_17 t], after0_17]
      rw [Dat.leavesExact_idle (dats m 0 c) 18 t (idleAt0_18_B t (fun h => h0 ((hcond0_0 t).mp h)) (fun h => h1 ((hcond0_1 t).mp h))) (noFlush0_18_B t (fun h => h0 ((hcond0_0 t).mp h)) (fun h => h1 ((hcond0_1 t).mp h)))]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        simp only [before0_17_B m c t h0 h1, before0_19_B m c t h0 h1, before0_20_B m c t h0 h1]
        unfold stepB out0_B_14 out0_B_17 out0_B_19 out0_B_20 sout0_B_0 sout0_B_4 sout0_B_5 sout0_B_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ _ _ _ _).2.2.2.2.2.2.2.2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexact H15
        isplitl [H16]; · iexact H16
        isplitl [H17]; · iexact H17
        isplitl [H18]; · iexact H18
        isplitl [H19]; · iexact H19
        isplitl [H20]; · iexact H20
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, H13, ⟨%e14, H14⟩, H15, H16, ⟨%e17, H17⟩, H18, H19, H20, ⟨%es0, HS0⟩, ⟨%fT1, HS1⟩, ⟨%fT2, HS2⟩, ⟨%fT3, HS3⟩, ⟨%es4, HS4⟩, ⟨%es5, HS5⟩, ⟨%es6, HS6⟩⟩
        isplitl [HS0 HS1 HS2 HS3 HS4 HS5 HS6 Hg]
        · isplitl [HS0 HS1 HS2 HS3 HS4 HS5 HS6]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · unfold owns; iexists _; isplitr
              swap; · iexact HS4
              ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scover0_B_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS6
            ipureintro; exact View.read_writes_of_cover _ _ _ _ _ (scover0_B_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]
        · unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]; · iexists _; iexact H15
        isplitl [H16]; · iexists _; iexact H16
        isplitl [H17]
        · unfold owns; iexists _; isplitr
          swap; · iexact H17
          ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H18]; · iexists _; iexact H18
        isplitl [H19]
        · unfold owns; iexists _; isplitr
          swap; · iexact H19
          ipureintro; rfl
        unfold owns; iexists _; isplitr
        swap; · iexact H20
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexact HS1
    isplitl [HS2]
    · iexact HS2
    isplitl [HS3]
    · iexact HS3
    isplitl [HS4]
    · iexists _; iexact HS4
    isplitl [HS5]
    · iexists _; iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: the run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Mix

end
-- ==== Proof.Dw.Ff2.lean ====
module

public import proofs.«01_k».proof.Defs
public import proofs.«01_k».proof.Proof.Gen.KernelFf2Ideal.Value
public import proofs.«01_k».proof.Proof.Gen.ReferenceFf2Ideal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceFf2Ideal.Value
open Cert.ReferenceFf2Ideal Cert.ReferenceFf2Ideal.Gen
abbrev REF (a : FVec Ideal S4096x4096 .f32) (b : FVec Ideal S4096x1024 .f32) :
    FVec Ideal S2x4x512x1024 .bf16 :=
  truncf .bf16 (transpose S2x4x512x1024 [1, 0, 2, 3] (shapeCast _ (transpose S4096x1024 [1, 0] (Host.dotGeneral dot_S1x4096x1024_S1x4096x4096_S1024x4096_01_01_2_2_n_n none (broadcastInDim S1x4096x1024 ![1, 2] bcast_S4096x1024_S1x4096x1024_1_2 b) (broadcastInDim S1x4096x4096 ![1, 2] bcast_S4096x4096_S1x4096x4096_1_2 a)) transposes_S1024x4096_S4096x1024_1_0) shapeCasts_S4096x1024_S4x2x512x1024) transposes_S4x2x512x1024_S2x4x512x1024_1_0_2_3) bitsLt_bf16_f32

end Cert.ReferenceFf2Ideal.Value

namespace Cert.KernelFf2Ideal.Value

open Cert.KernelFf2Ideal Cert.KernelFf2Ideal.Gen
open Cert.ReferenceFf2Ideal.Value (REF)

variable (m : (ℓ : Loc nD τ sig) → Buf (Elt Ideal) ℓ)

/-- The accumulator after an even point: the first product of the run, from zero. -/
theorem acc_even (c : Dev nD) (t : Fin cfg0.N) (h : t.val % 2 = 0) (j : S1024x1024.Idx) :
    (outsAt0 m c t.val t.isLt).2 j = k0_pay2 k0_pay1 (iblk m c 0 t) (iblk m c 1 t) j := by
  rw [outsAt0_A m c t h (by omega)]
  frame_out

theorem idx : ∀ t : Fin cfg0.N, win0_0.index t = ![t.val % 2, t.val / 2] ∧ win0_1.index t = ![t.val % 2, 0]
    ∧ win0_2.index t = ![0, t.val / 2, 0, 0] := (by decide +kernel : ∀ t : Fin grid0.N, _)

theorem core (c : Dev nD) (t t' : Fin cfg0.N) (h : t.val % 2 = 1) (h' : t'.val = t.val - 1) (y : S1024x1024.Idx) (j : S2x4x512x1024.Idx)
    (hj0 : (j 0).val = (y 0).val / 512) (hj1 : (j 1).val = t.val / 2) (hj2 : (j 2).val = (y 0).val % 512) (hj3 : (j 3).val = (y 1).val) :
    k0_pay2 (k0_pay2 k0_pay1 (iblk m c 0 t') (iblk m c 1 t')) (iblk m c 0 t) (iblk m c 1 t) y
      = REF (m ((c : Thread nD τ).loc main_arg0)) (m ((c : Thread nD τ).loc main_arg1)) j := by
  pointwise [k0_pay2, k0_pay1, REF]
  idx_vars y
  refine Eq.trans ?_ (Fin.sum_univ_one _).symm
  refine Eq.trans ?_ (Fin.sum_univ_two_halves 2048 2048 rfl _).symm
  refine congrArg₂ (· + ·) (Finset.sum_congr rfl fun k _ => (mul_comm _ _).trans ?_)
    (Finset.sum_congr rfl fun k _ => (mul_comm _ _).trans ?_)
  all_goals blk_point [iblk, V, idx t, idx t']

theorem out_odd (c : Dev nD) (t : Fin cfg0.N) (h : t.val % 2 = 1) (y : S2x1x512x1024.Idx) (i : S1024x1024.Idx)
   (hi0 : (i 0).val = 512 * (y 0).val + (y 2).val) (hi1 : (i 1).val = (y 3).val):
    (outsAt0 m c t.val t.isLt).1 y = k0_pay2 (outsAt0 m c (t.val - 1) (Nat.lt_of_le_of_lt (Nat.sub_le _ _) t.isLt)).2 (iblk m c 0 t) (iblk m c 1 t) i := by
  rw [outsAt0_B m c t (by omega) h]
  frame_open
  frame_out
  simp only [read_unread_whole]
  generalize k0_pay2 (F := Ideal) _ _ _ = T
  canon_tiles x h
  all_goals (open_payloads; pointwise)
  all_goals rw [View.readCov_fill]
  all_goals pointwise
  all_goals blk_ext

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2]
  have hy0 : (y 0).val < 2 := (y 0).isLt
  have hy2 : (y 2).val < 512 := (y 2).isLt
  obtain_idx i : S1024x1024 := [512 * (y 0 : ℕ) + (y 2 : ℕ), (y 3 : ℕ)] with hi
  rw [out_odd m c t ht y i hi0 hi1,
    show (outsAt0 m c (t.val - 1) (Nat.lt_of_le_of_lt (Nat.sub_le _ _) t.isLt)).2 = _ from funext fun j => acc_even m c ⟨t.val - 1, Nat.lt_of_le_of_lt (Nat.sub_le _ _) t.isLt⟩ (by show (t.val - 1) % 2 = 0; omega) j]
  refine core m c t _ ht rfl i _ ?_ ?_ ?_ ?_
  all_goals (blk_simp [idx t] <;> try omega)

end Cert.KernelFf2Ideal.Value

namespace Cert.Proof

theorem algebraic_Ff2 : Cert.algebraic_KernelFf2Ideal_ReferenceFf2Ideal := by
  intro m ρ m' ρ' _ hagree
  refine ⟨_, (θ_run Cert.KernelFf2Ideal.defs _ _).mono (fun _ h c => ⟨(h c).1.trans (Cert.KernelFf2Ideal.Value.final m c), (h c).2⟩)
    (Cert.KernelFf2Ideal.Value.run_blocks (F := Ideal) m ρ), ?_⟩
  refine (θ_run Cert.ReferenceFf2Ideal.defs _ _).mono (fun _ h c => ⟨(h c).1.trans ?_, (h c).2⟩)
    (Cert.ReferenceFf2Ideal.Value.run (F := Ideal) m' ρ')
  rw [← (hagree c).1, ← (hagree c).2]

theorem frame_ReferenceFf2 : Cert.quiescent_ReferenceFf2Ideal := fun m ρ _ =>
  (θ_run Cert.ReferenceFf2Ideal.defs _ _).mono (fun r h => ⟨fun c => (h c).2, Idealize.ShloMosaic.sem_eq_zero_of_no_sems (by decide) r.2⟩)
    (Cert.ReferenceFf2Ideal.Value.run (F := Ideal) m ρ)

end Cert.Proof
end
-- ==== Proof.Dw.Ff1.lean ====
module

public import proofs.«01_k».proof.Defs
public import proofs.«01_k».proof.Proof.Gen.KernelFf1Ideal.Value
public import proofs.«01_k».proof.Proof.Gen.ReferenceFf1Ideal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceFf1Ideal.Value
open Cert.ReferenceFf1Ideal Cert.ReferenceFf1Ideal.Gen
abbrev REF (a : FVec Ideal S4096x1024 .f32) (b : FVec Ideal S4096x4096 .f32) :
    FVec Ideal S2x4x512x1024 .bf16 :=
  truncf .bf16 (transpose S2x4x512x1024 [0, 2, 1, 3] (shapeCast _ (transpose S1024x4096 [1, 0] (Host.dotGeneral dot_S1x4096x4096_S1x4096x1024_S4096x1024_01_01_2_2_n_n none (broadcastInDim S1x4096x4096 ![1, 2] bcast_S4096x4096_S1x4096x4096_1_2 b) (broadcastInDim S1x4096x1024 ![1, 2] bcast_S4096x1024_S1x4096x1024_1_2 a)) transposes_S4096x1024_S1024x4096_1_0) shapeCasts_S1024x4096_S2x512x4x1024) transposes_S2x512x4x1024_S2x4x512x1024_0_2_1_3) bitsLt_bf16_f32

end Cert.ReferenceFf1Ideal.Value

namespace Cert.KernelFf1Ideal.Value

open Cert.KernelFf1Ideal Cert.KernelFf1Ideal.Gen
open Cert.ReferenceFf1Ideal.Value (REF)

variable (m : (ℓ : Loc nD τ sig) → Buf (Elt Ideal) ℓ)

/-- The accumulator after an even point: the first product of the run, from zero. -/
theorem acc_even (c : Dev nD) (t : Fin cfg0.N) (h : t.val % 2 = 0) (j : S1024x1024.Idx) :
    (outsAt0 m c t.val t.isLt).2 j = k0_pay2 k0_pay1 (iblk m c 0 t) (iblk m c 1 t) j := by
  rw [outsAt0_A m c t h (by omega)]
  frame_out

theorem idx : ∀ t : Fin cfg0.N, win0_0.index t = ![t.val % 2, 0] ∧ win0_1.index t = ![t.val % 2, t.val / 2]
    ∧ win0_2.index t = ![0, t.val / 2, 0, 0] := (by decide +kernel : ∀ t : Fin grid0.N, _)

theorem core (c : Dev nD) (t t' : Fin cfg0.N) (h : t.val % 2 = 1) (h' : t'.val = t.val - 1) (y : S1024x1024.Idx) (j : S2x4x512x1024.Idx)
    (hj0 : (j 0).val = (y 0).val / 512) (hj1 : (j 1).val = t.val / 2) (hj2 : (j 2).val = (y 0).val % 512) (hj3 : (j 3).val = (y 1).val) :
    k0_pay2 (k0_pay2 k0_pay1 (iblk m c 0 t') (iblk m c 1 t')) (iblk m c 0 t) (iblk m c 1 t) y
      = REF (m ((c : Thread nD τ).loc main_arg0)) (m ((c : Thread nD τ).loc main_arg1)) j := by
  pointwise [k0_pay2, k0_pay1, REF]
  idx_vars y
  refine Eq.trans ?_ (Fin.sum_univ_one _).symm
  refine Eq.trans ?_ (Fin.sum_univ_two_halves 2048 2048 rfl _).symm
  refine congrArg₂ (· + ·) (Finset.sum_congr rfl fun k _ => (mul_comm _ _).trans ?_)
    (Finset.sum_congr rfl fun k _ => (mul_comm _ _).trans ?_)
  all_goals blk_point [iblk, V, idx t, idx t']

theorem out_odd (c : Dev nD) (t : Fin cfg0.N) (h : t.val % 2 = 1) (y : S2x1x512x1024.Idx) (i : S1024x1024.Idx)
   (hi0 : (i 0).val = 512 * (y 0).val + (y 2).val) (hi1 : (i 1).val = (y 3).val):
    (outsAt0 m c t.val t.isLt).1 y = k0_pay2 (outsAt0 m c (t.val - 1) (Nat.lt_of_le_of_lt (Nat.sub_le _ _) t.isLt)).2 (iblk m c 0 t) (iblk m c 1 t) i := by
  rw [outsAt0_B m c t (by omega) h]
  frame_open
  frame_out
  simp only [read_unread_whole]
  generalize k0_pay2 (F := Ideal) _ _ _ = T
  canon_tiles x h
  all_goals (open_payloads; pointwise)
  all_goals rw [View.readCov_fill]
  all_goals pointwise
  all_goals blk_ext

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2]
  have hy0 : (y 0).val < 2 := (y 0).isLt
  have hy2 : (y 2).val < 512 := (y 2).isLt
  obtain_idx i : S1024x1024 := [512 * (y 0 : ℕ) + (y 2 : ℕ), (y 3 : ℕ)] with hi
  rw [out_odd m c t ht y i hi0 hi1,
    show (outsAt0 m c (t.val - 1) (Nat.lt_of_le_of_lt (Nat.sub_le _ _) t.isLt)).2 = _ from funext fun j => acc_even m c ⟨t.val - 1, Nat.lt_of_le_of_lt (Nat.sub_le _ _) t.isLt⟩ (by show (t.val - 1) % 2 = 0; omega) j]
  refine core m c t _ ht rfl i _ ?_ ?_ ?_ ?_
  all_goals (blk_simp [idx t] <;> try omega)

end Cert.KernelFf1Ideal.Value

namespace Cert.Proof

theorem algebraic_Ff1 : Cert.algebraic_KernelFf1Ideal_ReferenceFf1Ideal := by
  intro m ρ m' ρ' _ hagree
  refine ⟨_, (θ_run Cert.KernelFf1Ideal.defs _ _).mono (fun _ h c => ⟨(h c).1.trans (Cert.KernelFf1Ideal.Value.final m c), (h c).2⟩)
    (Cert.KernelFf1Ideal.Value.run_blocks (F := Ideal) m ρ), ?_⟩
  refine (θ_run Cert.ReferenceFf1Ideal.defs _ _).mono (fun _ h c => ⟨(h c).1.trans ?_, (h c).2⟩)
    (Cert.ReferenceFf1Ideal.Value.run (F := Ideal) m' ρ')
  rw [← (hagree c).1, ← (hagree c).2]

theorem frame_ReferenceFf1 : Cert.quiescent_ReferenceFf1Ideal := fun m ρ _ =>
  (θ_run Cert.ReferenceFf1Ideal.defs _ _).mono (fun r h => ⟨fun c => (h c).2, Idealize.ShloMosaic.sem_eq_zero_of_no_sems (by decide) r.2⟩)
    (Cert.ReferenceFf1Ideal.Value.run (F := Ideal) m ρ)

end Cert.Proof
end
-- ==== Proof.Dw.In.lean ====
module

public import proofs.«01_k».proof.Defs
public import proofs.«01_k».proof.Proof.Gen.KernelInIdeal.Value
public import proofs.«01_k».proof.Proof.Gen.ReferenceInIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceInIdeal.Value
open Cert.ReferenceInIdeal Cert.ReferenceInIdeal.Gen
abbrev REF (a : FVec Ideal S4096x1024 .f32) (b : FVec Ideal S4096x5120 .f32) :
    FVec Ideal S2x4x512x1280 .bf16 :=
  truncf .bf16 (transpose S2x4x512x1280 [0, 2, 1, 3] (shapeCast _ (transpose S1024x5120 [1, 0] (Host.dotGeneral dot_S1x4096x5120_S1x4096x1024_S5120x1024_01_01_2_2_n_n none (broadcastInDim S1x4096x5120 ![1, 2] bcast_S4096x5120_S1x4096x5120_1_2 b) (broadcastInDim S1x4096x1024 ![1, 2] bcast_S4096x1024_S1x4096x1024_1_2 a)) transposes_S5120x1024_S1024x5120_1_0) shapeCasts_S1024x5120_S2x512x4x1280) transposes_S2x512x4x1280_S2x4x512x1280_0_2_1_3) bitsLt_bf16_f32

end Cert.ReferenceInIdeal.Value

namespace Cert.KernelInIdeal.Value

open Cert.KernelInIdeal Cert.KernelInIdeal.Gen
open Cert.ReferenceInIdeal.Value (REF)

variable (m : (ℓ : Loc nD τ sig) → Buf (Elt Ideal) ℓ)

/-- The accumulator after an even point: the first product of the run, from zero. -/
theorem acc_even (c : Dev nD) (t : Fin cfg0.N) (h : t.val % 2 = 0) (j : S1024x1280.Idx) :
    (outsAt0 m c t.val t.isLt).2 j = k0_pay2 k0_pay1 (iblk m c 0 t) (iblk m c 1 t) j := by
  rw [outsAt0_A m c t h (by omega)]
  frame_out

theorem idx : ∀ t : Fin cfg0.N, win0_0.index t = ![t.val % 2, 0] ∧ win0_1.index t = ![t.val % 2, t.val / 2]
    ∧ win0_2.index t = ![0, t.val / 2, 0, 0] := (by decide +kernel : ∀ t : Fin grid0.N, _)

theorem core (c : Dev nD) (t t' : Fin cfg0.N) (h : t.val % 2 = 1) (h' : t'.val = t.val - 1) (y : S1024x1280.Idx) (j : S2x4x512x1280.Idx)
    (hj0 : (j 0).val = (y 0).val / 512) (hj1 : (j 1).val = t.val / 2) (hj2 : (j 2).val = (y 0).val % 512) (hj3 : (j 3).val = (y 1).val) :
    k0_pay2 (k0_pay2 k0_pay1 (iblk m c 0 t') (iblk m c 1 t')) (iblk m c 0 t) (iblk m c 1 t) y
      = REF (m ((c : Thread nD τ).loc main_arg0)) (m ((c : Thread nD τ).loc main_arg1)) j := by
  pointwise [k0_pay2, k0_pay1, REF]
  idx_vars y
  refine Eq.trans ?_ (Fin.sum_univ_one _).symm
  refine Eq.trans ?_ (Fin.sum_univ_two_halves 2048 2048 rfl _).symm
  refine congrArg₂ (· + ·) (Finset.sum_congr rfl fun k _ => (mul_comm _ _).trans ?_)
    (Finset.sum_congr rfl fun k _ => (mul_comm _ _).trans ?_)
  all_goals blk_point [iblk, V, idx t, idx t']

theorem out_odd (c : Dev nD) (t : Fin cfg0.N) (h : t.val % 2 = 1) (y : S2x1x512x1280.Idx) (i : S1024x1280.Idx)
   (hi0 : (i 0).val = 512 * (y 0).val + (y 2).val) (hi1 : (i 1).val = (y 3).val):
    (outsAt0 m c t.val t.isLt).1 y = k0_pay2 (outsAt0 m c (t.val - 1) (Nat.lt_of_le_of_lt (Nat.sub_le _ _) t.isLt)).2 (iblk m c 0 t) (iblk m c 1 t) i := by
  rw [outsAt0_B m c t (by omega) h]
  frame_open
  frame_out
  simp only [read_unread_whole]
  generalize k0_pay2 (F := Ideal) _ _ _ = T
  canon_tiles x h
  all_goals (open_payloads; pointwise)
  all_goals rw [View.readCov_fill]
  all_goals pointwise
  all_goals blk_ext

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2]
  have hy0 : (y 0).val < 2 := (y 0).isLt
  have hy2 : (y 2).val < 512 := (y 2).isLt
  obtain_idx i : S1024x1280 := [512 * (y 0 : ℕ) + (y 2 : ℕ), (y 3 : ℕ)] with hi
  rw [out_odd m c t ht y i hi0 hi1,
    show (outsAt0 m c (t.val - 1) (Nat.lt_of_le_of_lt (Nat.sub_le _ _) t.isLt)).2 = _ from funext fun j => acc_even m c ⟨t.val - 1, Nat.lt_of_le_of_lt (Nat.sub_le _ _) t.isLt⟩ (by show (t.val - 1) % 2 = 0; omega) j]
  refine core m c t _ ht rfl i _ ?_ ?_ ?_ ?_
  all_goals (blk_simp [idx t] <;> try omega)

end Cert.KernelInIdeal.Value

namespace Cert.Proof

theorem algebraic_In : Cert.algebraic_KernelInIdeal_ReferenceInIdeal := by
  intro m ρ m' ρ' _ hagree
  refine ⟨_, (θ_run Cert.KernelInIdeal.defs _ _).mono (fun _ h c => ⟨(h c).1.trans (Cert.KernelInIdeal.Value.final m c), (h c).2⟩)
    (Cert.KernelInIdeal.Value.run_blocks (F := Ideal) m ρ), ?_⟩
  refine (θ_run Cert.ReferenceInIdeal.defs _ _).mono (fun _ h c => ⟨(h c).1.trans ?_, (h c).2⟩)
    (Cert.ReferenceInIdeal.Value.run (F := Ideal) m' ρ')
  rw [← (hagree c).1, ← (hagree c).2]

theorem frame_ReferenceIn : Cert.quiescent_ReferenceInIdeal := fun m ρ _ =>
  (θ_run Cert.ReferenceInIdeal.defs _ _).mono (fun r h => ⟨fun c => (h c).2, Idealize.ShloMosaic.sem_eq_zero_of_no_sems (by decide) r.2⟩)
    (Cert.ReferenceInIdeal.Value.run (F := Ideal) m ρ)

end Cert.Proof
end
-- ==== Proof.Dw.Out.lean ====
module

public import proofs.«01_k».proof.Defs
public import proofs.«01_k».proof.Proof.Gen.KernelOutIdeal.Value
public import proofs.«01_k».proof.Proof.Gen.ReferenceOutIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceOutIdeal.Value
open Cert.ReferenceOutIdeal Cert.ReferenceOutIdeal.Gen
abbrev REF (a : FVec Ideal S4096x1024 .f32) (b : FVec Ideal S4096x1024 .f32) :
    FVec Ideal S2x4x128x1024 .bf16 :=
  truncf .bf16 (transpose S2x4x128x1024 [1, 0, 2, 3] (shapeCast _ (transpose S1024x1024 [1, 0] (Host.dotGeneral dot_S1x4096x1024_S1x4096x1024_S1024x1024_01_01_2_2_n_n none (broadcastInDim S1x4096x1024 ![1, 2] bcast_S4096x1024_S1x4096x1024_1_2 b) (broadcastInDim S1x4096x1024 ![1, 2] bcast_S4096x1024_S1x4096x1024_1_2 a)) transposes_S1024x1024_S1024x1024_1_0) shapeCasts_S1024x1024_S4x2x128x1024) transposes_S4x2x128x1024_S2x4x128x1024_1_0_2_3) bitsLt_bf16_f32

end Cert.ReferenceOutIdeal.Value

namespace Cert.KernelOutIdeal.Value

open Cert.KernelOutIdeal Cert.KernelOutIdeal.Gen
open Cert.ReferenceOutIdeal.Value (REF)

variable (m : (ℓ : Loc nD τ sig) → Buf (Elt Ideal) ℓ)

/-- The accumulator after an even point: the first product of the run, from zero. -/
theorem acc_even (c : Dev nD) (t : Fin cfg0.N) (h : t.val % 2 = 0) (j : S1024x1024.Idx) :
    (outsAt0 m c t.val t.isLt).2 j = k0_pay2 k0_pay1 (iblk m c 0 t) (iblk m c 1 t) j := by
  rw [outsAt0_A m c t h (by omega)]
  frame_out

theorem idx : ∀ t : Fin cfg0.N, win0_0.index t = ![t.val % 2, 0] ∧ win0_1.index t = ![t.val % 2, 0]
    ∧ win0_3.index t = ![0, 0, 0, 0] := (by decide +kernel : ∀ t : Fin grid0.N, _)

theorem core (c : Dev nD) (t t' : Fin cfg0.N) (h : t.val % 2 = 1) (h' : t'.val = t.val - 1) (y : S1024x1024.Idx) (j : S2x4x128x1024.Idx)
    (hj0 : (j 0).val = (y 0).val / 128 % 2) (hj1 : (j 1).val = (y 0).val / 256) (hj2 : (j 2).val = (y 0).val % 128) (hj3 : (j 3).val = (y 1).val) :
    k0_pay2 (k0_pay2 k0_pay1 (iblk m c 0 t') (iblk m c 1 t')) (iblk m c 0 t) (iblk m c 1 t) y
      = REF (m ((c : Thread nD τ).loc main_arg0)) (m ((c : Thread nD τ).loc main_arg1)) j := by
  pointwise [k0_pay2, k0_pay1, REF]
  idx_vars y
  refine Eq.trans ?_ (Fin.sum_univ_one _).symm
  refine Eq.trans ?_ (Fin.sum_univ_two_halves 2048 2048 rfl _).symm
  refine congrArg₂ (· + ·) (Finset.sum_congr rfl fun k _ => (mul_comm _ _).trans ?_)
    (Finset.sum_congr rfl fun k _ => (mul_comm _ _).trans ?_)
  all_goals blk_point [iblk, V, idx t, idx t']

theorem out_odd (c : Dev nD) (t : Fin cfg0.N) (h : t.val % 2 = 1) (y : S2x4x128x1024.Idx) (i : S1024x1024.Idx)
   (hi0 : (i 0).val = 256 * (y 1).val + 128 * (y 0).val + (y 2).val) (hi1 : (i 1).val = (y 3).val):
    (outsAt0 m c t.val t.isLt).1 y = k0_pay2 (outsAt0 m c (t.val - 1) (Nat.lt_of_le_of_lt (Nat.sub_le _ _) t.isLt)).2 (iblk m c 0 t) (iblk m c 1 t) i := by
  rw [outsAt0_B m c t (by omega) h]
  frame_open
  frame_out
  simp only [read_unread_whole]
  generalize k0_pay2 (F := Ideal) _ _ _ = T
  canon_tiles x h
  all_goals (open_payloads; pointwise)
  all_goals rw [View.readCov_fill]
  all_goals pointwise
  all_goals blk_ext

theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t hf y => ?_
  have ht : t.val % 2 = 1 := (flush0_3 t).mp hf
  blk_simp
  rw [after0_3]
  have hy0 : (y 0).val < 2 := (y 0).isLt
  have hy1 : (y 1).val < 4 := (y 1).isLt
  have hy2 : (y 2).val < 128 := (y 2).isLt
  obtain_idx i : S1024x1024 := [256 * (y 1 : ℕ) + 128 * (y 0 : ℕ) + (y 2 : ℕ), (y 3 : ℕ)] with hi
  rw [out_odd m c t ht y i hi0 hi1,
    show (outsAt0 m c (t.val - 1) (Nat.lt_of_le_of_lt (Nat.sub_le _ _) t.isLt)).2 = _ from funext fun j => acc_even m c ⟨t.val - 1, Nat.lt_of_le_of_lt (Nat.sub_le _ _) t.isLt⟩ (by show (t.val - 1) % 2 = 0; omega) j]
  refine core m c t _ ht rfl i _ ?_ ?_ ?_ ?_
  all_goals (blk_simp [idx t] <;> try omega)

end Cert.KernelOutIdeal.Value

namespace Cert.Proof

theorem algebraic_Out : Cert.algebraic_KernelOutIdeal_ReferenceOutIdeal := by
  intro m ρ m' ρ' _ hagree
  refine ⟨_, (θ_run Cert.KernelOutIdeal.defs _ _).mono (fun _ h c => ⟨(h c).1.trans (Cert.KernelOutIdeal.Value.final m c), (h c).2⟩)
    (Cert.KernelOutIdeal.Value.run_blocks (F := Ideal) m ρ), ?_⟩
  refine (θ_run Cert.ReferenceOutIdeal.defs _ _).mono (fun _ h c => ⟨(h c).1.trans ?_, (h c).2⟩)
    (Cert.ReferenceOutIdeal.Value.run (F := Ideal) m' ρ')
  rw [← (hagree c).1, ← (hagree c).2]

theorem frame_ReferenceOut : Cert.quiescent_ReferenceOutIdeal := fun m ρ _ =>
  (θ_run Cert.ReferenceOutIdeal.defs _ _).mono (fun r h => ⟨fun c => (h c).2, Idealize.ShloMosaic.sem_eq_zero_of_no_sems (by decide) r.2⟩)
    (Cert.ReferenceOutIdeal.Value.run (F := Ideal) m ρ)

end Cert.Proof
end
-- ==== Proof.Rows.lean ====
/- The root-mean-square norm of one row, backwards, two ways

A row `h` of 1024 entries is divided by the root of its mean square. Here: when an extended real
is a real number and which operations keep it one; the derivative of the norm as the kernels
compute it (`bwdK`) and as the plain reference does (`bwdR`); and that they agree on rows of real numbers. -/
module

public import Idealize.ShloMosaic.PureOps.Ideal
public import Idealize.ShloMosaic.PureOps.Ideal.Laws
public import Idealize.ShloMosaic.Lib.Pointwise

@[expose] public section

noncomputable section

open Idealize.ShloMosaic

namespace Cert.Rows

/-- `x` is a real number: neither of the two infinities. -/
def IsReal (x : EReal) : Prop := ∃ r : ℝ, x = (r : EReal)

theorem IsReal.coe (r : ℝ) : IsReal (r : EReal) := ⟨r, rfl⟩
theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) {f : ι → EReal} (hf : ∀ i ∈ s, IsReal (f i)) : IsReal (∑ i ∈ s, f i) := by
  classical
  induction s using Finset.induction_on with
  | empty => exact IsReal.zero
  | insert a s ha ih =>
    rw [Finset.sum_insert ha]
    exact (hf _ (Finset.mem_insert_self _ _)).add (ih fun i hi => hf i (Finset.mem_insert_of_mem hi))

/-- A finite sum of real numbers, taken among the extended reals, is their sum. -/
theorem coe_sum {ι : Type*} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

/-- Division of a real number by a real number other than zero. -/
theorem div_coe (a : ℝ) {b : ℝ} (hb : b ≠ 0) : Ideal.div (a : EReal) (b : EReal) = ((a / b : ℝ) : EReal) := by
  have h : ((b : ℝ) : EReal) ≠ 0 := by exact_mod_cast hb
  unfold Ideal.div
  rw [if_neg h, ← EReal.coe_inv, ← EReal.coe_mul, div_eq_mul_inv]

/-- The inverse square root of a positive real number. -/
theorem rsqrt_coe {a : ℝ} (ha : 0 < a) : Ideal.rsqrt (a : EReal) = (((Real.sqrt a)⁻¹ : ℝ) : EReal) := by
  rw [Ideal.rsqrt_coe, if_neg (not_lt.mpr ha.le), if_neg ha.ne']

/-! ## The constants -/

/-- 1024, the width of a row. -/
abbrev cD : EReal := Ideal.ofBits .f32 0x44800000#32
/-- The number added to the mean square. -/
abbrev cE : EReal := Ideal.ofBits .f32 0x358637BD#32
/-- −1/2. -/
abbrev cH : EReal := Ideal.ofBits .f32 0xBF000000#32

theorem cD_eq : cD = ((1024 : ℝ) : EReal) := by
  simp [cD, Ideal.ofBits, Ideal.ieee, -EReal.coe_mul]; norm_num
theorem cH_eq : cH = ((-1 / 2 : ℝ) : EReal) := by
  simp [cH, Ideal.ofBits, Ideal.ieee, -EReal.coe_mul]; norm_num
theorem cE_eq : ∃ e : ℝ, 0 < e ∧ cE = (e : EReal) := by
  refine ⟨_, ?_, by simp only [cE, Ideal.ofBits, Ideal.ieee]; rw [if_neg (by decide), if_neg (by decide)]⟩
  simp
  try norm_num

/-! ## One row -/

/-- The mean square of the row, with the small number added. -/
def ms (h : Fin 1024 → EReal) : EReal := Ideal.div (∑ k, h k * h k) cD + cE
/-- What the row is multiplied by: one over the root of that. -/
def rn (h : Fin 1024 → EReal) : EReal := Ideal.rsqrt (ms h)
/-- The kernels' derivative of the norm: `r (d − n · mean (d n))`, where `n` is the normed row. -/
def bwdK (h d : Fin 1024 → EReal) (j : Fin 1024) : EReal :=
  rn h * (d j - h j * rn h * Ideal.div (∑ k, d k * (h k * rn h)) cD)
/-- What the reference multiplies `h` by: the derivative of half the mean square. -/
def co (h d : Fin 1024 → EReal) : EReal :=
  Ideal.div ((∑ k, h k * d k) * (cH * Ideal.div (rn h) (ms h))) cD
/-- The reference's derivative of the norm: product rule, the square `h · h` counted once for each factor. -/
def bwdR (h d : Fin 1024 → EReal) (j : Fin 1024) : EReal := d j * rn h + h j * co h d + co h d * h j

/-- On a row of real numbers the mean square is a positive real number. -/
theorem ms_real {h : Fin 1024 → EReal} (hh : ∀ k, IsReal (h k)) : ∃ M : ℝ, 0 < M ∧ ms h = (M : EReal) := by
  choose a ha using hh
  obtain ⟨e, he, hE⟩ := cE_eq
  refine ⟨(∑ k, a k * a k) / 1024 + e, by have : 0 ≤ ∑ k, a k * a k := Finset.sum_nonneg fun k _ => mul_self_nonneg _; positivity, ?_⟩
  unfold ms
  simp only [ha, hE, cD_eq, ← EReal.coe_mul, coe_sum]
  rw [div_coe _ (by norm_num), ← EReal.coe_add]

theorem rn_real {h : Fin 1024 → EReal} (hh : ∀ k, IsReal (h k)) : IsReal (rn h) := by
  obtain ⟨M, hM, e⟩ := ms_real hh
  exact ⟨_, by unfold rn; rw [e]; exact rsqrt_coe hM⟩

/-- The two derivatives agree on rows of real numbers. -/
theorem bwd_eq {h d : Fin 1024 → EReal} (hh : ∀ k, IsReal (h k)) (hd : ∀ k, IsReal (d k)) (j : Fin 1024) :
    bwdK h d j = bwdR h d j := by
  obtain ⟨M, hM, e⟩ := ms_real hh
  choose a ha using hh
  choose b hb using hd
  have er : rn h = (((Real.sqrt M)⁻¹ : ℝ) : EReal) := by unfold rn; rw [e]; exact rsqrt_coe hM
  unfold bwdK bwdR co
  simp only [er, e, cD_eq, cH_eq, ha, hb, ← EReal.coe_mul, coe_sum]
  simp only [div_coe _ hM.ne', div_coe _ (show (1024 : ℝ) ≠ 0 by norm_num), ← EReal.coe_mul, ← EReal.coe_sub, ← EReal.coe_add]
  congr 1
  have hs : Real.sqrt M * Real.sqrt M = M := Real.mul_self_sqrt hM.le
  have hs0 : Real.sqrt M ≠ 0 := (Real.sqrt_pos.mpr hM).ne'
  have hr : ∑ k, b k * (a k * (Real.sqrt M)⁻¹) = (∑ k, a k * b k) * (Real.sqrt M)⁻¹ := by
    rw [Finset.sum_mul]; exact Finset.sum_congr rfl fun k _ => by ring
  rw [hr]
  generalize (∑ k, a k * b k) = T
  generalize Real.sqrt M = s at *
  subst hs
  field_simp
  ring

/-- The derivative of a row of real numbers is one of real numbers. -/
theorem bwdK_real {h d : Fin 1024 → EReal} (hh : ∀ k, IsReal (h k)) (hd : ∀ k, IsReal (d k)) (j : Fin 1024) :
    IsReal (bwdK h d j) := by
  have hr := rn_real hh
  refine hr.mul ((hd j).sub (((hh j).mul hr).mul ?_))
  obtain ⟨S, hS⟩ := IsReal.sum Finset.univ fun k _ => (hd k).mul ((hh k).mul hr)
  rw [hS, cD_eq, div_coe _ (by norm_num)]
  exact IsReal.coe _

/-- A host sum over the first and the last of three axes, both of size one, has one term. -/
theorem sum_first_last {n : ℕ} (h : (⟨3, ![1, n, 1]⟩ : Shape).ReducesTo [0, 2] ⟨1, ![n]⟩) (x : (⟨3, ![1, n, 1]⟩ : Shape).Idx → EReal)
    (z : EReal) (r : Fin n) : Ideal.hostReduceAdd h x z (ix1 r) = z + x (ix3 0 r 0) := by
  have e : (Finset.univ.filter fun i => h.drop i = ix1 r) = {ix3 0 r 0} := by
    ext i
    rw [Finset.mem_filter, Finset.mem_singleton]
    constructor
    · rintro ⟨-, e⟩
      funext a; apply Fin.ext
      match a with
      | ⟨0, _⟩ => exact Nat.lt_one_iff.mp (i 0).isLt
      | ⟨1, _⟩ => exact congrArg Fin.val (congrFun e 0)
      | ⟨2, _⟩ => exact Nat.lt_one_iff.mp (i 2).isLt
    · rintro rfl
      refine ⟨Finset.mem_univ _, ?_⟩
      funext a; apply Fin.ext
      match a with
      | ⟨0, _⟩ => rfl
  unfold Ideal.hostReduceAdd
  rw [e, Finset.sum_singleton]

/-- A host sum over the first two of three axes, both of size one, has one term. -/
theorem sum_first_two {n : ℕ} (h : (⟨3, ![1, 1, n]⟩ : Shape).ReducesTo [0, 1] ⟨1, ![n]⟩) (x : (⟨3, ![1, 1, n]⟩ : Shape).Idx → EReal)
    (z : EReal) (r : Fin n) : Ideal.hostReduceAdd h x z (ix1 r) = z + x (ix3 0 0 r) := by
  have e : (Finset.univ.filter fun i => h.drop i = ix1 r) = {ix3 0 0 r} := by
    ext i
    rw [Finset.mem_filter, Finset.mem_singleton]
    constructor
    · rintro ⟨-, e⟩
      funext a; apply Fin.ext
      match a with
      | ⟨0, _⟩ => exact Nat.lt_one_iff.mp (i 0).isLt
      | ⟨1, _⟩ => exact Nat.lt_one_iff.mp (i 1).isLt
      | ⟨2, _⟩ => exact congrArg Fin.val (congrFun e 0)
    · rintro rfl
      refine ⟨Finset.mem_univ _, ?_⟩
      funext a; apply Fin.ext
      match a with
      | ⟨0, _⟩ => rfl
  unfold Ideal.hostReduceAdd
  rw [e, Finset.sum_singleton]

/-- An entry that passes the test `|x| < +∞` is a real number. -/
theorem isReal_of_test {x : Ideal .f32} (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  induction x using EReal.rec with
  | bot => simp [Ideal.cmp] at h'
  | top => simp [Ideal.cmp] at h'
  | coe r => exact ⟨r, rfl⟩

end Cert.Rows
end
-- ==== Proof.FfnRef.lean ====
/- # The squared-ReLU layer, backwards: what the reference computes, entry by entry -/
module

public import proofs.«01_k».proof.Proof.Rows
public import proofs.«01_k».proof.Proof.Gen.ReferenceFfnIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceFfnIdeal.Rows
open Cert.ReferenceFfnIdeal Cert.ReferenceFfnIdeal.Gen Cert.ReferenceFfnIdeal.Read Cert.Rows

/-- The arguments: the layer's input `h1`, the mixer's output `y`, the gradients `df2` and `dout`, the two gains `g1` and `g2`,
and the weights up and down. -/
structure Args where
  h1 : FVec Ideal S4096x1024 .f32
  y : FVec Ideal S4096x1024 .f32
  df2 : FVec Ideal S4096x1024 .f32
  dout : FVec Ideal S4096x1024 .f32
  g1 : FVec Ideal S1024 .f32
  g2 : FVec Ideal S1024 .f32
  w1 : FVec Ideal S1024x4096 .f32
  w2 : FVec Ideal S4096x1024 .f32

/-- Row `r` of an array of 4096 rows. -/
abbrev row (x : FVec Ideal S4096x1024 .f32) (r : Fin 4096) : Fin 1024 → EReal := fun k => x (ix2 r k)

variable (a : Args)

/-- The layer's hidden row, before the squared ReLU. -/
def up (r : Fin 4096) (f : Fin 4096) : EReal := ∑ k : Fin 1024, row a.h1 r k * rn (row a.h1 r) * a.g2 (ix1 k) * a.w1 (ix2 k f)
/-- Its gradient. -/
def df (r : Fin 4096) (f : Fin 4096) : EReal :=
  (∑ k : Fin 1024, a.df2 (ix2 r k) * a.w2 (ix2 f k)) * (Ideal.ofBits .f32 0x40000000#32 * max (up a r f) 0)
/-- The gradient of the normed row. -/
def dn (r : Fin 4096) : Fin 1024 → EReal := fun k => ∑ f : Fin 4096, df a r f * a.w1 (ix2 k f)
/-- The gradient of the layer's input. -/
def dh (r : Fin 4096) : Fin 1024 → EReal := fun k => a.dout (ix2 r k) + bwdR (row a.h1 r) (fun k => dn a r k * a.g2 (ix1 k)) k
/-- The gradient of the mixer's output. -/
def dy (r : Fin 4096) : Fin 1024 → EReal := bwdR (row a.y r) (fun k => dh a r k * a.g1 (ix1 k))

theorem ms_at (r : Fin 4096) : val_main_v7 (F := Ideal) a.h1 (ix3 0 r 0) = ms (row a.h1 r) := by
  pointwise [val_main_v7, val_main_v6, val_main_v5, val_main_v4, val_main_v3, val_main_v2, val_main_v1, val_main_v0, val_main_cst, val_main_cst_0, val_main_cst_1, ms]
  done

theorem ms_at' (r : Fin 4096) : val_main_v66 (F := Ideal) a.y (ix3 0 r 0) = ms (row a.y r) := by
  pointwise [val_main_v66, val_main_v65, val_main_v64, val_main_v63, val_main_v62, val_main_v61, val_main_v60, val_main_v59, val_main_cst_12, val_main_cst_13, val_main_cst_14, ms]
  done

theorem up_at (r f : Fin 4096) : val_main_v17 (F := Ideal) a.h1 a.g2 a.w1 (ix3 0 r f) = up a r f := by
  pointwise [val_main_v17, val_main_v16, val_main_v15, val_main_v14, val_main_v13, val_main_v12, val_main_v8, val_main_v0, up, rn, ms_at]
  done

theorem df_at (r f : Fin 4096) : val_main_v32 (F := Ideal) a.h1 a.df2 a.g2 a.w1 a.w2 (ix3 0 r f) = df a r f := by
  pointwise [val_main_v32, val_main_v31, val_main_v30, val_main_v29, val_main_v26, val_main_v24, val_main_v23, val_main_v20, val_main_v19, val_main_v18, val_main_call0_v0, val_main_call0_cst, val_main_cst_3, val_main_cst_5, val_main_cst_6, df, up_at]
  split_ifs with h
  · rfl
  · rw [max_eq_right (not_lt.mp h), mul_zero, mul_zero]

theorem dn_at (r : Fin 4096) (k : Fin 1024) : val_main_v35 (F := Ideal) a.h1 a.df2 a.g2 a.w1 a.w2 (ix3 0 r k) = dn a r k := by
  pointwise [val_main_v35, dn, df_at]
  done

theorem co_at (r : Fin 4096) : val_main_v50 (F := Ideal) a.h1 a.df2 a.g2 a.w1 a.w2 (ix1 r) = co (row a.h1 r) (fun k => dn a r k * a.g2 (ix1 k)) := by
  unfold val_main_v50
  refine (sum_first_last _ _ _ r).trans ?_
  pointwise [val_main_v49, val_main_v48, val_main_v47, val_main_v44, val_main_v43, val_main_v42, val_main_v40, val_main_v39, val_main_v14, val_main_v11, val_main_v10, val_main_v9, val_main_v8, val_main_v0, val_main_cst_2, val_main_cst_9, val_main_cst_10, val_main_cst_11, co, rn, dn_at, ms_at]
  done

theorem dh_at (r : Fin 4096) (k : Fin 1024) : val_main_v58 (F := Ideal) a.h1 a.df2 a.dout a.g2 a.w1 a.w2 (ix3 0 r k) = dh a r k := by
  pointwise [val_main_v58, val_main_v57, val_main_v56, val_main_v55, val_main_v54, val_main_v53, val_main_v52, val_main_v51, val_main_v46, val_main_v45, val_main_v40, val_main_v39, val_main_v14, val_main_v8, val_main_v0, dh, bwdR, rn, co_at, dn_at, ms_at]
  done

theorem co_at' (r : Fin 4096) : val_main_v90 (F := Ideal) a.h1 a.y a.df2 a.dout a.g1 a.g2 a.w1 a.w2 (ix1 r) = co (row a.y r) (fun k => dh a r k * a.g1 (ix1 k)) := by
  unfold val_main_v90
  refine (sum_first_last _ _ _ r).trans ?_
  pointwise [val_main_v89, val_main_v88, val_main_v87, val_main_v84, val_main_v83, val_main_v82, val_main_v80, val_main_v79, val_main_v73, val_main_v70, val_main_v69, val_main_v68, val_main_v67, val_main_v59, val_main_cst_15, val_main_cst_18, val_main_cst_19, val_main_cst_20, co, rn, dh_at, ms_at']
  done

theorem dy_at (r : Fin 4096) (k : Fin 1024) : val_main_v101 (F := Ideal) a.h1 a.y a.df2 a.dout a.g1 a.g2 a.w1 a.w2 (ix2 r k) = dy a r k := by
  pointwise [val_main_v101, val_main_v100, val_main_v96, val_main_v95, val_main_v94, val_main_v93, val_main_v92, val_main_v91, val_main_v86, val_main_v85, val_main_v80, val_main_v79, val_main_v73, val_main_v67, val_main_v59, dy, bwdR, rn, co_at', dh_at, ms_at']
  done

theorem df1_at (r f : Fin 4096) : val_main_v98 (F := Ideal) a.h1 a.df2 a.g2 a.w1 a.w2 (ix2 r f) = df a r f := by
  pointwise [val_main_v98, val_main_v97, df_at]
  done

theorem dh1_at (r : Fin 4096) (k : Fin 1024) : val_main_v99 (F := Ideal) a.h1 a.df2 a.dout a.g2 a.w1 a.w2 (ix2 r k) = dh a r k := by
  pointwise [val_main_v99, dh_at]
  done

theorem dg2_at (k : Fin 1024) : val_main_v41 (F := Ideal) a.h1 a.df2 a.g2 a.w1 a.w2 (ix1 k) = ∑ r : Fin 4096, row a.h1 r k * rn (row a.h1 r) * dn a r k := by
  unfold val_main_v41
  refine (sum_first_two _ _ _ k).trans ?_
  pointwise [val_main_v38, val_main_v37, val_main_v36, val_main_v13, val_main_v12, val_main_v8, val_main_v0, val_main_cst_7, val_main_cst_8, rn, dn_at, ms_at]
  done

theorem dg1_at (k : Fin 1024) : val_main_v81 (F := Ideal) a.h1 a.y a.df2 a.dout a.g2 a.w1 a.w2 (ix1 k) = ∑ r : Fin 4096, row a.y r k * rn (row a.y r) * dh a r k := by
  unfold val_main_v81
  refine (sum_first_two _ _ _ k).trans ?_
  pointwise [val_main_v78, val_main_v77, val_main_v76, val_main_v72, val_main_v71, val_main_v67, val_main_v59, val_main_cst_16, val_main_cst_17, rn, dh_at, ms_at']
  done

theorem vec_at (s : Fin 8) (k : Fin 1024) : val_main_v106 (F := Ideal) a.h1 a.y a.df2 a.dout a.g2 a.w1 a.w2 (ix2 s k)
    = if s.val = 0 then ∑ r : Fin 4096, row a.h1 r k * rn (row a.h1 r) * dn a r k
      else if s.val = 1 then ∑ r : Fin 4096, row a.y r k * rn (row a.y r) * dh a r k else 0 := by
  pointwise [val_main_v106, val_main_v105, val_main_v104, val_main_v103, val_main_v102, dg1_at, dg2_at, val_main_cst_21]
  simp only [Nat.lt_one_iff, dite_eq_ite]
  split_ifs <;> first | rfl | omega

end Cert.ReferenceFfnIdeal.Rows
end
-- ==== Proof.Vec.lean ====
/- Eight rows of sums: reading the buffer after one of its rows was written

The kernels keep their column sums in a buffer of eight rows of 1024 entries and write one row of it at a time. -/
module

public import Idealize.ShloMosaic.Lib.Pipeline.ValueKit
public import Idealize.ShloMosaic.Lib.Pipeline.ReadBack
public import Idealize.ShloMosaic.Lib.WritesUnit
public import Idealize.ShloMosaic.Lib.Pointwise

@[expose] public section

noncomputable section

open Idealize.ShloMosaic Idealize.ShloMosaic.View

namespace Cert.Rows

/-- The shape of the buffer. -/
abbrev V8 : Shape := ⟨2, ![8, 1024]⟩

variable {sig : RefSig} {κ : Kind} {sp : Space} {e : EltTy} {Val : EltTy → Type} (v : View sig κ sp V8 e) (f : v.ty.Contents Val)

/-- The row just written. -/
theorem read_row {o : ℕ} (inb : ∀ a : Fin 2, (![o, 0] : Fin 2 → ℕ) a + (![1, 1024] : Fin 2 → ℕ) a ≤ V8.size a)
    (w : (⟨2, ![1, 1024]⟩ : Shape).Idx → Val e) (L : List (Piece Val V8 e)) (s : Fin 8) (q : Fin 1024) (hs : s.val = o) :
    v.read Val (v.writes Val f (⟨Rect.unit (s := V8) ![o, 0] ![1, 1024] inb, w⟩ :: L)) (ix2 s q) = w (ix2 0 q) :=
  View.read_writes_cons_rows_of_mem (o := o) v f inb w L (ix2 s q) (ix2 0 q) rfl hs rfl

/-- Another row. -/
theorem read_row_ne {o : ℕ} (inb : ∀ a : Fin 2, (![o, 0] : Fin 2 → ℕ) a + (![1, 1024] : Fin 2 → ℕ) a ≤ V8.size a)
    (w : (⟨2, ![1, 1024]⟩ : Shape).Idx → Val e) (L : List (Piece Val V8 e)) (s : Fin 8) (q : Fin 1024) (hs : s.val ≠ o) :
    v.read Val (v.writes Val f (⟨Rect.unit (s := V8) ![o, 0] ![1, 1024] inb, w⟩ :: L)) (ix2 s q)
      = v.read Val (v.writes Val f L) (ix2 s q) :=
  View.read_writes_cons_rows_of_not_mem (o := o) (W := 1) v f inb w L (ix2 s q) rfl rfl (by
    show s.val < o ∨ o + 1 ≤ s.val
    omega)

/-- One row loaded from the buffer, another row of which was just written over a filling with `Z`. -/
theorem load_row_ne [∀ e, Nonempty (Val e)] {o o' : ℕ} (inb : ∀ a : Fin 2, (![o, 0] : Fin 2 → ℕ) a + (![1, 1024] : Fin 2 → ℕ) a ≤ V8.size a)
    (inb' : ∀ a : Fin 2, (![o', 0] : Fin 2 → ℕ) a + (![1, 1024] : Fin 2 → ℕ) a ≤ V8.size a)
    (inb'' : ∀ a : Fin 2, (![0, 0] : Fin 2 → ℕ) a + V8.size a ≤ V8.size a)
    (w : (⟨2, ![1, 1024]⟩ : Shape).Idx → Val e) (Z : V8.Idx → Val e) (s : Fin 8) (q : Fin 1024) (hs : s.val = o') (ho : o' ≠ o) :
    v.readCov [⟨Rect.unit (s := V8) ![o, 0] ![1, 1024] inb, w⟩, ⟨Rect.unit (s := V8) ![0, 0] V8.size inb'', Z⟩]
      (Rect.unit (s := V8) ![o', 0] ![1, 1024] inb').toLoadRect (ix2 0 q) = Z (ix2 s q) := by
  have e : (Rect.unit (s := V8) ![o', 0] ![1, 1024] inb').toLoadRect.idx (ix2 0 q) = ix2 s q := by
    funext a; apply Fin.ext; fin_cases a
    · exact hs.symm
    · exact (Nat.zero_add _).trans (Nat.one_mul _)
  rw [readCov_eq_canon']
  refine (congrArg _ e).trans ?_
  rw [← read_writes_junk_eq_canon v]
  refine (read_row_ne v _ inb w _ s q (by omega)).trans ?_
  rw [read_writes_junk_eq_canon, canon_cons_unit_lit inb'' Z _ (by decide)]

end Cert.Rows
end
-- ==== Proof.Ffn.lean ====
/- # The squared-ReLU layer, backwards: the kernel's blocks are the reference's rows -/
module

public import proofs.«01_k».proof.Defs
public import proofs.«01_k».proof.Proof.FfnRef
public import proofs.«01_k».proof.Proof.Vec
public import proofs.«01_k».proof.Proof.Gen.KernelFfnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Rows

namespace Cert.KernelFfnIdeal.Value

open Cert.KernelFfnIdeal Cert.KernelFfnIdeal.Gen Cert.Rows
open Cert.ReferenceFfnIdeal.Rows (Args row up df dn dh dy)

variable (m : (ℓ : Loc nD τ sig) → Buf (Elt Ideal) ℓ)

theorem idx : ∀ t : Fin cfg0.N, win0_0.index t = ![t.val, 0] ∧ win0_1.index t = ![t.val, 0] ∧ win0_2.index t = ![0, 0, 0]
    ∧ win0_3.index t = ![0, 0, 0] ∧ win0_4.index t = ![t.val, 0] ∧ win0_5.index t = ![t.val, 0] ∧ win0_6.index t = ![t.val, 0]
    ∧ win0_7.index t = ![0, 0] ∧ win0_8.index t = ![0, 0] ∧ win0_9.index t = ![t.val, 0] ∧ win0_10.index t = ![t.val, 0]
    ∧ win0_11.index t = ![t.val, 0] ∧ win0_12.index t = ![0, 0] :=
  (by decide +kernel : ∀ t : Fin grid0.N, _)

/-- Row `p` of tile `t`, among all rows. -/
def R (t : Fin cfg0.N) (p : Fin 256) : Fin 4096 := ⟨256 * t.val + p.val, by have h : t.val < 16 := t.isLt; omega⟩

/-- The arguments of the program, as the reference's. -/
abbrev args (c : Dev nD) : Args where
  h1 := m ((c : Thread nD τ).loc main_arg0)
  y := m ((c : Thread nD τ).loc main_arg1)
  df2 := m ((c : Thread nD τ).loc main_arg2)
  dout := m ((c : Thread nD τ).loc main_arg3)
  g1 := m ((c : Thread nD τ).loc main_arg4)
  g2 := m ((c : Thread nD τ).loc main_arg5)
  w1 := m ((c : Thread nD τ).loc main_arg6)
  w2 := m ((c : Thread nD τ).loc main_arg7)

theorem h_at (c : Dev nD) (t : Fin cfg0.N) (p : Fin 256) (q : Fin 1024) : iblk m c 4 t (ix2 p q) = row (args m c).h1 (R t p) q := by
  blk_point [iblk, V, idx t, R]
theorem o_at (c : Dev nD) (t : Fin cfg0.N) (p : Fin 256) (q : Fin 1024) : iblk m c 5 t (ix2 p q) = (args m c).dout (ix2 (R t p) q) := by
  blk_point [iblk, V, idx t, R]
theorem y_at (c : Dev nD) (t : Fin cfg0.N) (p : Fin 256) (q : Fin 1024) : iblk m c 6 t (ix2 p q) = row (args m c).y (R t p) q := by
  blk_point [iblk, V, idx t, R]
theorem g2_at (c : Dev nD) (t : Fin cfg0.N) (q : Fin 1024) : iblk m c 7 t (ix2 0 q) = (args m c).g2 (ix1 q) := by
  blk_point [iblk, V, idx t]
theorem g1_at (c : Dev nD) (t : Fin cfg0.N) (q : Fin 1024) : iblk m c 8 t (ix2 0 q) = (args m c).g1 (ix1 q) := by
  blk_point [iblk, V, idx t]
theorem up_host (c : Dev nD) (r : Fin 4096) (f : Fin 4096) : V m c (Pipeline.arrRef spec0 1) (ix2 r f) = up (args m c) r f := by
  unfold up rn ms row args
  show V m c main_v15 (ix2 r f) = _
  entry_read
  pointwise

theorem W_host (c : Dev nD) (j : Fin 4) (q k : Fin 1024) :
    V m c (Pipeline.arrRef spec0 3) (ix3 j q k) = (args m c).w2 (ix2 ⟨j.val * 1024 + q.val, by omega⟩ k) := by
  show V m c main_v20 (ix3 j q k) = _
  entry_read
  pointwise

theorem W_at (c : Dev nD) (t : Fin cfg0.N) (j : Fin 4) (q k : Fin 1024) :
    iblk m c 3 t (ix3 j q k) = (args m c).w2 (ix2 ⟨j.val * 1024 + q.val, by omega⟩ k) := by
  have e : (win0_3.blk t).view.emb (ix3 j q k) = ix3 j q k := by
    funext a
    apply Fin.ext
    fin_cases a <;> blk_simp [idx t] <;> rfl
  exact (congrArg (V m c (Pipeline.arrRef spec0 3)) e).trans (W_host m c j q k)

theorem up_at (c : Dev nD) (t : Fin cfg0.N) (p : Fin 256) (f : Fin 4096) : iblk m c 1 t (ix2 p f) = up (args m c) (R t p) f := by
  have e : (win0_1.blk t).view.emb (ix2 p f) = ix2 (R t p) f := by
    funext a
    apply Fin.ext
    fin_cases a <;> blk_simp [idx t, R]
    · show t.val * 256 + p.val = 256 * t.val + p.val
      omega
    · rfl
  exact (congrArg (V m c (Pipeline.arrRef spec0 1)) e).trans (up_host m c (R t p) f)

/-- A quarter of the gradient of the products with the up weights. -/
def dfK (B : FVec Ideal S256x1024 .bf16) (W : FVec Ideal S1x1024x1024 .bf16) (U : FVec Ideal S256x1024 .f32) (p : Fin 256) (q : Fin 1024) : EReal :=
  (∑ k : Fin 1024, B (ix2 p k) * W (ix3 0 q k)) * (Ideal.ofBits .f32 0x40000000#32 * max (U (ix2 p q)) 0)

theorem pay3 (B : FVec Ideal S256x1024 .bf16) (W : FVec Ideal S1x1024x1024 .bf16) (U : FVec Ideal S256x1024 .f32) (p : Fin 256) (q : Fin 1024) :
    k0_pay3 (F := Ideal) B W U (ix2 p q) = dfK B W U p q := by
  pointwise [k0_pay3, k0_pay2, dfK]
  done
theorem pay5 (B : FVec Ideal S256x1024 .bf16) (W : FVec Ideal S1x1024x1024 .bf16) (U : FVec Ideal S256x1024 .f32) (p : Fin 256) (q : Fin 1024) :
    k0_pay5 (F := Ideal) B W U (ix2 p q) = dfK B W U p q := by
  pointwise [k0_pay5, k0_pay2, dfK]
  done
theorem pay6 (B : FVec Ideal S256x1024 .bf16) (W : FVec Ideal S1x1024x1024 .bf16) (U : FVec Ideal S256x1024 .f32) (p : Fin 256) (q : Fin 1024) :
    k0_pay6 (F := Ideal) (k0_pay2 B) W U (ix2 p q) = dfK B W U p q := by
  pointwise [k0_pay6, k0_pay2, dfK]
  done
theorem pay10 (B : FVec Ideal S256x1024 .bf16) (W : FVec Ideal S1x1024x1024 .bf16) (U : FVec Ideal S256x1024 .f32) (p : Fin 256) (q : Fin 1024) :
    k0_pay10 (F := Ideal) (k0_pay8 (k0_pay2 B) W) (k0_pay9 U) (ix2 p q) = dfK B W U p q := by
  pointwise [k0_pay10, k0_pay8, k0_pay9, k0_pay2, dfK]
  done

theorem B_at (c : Dev nD) (t : Fin cfg0.N) (p : Fin 256) (q : Fin 1024) : iblk m c 0 t (ix2 p q) = (args m c).df2 (ix2 (R t p) q) := by
  blk_point [iblk, V, idx t, R]

theorem W0_at (c : Dev nD) (t : Fin cfg0.N) (q k : Fin 1024) :
    View.ld (iblk m c 3 t) (Rect.unit ![0, 0, 0] ![1, 1024, 1024] inb_S4x1024x1024_S1x1024x1024_0_0_0) (ix3 0 q k) = (args m c).w2 (ix2 ⟨q.val, by omega⟩ k) := by
  refine Eq.trans (congrArg (iblk m c 3 t) (?_ : _ = ix3 0 q k)) ((W_at m c t 0 q k).trans (congrArg (fun f => (args m c).w2 (ix2 f k)) (Fin.ext ?_)))
  · funext a
    apply Fin.ext
    fin_cases a
    · rfl
    · show 0 + 1 * q.val = q.val
      omega
    · show 0 + 1 * k.val = k.val
      omega
  · show 0 * 1024 + q.val = q.val
    omega
theorem dfK0_at (c : Dev nD) (t : Fin cfg0.N) (p : Fin 256) (q : Fin 1024) :
    dfK (iblk m c 0 t) (View.ld (iblk m c 3 t) (Rect.unit ![0, 0, 0] ![1, 1024, 1024] inb_S4x1024x1024_S1x1024x1024_0_0_0)) (View.ld (iblk m c 1 t) (Rect.unit ![0, 0] ![256, 1024] inb_S256x4096_S256x1024_0_0)) p q = df (args m c) (R t p) ⟨q.val, by omega⟩ := by
  have e : View.ld (iblk m c 1 t) (Rect.unit ![0, 0] ![256, 1024] inb_S256x4096_S256x1024_0_0) (ix2 p q) = up (args m c) (R t p) ⟨q.val, by omega⟩ := by
    refine Eq.trans ?_ (up_at m c t p _)
    refine congrArg (iblk m c 1 t) ?_
    funext a
    apply Fin.ext
    fin_cases a
    · show 0 + 1 * p.val = p.val
      omega
    · show 0 + 1 * q.val = q.val
      omega
  unfold dfK df
  exact congrArg₂ (· * ·) (Finset.sum_congr rfl fun k _ => congrArg₂ (· * ·) (B_at m c t p k) (W0_at m c t q k))
    (congrArg (fun u => _ * max u 0) e)
theorem W1_at (c : Dev nD) (t : Fin cfg0.N) (q k : Fin 1024) :
    View.ld (iblk m c 3 t) (Rect.unit ![1, 0, 0] ![1, 1024, 1024] inb_S4x1024x1024_S1x1024x1024_1_0_0) (ix3 0 q k) = (args m c).w2 (ix2 ⟨1024 + q.val, by omega⟩ k) := by
  refine Eq.trans (congrArg (iblk m c 3 t) (?_ : _ = ix3 1 q k)) ((W_at m c t 1 q k).trans (congrArg (fun f => (args m c).w2 (ix2 f k)) (Fin.ext ?_)))
  · funext a
    apply Fin.ext
    fin_cases a
    · rfl
    · show 0 + 1 * q.val = q.val
      omega
    · show 0 + 1 * k.val = k.val
      omega
  · show 1 * 1024 + q.val = 1024 + q.val
    omega
theorem dfK1_at (c : Dev nD) (t : Fin cfg0.N) (p : Fin 256) (q : Fin 1024) :
    dfK (iblk m c 0 t) (View.ld (iblk m c 3 t) (Rect.unit ![1, 0, 0] ![1, 1024, 1024] inb_S4x1024x1024_S1x1024x1024_1_0_0)) (View.ld (iblk m c 1 t) (Rect.unit ![0, 1024] ![256, 1024] inb_S256x4096_S256x1024_0_1024)) p q = df (args m c) (R t p) ⟨1024 + q.val, by omega⟩ := by
  have e : View.ld (iblk m c 1 t) (Rect.unit ![0, 1024] ![256, 1024] inb_S256x4096_S256x1024_0_1024) (ix2 p q) = up (args m c) (R t p) ⟨1024 + q.val, by omega⟩ := by
    refine Eq.trans ?_ (up_at m c t p _)
    refine congrArg (iblk m c 1 t) ?_
    funext a
    apply Fin.ext
    fin_cases a
    · show 0 + 1 * p.val = p.val
      omega
    · show 1024 + 1 * q.val = 1024 + q.val
      omega
  unfold dfK df
  exact congrArg₂ (· * ·) (Finset.sum_congr rfl fun k _ => congrArg₂ (· * ·) (B_at m c t p k) (W1_at m c t q k))
    (congrArg (fun u => _ * max u 0) e)
theorem W2_at (c : Dev nD) (t : Fin cfg0.N) (q k : Fin 1024) :
    View.ld (iblk m c 3 t) (Rect.unit ![2, 0, 0] ![1, 1024, 1024] inb_S4x1024x1024_S1x1024x1024_2_0_0) (ix3 0 q k) = (args m c).w2 (ix2 ⟨2048 + q.val, by omega⟩ k) := by
  refine Eq.trans (congrArg (iblk m c 3 t) (?_ : _ = ix3 2 q k)) ((W_at m c t 2 q k).trans (congrArg (fun f => (args m c).w2 (ix2 f k)) (Fin.ext ?_)))
  · funext a
    apply Fin.ext
    fin_cases a
    · rfl
    · show 0 + 1 * q.val = q.val
      omega
    · show 0 + 1 * k.val = k.val
      omega
  · show 2 * 1024 + q.val = 2048 + q.val
    omega
theorem dfK2_at (c : Dev nD) (t : Fin cfg0.N) (p : Fin 256) (q : Fin 1024) :
    dfK (iblk m c 0 t) (View.ld (iblk m c 3 t) (Rect.unit ![2, 0, 0] ![1, 1024, 1024] inb_S4x1024x1024_S1x1024x1024_2_0_0)) (View.ld (iblk m c 1 t) (Rect.unit ![0, 2048] ![256, 1024] inb_S256x4096_S256x1024_0_2048)) p q = df (args m c) (R t p) ⟨2048 + q.val, by omega⟩ := by
  have e : View.ld (iblk m c 1 t) (Rect.unit ![0, 2048] ![256, 1024] inb_S256x4096_S256x1024_0_2048) (ix2 p q) = up (args m c) (R t p) ⟨2048 + q.val, by omega⟩ := by
    refine Eq.trans ?_ (up_at m c t p _)
    refine congrArg (iblk m c 1 t) ?_
    funext a
    apply Fin.ext
    fin_cases a
    · show 0 + 1 * p.val = p.val
      omega
    · show 2048 + 1 * q.val = 2048 + q.val
      omega
  unfold dfK df
  exact congrArg₂ (· * ·) (Finset.sum_congr rfl fun k _ => congrArg₂ (· * ·) (B_at m c t p k) (W2_at m c t q k))
    (congrArg (fun u => _ * max u 0) e)
theorem W3_at (c : Dev nD) (t : Fin cfg0.N) (q k : Fin 1024) :
    View.ld (iblk m c 3 t) (Rect.unit ![3, 0, 0] ![1, 1024, 1024] inb_S4x1024x1024_S1x1024x1024_3_0_0) (ix3 0 q k) = (args m c).w2 (ix2 ⟨3072 + q.val, by omega⟩ k) := by
  refine Eq.trans (congrArg (iblk m c 3 t) (?_ : _ = ix3 3 q k)) ((W_at m c t 3 q k).trans (congrArg (fun f => (args m c).w2 (ix2 f k)) (Fin.ext ?_)))
  · funext a
    apply Fin.ext
    fin_cases a
    · rfl
    · show 0 + 1 * q.val = q.val
      omega
    · show 0 + 1 * k.val = k.val
      omega
  · show 3 * 1024 + q.val = 3072 + q.val
    omega
theorem dfK3_at (c : Dev nD) (t : Fin cfg0.N) (p : Fin 256) (q : Fin 1024) :
    dfK (iblk m c 0 t) (View.ld (iblk m c 3 t) (Rect.unit ![3, 0, 0] ![1, 1024, 1024] inb_S4x1024x1024_S1x1024x1024_3_0_0)) (View.ld (iblk m c 1 t) (Rect.unit ![0, 3072] ![256, 1024] inb_S256x4096_S256x1024_0_3072)) p q = df (args m c) (R t p) ⟨3072 + q.val, by omega⟩ := by
  have e : View.ld (iblk m c 1 t) (Rect.unit ![0, 3072] ![256, 1024] inb_S256x4096_S256x1024_0_3072) (ix2 p q) = up (args m c) (R t p) ⟨3072 + q.val, by omega⟩ := by
    refine Eq.trans ?_ (up_at m c t p _)
    refine congrArg (iblk m c 1 t) ?_
    funext a
    apply Fin.ext
    fin_cases a
    · show 0 + 1 * p.val = p.val
      omega
    · show 3072 + 1 * q.val = 3072 + q.val
      omega
  unfold dfK df
  exact congrArg₂ (· * ·) (Finset.sum_congr rfl fun k _ => congrArg₂ (· * ·) (B_at m c t p k) (W3_at m c t q k))
    (congrArg (fun u => _ * max u 0) e)
/-- The first half of the tile's products with the up weights. -/
def P51 (c : Dev nD) (t : Fin cfg0.N) : FVec Ideal S256x1024 .f32 :=
  k0_pay7 (k0_pay2 (iblk m c 0 t))
    (k0_pay4 (iblk m c 0 t) (View.ld (iblk m c 3 t) (Rect.unit ![0, 0, 0] ![1, 1024, 1024] inb_S4x1024x1024_S1x1024x1024_0_0_0))
      (View.ld (iblk m c 1 t) (Rect.unit ![0, 0] ![256, 1024] inb_S256x4096_S256x1024_0_0))
      (View.ld (iblk m c 2 t) (Rect.unit ![0, 0, 0] ![1, 1024, 1024] inb_S4x1024x1024_S1x1024x1024_0_0_0)))
    (k0_pay5 (iblk m c 0 t) (View.ld (iblk m c 3 t) (Rect.unit ![1, 0, 0] ![1, 1024, 1024] inb_S4x1024x1024_S1x1024x1024_1_0_0))
      (View.ld (iblk m c 1 t) (Rect.unit ![0, 1024] ![256, 1024] inb_S256x4096_S256x1024_0_1024)))
    (View.ld (iblk m c 2 t) (Rect.unit ![1, 0, 0] ![1, 1024, 1024] inb_S4x1024x1024_S1x1024x1024_1_0_0))
    (View.ld (iblk m c 3 t) (Rect.unit ![2, 0, 0] ![1, 1024, 1024] inb_S4x1024x1024_S1x1024x1024_2_0_0))
    (View.ld (iblk m c 1 t) (Rect.unit ![0, 2048] ![256, 1024] inb_S256x4096_S256x1024_0_2048))
    (View.ld (iblk m c 2 t) (Rect.unit ![2, 0, 0] ![1, 1024, 1024] inb_S4x1024x1024_S1x1024x1024_2_0_0))
/-- The last quarter of the products with the down weights. -/
def P54 (c : Dev nD) (t : Fin cfg0.N) : FVec Ideal S256x1024 .f32 :=
  k0_pay8 (k0_pay2 (iblk m c 0 t)) (View.ld (iblk m c 3 t) (Rect.unit ![3, 0, 0] ![1, 1024, 1024] inb_S4x1024x1024_S1x1024x1024_3_0_0))
/-- The last quarter of twice the positive parts. -/
def P60 (c : Dev nD) (t : Fin cfg0.N) : FVec Ideal S256x1024 .f32 := k0_pay9 (View.ld (iblk m c 1 t) (Rect.unit ![0, 3072] ![256, 1024] inb_S256x4096_S256x1024_0_3072))
/-- The gradient of the normed rows of tile `t`. -/
def DN (c : Dev nD) (t : Fin cfg0.N) : FVec Ideal S256x1024 .f32 :=
  k0_pay11 (P51 m c t) (P54 m c t) (P60 m c t) (View.ld (iblk m c 2 t) (Rect.unit ![3, 0, 0] ![1, 1024, 1024] inb_S4x1024x1024_S1x1024x1024_3_0_0))
/-- The gradient of the layer's input, at the rows of tile `t`. -/
def DH (c : Dev nD) (t : Fin cfg0.N) : FVec Ideal S256x1024 .f32 :=
  k0_pay17 (k0_pay12 (iblk m c 4 t)) (k0_pay13 (iblk m c 4 t)) (iblk m c 5 t)
    (k0_pay15 (P51 m c t) (P54 m c t) (P60 m c t) (View.ld (iblk m c 2 t) (Rect.unit ![3, 0, 0] ![1, 1024, 1024] inb_S4x1024x1024_S1x1024x1024_3_0_0)) (iblk m c 7 t))
    (k0_pay16 (P51 m c t) (P54 m c t) (P60 m c t) (View.ld (iblk m c 2 t) (Rect.unit ![3, 0, 0] ![1, 1024, 1024] inb_S4x1024x1024_S1x1024x1024_3_0_0)) (iblk m c 4 t) (iblk m c 7 t))

theorem DN_at (c : Dev nD) (t : Fin cfg0.N) (p : Fin 256) (q : Fin 1024) : DN m c t (ix2 p q) = dn (args m c) (R t p) q := by
  unfold DN dn P51
  refine Eq.trans ?_ (Fin.sum_univ_tiles 4 1024 rfl _).symm
  refine Eq.trans ?_ (Fin.sum_univ_four _).symm
  pointwise [k0_pay11, k0_pay7, k0_pay4]
  refine congrArg₂ (· + ·) (congrArg₂ (· + ·) (congrArg₂ (· + ·) ?_ ?_) ?_) ?_
  · refine Finset.sum_congr rfl fun k _ => congrArg₂ (· * ·) ((pay3 _ _ _ p k).trans (dfK0_at m c t p k)) ?_
    blk_point [iblk, V, idx t]
  · refine Finset.sum_congr rfl fun k _ => congrArg₂ (· * ·) ((pay5 _ _ _ p k).trans (dfK1_at m c t p k)) ?_
    blk_point [iblk, V, idx t]
  · refine Finset.sum_congr rfl fun k _ => congrArg₂ (· * ·) ((pay6 _ _ _ p k).trans (dfK2_at m c t p k)) ?_
    blk_point [iblk, V, idx t]
  · refine Finset.sum_congr rfl fun k _ => congrArg₂ (· * ·) ((pay10 _ _ _ p k).trans (dfK3_at m c t p k)) ?_
    blk_point [iblk, V, idx t]

theorem dh_pay (A B C H X : FVec Ideal S256x1024 .f32) (W : FVec Ideal S1x1024x1024 .bf16) (G : FVec Ideal S1x1024 .f32) (p : Fin 256) (q : Fin 1024) :
    k0_pay17 (k0_pay12 X) (k0_pay13 X) H (k0_pay15 A B C W G) (k0_pay16 A B C W X G) (ix2 p q)
      = H (ix2 p q) + bwdK (fun k => X (ix2 p k)) (fun k => k0_pay11 A B C W (ix2 p k) * G (ix2 0 k)) q := by
  pointwise [k0_pay17, k0_pay16, k0_pay15, k0_pay13, k0_pay12, bwdK, ms, rn]
  done

theorem dy_pay (v76 : FVec Ideal S256x1 .f32) (v78 v86 v90 v96 Y : FVec Ideal S256x1024 .f32) (G : FVec Ideal S1x1024 .f32) (p : Fin 256) (q : Fin 1024) :
    k0_pay21 v76 v78 v86 v90 v96 Y G (ix2 p q)
      = bwdK (fun k => Y (ix2 p k)) (fun k => k0_pay17 v76 v78 v86 v90 v96 (ix2 p k) * G (ix2 0 k)) q := by
  pointwise [k0_pay21, k0_pay19, k0_pay18, bwdK, ms, rn]
  done

/-- What a tile's rows `X`, with gradients `D`, add to a row of the sums. -/
def S (D X : FVec Ideal S256x1024 .f32) (q : Fin 1024) : EReal :=
  ∑ p : Fin 256, X (ix2 p q) * rn (fun k => X (ix2 p k)) * D (ix2 p q)

theorem vec0_pay (A B C X : FVec Ideal S256x1024 .f32) (W : FVec Ideal S1x1024x1024 .bf16) (P : FVec Ideal S1x1024 .f32) (q : Fin 1024) :
    k0_pay14 A B C W X P (ix2 0 q) = P (ix2 0 q) + S (k0_pay11 A B C W) X q := by
  pointwise [k0_pay14, k0_pay13, k0_pay12, ms, rn, S]
  exact congrArg (_ + ·) (Finset.sum_congr rfl fun p _ => mul_comm _ _)

theorem vec1_pay (v76 : FVec Ideal S256x1 .f32) (v78 v86 v90 v96 Y : FVec Ideal S256x1024 .f32) (P : FVec Ideal S1x1024 .f32) (q : Fin 1024) :
    k0_pay20 v76 v78 v86 v90 v96 Y P (ix2 0 q) = P (ix2 0 q) + S (k0_pay17 v76 v78 v86 v90 v96) Y q := by
  pointwise [k0_pay20, k0_pay19, k0_pay18, ms, rn, S]
  exact congrArg (_ + ·) (Finset.sum_congr rfl fun p _ => mul_comm _ _)

theorem dh_out (c : Dev nD) (t : Fin cfg0.N) : (outsAt0 m c t.val t.isLt).2.1 = DH m c t := by
  by_cases h : t.val % 16 = 0
  · rw [outsAt0_A m c t h]
    funext y
    frame_out
    rfl
  · rw [outsAt0_B m c t h]
    funext y
    frame_out
    rfl

theorem dy_out (c : Dev nD) (t : Fin cfg0.N) (p : Fin 256) (q : Fin 1024) : (outsAt0 m c t.val t.isLt).2.2.1 (ix2 p q)
    = bwdK (fun k => iblk m c 6 t (ix2 p k)) (fun k => DH m c t (ix2 p k) * iblk m c 8 t (ix2 0 k)) q := by
  refine Eq.trans ?_ (dy_pay _ _ _ _ _ _ _ p q)
  by_cases h : t.val % 16 = 0
  · rw [outsAt0_A m c t h]
    frame_out
    rfl
  · rw [outsAt0_B m c t h]
    frame_out
    rfl

theorem df_out (c : Dev nD) (t : Fin cfg0.N) (p : Fin 256) (f : Fin 4096) : (outsAt0 m c t.val t.isLt).1 (ix2 p f) = df (args m c) (R t p) f := by
  by_cases h : t.val % 16 = 0
  · rw [outsAt0_A m c t h]
    frame_open
    frame_out
    canon_tiles x h
    · exact (congrArg _ (eq_ix2 x)).trans ((pay10 _ _ _ (x 0) (x 1)).trans ((dfK3_at m c t (x 0) (x 1)).trans
        (congrArg₂ (fun a b => df (args m c) (R t a) b) (Fin.ext h0.symm) (Fin.ext h1.symm))))
    · exact (congrArg _ (eq_ix2 x)).trans ((pay6 _ _ _ (x 0) (x 1)).trans ((dfK2_at m c t (x 0) (x 1)).trans
        (congrArg₂ (fun a b => df (args m c) (R t a) b) (Fin.ext h0.symm) (Fin.ext h1.symm))))
    · exact (congrArg _ (eq_ix2 x)).trans ((pay5 _ _ _ (x 0) (x 1)).trans ((dfK1_at m c t (x 0) (x 1)).trans
        (congrArg₂ (fun a b => df (args m c) (R t a) b) (Fin.ext h0.symm) (Fin.ext h1.symm))))
    · exact (congrArg _ (eq_ix2 x)).trans ((pay3 _ _ _ (x 0) (x 1)).trans ((dfK0_at m c t (x 0) (x 1)).trans
        (congrArg₂ (fun a b => df (args m c) (R t a) b) (Fin.ext h0.symm) (Fin.ext h1.symm))))
  · rw [outsAt0_B m c t h]
    frame_open
    frame_out
    canon_tiles x h
    · exact (congrArg _ (eq_ix2 x)).trans ((pay10 _ _ _ (x 0) (x 1)).trans ((dfK3_at m c t (x 0) (x 1)).trans
        (congrArg₂ (fun a b => df (args m c) (R t a) b) (Fin.ext h0.symm) (Fin.ext h1.symm))))
    · exact (congrArg _ (eq_ix2 x)).trans ((pay6 _ _ _ (x 0) (x 1)).trans ((dfK2_at m c t (x 0) (x 1)).trans
        (congrArg₂ (fun a b => df (args m c) (R t a) b) (Fin.ext h0.symm) (Fin.ext h1.symm))))
    · exact (congrArg _ (eq_ix2 x)).trans ((pay5 _ _ _ (x 0) (x 1)).trans ((dfK1_at m c t (x 0) (x 1)).trans
        (congrArg₂ (fun a b => df (args m c) (R t a) b) (Fin.ext h0.symm) (Fin.ext h1.symm))))
    · exact (congrArg _ (eq_ix2 x)).trans ((pay3 _ _ _ (x 0) (x 1)).trans ((dfK0_at m c t (x 0) (x 1)).trans
        (congrArg₂ (fun a b => df (args m c) (R t a) b) (Fin.ext h0.symm) (Fin.ext h1.symm))))

theorem vec_A (c : Dev nD) (t : Fin cfg0.N) (h : t.val % 16 = 0) (s : Fin 8) (q : Fin 1024) :
    (outsAt0 m c t.val t.isLt).2.2.2 (ix2 s q)
      = if s.val = 0 then S (DN m c t) (iblk m c 4 t) q else if s.val = 1 then S (DH m c t) (iblk m c 6 t) q else 0 := by
  rw [outsAt0_A m c t h]
  frame_open
  frame_out
  rw [← View.read_writes_junk_eq_canon (ms0_12 t).view]
  by_cases hs : s.val = 0
  · rw [if_pos hs]
    refine (read_row_ne _ _ _ _ _ s q (by omega)).trans ((read_row _ _ _ _ _ s q hs).trans ?_)
    refine (vec0_pay _ _ _ _ _ _ q).trans ((congrArg₂ (· + ·) ?_ rfl).trans (zero_add _))
    rw [View.readCov_fill _ _ _ _ _ (by decide)]
    pointwise [k0_pay1]
  · rw [if_neg hs]
    by_cases hs1 : s.val = 1
    · rw [if_pos hs1]
      refine (read_row _ _ _ _ _ s q hs1).trans ?_
      refine (vec1_pay _ _ _ _ _ _ _ q).trans ((congrArg₂ (· + ·) ?_ rfl).trans (zero_add _))
      refine (load_row_ne _ _ _ _ _ _ s q hs1 (by decide)).trans ?_
      pointwise [k0_pay1]
    · rw [if_neg hs1]
      refine (read_row_ne _ _ _ _ _ s q hs1).trans ((read_row_ne _ _ _ _ _ s q hs).trans ?_)
      rw [View.read_writes_junk_eq_canon, View.canon_cons_unit_lit _ _ _ (by decide)]
      pointwise [k0_pay1]

theorem vec_B (c : Dev nD) (t : Fin cfg0.N) (h : ¬ t.val % 16 = 0) (s : Fin 8) (q : Fin 1024) :
    (outsAt0 m c t.val t.isLt).2.2.2 (ix2 s q)
      = (outsAt0 m c (t.val - 1) (Nat.lt_of_le_of_lt (Nat.sub_le _ _) t.isLt)).2.2.2 (ix2 s q)
        + if s.val = 0 then S (DN m c t) (iblk m c 4 t) q else if s.val = 1 then S (DH m c t) (iblk m c 6 t) q else 0 := by
  rw [outsAt0_B m c t h]
  frame_open
  frame_out
  by_cases hs : s.val = 0
  · rw [if_pos hs]
    refine (read_row_ne _ _ _ _ _ s q (by omega)).trans ((read_row _ _ _ _ _ s q hs).trans ?_)
    refine (vec0_pay _ _ _ _ _ _ q).trans (congrArg₂ (· + ·) ?_ rfl)
    obtain rfl : s = 0 := Fin.ext hs
    exact congrArg (outsAt0 m c (t.val - 1) _).2.2.2 (by funext a; apply Fin.ext; fin_cases a; rfl; exact Nat.zero_add _ |>.trans (Nat.one_mul _))
  · rw [if_neg hs]
    by_cases hs1 : s.val = 1
    · rw [if_pos hs1]
      refine (read_row _ _ _ _ _ s q hs1).trans ?_
      refine (vec1_pay _ _ _ _ _ _ _ q).trans (congrArg₂ (· + ·) ?_ rfl)
      obtain rfl : s = 1 := Fin.ext hs1
      exact congrArg (outsAt0 m c (t.val - 1) _).2.2.2 (by funext a; apply Fin.ext; fin_cases a; rfl; exact Nat.zero_add _ |>.trans (Nat.one_mul _))
    · rw [if_neg hs1, add_zero]
      refine (read_row_ne _ _ _ _ _ s q hs1).trans ((read_row_ne _ _ _ _ _ s q hs).trans ?_)
      exact congrFun (Memref.IsWhole.read_unread _ _) _

/-- After tile `n` rows 0 and 1 hold the sums over the tiles so far, and the other rows zero. -/
theorem vec_sum (c : Dev nD) (s : Fin 8) (q : Fin 1024) : ∀ (n : ℕ) (h : n < cfg0.N), (outsAt0 m c n h).2.2.2 (ix2 s q)
    = if s.val = 0 then ∑ t : Fin (n + 1), S (DN m c ⟨t.val, by omega⟩) (iblk m c 4 ⟨t.val, by omega⟩) q
      else if s.val = 1 then ∑ t : Fin (n + 1), S (DH m c ⟨t.val, by omega⟩) (iblk m c 6 ⟨t.val, by omega⟩) q else 0
  | 0, h => by
    rw [vec_A m c ⟨0, h⟩ rfl s q, Fin.sum_univ_one, Fin.sum_univ_one]; rfl
  | n + 1, h => by
    have h8 : n + 1 < 16 := h
    rw [vec_B m c ⟨n + 1, h⟩ (by show ¬ (n + 1) % 16 = 0; omega) s q]
    refine (congrArg (· + _) (vec_sum c s q n (by omega))).trans ?_
    split_ifs
    · exact (Fin.sum_univ_castSucc (fun t : Fin (n + 1 + 1) => S (DN m c ⟨t.val, by omega⟩) (iblk m c 4 ⟨t.val, by omega⟩) q)).symm
    · exact (Fin.sum_univ_castSucc (fun t : Fin (n + 1 + 1) => S (DH m c ⟨t.val, by omega⟩) (iblk m c 6 ⟨t.val, by omega⟩) q)).symm
    · exact add_zero _

/-- Every argument is an array of real numbers. -/
structure Real (a : Args) : Prop where
  h1 : ∀ i, IsReal (a.h1 i)
  y : ∀ i, IsReal (a.y i)
  df2 : ∀ i, IsReal (a.df2 i)
  dout : ∀ i, IsReal (a.dout i)
  g1 : ∀ i, IsReal (a.g1 i)
  g2 : ∀ i, IsReal (a.g2 i)
  w1 : ∀ i, IsReal (a.w1 i)
  w2 : ∀ i, IsReal (a.w2 i)

theorem two_real : IsReal (Ideal.ofBits .f32 0x40000000#32) :=
  ⟨2, by simp [Ideal.ofBits, Ideal.ieee, -EReal.coe_mul]; norm_num⟩

theorem dn_real {a : Args} (ha : Real a) (r : Fin 4096) (k : Fin 1024) : IsReal (dn a r k) :=
  IsReal.sum _ fun f _ => ((IsReal.sum _ fun l _ => (ha.df2 _).mul (ha.w2 _)).mul (two_real.mul (IsReal.max
    (IsReal.sum _ fun l _ => (((ha.h1 _).mul (rn_real fun _ => ha.h1 _)).mul (ha.g2 _)).mul (ha.w1 _)) IsReal.zero))).mul (ha.w1 _)

/-- The kernel's form of the gradient of the layer's input. -/
theorem dh_eq {a : Args} (ha : Real a) (r : Fin 4096) (k : Fin 1024) :
    a.dout (ix2 r k) + bwdK (row a.h1 r) (fun k => dn a r k * a.g2 (ix1 k)) k = dh a r k :=
  congrArg (_ + ·) (bwd_eq (fun _ => ha.h1 _) (fun _ => (dn_real ha r _).mul (ha.g2 _)) k)

theorem dh_real {a : Args} (ha : Real a) (r : Fin 4096) (k : Fin 1024) : IsReal (dh a r k) := by
  rw [← dh_eq ha]
  exact (ha.dout _).add (bwdK_real (fun _ => ha.h1 _) (fun _ => (dn_real ha r _).mul (ha.g2 _)) k)

theorem DH_at (c : Dev nD) (ha : Real (args m c)) (t : Fin cfg0.N) (p : Fin 256) (q : Fin 1024) : DH m c t (ix2 p q) = dh (args m c) (R t p) q := by
  refine (dh_pay _ _ _ _ _ _ _ p q).trans (Eq.trans ?_ (dh_eq ha _ q))
  refine congrArg₂ (· + ·) (o_at m c t p q) ?_
  exact congrArg₂ (fun a b => bwdK a b q) (funext fun k => h_at m c t p k)
    (funext fun k => congrArg₂ (· * ·) (DN_at m c t p k) (g2_at m c t k))

theorem S0_eq (c : Dev nD) (t : Fin cfg0.N) (q : Fin 1024) : S (DN m c t) (iblk m c 4 t) q
    = ∑ p : Fin 256, row (args m c).h1 (R t p) q * rn (row (args m c).h1 (R t p)) * dn (args m c) (R t p) q := by
  unfold S
  simp only [DN_at]
  have e : ∀ p k, (iblk m c 4 t : FVec Ideal S256x1024 .f32) (ix2 p k) = row (args m c).h1 (R t p) k := fun p k => h_at m c t p k
  simp only [e]

theorem S1_eq (c : Dev nD) (ha : Real (args m c)) (t : Fin cfg0.N) (q : Fin 1024) : S (DH m c t) (iblk m c 6 t) q
    = ∑ p : Fin 256, row (args m c).y (R t p) q * rn (row (args m c).y (R t p)) * dh (args m c) (R t p) q := by
  unfold S
  simp only [DH_at m c ha]
  have e : ∀ p k, (iblk m c 6 t : FVec Ideal S256x1024 .f32) (ix2 p k) = row (args m c).y (R t p) k := fun p k => y_at m c t p k
  simp only [e]

open Cert.ReferenceFfnIdeal.Read (val_main_v98 val_main_v99 val_main_v101 val_main_v106)

theorem final12 (c : Dev nD) (ha : Real (args m c)) : (dats m 0 c).arrAt 12 (cfgs 0).N
    = val_main_v106 (F := Ideal) (args m c).h1 (args m c).y (args m c).df2 (args m c).dout (args m c).g2 (args m c).w1 (args m c).w2 := by
  refine (dats m 0 c).arrAt_eq_of_after_last 12 ⟨15, by decide⟩ (by decide +kernel) _ fun j => ?_
  rw [after0_12]
  obtain ⟨s, q, rfl⟩ : ∃ (s : Fin 8) (q : Fin 1024), j = ix2 s q := ⟨j 0, j 1, eq_ix2 j⟩
  refine (vec_sum m c s q 15 (by decide)).trans ?_
  refine Eq.trans ?_ (Cert.ReferenceFfnIdeal.Rows.vec_at (args m c) s q).symm
  have e : ∀ (t : Fin cfg0.N) p, R t p = ⟨t.val * 256 + p.val, by have h : t.val < 16 := t.isLt; omega⟩ := fun t p => Fin.ext (by simp [R, Nat.mul_comm])
  refine if_congr Iff.rfl ?_ (if_congr Iff.rfl ?_ rfl)
  · refine Eq.trans ?_ (Fin.sum_univ_tiles 16 256 rfl _).symm
    refine Finset.sum_congr rfl fun t _ => (S0_eq m c t q).trans (Finset.sum_congr rfl fun p _ => ?_)
    exact congrArg (fun r => row (args m c).h1 r q * rn (row (args m c).h1 r) * dn (args m c) r q) (e t p)
  · refine Eq.trans ?_ (Fin.sum_univ_tiles 16 256 rfl _).symm
    refine Finset.sum_congr rfl fun t _ => (S1_eq m c ha t q).trans (Finset.sum_congr rfl fun p _ => ?_)
    exact congrArg (fun r => row (args m c).y r q * rn (row (args m c).y r) * dh (args m c) r q) (e t p)

theorem final9 (c : Dev nD) : (dats m 0 c).arrAt 9 (cfgs 0).N
    = val_main_v98 (F := Ideal) (args m c).h1 (args m c).df2 (args m c).g2 (args m c).w1 (args m c).w2 := by
  refine (dats m 0 c).arrAt_eq_of_covers 9 _ (by decide +kernel) fun t hf y => ?_
  blk_simp
  rw [after0_9]
  obtain ⟨p, q, rfl⟩ : ∃ (p : Fin 256) (q : Fin 4096), y = ix2 p q := ⟨y 0, y 1, eq_ix2 y⟩
  have e : (win0_9.blk t).view.emb (ix2 p q) = ix2 (R t p) q := by
    funext a; apply Fin.ext; fin_cases a <;> blk_simp [idx t, R]
    · show t.val * 256 + p.val = 256 * t.val + p.val
      omega
    · rfl
  refine Eq.trans ?_ (congrArg _ e).symm
  exact (df_out m c t p q).trans (Cert.ReferenceFfnIdeal.Rows.df1_at (args m c) (R t p) q).symm

theorem final10 (c : Dev nD) (ha : Real (args m c)) : (dats m 0 c).arrAt 10 (cfgs 0).N
    = val_main_v99 (F := Ideal) (args m c).h1 (args m c).df2 (args m c).dout (args m c).g2 (args m c).w1 (args m c).w2 := by
  refine (dats m 0 c).arrAt_eq_of_covers 10 _ (by decide +kernel) fun t hf y => ?_
  blk_simp
  rw [after0_10, dh_out]
  obtain ⟨p, q, rfl⟩ : ∃ (p : Fin 256) (q : Fin 1024), y = ix2 p q := ⟨y 0, y 1, eq_ix2 y⟩
  have e : (win0_10.blk t).view.emb (ix2 p q) = ix2 (R t p) q := by
    funext a; apply Fin.ext; fin_cases a <;> blk_simp [idx t, R]
    · show t.val * 256 + p.val = 256 * t.val + p.val
      omega
    · rfl
  refine Eq.trans ?_ (congrArg _ e).symm
  exact (DH_at m c ha t p q).trans (Cert.ReferenceFfnIdeal.Rows.dh1_at (args m c) (R t p) q).symm

theorem final11 (c : Dev nD) (ha : Real (args m c)) : (dats m 0 c).arrAt 11 (cfgs 0).N
    = val_main_v101 (F := Ideal) (args m c).h1 (args m c).y (args m c).df2 (args m c).dout (args m c).g1 (args m c).g2 (args m c).w1 (args m c).w2 := by
  refine (dats m 0 c).arrAt_eq_of_covers 11 _ (by decide +kernel) fun t hf y => ?_
  blk_simp
  rw [after0_11]
  obtain ⟨p, q, rfl⟩ : ∃ (p : Fin 256) (q : Fin 1024), y = ix2 p q := ⟨y 0, y 1, eq_ix2 y⟩
  have e : (win0_11.blk t).view.emb (ix2 p q) = ix2 (R t p) q := by
    funext a; apply Fin.ext; fin_cases a <;> blk_simp [idx t, R]
    · show t.val * 256 + p.val = 256 * t.val + p.val
      omega
    · rfl
  refine Eq.trans ?_ (congrArg _ e).symm
  refine (dy_out m c t p q).trans (Eq.trans ?_ (Cert.ReferenceFfnIdeal.Rows.dy_at (args m c) (R t p) q).symm)
  refine Eq.trans ?_ (bwd_eq (fun _ => ha.y _) (fun k => (dh_real ha _ k).mul (ha.g1 _)) q)
  exact congrArg₂ (fun a b => bwdK a b q) (funext fun k => y_at m c t p k)
    (funext fun k => congrArg₂ (· * ·) (DH_at m c ha t p k) (g1_at m c t k))

end Cert.KernelFfnIdeal.Value

namespace Cert.Proof

instance finite_ffn : Cert.Pre_finite_ffn.Facts := ⟨by decide, by decide, by decide⟩

theorem algebraic_Ffn : Cert.algebraic_KernelFfnIdeal_ReferenceFfnIdeal_pre_finite_ffn := by
  intro m ρ m' ρ' hpre hagree
  have ha : ∀ c, Cert.KernelFfnIdeal.Value.Real (Cert.KernelFfnIdeal.Value.args m c) := fun c =>
    ⟨fun i => isReal_of_test (congrFun (hpre c).1 i), fun i => isReal_of_test (congrFun (hpre c).2.1 i),
     fun i => isReal_of_test (congrFun (hpre c).2.2.1 i), fun i => isReal_of_test (congrFun (hpre c).2.2.2.1 i),
     fun i => isReal_of_test (congrFun (hpre c).2.2.2.2.1 i), fun i => isReal_of_test (congrFun (hpre c).2.2.2.2.2.1 i),
     fun i => isReal_of_test (congrFun (hpre c).2.2.2.2.2.2.1 i), fun i => isReal_of_test (congrFun (hpre c).2.2.2.2.2.2.2 i)⟩
  refine ⟨_, _, _, _, (θ_run Cert.KernelFfnIdeal.defs _ _).mono (fun _ h c => ⟨(h c).1.trans (Cert.KernelFfnIdeal.Value.final9 m c),
      (h c).2.1.trans (Cert.KernelFfnIdeal.Value.final10 m c (ha c)), (h c).2.2.1.trans (Cert.KernelFfnIdeal.Value.final11 m c (ha c)),
      (h c).2.2.2.1.trans (Cert.KernelFfnIdeal.Value.final12 m c (ha c)), (h c).2.2.2.2⟩)
    (Cert.KernelFfnIdeal.Value.run_blocks (F := Ideal) m ρ), ?_⟩
  refine (θ_run Cert.ReferenceFfnIdeal.defs _ _).mono (fun _ h c => ⟨(h c).1.trans ?_, (h c).2.1.trans ?_, (h c).2.2.1.trans ?_, (h c).2.2.2.1.trans ?_, (h c).2.2.2.2⟩)
    (Cert.ReferenceFfnIdeal.Value.run (F := Ideal) m' ρ')
  all_goals
    obtain ⟨a0, a1, a2, a3, a4, a5, a6, a7⟩ := hagree c
    simp only [Cert.KernelFfnIdeal.Value.args]
  · rw [← a0, ← a2, ← a5, ← a6, ← a7]
    exact Cert.ReferenceFfnIdeal.Read.val_main_v98_eq _ _ _ _ _
  · rw [← a0, ← a2, ← a3, ← a5, ← a6, ← a7]
    exact Cert.ReferenceFfnIdeal.Read.val_main_v99_eq m' c
  · rw [← a0, ← a1, ← a2, ← a3, ← a4, ← a5, ← a6, ← a7]
    exact Cert.ReferenceFfnIdeal.Read.val_main_v101_eq m' c
  · rw [← a0, ← a1, ← a2, ← a3, ← a5, ← a6, ← a7]
    exact Cert.ReferenceFfnIdeal.Read.val_main_v106_eq m' c

theorem frame_ReferenceFfn : Cert.quiescent_ReferenceFfnIdeal := fun m ρ _ =>
  (θ_run Cert.ReferenceFfnIdeal.defs _ _).mono (fun r h => ⟨fun c => (h c).2.2.2.2, Idealize.ShloMosaic.sem_eq_zero_of_no_sems (by decide) r.2⟩)
    (Cert.ReferenceFfnIdeal.Value.run (F := Ideal) m ρ)

end Cert.Proof
end
-- ==== Proof.DxRef.lean ====
/- # The gradient of the input: what the reference computes, entry by entry -/
module

public import proofs.«01_k».proof.Proof.Rows
public import proofs.«01_k».proof.Proof.Gen.ReferenceDxIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceDxIdeal.Rows
open Cert.ReferenceDxIdeal Cert.ReferenceDxIdeal.Gen Cert.ReferenceDxIdeal.Read Cert.Rows

variable (x0 : FVec Ideal S4096x5120 .f32) (x1 x2 : FVec Ideal S4096x1024 .f32) (x3 : FVec Ideal S1024 .f32) (x4 : FVec Ideal S1024x5120 .f32)

/-- Row `r` of an array of 4096 rows. -/
abbrev row (x : FVec Ideal S4096x1024 .f32) (r : Fin 4096) : Fin 1024 → EReal := fun k => x (ix2 r k)
/-- The gradient of the normed row `r`: that of the projection times the transposed weights. -/
def dn (r : Fin 4096) : Fin 1024 → EReal := fun k => ∑ l : Fin 5120, x0 (ix2 r l) * x4 (ix2 k l)

theorem ms_at (r : Fin 4096) : val_main_v7 (F := Ideal) x1 (ix3 0 r 0) = ms (row x1 r) := by
  pointwise [val_main_v7, val_main_v6, val_main_v5, val_main_v4, val_main_v3, val_main_v2, val_main_v1, val_main_v0, val_main_cst, val_main_cst_0, val_main_cst_1, ms]
  done

theorem dn_at (r : Fin 4096) (k : Fin 1024) : val_main_v21 (F := Ideal) x0 x4 (ix3 0 r k) = dn x0 x4 r k := by
  pointwise [val_main_v21, val_main_v18, dn]
  done

theorem co_at (r : Fin 4096) : val_main_v36 (F := Ideal) x0 x1 x3 x4 (ix1 r) = co (row x1 r) (fun k => dn x0 x4 r k * x3 (ix1 k)) := by
  unfold val_main_v36
  refine (sum_first_last _ _ _ r).trans ?_
  pointwise [val_main_v35, val_main_v34, val_main_v33, val_main_v30, val_main_v29, val_main_v28, val_main_v26, val_main_v25, val_main_v14, val_main_v11, val_main_v10, val_main_v9, val_main_v8, val_main_v0, val_main_cst_2, val_main_cst_5, val_main_cst_6, val_main_cst_7, co, rn, dn_at, ms_at]
  done

theorem gx_at (r : Fin 4096) (k : Fin 1024) : val_main_v44 (F := Ideal) x0 x1 x2 x3 x4 (ix2 r k)
    = x2 (ix2 r k) + bwdR (row x1 r) (fun k => dn x0 x4 r k * x3 (ix1 k)) k := by
  pointwise [val_main_v44, val_main_v43, val_main_v42, val_main_v41, val_main_v40, val_main_v39, val_main_v38, val_main_v37, val_main_v32, val_main_v31, val_main_v26, val_main_v25, val_main_v14, val_main_v8, val_main_v0, bwdR, rn, co_at, dn_at, ms_at]
  done

theorem dg_at (k : Fin 1024) : val_main_v27 (F := Ideal) x0 x1 x4 (ix1 k) = ∑ r : Fin 4096, row x1 r k * rn (row x1 r) * dn x0 x4 r k := by
  unfold val_main_v27
  refine (sum_first_two _ _ _ k).trans ?_
  pointwise [val_main_v24, val_main_v23, val_main_v22, val_main_v13, val_main_v12, val_main_v8, val_main_v0, val_main_cst_3, val_main_cst_4, rn, dn_at, ms_at]
  done

theorem vec_at (s : Fin 8) (k : Fin 1024) : val_main_v47 (F := Ideal) x0 x1 x4 (ix2 s k)
    = if s.val = 0 then ∑ r : Fin 4096, row x1 r k * rn (row x1 r) * dn x0 x4 r k else 0 := by
  pointwise [val_main_v47, val_main_v46, val_main_v45, dg_at, val_main_cst_8]
  simp only [Nat.lt_one_iff, dite_eq_ite]

end Cert.ReferenceDxIdeal.Rows
end
-- ==== Proof.Dx.lean ====
/- # The gradient of the input: the kernel's blocks are the reference's rows -/
module

public import proofs.«01_k».proof.Defs
public import proofs.«01_k».proof.Proof.DxRef
public import proofs.«01_k».proof.Proof.Vec
public import proofs.«01_k».proof.Proof.Gen.KernelDxIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Rows

namespace Cert.KernelDxIdeal.Value

open Cert.KernelDxIdeal Cert.KernelDxIdeal.Gen Cert.Rows
open Cert.ReferenceDxIdeal.Rows (row dn)

variable (m : (ℓ : Loc nD τ sig) → Buf (Elt Ideal) ℓ)

theorem idx : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_6.index t = ![t.val, 0] ∧ win0_7.index t = ![0, 0] :=
  (by decide +kernel : ∀ t : Fin grid0.N, _)

/-- Row `p` of tile `t`, among all rows. -/
def R (t : Fin cfg0.N) (p : Fin 512) : Fin 4096 := ⟨512 * t.val + p.val, by have h : t.val < 8 := t.isLt; omega⟩

theorem x_at (c : Dev nD) (t : Fin cfg0.N) (p : Fin 512) (q : Fin 1024) :
    iblk m c 2 t (ix2 p q) = m ((c : Thread nD τ).loc main_arg1) (ix2 (R t p) q) := by
  blk_point [iblk, V, idx t, R]
theorem h_at (c : Dev nD) (t : Fin cfg0.N) (p : Fin 512) (q : Fin 1024) :
    iblk m c 3 t (ix2 p q) = m ((c : Thread nD τ).loc main_arg2) (ix2 (R t p) q) := by
  blk_point [iblk, V, idx t, R]
theorem g_at (c : Dev nD) (t : Fin cfg0.N) (q : Fin 1024) :
    iblk m c 4 t (ix2 0 q) = m ((c : Thread nD τ).loc main_arg3) (ix1 q) := by
  blk_point [iblk, V, idx t]

/-- The gradient of the normed rows of tile `t`: four partial products. -/
def DX (c : Dev nD) (t : Fin cfg0.N) : FVec Ideal S512x1024 .f32 :=
  k0_pay6 (View.ld (iblk m c 0 t) (Rect.unit ![0, 0] ![512, 1280] inb_S512x5120_S512x1280_0_0))
    (View.ld (iblk m c 1 t) (Rect.unit ![0, 0, 0] ![1, 1024, 1280] inb_S4x1024x1280_S1x1024x1280_0_0_0))
    (View.ld (iblk m c 0 t) (Rect.unit ![0, 1280] ![512, 1280] inb_S512x5120_S512x1280_0_1280))
    (View.ld (iblk m c 1 t) (Rect.unit ![1, 0, 0] ![1, 1024, 1280] inb_S4x1024x1280_S1x1024x1280_1_0_0))
    (View.ld (iblk m c 0 t) (Rect.unit ![0, 2560] ![512, 1280] inb_S512x5120_S512x1280_0_2560))
    (View.ld (iblk m c 1 t) (Rect.unit ![2, 0, 0] ![1, 1024, 1280] inb_S4x1024x1280_S1x1024x1280_2_0_0))
    (View.ld (iblk m c 0 t) (Rect.unit ![0, 3840] ![512, 1280] inb_S512x5120_S512x1280_0_3840))
    (View.ld (iblk m c 1 t) (Rect.unit ![3, 0, 0] ![1, 1024, 1280] inb_S4x1024x1280_S1x1024x1280_3_0_0))

theorem DX_at (c : Dev nD) (t : Fin cfg0.N) (p : Fin 512) (q : Fin 1024) :
    DX m c t (ix2 p q) = dn (m ((c : Thread nD τ).loc main_arg0)) (m ((c : Thread nD τ).loc main_arg4)) (R t p) q := by
  unfold DX dn
  refine Eq.trans ?_ (Fin.sum_univ_tiles 4 1280 rfl _).symm
  refine Eq.trans ?_ (Fin.sum_univ_four _).symm
  pointwise [k0_pay6]
  refine congrArg₂ (· + ·) (congrArg₂ (· + ·) (congrArg₂ (· + ·) ?_ ?_) ?_) ?_
  all_goals (refine Finset.sum_congr rfl fun k _ => ?_; blk_point [iblk, V, idx t, R])

theorem gx_pay (D X H : FVec Ideal S512x1024 .f32) (G : FVec Ideal S1x1024 .f32) (p : Fin 512) (q : Fin 1024) :
    k0_pay4 D X (k0_pay7 X) H G (ix2 p q)
      = H (ix2 p q) + bwdK (fun k => X (ix2 p k)) (fun k => D (ix2 p k) * G (ix2 0 k)) q := by
  pointwise [k0_pay4, k0_pay2, k0_pay1, k0_pay7, bwdK, ms, rn]
  done

theorem vec_pay (D X : FVec Ideal S512x1024 .f32) (P : FVec Ideal S1x1024 .f32) (q : Fin 1024) :
    k0_pay3 D X (k0_pay7 X) P (ix2 0 q)
      = P (ix2 0 q) + ∑ p : Fin 512, X (ix2 p q) * rn (fun k => X (ix2 p k)) * D (ix2 p q) := by
  pointwise [k0_pay3, k0_pay2, k0_pay1, k0_pay7, ms, rn]
  exact congrArg (_ + ·) (Finset.sum_congr rfl fun p _ => mul_comm _ _)

theorem gx_out (c : Dev nD) (t : Fin cfg0.N) :
    (outsAt0 m c t.val t.isLt).1 = k0_pay4 (DX m c t) (iblk m c 2 t) (k0_pay7 (iblk m c 2 t)) (iblk m c 3 t) (iblk m c 4 t) := by
  by_cases h : t.val % 8 = 0
  · rw [outsAt0_A m c t h]
    funext y
    frame_out
    rfl
  · rw [outsAt0_B m c t h]
    funext y
    frame_out
    rfl

/-- What the tile's rows `X`, with gradients `D`, add to row 0 of the sums. -/
def S (D X : FVec Ideal S512x1024 .f32) (q : Fin 1024) : EReal :=
  ∑ p : Fin 512, X (ix2 p q) * rn (fun k => X (ix2 p k)) * D (ix2 p q)

theorem vec_A (c : Dev nD) (t : Fin cfg0.N) (h : t.val % 8 = 0) (s : Fin 8) (q : Fin 1024) :
    (outsAt0 m c t.val t.isLt).2 (ix2 s q) = if s.val = 0 then S (DX m c t) (iblk m c 2 t) q else 0 := by
  rw [outsAt0_A m c t h]
  frame_open
  frame_out
  rw [← View.read_writes_junk_eq_canon (ms0_7 t).view]
  by_cases hs : s.val = 0
  · rw [if_pos hs]
    refine (read_row _ _ _ _ _ s q hs).trans ?_
    refine (vec_pay (DX m c t) (iblk m c 2 t) _ q).trans ((congrArg₂ (· + ·) ?_ rfl).trans (zero_add _))
    rw [View.readCov_fill _ _ _ _ _ (by decide)]
    pointwise [k0_pay5]
  · rw [if_neg hs]
    refine (read_row_ne _ _ _ _ _ s q hs).trans ?_
    rw [View.read_writes_junk_eq_canon, View.canon_cons_unit_lit _ _ _ (by decide)]
    pointwise [k0_pay5]
theorem vec_B (c : Dev nD) (t : Fin cfg0.N) (h : ¬ t.val % 8 = 0) (s : Fin 8) (q : Fin 1024) :
    (outsAt0 m c t.val t.isLt).2 (ix2 s q)
      = (outsAt0 m c (t.val - 1) (Nat.lt_of_le_of_lt (Nat.sub_le _ _) t.isLt)).2 (ix2 s q) + if s.val = 0 then S (DX m c t) (iblk m c 2 t) q else 0 := by
  rw [outsAt0_B m c t h]
  frame_open
  frame_out
  by_cases hs : s.val = 0
  · rw [if_pos hs]
    refine (read_row _ _ _ _ _ s q hs).trans ?_
    refine (vec_pay (DX m c t) (iblk m c 2 t) _ q).trans (congrArg₂ (· + ·) ?_ rfl)
    obtain rfl : s = 0 := Fin.ext hs
    exact congrArg (outsAt0 m c (t.val - 1) _).2 (by funext a; apply Fin.ext; fin_cases a; rfl; exact Nat.zero_add _ |>.trans (Nat.one_mul _))
  · rw [if_neg hs, add_zero]
    refine (read_row_ne _ _ _ _ _ s q hs).trans ?_
    exact congrFun (Memref.IsWhole.read_unread _ _) _

/-- After tile `n` row 0 holds the sum over the tiles so far, and the other rows zero. -/
theorem vec_sum (c : Dev nD) (s : Fin 8) (q : Fin 1024) : ∀ (n : ℕ) (h : n < cfg0.N), (outsAt0 m c n h).2 (ix2 s q)
    = if s.val = 0 then ∑ t : Fin (n + 1), S (DX m c ⟨t.val, by omega⟩) (iblk m c 2 ⟨t.val, by omega⟩) q else 0
  | 0, h => by
    rw [vec_A m c ⟨0, h⟩ rfl s q, Fin.sum_univ_one]; rfl
  | n + 1, h => by
    have h8 : n + 1 < 8 := h
    rw [vec_B m c ⟨n + 1, h⟩ (by show ¬ (n + 1) % 8 = 0; omega) s q, Fin.sum_univ_castSucc]
    refine (congrArg (· + _) (vec_sum c s q n (by omega))).trans ?_
    split_ifs
    · rfl
    · exact add_zero _

theorem S_eq (c : Dev nD) (t : Fin cfg0.N) (q : Fin 1024) : S (DX m c t) (iblk m c 2 t) q
    = ∑ p : Fin 512, row (m ((c : Thread nD τ).loc main_arg1)) (R t p) q * rn (row (m ((c : Thread nD τ).loc main_arg1)) (R t p))
        * dn (m ((c : Thread nD τ).loc main_arg0)) (m ((c : Thread nD τ).loc main_arg4)) (R t p) q := by
  unfold S
  simp only [DX_at]
  have e : ∀ p k, (iblk m c 2 t : FVec Ideal S512x1024 .f32) (ix2 p k) = row (m ((c : Thread nD τ).loc main_arg1)) (R t p) k := fun p k => x_at m c t p k
  simp only [e]

open Cert.ReferenceDxIdeal.Read (val_main_v44 val_main_v47)

theorem final7 (c : Dev nD) : (dats m 0 c).arrAt 7 (cfgs 0).N
    = val_main_v47 (F := Ideal) (m ((c : Thread nD τ).loc main_arg0)) (m ((c : Thread nD τ).loc main_arg1)) (m ((c : Thread nD τ).loc main_arg4)) := by
  refine (dats m 0 c).arrAt_eq_of_after_last 7 ⟨7, by decide⟩ (by decide +kernel) _ fun j => ?_
  rw [after0_7]
  obtain ⟨s, q, rfl⟩ : ∃ (s : Fin 8) (q : Fin 1024), j = ix2 s q := ⟨j 0, j 1, eq_ix2 j⟩
  refine (vec_sum m c s q 7 (by decide)).trans ?_
  refine Eq.trans ?_ (Cert.ReferenceDxIdeal.Rows.vec_at _ _ _ s q).symm
  refine if_congr Iff.rfl ?_ rfl
  refine Eq.trans ?_ (Fin.sum_univ_tiles 8 512 rfl _).symm
  refine Finset.sum_congr rfl fun t _ => (S_eq m c t q).trans ?_
  have e : ∀ p, R t p = ⟨t.val * 512 + p.val, by omega⟩ := fun p => Fin.ext (by simp [R, Nat.mul_comm])
  simp only [e]

theorem final6 (c : Dev nD) (h0 : ∀ i, IsReal (m ((c : Thread nD τ).loc main_arg0) i)) (h1 : ∀ i, IsReal (m ((c : Thread nD τ).loc main_arg1) i))
    (h3 : ∀ i, IsReal (m ((c : Thread nD τ).loc main_arg3) i)) (h4 : ∀ i, IsReal (m ((c : Thread nD τ).loc main_arg4) i)) :
    (dats m 0 c).arrAt 6 (cfgs 0).N = val_main_v44 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, gx_out]
  obtain ⟨p, q, rfl⟩ : ∃ (p : Fin 512) (q : Fin 1024), y = ix2 p q := ⟨y 0, y 1, eq_ix2 y⟩
  have e : (win0_6.blk t).view.emb (ix2 p q) = ix2 (R t p) q := by
    funext a; apply Fin.ext; fin_cases a <;> blk_simp [idx t, R]
    · show t.val * 512 + p.val = 512 * t.val + p.val
      omega
    · rfl
  refine Eq.trans ?_ (congrArg _ e).symm
  refine (gx_pay _ _ _ _ p q).trans (Eq.trans ?_ (Cert.ReferenceDxIdeal.Rows.gx_at _ _ _ _ _ (R t p) q).symm)
  refine congrArg₂ (· + ·) (h_at m c t p q) ?_
  refine Eq.trans ?_ (bwd_eq (fun k => h1 _) (fun k => (IsReal.sum _ fun l _ => (h0 _).mul (h4 _)).mul (h3 _)) q)
  exact congrArg₂ (fun a b => bwdK a b q) (funext fun k => x_at m c t p k)
    (funext fun k => congrArg₂ (· * ·) (DX_at m c t p k) (g_at m c t k))

end Cert.KernelDxIdeal.Value

namespace Cert.Proof

instance finite_dx : Cert.Pre_finite_dx.Facts := ⟨by decide, by decide, by decide, by decide⟩

theorem algebraic_Dx : Cert.algebraic_KernelDxIdeal_ReferenceDxIdeal_pre_finite_dx := by
  intro m ρ m' ρ' hpre hagree
  refine ⟨_, _, (θ_run Cert.KernelDxIdeal.defs _ _).mono (fun _ h c => ⟨(h c).1.trans (Cert.KernelDxIdeal.Value.final6 m c
      (fun i => isReal_of_test (congrFun (hpre c).1 i)) (fun i => isReal_of_test (congrFun (hpre c).2.1 i))
      (fun i => isReal_of_test (congrFun (hpre c).2.2.1 i)) (fun i => isReal_of_test (congrFun (hpre c).2.2.2 i))),
      (h c).2.1.trans (Cert.KernelDxIdeal.Value.final7 m c), (h c).2.2⟩)
    (Cert.KernelDxIdeal.Value.run_blocks (F := Ideal) m ρ), ?_⟩
  refine (θ_run Cert.ReferenceDxIdeal.defs _ _).mono (fun _ h c => ⟨(h c).1.trans ?_, (h c).2.1.trans ?_, (h c).2.2⟩)
    (Cert.ReferenceDxIdeal.Value.run (F := Ideal) m' ρ')
  · rw [← (hagree c).1, ← (hagree c).2.1, ← (hagree c).2.2.1, ← (hagree c).2.2.2.1, ← (hagree c).2.2.2.2]
    exact Cert.ReferenceDxIdeal.Read.val_main_v44_eq m' c
  · rw [← (hagree c).1, ← (hagree c).2.1, ← (hagree c).2.2.2.2]
    exact Cert.ReferenceDxIdeal.Read.val_main_v47_eq _ _ _

theorem frame_ReferenceDx : Cert.quiescent_ReferenceDxIdeal := fun m ρ _ =>
  (θ_run Cert.ReferenceDxIdeal.defs _ _).mono (fun r h => ⟨fun c => (h c).2.2, Idealize.ShloMosaic.sem_eq_zero_of_no_sems (by decide) r.2⟩)
    (Cert.ReferenceDxIdeal.Value.run (F := Ideal) m ρ)

end Cert.Proof
end
-- ==== Proof.FwdRef.lean ====
/- # The squared-ReLU layer and the loss: what the reference computes, entry by entry -/
module

public import proofs.«01_k».proof.Proof.Rows
public import proofs.«01_k».proof.Proof.Gen.ReferenceFwdIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceFwdIdeal.Rows
open Cert.ReferenceFwdIdeal Cert.ReferenceFwdIdeal.Gen Cert.ReferenceFwdIdeal.Read Cert.Rows

/-- The arguments: the layer's input `h1`, its gain `g`, the weights up and down, the last gain `gp` and the target `tg`. -/
structure Args where
  h1 : FVec Ideal S4096x1024 .f32
  g : FVec Ideal S1024 .f32
  w1 : FVec Ideal S1024x4096 .f32
  w2 : FVec Ideal S4096x1024 .f32
  gp : FVec Ideal S1024 .f32
  tg : FVec Ideal S4096x1024 .f32

/-- Row `r` of an array of 4096 rows. -/
abbrev row (x : FVec Ideal S4096x1024 .f32) (r : Fin 4096) : Fin 1024 → EReal := fun k => x (ix2 r k)

variable (a : Args)

/-- The normed row. -/
def hn (r : Fin 4096) : Fin 1024 → EReal := fun k => row a.h1 r k * rn (row a.h1 r) * a.g (ix1 k)
/-- The hidden row, before the squared ReLU. -/
def up (r : Fin 4096) (f : Fin 4096) : EReal := ∑ k : Fin 1024, hn a r k * a.w1 (ix2 k f)
/-- The hidden row. -/
def act (r : Fin 4096) (f : Fin 4096) : EReal := max (up a r f) 0 * max (up a r f) 0
/-- The layer's row. -/
def f2 (r : Fin 4096) : Fin 1024 → EReal := fun k => ∑ f : Fin 4096, act a r f * a.w2 (ix2 f k)
/-- What the result misses the target by. -/
def err (r : Fin 4096) : Fin 1024 → EReal := fun k => row a.h1 r k + f2 a r k * rn (f2 a r) * a.gp (ix1 k) - a.tg (ix2 r k)
/-- The gradient of the result, as the reference scales it. -/
def dout (r : Fin 4096) : Fin 1024 → EReal := fun k =>
  Ideal.div (Ideal.ofBits .f32 0x3F000000#32 * Ideal.ofBits .f32 0x3F800000#32) cD * (Ideal.ofBits .f32 0x40000000#32 * err a r k)
/-- The gradient of the layer's row. -/
def df2 (r : Fin 4096) : Fin 1024 → EReal := bwdR (f2 a r) (fun k => dout a r k * a.gp (ix1 k))
/-- The loss of a row. -/
def lossRow (r : Fin 4096) : EReal := Ideal.div (∑ k : Fin 1024, err a r k * err a r k) cD

theorem ms_at (r : Fin 4096) : val_main_v7 (F := Ideal) a.h1 (ix3 0 r 0) = ms (row a.h1 r) := by
  pointwise [val_main_v7, val_main_v6, val_main_v5, val_main_v4, val_main_v3, val_main_v2, val_main_v1, val_main_v0, val_main_cst, val_main_cst_0, val_main_cst_1, ms]
  done

theorem hn_at (r : Fin 4096) (k : Fin 1024) : val_main_v13 (F := Ideal) a.h1 a.g (ix3 0 r k) = hn a r k := by
  pointwise [val_main_v13, val_main_v12, val_main_v11, val_main_v10, val_main_v9, val_main_v8, val_main_v0, hn, rn, ms_at]
  done

theorem up_at (r f : Fin 4096) : val_main_v14 (F := Ideal) a.h1 a.g a.w1 (ix3 0 r f) = up a r f := by
  pointwise [val_main_v14, up, hn_at]
  done

theorem act_at (r f : Fin 4096) : val_main_v16 (F := Ideal) a.h1 a.g a.w1 (ix3 0 r f) = act a r f := by
  pointwise [val_main_v16, val_main_v15, val_main_call0_v0, val_main_call0_cst, act, up_at]
  done

theorem f2_at (r : Fin 4096) (k : Fin 1024) : val_main_v17 (F := Ideal) a.h1 a.g a.w1 a.w2 (ix3 0 r k) = f2 a r k := by
  pointwise [val_main_v17, f2, act_at]
  done

theorem ms_at' (r : Fin 4096) : val_main_v26 (F := Ideal) a.h1 a.g a.w1 a.w2 (ix3 0 r 0) = ms (f2 a r) := by
  pointwise [val_main_v26, val_main_v25, val_main_v24, val_main_v23, val_main_v22, val_main_v21, val_main_v20, val_main_cst_2, val_main_cst_3, val_main_cst_4, ms, f2_at]
  done

theorem n2_at (r : Fin 4096) (k : Fin 1024) : val_main_v32 (F := Ideal) a.h1 a.g a.w1 a.w2 (ix3 0 r k) = f2 a r k * rn (f2 a r) := by
  pointwise [val_main_v32, val_main_v31, val_main_v27, rn, f2_at, ms_at']
  done

theorem err_at (r : Fin 4096) (k : Fin 1024) : val_main_v37 (F := Ideal) a.h1 a.g a.w1 a.w2 a.gp a.tg (ix3 0 r k) = err a r k := by
  pointwise [val_main_v37, val_main_v36, val_main_v35, val_main_v34, val_main_v33, val_main_v19, val_main_v18, err, n2_at]
  done

theorem dout_at (r : Fin 4096) (k : Fin 1024) : val_main_v51 (F := Ideal) a.h1 a.g a.w1 a.w2 a.gp a.tg (ix3 0 r k) = dout a r k := by
  pointwise [val_main_v51, val_main_v50, val_main_v49, val_main_v48, val_main_v47, val_main_v46, val_main_v40, val_main_v39, val_main_cst_6, val_main_cst_11, val_main_cst_12, val_main_cst_13, dout, err_at]
  done

theorem dg_at (r : Fin 4096) (k : Fin 1024) : val_main_v56 (F := Ideal) a.h1 a.g a.w1 a.w2 a.gp a.tg (ix3 0 r k) = dout a r k * a.gp (ix1 k) := by
  pointwise [val_main_v56, val_main_v55, val_main_v33, dout_at]
  done

theorem co_at (r : Fin 4096) : val_main_v66 (F := Ideal) a.h1 a.g a.w1 a.w2 a.gp a.tg (ix1 r) = co (f2 a r) (fun k => dout a r k * a.gp (ix1 k)) := by
  unfold val_main_v66
  refine (sum_first_last _ _ _ r).trans ?_
  pointwise [val_main_v65, val_main_v64, val_main_v63, val_main_v60, val_main_v59, val_main_v58, val_main_v30, val_main_v29, val_main_v28, val_main_v27, val_main_cst_5, val_main_cst_16, val_main_cst_17, val_main_cst_18, co, rn, f2_at, dg_at, ms_at']
  done

theorem df2_at (r : Fin 4096) (k : Fin 1024) : val_main_v83 (F := Ideal) a.h1 a.g a.w1 a.w2 a.gp a.tg (ix2 r k) = df2 a r k := by
  pointwise [val_main_v83, val_main_v82, val_main_v72, val_main_v71, val_main_v70, val_main_v69, val_main_v68, val_main_v67, val_main_v62, val_main_v61, val_main_v27, df2, bwdR, rn, co_at, f2_at, dg_at, ms_at']
  done

theorem hn1_at (r : Fin 4096) (k : Fin 1024) : val_main_v78 (F := Ideal) a.h1 a.g (ix2 r k) = hn a r k := by
  pointwise [val_main_v78, val_main_v77, hn_at]
  done

theorem up1_at (r f : Fin 4096) : val_main_v79 (F := Ideal) a.h1 a.g a.w1 (ix2 r f) = up a r f := by
  pointwise [val_main_v79, up_at]
  done

theorem act1_at (r f : Fin 4096) : val_main_v81 (F := Ideal) a.h1 a.g a.w1 (ix2 r f) = act a r f := by
  pointwise [val_main_v81, val_main_v80, act_at]
  done

theorem dout1_at (r : Fin 4096) (k : Fin 1024) : val_main_v84 (F := Ideal) a.h1 a.g a.w1 a.w2 a.gp a.tg (ix2 r k) = dout a r k := by
  pointwise [val_main_v84, dout_at]
  done

theorem lossRow_at (r : Fin 4096) : val_main_v43 (F := Ideal) a.h1 a.g a.w1 a.w2 a.gp a.tg (ix2 0 r) = lossRow a r := by
  pointwise [val_main_v43, val_main_v42, val_main_v41, val_main_v38, val_main_cst_7, val_main_cst_8, lossRow, err_at]
  done

theorem dgp_at (k : Fin 1024) : val_main_v57 (F := Ideal) a.h1 a.g a.w1 a.w2 a.gp a.tg (ix1 k) = ∑ r : Fin 4096, f2 a r k * rn (f2 a r) * dout a r k := by
  unfold val_main_v57
  refine (sum_first_two _ _ _ k).trans ?_
  pointwise [val_main_v54, val_main_v53, val_main_v52, val_main_cst_14, val_main_cst_15, n2_at, dout_at]
  done

theorem loss_at (i : S_.Idx) : val_main_v45 (F := Ideal) a.h1 a.g a.w1 a.w2 a.gp a.tg i = Ideal.ofBits .f32 0x3F000000#32 * ∑ r : Fin 4096, lossRow a r := by
  pointwise [val_main_v45, val_main_v44, val_main_cst_9, val_main_cst_10, lossRow_at]
  rw [Fin.sum_univ_one]
  exact congrArg (_ * ·) (Finset.sum_congr rfl fun r _ => lossRow_at a r)

theorem vec_at (s : Fin 8) (k : Fin 1024) : val_main_v86 (F := Ideal) a.h1 a.g a.w1 a.w2 a.gp a.tg (ix2 s k)
    = if s.val = 0 then ∑ r : Fin 4096, f2 a r k * rn (f2 a r) * dout a r k
      else if s.val = 1 then Ideal.ofBits .f32 0x3F000000#32 * ∑ r : Fin 4096, lossRow a r else 0 := by
  pointwise [val_main_v86, val_main_v85, val_main_v76, val_main_v75, val_main_v74, val_main_v73, dgp_at, loss_at, val_main_cst_19]
  simp only [Nat.lt_one_iff, dite_eq_ite]
  split_ifs <;> first | rfl | omega

end Cert.ReferenceFwdIdeal.Rows
end
-- ==== Proof.Fwd.lean ====
/- # The squared-ReLU layer and the loss: the kernel's blocks are the reference's rows

A tile is 256 rows. The hidden row is cut into four quarters of 1024 entries, with the columns of the up weights and the rows of the
down weights; the sums over tiles are kept in a buffer of eight rows, carried from one tile to the next. -/
module

public import proofs.«01_k».proof.Defs
public import proofs.«01_k».proof.Proof.FwdRef
public import proofs.«01_k».proof.Proof.Vec
public import proofs.«01_k».proof.Proof.Gen.KernelFwdIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Rows

namespace Cert.KernelFwdIdeal.Value

open Cert.KernelFwdIdeal Cert.KernelFwdIdeal.Gen Cert.Rows
open Cert.ReferenceFwdIdeal.Rows (Args row hn up act f2 err dout df2 lossRow)

variable (m : (ℓ : Loc nD τ sig) → Buf (Elt Ideal) ℓ)

/-- Which block of each operand a tile takes. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![0, 0] :=
  (by decide +kernel : ∀ t : Fin grid0.N, _)

/-- Row `p` of tile `t`, among all rows. -/
def R (t : Fin cfg0.N) (p : Fin 256) : Fin 4096 := ⟨256 * t.val + p.val, by have h : t.val < 16 := t.isLt; omega⟩

/-- The arguments of the program, as the reference's. -/
abbrev args (c : Dev nD) : Args where
  h1 := m ((c : Thread nD τ).loc main_arg0)
  g := m ((c : Thread nD τ).loc main_arg1)
  w1 := m ((c : Thread nD τ).loc main_arg2)
  w2 := m ((c : Thread nD τ).loc main_arg3)
  gp := m ((c : Thread nD τ).loc main_arg4)
  tg := m ((c : Thread nD τ).loc main_arg5)

/-! ## The blocks of the operands -/

theorem h_at (c : Dev nD) (t : Fin cfg0.N) (p : Fin 256) (q : Fin 1024) : iblk m c 0 t (ix2 p q) = row (args m c).h1 (R t p) q := by
  blk_point [iblk, V, idx t, R]
theorem t_at (c : Dev nD) (t : Fin cfg0.N) (p : Fin 256) (q : Fin 1024) : iblk m c 5 t (ix2 p q) = (args m c).tg (ix2 (R t p) q) := by
  blk_point [iblk, V, idx t, R]
theorem g_at (c : Dev nD) (t : Fin cfg0.N) (q : Fin 1024) : iblk m c 1 t (ix2 0 q) = (args m c).g (ix1 q) := by
  blk_point [iblk, V, idx t]
theorem gp_at (c : Dev nD) (t : Fin cfg0.N) (q : Fin 1024) : iblk m c 4 t (ix2 0 q) = (args m c).gp (ix1 q) := by
  blk_point [iblk, V, idx t]

theorem W_host (c : Dev nD) (j : Fin 4) (q k : Fin 1024) :
    V m c (Pipeline.arrRef spec0 3) (ix3 j q k) = (args m c).w2 (ix2 ⟨j.val * 1024 + q.val, by omega⟩ k) := by
  show V m c main_v4 (ix3 j q k) = _
  entry_read
  pointwise

/-- Quarter `j` of the down weights. -/
theorem W_at (c : Dev nD) (t : Fin cfg0.N) (j : Fin 4) (q k : Fin 1024) :
    iblk m c 3 t (ix3 j q k) = (args m c).w2 (ix2 ⟨j.val * 1024 + q.val, by omega⟩ k) := by
  have e : (win0_3.blk t).view.emb (ix3 j q k) = ix3 j q k := by
    funext a
    apply Fin.ext
    fin_cases a <;> blk_simp [idx t] <;> rfl
  exact (congrArg (V m c (Pipeline.arrRef spec0 3)) e).trans (W_host m c j q k)

theorem U_host (c : Dev nD) (j : Fin 4) (k q : Fin 1024) :
    V m c (Pipeline.arrRef spec0 2) (ix3 j k q) = (args m c).w1 (ix2 k ⟨j.val * 1024 + q.val, by omega⟩) := by
  show V m c main_v2 (ix3 j k q) = _
  entry_read
  pointwise

/-- Quarter `j` of the up weights. -/
theorem U_at (c : Dev nD) (t : Fin cfg0.N) (j : Fin 4) (k q : Fin 1024) :
    iblk m c 2 t (ix3 j k q) = (args m c).w1 (ix2 k ⟨j.val * 1024 + q.val, by omega⟩) := by
  have e : (win0_2.blk t).view.emb (ix3 j k q) = ix3 j k q := by
    funext a
    apply Fin.ext
    fin_cases a <;> blk_simp [idx t] <;> rfl
  exact (congrArg (V m c (Pipeline.arrRef spec0 2)) e).trans (U_host m c j k q)

/-! ## What is computed of one tile, for any blocks -/

/-- Entry `(p, q)` of a quarter of the hidden row. -/
def upK (B : FVec Ideal S256x1024 .bf16) (W : FVec Ideal S1x1024x1024 .bf16) (p : Fin 256) (q : Fin 1024) : EReal :=
  ∑ k : Fin 1024, B (ix2 p k) * W (ix3 0 k q)
/-- The same, after the squared ReLU. -/
def actK (B : FVec Ideal S256x1024 .bf16) (W : FVec Ideal S1x1024x1024 .bf16) (p : Fin 256) (q : Fin 1024) : EReal :=
  max (upK B W p q) 0 * max (upK B W p q) 0

theorem hn_pay (X : FVec Ideal S256x1024 .f32) (G : FVec Ideal S1x1024 .f32) (p : Fin 256) (q : Fin 1024) :
    k0_pay2 (F := Ideal) X G (ix2 p q) = X (ix2 p q) * rn (fun k => X (ix2 p k)) * G (ix2 0 q) := by
  pointwise [k0_pay2, rn, ms]
  done
theorem up_pay0 (X : FVec Ideal S256x1024 .f32) (G : FVec Ideal S1x1024 .f32) (W : FVec Ideal S1x1024x1024 .bf16) (p : Fin 256) (q : Fin 1024) :
    k0_pay3 (F := Ideal) X G W (ix2 p q) = upK (k0_pay2 X G) W p q := by
  pointwise [k0_pay3, upK]
  done
theorem act_pay0 (X : FVec Ideal S256x1024 .f32) (G : FVec Ideal S1x1024 .f32) (W : FVec Ideal S1x1024x1024 .bf16) (p : Fin 256) (q : Fin 1024) :
    k0_pay4 (F := Ideal) X G W (ix2 p q) = actK (k0_pay2 X G) W p q := by
  pointwise [k0_pay4, k0_pay3, actK, upK]
  done
theorem up_pay1 (B : FVec Ideal S256x1024 .bf16) (W : FVec Ideal S1x1024x1024 .bf16) (p : Fin 256) (q : Fin 1024) :
    k0_pay6 (F := Ideal) B W (ix2 p q) = upK B W p q := by
  pointwise [k0_pay6, upK]
  done
theorem act_pay1 (B : FVec Ideal S256x1024 .bf16) (W : FVec Ideal S1x1024x1024 .bf16) (p : Fin 256) (q : Fin 1024) :
    k0_pay7 (F := Ideal) B W (ix2 p q) = actK B W p q := by
  pointwise [k0_pay7, k0_pay6, actK, upK]
  done
theorem up_pay2 (B : FVec Ideal S256x1024 .bf16) (W : FVec Ideal S1x1024x1024 .bf16) (p : Fin 256) (q : Fin 1024) :
    k0_pay8 (F := Ideal) B W (ix2 p q) = upK B W p q := by
  pointwise [k0_pay8, upK]
  done
theorem act_pay2 (B : FVec Ideal S256x1024 .bf16) (W : FVec Ideal S1x1024x1024 .bf16) (p : Fin 256) (q : Fin 1024) :
    k0_pay9 (F := Ideal) B W (ix2 p q) = actK B W p q := by
  pointwise [k0_pay9, k0_pay8, actK, upK]
  done
theorem up_pay3 (B : FVec Ideal S256x1024 .bf16) (W : FVec Ideal S1x1024x1024 .bf16) (p : Fin 256) (q : Fin 1024) :
    k0_pay11 (F := Ideal) B W (ix2 p q) = upK B W p q := by
  pointwise [k0_pay11, upK]
  done
theorem act_pay3 (B : FVec Ideal S256x1024 .bf16) (W : FVec Ideal S1x1024x1024 .bf16) (p : Fin 256) (q : Fin 1024) :
    k0_pay12 (F := Ideal) B W (ix2 p q) = actK B W p q := by
  pointwise [k0_pay12, k0_pay11, actK, upK]
  done

/-- What the gradient of the result is scaled by. -/
abbrev cS : EReal := Ideal.ofBits .f32 0x3A800000#32

section
variable (B : FVec Ideal S256x1024 .bf16) (A : FVec Ideal S256x1024 .f32) (U W : FVec Ideal S1x1024x1024 .bf16)
  (X T E : FVec Ideal S256x1024 .f32) (G P : FVec Ideal S1x1024 .f32)

theorem err_pay (p : Fin 256) (q : Fin 1024) : k0_pay16 (F := Ideal) B A U W X G T (ix2 p q)
    = X (ix2 p q) + k0_pay13 B A U W (ix2 p q) * rn (fun k => k0_pay13 B A U W (ix2 p k)) * G (ix2 0 q) - T (ix2 p q) := by
  pointwise [k0_pay16, k0_pay15, k0_pay14, rn, ms]
  done
theorem dout_pay (p : Fin 256) (q : Fin 1024) : k0_pay18 (F := Ideal) E (ix2 p q) = E (ix2 p q) * cS := by
  pointwise [k0_pay18]
  done
theorem df2_pay (p : Fin 256) (q : Fin 1024) : k0_pay21 (F := Ideal) (k0_pay14 B A U W) (k0_pay15 B A U W) E G (ix2 p q)
    = bwdK (fun k => k0_pay13 B A U W (ix2 p k)) (fun k => E (ix2 p k) * cS * G (ix2 0 k)) q := by
  pointwise [k0_pay21, k0_pay18, k0_pay15, k0_pay14, bwdK, rn, ms]
  done

/-- What a tile's rows `X`, missing the target by `E`, add to row 0 of the sums. -/
def S0 (E X : FVec Ideal S256x1024 .f32) (q : Fin 1024) : EReal :=
  ∑ p : Fin 256, X (ix2 p q) * rn (fun k => X (ix2 p k)) * (E (ix2 p q) * cS)
/-- What they add to row 1: half the losses. -/
def S1 (E : FVec Ideal S256x1024 .f32) : EReal :=
  Ideal.ofBits .f32 0x3F000000#32 * ∑ p : Fin 256, Ideal.div (∑ k : Fin 1024, E (ix2 p k) * E (ix2 p k)) cD

theorem vec0_pay (q : Fin 1024) : k0_pay19 (F := Ideal) (k0_pay15 B A U W) E P (ix2 0 q) = P (ix2 0 q) + S0 E (k0_pay13 B A U W) q := by
  pointwise [k0_pay19, k0_pay18, k0_pay15, k0_pay14, rn, ms, S0]
  exact congrArg (_ + ·) (Finset.sum_congr rfl fun p _ => mul_comm _ _)
theorem vec1_pay (q : Fin 1024) : k0_pay20 (F := Ideal) (k0_pay17 B A U W X G T) P (ix2 0 q) = P (ix2 0 q) + S1 (k0_pay16 B A U W X G T) := by
  pointwise [k0_pay20, k0_pay17, S1]
  exact congrArg (_ + _ * ·) (Finset.sum_congr rfl fun p _ => Fin.sum_univ_one _)
end

/-! ## The blocks of one tile are the reference's rows -/

/-- The normed rows of tile `t`. -/
abbrev HN (c : Dev nD) (t : Fin cfg0.N) : FVec Ideal S256x1024 .bf16 := k0_pay2 (iblk m c 0 t) (iblk m c 1 t)

/-- Quarter 0 of the up weights. -/
abbrev U0 (c : Dev nD) (t : Fin cfg0.N) : FVec Ideal S1x1024x1024 .bf16 :=
  View.ld (iblk m c 2 t) (Rect.unit ![0, 0, 0] ![1, 1024, 1024] inb_S4x1024x1024_S1x1024x1024_0_0_0)
/-- Quarter 1 of the up weights. -/
abbrev U1 (c : Dev nD) (t : Fin cfg0.N) : FVec Ideal S1x1024x1024 .bf16 :=
  View.ld (iblk m c 2 t) (Rect.unit ![1, 0, 0] ![1, 1024, 1024] inb_S4x1024x1024_S1x1024x1024_1_0_0)
/-- Quarter 2 of the up weights. -/
abbrev U2 (c : Dev nD) (t : Fin cfg0.N) : FVec Ideal S1x1024x1024 .bf16 :=
  View.ld (iblk m c 2 t) (Rect.unit ![2, 0, 0] ![1, 1024, 1024] inb_S4x1024x1024_S1x1024x1024_2_0_0)
/-- Quarter 3 of the up weights. -/
abbrev U3 (c : Dev nD) (t : Fin cfg0.N) : FVec Ideal S1x1024x1024 .bf16 :=
  View.ld (iblk m c 2 t) (Rect.unit ![3, 0, 0] ![1, 1024, 1024] inb_S4x1024x1024_S1x1024x1024_3_0_0)
/-- Quarter 0 of the down weights. -/
abbrev W0 (c : Dev nD) (t : Fin cfg0.N) : FVec Ideal S1x1024x1024 .bf16 :=
  View.ld (iblk m c 3 t) (Rect.unit ![0, 0, 0] ![1, 1024, 1024] inb_S4x1024x1024_S1x1024x1024_0_0_0)
/-- Quarter 1 of the down weights. -/
abbrev W1 (c : Dev nD) (t : Fin cfg0.N) : FVec Ideal S1x1024x1024 .bf16 :=
  View.ld (iblk m c 3 t) (Rect.unit ![1, 0, 0] ![1, 1024, 1024] inb_S4x1024x1024_S1x1024x1024_1_0_0)
/-- Quarter 2 of the down weights. -/
abbrev W2 (c : Dev nD) (t : Fin cfg0.N) : FVec Ideal S1x1024x1024 .bf16 :=
  View.ld (iblk m c 3 t) (Rect.unit ![2, 0, 0] ![1, 1024, 1024] inb_S4x1024x1024_S1x1024x1024_2_0_0)
/-- Quarter 3 of the down weights. -/
abbrev W3 (c : Dev nD) (t : Fin cfg0.N) : FVec Ideal S1x1024x1024 .bf16 :=
  View.ld (iblk m c 3 t) (Rect.unit ![3, 0, 0] ![1, 1024, 1024] inb_S4x1024x1024_S1x1024x1024_3_0_0)
/-- The first three quarters of the layer's rows. -/
abbrev P57 (c : Dev nD) (t : Fin cfg0.N) : FVec Ideal S256x1024 .f32 :=
  k0_pay10 (HN m c t) (k0_pay4 (iblk m c 0 t) (iblk m c 1 t) (U0 m c t)) (k0_pay5 (W0 m c t)) (constant S256x1024 FTy.f32 0#32)
    (U1 m c t) (W1 m c t) (U2 m c t) (W2 m c t)
/-- The layer's rows. -/
def F2 (c : Dev nD) (t : Fin cfg0.N) : FVec Ideal S256x1024 .f32 := k0_pay13 (HN m c t) (P57 m c t) (U3 m c t) (W3 m c t)
/-- What the rows miss the target by. -/
def E (c : Dev nD) (t : Fin cfg0.N) : FVec Ideal S256x1024 .f32 :=
  k0_pay16 (HN m c t) (P57 m c t) (U3 m c t) (W3 m c t) (iblk m c 0 t) (iblk m c 4 t) (iblk m c 5 t)

theorem HN_at (c : Dev nD) (t : Fin cfg0.N) (p : Fin 256) (q : Fin 1024) : HN m c t (ix2 p q) = hn (args m c) (R t p) q := by
  refine (hn_pay _ _ p q).trans ?_
  have e : (fun k : Fin 1024 => (iblk m c 0 t : FVec Ideal S256x1024 .f32) (ix2 p k)) = row (args m c).h1 (R t p) := funext fun k => h_at m c t p k
  exact congrArg₂ (· * ·) (congrArg₂ (· * ·) (h_at m c t p q) (congrArg rn e)) (g_at m c t q)

theorem U0_at (c : Dev nD) (t : Fin cfg0.N) (k q : Fin 1024) : U0 m c t (ix3 0 k q) = (args m c).w1 (ix2 k ⟨q.val, by omega⟩) := by
  refine Eq.trans (congrArg (iblk m c 2 t) (?_ : _ = ix3 0 k q)) ((U_at m c t 0 k q).trans (congrArg (fun f => (args m c).w1 (ix2 k f)) (Fin.ext ?_)))
  · funext a
    apply Fin.ext
    fin_cases a
    · rfl
    · show 0 + 1 * k.val = k.val
      omega
    · show 0 + 1 * q.val = q.val
      omega
  · show 0 * 1024 + q.val = q.val
    omega
theorem W0_at (c : Dev nD) (t : Fin cfg0.N) (q k : Fin 1024) : W0 m c t (ix3 0 q k) = (args m c).w2 (ix2 ⟨q.val, by omega⟩ k) := by
  refine Eq.trans (congrArg (iblk m c 3 t) (?_ : _ = ix3 0 q k)) ((W_at m c t 0 q k).trans (congrArg (fun f => (args m c).w2 (ix2 f k)) (Fin.ext ?_)))
  · funext a
    apply Fin.ext
    fin_cases a
    · rfl
    · show 0 + 1 * q.val = q.val
      omega
    · show 0 + 1 * k.val = k.val
      omega
  · show 0 * 1024 + q.val = q.val
    omega
theorem up0_at (c : Dev nD) (t : Fin cfg0.N) (p : Fin 256) (q : Fin 1024) : upK (HN m c t) (U0 m c t) p q = up (args m c) (R t p) ⟨q.val, by omega⟩ :=
  Finset.sum_congr rfl fun k _ => congrArg₂ (· * ·) (HN_at m c t p k) (U0_at m c t k q)
theorem act0_at (c : Dev nD) (t : Fin cfg0.N) (p : Fin 256) (q : Fin 1024) : actK (HN m c t) (U0 m c t) p q = act (args m c) (R t p) ⟨q.val, by omega⟩ :=
  congrArg (fun u => max u 0 * max u 0) (up0_at m c t p q)

theorem U1_at (c : Dev nD) (t : Fin cfg0.N) (k q : Fin 1024) : U1 m c t (ix3 0 k q) = (args m c).w1 (ix2 k ⟨1024 + q.val, by omega⟩) := by
  refine Eq.trans (congrArg (iblk m c 2 t) (?_ : _ = ix3 1 k q)) ((U_at m c t 1 k q).trans (congrArg (fun f => (args m c).w1 (ix2 k f)) (Fin.ext ?_)))
  · funext a
    apply Fin.ext
    fin_cases a
    · rfl
    · show 0 + 1 * k.val = k.val
      omega
    · show 0 + 1 * q.val = q.val
      omega
  · show 1 * 1024 + q.val = 1024 + q.val
    omega
theorem W1_at (c : Dev nD) (t : Fin cfg0.N) (q k : Fin 1024) : W1 m c t (ix3 0 q k) = (args m c).w2 (ix2 ⟨1024 + q.val, by omega⟩ k) := by
  refine Eq.trans (congrArg (iblk m c 3 t) (?_ : _ = ix3 1 q k)) ((W_at m c t 1 q k).trans (congrArg (fun f => (args m c).w2 (ix2 f k)) (Fin.ext ?_)))
  · funext a
    apply Fin.ext
    fin_cases a
    · rfl
    · show 0 + 1 * q.val = q.val
      omega
    · show 0 + 1 * k.val = k.val
      omega
  · show 1 * 1024 + q.val = 1024 + q.val
    omega
theorem up1_at (c : Dev nD) (t : Fin cfg0.N) (p : Fin 256) (q : Fin 1024) : upK (HN m c t) (U1 m c t) p q = up (args m c) (R t p) ⟨1024 + q.val, by omega⟩ :=
  Finset.sum_congr rfl fun k _ => congrArg₂ (· * ·) (HN_at m c t p k) (U1_at m c t k q)
theorem act1_at (c : Dev nD) (t : Fin cfg0.N) (p : Fin 256) (q : Fin 1024) : actK (HN m c t) (U1 m c t) p q = act (args m c) (R t p) ⟨1024 + q.val, by omega⟩ :=
  congrArg (fun u => max u 0 * max u 0) (up1_at m c t p q)

theorem U2_at (c : Dev nD) (t : Fin cfg0.N) (k q : Fin 1024) : U2 m c t (ix3 0 k q) = (args m c).w1 (ix2 k ⟨2048 + q.val, by omega⟩) := by
  refine Eq.trans (congrArg (iblk m c 2 t) (?_ : _ = ix3 2 k q)) ((U_at m c t 2 k q).trans (congrArg (fun f => (args m c).w1 (ix2 k f)) (Fin.ext ?_)))
  · funext a
    apply Fin.ext
    fin_cases a
    · rfl
    · show 0 + 1 * k.val = k.val
      omega
    · show 0 + 1 * q.val = q.val
      omega
  · show 2 * 1024 + q.val = 2048 + q.val
    omega
theorem W2_at (c : Dev nD) (t : Fin cfg0.N) (q k : Fin 1024) : W2 m c t (ix3 0 q k) = (args m c).w2 (ix2 ⟨2048 + q.val, by omega⟩ k) := by
  refine Eq.trans (congrArg (iblk m c 3 t) (?_ : _ = ix3 2 q k)) ((W_at m c t 2 q k).trans (congrArg (fun f => (args m c).w2 (ix2 f k)) (Fin.ext ?_)))
  · funext a
    apply Fin.ext
    fin_cases a
    · rfl
    · show 0 + 1 * q.val = q.val
      omega
    · show 0 + 1 * k.val = k.val
      omega
  · show 2 * 1024 + q.val = 2048 + q.val
    omega
theorem up2_at (c : Dev nD) (t : Fin cfg0.N) (p : Fin 256) (q : Fin 1024) : upK (HN m c t) (U2 m c t) p q = up (args m c) (R t p) ⟨2048 + q.val, by omega⟩ :=
  Finset.sum_congr rfl fun k _ => congrArg₂ (· * ·) (HN_at m c t p k) (U2_at m c t k q)
theorem act2_at (c : Dev nD) (t : Fin cfg0.N) (p : Fin 256) (q : Fin 1024) : actK (HN m c t) (U2 m c t) p q = act (args m c) (R t p) ⟨2048 + q.val, by omega⟩ :=
  congrArg (fun u => max u 0 * max u 0) (up2_at m c t p q)

theorem U3_at (c : Dev nD) (t : Fin cfg0.N) (k q : Fin 1024) : U3 m c t (ix3 0 k q) = (args m c).w1 (ix2 k ⟨3072 + q.val, by omega⟩) := by
  refine Eq.trans (congrArg (iblk m c 2 t) (?_ : _ = ix3 3 k q)) ((U_at m c t 3 k q).trans (congrArg (fun f => (args m c).w1 (ix2 k f)) (Fin.ext ?_)))
  · funext a
    apply Fin.ext
    fin_cases a
    · rfl
    · show 0 + 1 * k.val = k.val
      omega
    · show 0 + 1 * q.val = q.val
      omega
  · show 3 * 1024 + q.val = 3072 + q.val
    omega
theorem W3_at (c : Dev nD) (t : Fin cfg0.N) (q k : Fin 1024) : W3 m c t (ix3 0 q k) = (args m c).w2 (ix2 ⟨3072 + q.val, by omega⟩ k) := by
  refine Eq.trans (congrArg (iblk m c 3 t) (?_ : _ = ix3 3 q k)) ((W_at m c t 3 q k).trans (congrArg (fun f => (args m c).w2 (ix2 f k)) (Fin.ext ?_)))
  · funext a
    apply Fin.ext
    fin_cases a
    · rfl
    · show 0 + 1 * q.val = q.val
      omega
    · show 0 + 1 * k.val = k.val
      omega
  · show 3 * 1024 + q.val = 3072 + q.val
    omega
theorem up3_at (c : Dev nD) (t : Fin cfg0.N) (p : Fin 256) (q : Fin 1024) : upK (HN m c t) (U3 m c t) p q = up (args m c) (R t p) ⟨3072 + q.val, by omega⟩ :=
  Finset.sum_congr rfl fun k _ => congrArg₂ (· * ·) (HN_at m c t p k) (U3_at m c t k q)
theorem act3_at (c : Dev nD) (t : Fin cfg0.N) (p : Fin 256) (q : Fin 1024) : actK (HN m c t) (U3 m c t) p q = act (args m c) (R t p) ⟨3072 + q.val, by omega⟩ :=
  congrArg (fun u => max u 0 * max u 0) (up3_at m c t p q)

theorem F2_at (c : Dev nD) (t : Fin cfg0.N) (p : Fin 256) (q : Fin 1024) : F2 m c t (ix2 p q) = f2 (args m c) (R t p) q := by
  unfold F2 f2
  refine Eq.trans ?_ (Fin.sum_univ_tiles 4 1024 rfl _).symm
  refine Eq.trans ?_ (Fin.sum_univ_four _).symm
  pointwise [k0_pay13, k0_pay10, k0_pay5]
  refine congrArg₂ (· + ·) (congrArg₂ (· + ·) (congrArg₂ (· + ·) ?_ ?_) ?_) ?_
  · refine Finset.sum_congr rfl fun k _ => congrArg₂ (· * ·) ((act_pay0 _ _ _ p k).trans (act0_at m c t p k)) ?_
    exact W0_at m c t k q
  · refine Finset.sum_congr rfl fun k _ => congrArg₂ (· * ·) ((act_pay1 _ _ p k).trans (act1_at m c t p k)) ?_
    exact W1_at m c t k q
  · refine Finset.sum_congr rfl fun k _ => congrArg₂ (· * ·) ((act_pay2 _ _ p k).trans (act2_at m c t p k)) ?_
    exact W2_at m c t k q
  · refine Finset.sum_congr rfl fun k _ => congrArg₂ (· * ·) ((act_pay3 _ _ p k).trans (act3_at m c t p k)) ?_
    exact W3_at m c t k q

theorem F2_row (c : Dev nD) (t : Fin cfg0.N) (p : Fin 256) : (fun k : Fin 1024 => F2 m c t (ix2 p k)) = f2 (args m c) (R t p) :=
  funext fun k => F2_at m c t p k

theorem E_at (c : Dev nD) (t : Fin cfg0.N) (p : Fin 256) (q : Fin 1024) : E m c t (ix2 p q) = err (args m c) (R t p) q := by
  refine (err_pay _ _ _ _ _ _ _ p q).trans ?_
  exact congrArg₂ (· - ·) (congrArg₂ (· + ·) (h_at m c t p q) (congrArg₂ (· * ·) (congrArg₂ (· * ·) (F2_at m c t p q) (congrArg rn (F2_row m c t p)))
    (gp_at m c t q))) (t_at m c t p q)

/-! ## The two ways of scaling -/

theorem cS_eq : cS = ((1 / 1024 : ℝ) : EReal) := by
  simp [cS, Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- Twice the half, divided by 1024, is one 1024th: of any extended real. -/
theorem dout_eq (a : Args) (r : Fin 4096) (k : Fin 1024) : err a r k * cS = dout a r k := by
  unfold dout
  rw [half_eq, one_eq, two_eq, cD_eq, cS_eq, ← EReal.coe_mul, div_coe _ (by norm_num), ← mul_assoc, ← EReal.coe_mul, mul_comm]
  congr 2
  norm_num

/-- A half of a sum of real numbers is the sum of the halves. -/
theorem half_sum {ι : Type*} (s : Finset ι) {f : ι → EReal} (hf : ∀ i, IsReal (f i)) :
    ∑ i ∈ s, Ideal.ofBits .f32 0x3F000000#32 * f i = Ideal.ofBits .f32 0x3F000000#32 * ∑ i ∈ s, f i := by
  choose b hb using hf
  simp only [hb, half_eq, ← EReal.coe_mul, coe_sum, Finset.mul_sum]

/-- Every argument is an array of real numbers. -/
structure Real (a : Args) : Prop where
  h1 : ∀ i, IsReal (a.h1 i)
  g : ∀ i, IsReal (a.g i)
  w1 : ∀ i, IsReal (a.w1 i)
  w2 : ∀ i, IsReal (a.w2 i)
  gp : ∀ i, IsReal (a.gp i)
  tg : ∀ i, IsReal (a.tg i)

theorem f2_real {a : Args} (ha : Real a) (r : Fin 4096) (k : Fin 1024) : IsReal (f2 a r k) := by
  have hu : ∀ f, IsReal (max (up a r f) 0) := fun f => IsReal.max
    (IsReal.sum _ fun l _ => (((ha.h1 _).mul (rn_real fun _ => ha.h1 _)).mul (ha.g _)).mul (ha.w1 _)) IsReal.zero
  exact IsReal.sum _ fun f _ => ((hu f).mul (hu f)).mul (ha.w2 _)
theorem err_real {a : Args} (ha : Real a) (r : Fin 4096) (k : Fin 1024) : IsReal (err a r k) :=
  ((ha.h1 _).add (((f2_real ha r k).mul (rn_real (f2_real ha r))).mul (ha.gp _))).sub (ha.tg _)
theorem dout_real {a : Args} (ha : Real a) (r : Fin 4096) (k : Fin 1024) : IsReal (dout a r k) := by
  rw [← dout_eq, cS_eq]
  exact (err_real ha r k).mul (IsReal.coe _)
theorem lossRow_real {a : Args} (ha : Real a) (r : Fin 4096) : IsReal (lossRow a r) := by
  obtain ⟨s, hs⟩ := IsReal.sum Finset.univ fun k _ => (err_real ha r k).mul (err_real ha r k)
  unfold lossRow
  rw [hs, cD_eq, div_coe _ (by norm_num)]
  exact IsReal.coe _

/-! ## What the kernel leaves in each block -/

theorem hn_out (c : Dev nD) (t : Fin cfg0.N) (p : Fin 256) (q : Fin 1024) : (outsAt0 m c t.val t.isLt).1 (ix2 p q) = hn (args m c) (R t p) q := by
  by_cases h : t.val % 16 = 0
  · rw [outsAt0_A m c t h]
    frame_open
    frame_out
    exact HN_at m c t p q
  · rw [outsAt0_B m c t h]
    frame_open
    frame_out
    exact HN_at m c t p q

theorem up_out (c : Dev nD) (t : Fin cfg0.N) (p : Fin 256) (f : Fin 4096) : (outsAt0 m c t.val t.isLt).2.1 (ix2 p f) = up (args m c) (R t p) f := by
  by_cases h : t.val % 16 = 0
  · rw [outsAt0_A m c t h]
    frame_open
    frame_out
    canon_tiles x h
    · exact (congrArg _ (eq_ix2 x)).trans ((up_pay3 _ _ (x 0) (x 1)).trans ((up3_at m c t (x 0) (x 1)).trans
        (congrArg₂ (fun a b => up (args m c) (R t a) b) (Fin.ext h0.symm) (Fin.ext h1.symm))))
    · exact (congrArg _ (eq_ix2 x)).trans ((up_pay2 _ _ (x 0) (x 1)).trans ((up2_at m c t (x 0) (x 1)).trans
        (congrArg₂ (fun a b => up (args m c) (R t a) b) (Fin.ext h0.symm) (Fin.ext h1.symm))))
    · exact (congrArg _ (eq_ix2 x)).trans ((up_pay1 _ _ (x 0) (x 1)).trans ((up1_at m c t (x 0) (x 1)).trans
        (congrArg₂ (fun a b => up (args m c) (R t a) b) (Fin.ext h0.symm) (Fin.ext h1.symm))))
    · exact (congrArg _ (eq_ix2 x)).trans ((up_pay0 _ _ _ (x 0) (x 1)).trans ((up0_at m c t (x 0) (x 1)).trans
        (congrArg₂ (fun a b => up (args m c) (R t a) b) (Fin.ext h0.symm) (Fin.ext h1.symm))))
  · rw [outsAt0_B m c t h]
    frame_open
    frame_out
    canon_tiles x h
    · exact (congrArg _ (eq_ix2 x)).trans ((up_pay3 _ _ (x 0) (x 1)).trans ((up3_at m c t (x 0) (x 1)).trans
        (congrArg₂ (fun a b => up (args m c) (R t a) b) (Fin.ext h0.symm) (Fin.ext h1.symm))))
    · exact (congrArg _ (eq_ix2 x)).trans ((up_pay2 _ _ (x 0) (x 1)).trans ((up2_at m c t (x 0) (x 1)).trans
        (congrArg₂ (fun a b => up (args m c) (R t a) b) (Fin.ext h0.symm) (Fin.ext h1.symm))))
    · exact (congrArg _ (eq_ix2 x)).trans ((up_pay1 _ _ (x 0) (x 1)).trans ((up1_at m c t (x 0) (x 1)).trans
        (congrArg₂ (fun a b => up (args m c) (R t a) b) (Fin.ext h0.symm) (Fin.ext h1.symm))))
    · exact (congrArg _ (eq_ix2 x)).trans ((up_pay0 _ _ _ (x 0) (x 1)).trans ((up0_at m c t (x 0) (x 1)).trans
        (congrArg₂ (fun a b => up (args m c) (R t a) b) (Fin.ext h0.symm) (Fin.ext h1.symm))))

theorem act_out (c : Dev nD) (t : Fin cfg0.N) (p : Fin 256) (f : Fin 4096) : (outsAt0 m c t.val t.isLt).2.2.1 (ix2 p f) = act (args m c) (R t p) f := by
  by_cases h : t.val % 16 = 0
  · rw [outsAt0_A m c t h]
    frame_open
    frame_out
    canon_tiles x h
    · exact (congrArg _ (eq_ix2 x)).trans ((act_pay3 _ _ (x 0) (x 1)).trans ((act3_at m c t (x 0) (x 1)).trans
        (congrArg₂ (fun a b => act (args m c) (R t a) b) (Fin.ext h0.symm) (Fin.ext h1.symm))))
    · exact (congrArg _ (eq_ix2 x)).trans ((act_pay2 _ _ (x 0) (x 1)).trans ((act2_at m c t (x 0) (x 1)).trans
        (congrArg₂ (fun a b => act (args m c) (R t a) b) (Fin.ext h0.symm) (Fin.ext h1.symm))))
    · exact (congrArg _ (eq_ix2 x)).trans ((act_pay1 _ _ (x 0) (x 1)).trans ((act1_at m c t (x 0) (x 1)).trans
        (congrArg₂ (fun a b => act (args m c) (R t a) b) (Fin.ext h0.symm) (Fin.ext h1.symm))))
    · exact (congrArg _ (eq_ix2 x)).trans ((act_pay0 _ _ _ (x 0) (x 1)).trans ((act0_at m c t (x 0) (x 1)).trans
        (congrArg₂ (fun a b => act (args m c) (R t a) b) (Fin.ext h0.symm) (Fin.ext h1.symm))))
  · rw [outsAt0_B m c t h]
    frame_open
    frame_out
    canon_tiles x h
    · exact (congrArg _ (eq_ix2 x)).trans ((act_pay3 _ _ (x 0) (x 1)).trans ((act3_at m c t (x 0) (x 1)).trans
        (congrArg₂ (fun a b => act (args m c) (R t a) b) (Fin.ext h0.symm) (Fin.ext h1.symm))))
    · exact (congrArg _ (eq_ix2 x)).trans ((act_pay2 _ _ (x 0) (x 1)).trans ((act2_at m c t (x 0) (x 1)).trans
        (congrArg₂ (fun a b => act (args m c) (R t a) b) (Fin.ext h0.symm) (Fin.ext h1.symm))))
    · exact (congrArg _ (eq_ix2 x)).trans ((act_pay1 _ _ (x 0) (x 1)).trans ((act1_at m c t (x 0) (x 1)).trans
        (congrArg₂ (fun a b => act (args m c) (R t a) b) (Fin.ext h0.symm) (Fin.ext h1.symm))))
    · exact (congrArg _ (eq_ix2 x)).trans ((act_pay0 _ _ _ (x 0) (x 1)).trans ((act0_at m c t (x 0) (x 1)).trans
        (congrArg₂ (fun a b => act (args m c) (R t a) b) (Fin.ext h0.symm) (Fin.ext h1.symm))))

theorem df2_out (c : Dev nD) (ha : Real (args m c)) (t : Fin cfg0.N) (p : Fin 256) (q : Fin 1024) :
    (outsAt0 m c t.val t.isLt).2.2.2.1 (ix2 p q) = df2 (args m c) (R t p) q := by
  have e : bwdK (fun k => F2 m c t (ix2 p k)) (fun k => E m c t (ix2 p k) * cS * (iblk m c 4 t : FVec Ideal S1x1024 .f32) (ix2 0 k)) q = df2 (args m c) (R t p) q := by
    refine Eq.trans ?_ (bwd_eq (f2_real ha _) (fun k => (dout_real ha _ k).mul (ha.gp _)) q)
    exact congrArg₂ (fun a b => bwdK a b q) (F2_row m c t p)
      (funext fun k => congrArg₂ (· * ·) ((congrArg (· * cS) (E_at m c t p k)).trans (dout_eq _ _ _)) (gp_at m c t k))
  refine Eq.trans ?_ ((df2_pay (HN m c t) (P57 m c t) (U3 m c t) (W3 m c t) (E m c t) (iblk m c 4 t) p q).trans e)
  by_cases h : t.val % 16 = 0
  · rw [outsAt0_A m c t h]
    frame_out
    rfl
  · rw [outsAt0_B m c t h]
    frame_out
    rfl

theorem dout_out (c : Dev nD) (t : Fin cfg0.N) (p : Fin 256) (q : Fin 1024) :
    (outsAt0 m c t.val t.isLt).2.2.2.2.1 (ix2 p q) = dout (args m c) (R t p) q := by
  refine Eq.trans ?_ ((dout_pay (E m c t) p q).trans ((congrArg (· * cS) (E_at m c t p q)).trans (dout_eq _ _ _)))
  by_cases h : t.val % 16 = 0
  · rw [outsAt0_A m c t h]
    frame_out
    rfl
  · rw [outsAt0_B m c t h]
    frame_out
    rfl

theorem vec_A (c : Dev nD) (t : Fin cfg0.N) (h : t.val % 16 = 0) (s : Fin 8) (q : Fin 1024) :
    (outsAt0 m c t.val t.isLt).2.2.2.2.2 (ix2 s q)
      = if s.val = 0 then S0 (E m c t) (F2 m c t) q else if s.val = 1 then S1 (E m c t) else 0 := by
  rw [outsAt0_A m c t h]
  frame_open
  frame_out
  rw [← View.read_writes_junk_eq_canon (ms0_11 t).view]
  by_cases hs : s.val = 0
  · rw [if_pos hs]
    refine (read_row_ne _ _ _ _ _ s q (by omega)).trans ((read_row _ _ _ _ _ s q hs).trans ?_)
    refine (vec0_pay _ _ _ _ _ _ q).trans ((congrArg₂ (· + ·) ?_ rfl).trans (zero_add _))
    rw [View.readCov_fill _ _ _ _ _ (by decide)]
    pointwise [k0_pay1]
  · rw [if_neg hs]
    by_cases hs1 : s.val = 1
    · rw [if_pos hs1]
      refine (read_row _ _ _ _ _ s q hs1).trans ?_
      refine (vec1_pay _ _ _ _ _ _ _ _ q).trans ((congrArg₂ (· + ·) ?_ rfl).trans (zero_add _))
      refine (load_row_ne _ _ _ _ _ _ s q hs1 (by decide)).trans ?_
      pointwise [k0_pay1]
    · rw [if_neg hs1]
      refine (read_row_ne _ _ _ _ _ s q hs1).trans ((read_row_ne _ _ _ _ _ s q hs).trans ?_)
      rw [View.read_writes_junk_eq_canon, View.canon_cons_unit_lit _ _ _ (by decide)]
      pointwise [k0_pay1]

theorem vec_B (c : Dev nD) (t : Fin cfg0.N) (h : ¬ t.val % 16 = 0) (s : Fin 8) (q : Fin 1024) :
    (outsAt0 m c t.val t.isLt).2.2.2.2.2 (ix2 s q)
      = (outsAt0 m c (t.val - 1) (Nat.lt_of_le_of_lt (Nat.sub_le _ _) t.isLt)).2.2.2.2.2 (ix2 s q)
        + if s.val = 0 then S0 (E m c t) (F2 m c t) q else if s.val = 1 then S1 (E m c t) else 0 := by
  rw [outsAt0_B m c t h]
  frame_open
  frame_out
  by_cases hs : s.val = 0
  · rw [if_pos hs]
    refine (read_row_ne _ _ _ _ _ s q (by omega)).trans ((read_row _ _ _ _ _ s q hs).trans ?_)
    refine (vec0_pay _ _ _ _ _ _ q).trans (congrArg₂ (· + ·) ?_ rfl)
    obtain rfl : s = 0 := Fin.ext hs
    exact congrArg (outsAt0 m c (t.val - 1) _).2.2.2.2.2 (by funext a; apply Fin.ext; fin_cases a; rfl; exact Nat.zero_add _ |>.trans (Nat.one_mul _))
  · rw [if_neg hs]
    by_cases hs1 : s.val = 1
    · rw [if_pos hs1]
      refine (read_row _ _ _ _ _ s q hs1).trans ?_
      refine (vec1_pay _ _ _ _ _ _ _ _ q).trans (congrArg₂ (· + ·) ?_ rfl)
      obtain rfl : s = 1 := Fin.ext hs1
      exact congrArg (outsAt0 m c (t.val - 1) _).2.2.2.2.2 (by funext a; apply Fin.ext; fin_cases a; rfl; exact Nat.zero_add _ |>.trans (Nat.one_mul _))
    · rw [if_neg hs1, add_zero]
      refine (read_row_ne _ _ _ _ _ s q hs1).trans ((read_row_ne _ _ _ _ _ s q hs).trans ?_)
      exact congrFun (Memref.IsWhole.read_unread _ _) _

/-- After tile `n` rows 0 and 1 hold the sums over the tiles so far, and the other rows zero. -/
theorem vec_sum (c : Dev nD) (s : Fin 8) (q : Fin 1024) : ∀ (n : ℕ) (h : n < cfg0.N), (outsAt0 m c n h).2.2.2.2.2 (ix2 s q)
    = if s.val = 0 then ∑ t : Fin (n + 1), S0 (E m c ⟨t.val, by omega⟩) (F2 m c ⟨t.val, by omega⟩) q
      else if s.val = 1 then ∑ t : Fin (n + 1), S1 (E m c ⟨t.val, by omega⟩) else 0
  | 0, h => by
    rw [vec_A m c ⟨0, h⟩ rfl s q, Fin.sum_univ_one, Fin.sum_univ_one]; rfl
  | n + 1, h => by
    have h8 : n + 1 < 16 := h
    rw [vec_B m c ⟨n + 1, h⟩ (by show ¬ (n + 1) % 16 = 0; omega) s q]
    refine (congrArg (· + _) (vec_sum c s q n (by omega))).trans ?_
    split_ifs
    · exact (Fin.sum_univ_castSucc (fun t : Fin (n + 1 + 1) => S0 (E m c ⟨t.val, by omega⟩) (F2 m c ⟨t.val, by omega⟩) q)).symm
    · exact (Fin.sum_univ_castSucc (fun t : Fin (n + 1 + 1) => S1 (E m c ⟨t.val, by omega⟩))).symm
    · exact add_zero _

theorem S0_eq (c : Dev nD) (t : Fin cfg0.N) (q : Fin 1024) : S0 (E m c t) (F2 m c t) q
    = ∑ p : Fin 256, f2 (args m c) (R t p) q * rn (f2 (args m c) (R t p)) * dout (args m c) (R t p) q :=
  Finset.sum_congr rfl fun p _ => congrArg₂ (· * ·) (congrArg₂ (· * ·) (F2_at m c t p q) (congrArg rn (F2_row m c t p)))
    ((congrArg (· * cS) (E_at m c t p q)).trans (dout_eq _ _ _))

theorem S1_eq (c : Dev nD) (t : Fin cfg0.N) : S1 (E m c t) = Ideal.ofBits .f32 0x3F000000#32 * ∑ p : Fin 256, lossRow (args m c) (R t p) :=
  congrArg (_ * ·) (Finset.sum_congr rfl fun p _ => congrArg (Ideal.div · cD)
    (Finset.sum_congr rfl fun k _ => congrArg₂ (· * ·) (E_at m c t p k) (E_at m c t p k)))

/-! ## The results -/

open Cert.ReferenceFwdIdeal.Read (val_main_v78 val_main_v79 val_main_v81 val_main_v83 val_main_v84 val_main_v86)

theorem final11 (c : Dev nD) (ha : Real (args m c)) : (dats m 0 c).arrAt 11 (cfgs 0).N
    = val_main_v86 (F := Ideal) (args m c).h1 (args m c).g (args m c).w1 (args m c).w2 (args m c).gp (args m c).tg := by
  refine (dats m 0 c).arrAt_eq_of_after_last 11 ⟨15, by decide⟩ (by decide +kernel) _ fun j => ?_
  rw [after0_11]
  obtain ⟨s, q, rfl⟩ : ∃ (s : Fin 8) (q : Fin 1024), j = ix2 s q := ⟨j 0, j 1, eq_ix2 j⟩
  refine (vec_sum m c s q 15 (by decide)).trans ?_
  refine Eq.trans ?_ (Cert.ReferenceFwdIdeal.Rows.vec_at (args m c) s q).symm
  have e : ∀ (t : Fin cfg0.N) p, R t p = ⟨t.val * 256 + p.val, by have h : t.val < 16 := t.isLt; omega⟩ := fun t p => Fin.ext (by simp [R, Nat.mul_comm])
  refine if_congr Iff.rfl ?_ (if_congr Iff.rfl ?_ rfl)
  · refine Eq.trans ?_ (Fin.sum_univ_tiles 16 256 rfl _).symm
    refine Finset.sum_congr rfl fun t _ => (S0_eq m c t q).trans (Finset.sum_congr rfl fun p _ => ?_)
    exact congrArg (fun r => f2 (args m c) r q * rn (f2 (args m c) r) * dout (args m c) r q) (e t p)
  · refine Eq.trans (Finset.sum_congr rfl fun t _ => S1_eq m c t) ?_
    refine (half_sum Finset.univ fun t => IsReal.sum _ fun p _ => lossRow_real ha _).trans (congrArg (_ * ·) ?_)
    refine Eq.trans ?_ (Fin.sum_univ_tiles 16 256 rfl _).symm
    exact Finset.sum_congr rfl fun t _ => Finset.sum_congr rfl fun p _ => congrArg (lossRow (args m c)) (e t p)

theorem final6 (c : Dev nD) : (dats m 0 c).arrAt 6 (cfgs 0).N
    = val_main_v78 (F := Ideal) (args m c).h1 (args m c).g := by
  refine (dats m 0 c).arrAt_eq_of_covers 6 _ (by decide +kernel) fun t hf y => ?_
  blk_simp
  rw [after0_6]
  obtain ⟨p, q, rfl⟩ : ∃ (p : Fin 256) (q : Fin 1024), y = ix2 p q := ⟨y 0, y 1, eq_ix2 y⟩
  have e : (win0_6.blk t).view.emb (ix2 p q) = ix2 (R t p) q := by
    funext a; apply Fin.ext; fin_cases a <;> blk_simp [idx t, R]
    · show t.val * 256 + p.val = 256 * t.val + p.val
      omega
    · rfl
  refine Eq.trans ?_ (congrArg _ e).symm
  exact (hn_out m c t p q).trans (Cert.ReferenceFwdIdeal.Rows.hn1_at (args m c) (R t p) q).symm

theorem final7 (c : Dev nD) : (dats m 0 c).arrAt 7 (cfgs 0).N
    = val_main_v79 (F := Ideal) (args m c).h1 (args m c).g (args m c).w1 := by
  refine (dats m 0 c).arrAt_eq_of_covers 7 _ (by decide +kernel) fun t hf y => ?_
  blk_simp
  rw [after0_7]
  obtain ⟨p, q, rfl⟩ : ∃ (p : Fin 256) (q : Fin 4096), y = ix2 p q := ⟨y 0, y 1, eq_ix2 y⟩
  have e : (win0_7.blk t).view.emb (ix2 p q) = ix2 (R t p) q := by
    funext a; apply Fin.ext; fin_cases a <;> blk_simp [idx t, R]
    · show t.val * 256 + p.val = 256 * t.val + p.val
      omega
    · rfl
  refine Eq.trans ?_ (congrArg _ e).symm
  exact (up_out m c t p q).trans (Cert.ReferenceFwdIdeal.Rows.up1_at (args m c) (R t p) q).symm

theorem final8 (c : Dev nD) : (dats m 0 c).arrAt 8 (cfgs 0).N
    = val_main_v81 (F := Ideal) (args m c).h1 (args m c).g (args m c).w1 := by
  refine (dats m 0 c).arrAt_eq_of_covers 8 _ (by decide +kernel) fun t hf y => ?_
  blk_simp
  rw [after0_8]
  obtain ⟨p, q, rfl⟩ : ∃ (p : Fin 256) (q : Fin 4096), y = ix2 p q := ⟨y 0, y 1, eq_ix2 y⟩
  have e : (win0_8.blk t).view.emb (ix2 p q) = ix2 (R t p) q := by
    funext a; apply Fin.ext; fin_cases a <;> blk_simp [idx t, R]
    · show t.val * 256 + p.val = 256 * t.val + p.val
      omega
    · rfl
  refine Eq.trans ?_ (congrArg _ e).symm
  exact (act_out m c t p q).trans (Cert.ReferenceFwdIdeal.Rows.act1_at (args m c) (R t p) q).symm

theorem final9 (c : Dev nD) (ha : Real (args m c)) : (dats m 0 c).arrAt 9 (cfgs 0).N
    = val_main_v83 (F := Ideal) (args m c).h1 (args m c).g (args m c).w1 (args m c).w2 (args m c).gp (args m c).tg := by
  refine (dats m 0 c).arrAt_eq_of_covers 9 _ (by decide +kernel) fun t hf y => ?_
  blk_simp
  rw [after0_9]
  obtain ⟨p, q, rfl⟩ : ∃ (p : Fin 256) (q : Fin 1024), y = ix2 p q := ⟨y 0, y 1, eq_ix2 y⟩
  have e : (win0_9.blk t).view.emb (ix2 p q) = ix2 (R t p) q := by
    funext a; apply Fin.ext; fin_cases a <;> blk_simp [idx t, R]
    · show t.val * 256 + p.val = 256 * t.val + p.val
      omega
    · rfl
  refine Eq.trans ?_ (congrArg _ e).symm
  exact (df2_out m c ha t p q).trans (Cert.ReferenceFwdIdeal.Rows.df2_at (args m c) (R t p) q).symm

theorem final10 (c : Dev nD) : (dats m 0 c).arrAt 10 (cfgs 0).N
    = val_main_v84 (F := Ideal) (args m c).h1 (args m c).g (args m c).w1 (args m c).w2 (args m c).gp (args m c).tg := by
  refine (dats m 0 c).arrAt_eq_of_covers 10 _ (by decide +kernel) fun t hf y => ?_
  blk_simp
  rw [after0_10]
  obtain ⟨p, q, rfl⟩ : ∃ (p : Fin 256) (q : Fin 1024), y = ix2 p q := ⟨y 0, y 1, eq_ix2 y⟩
  have e : (win0_10.blk t).view.emb (ix2 p q) = ix2 (R t p) q := by
    funext a; apply Fin.ext; fin_cases a <;> blk_simp [idx t, R]
    · show t.val * 256 + p.val = 256 * t.val + p.val
      omega
    · rfl
  refine Eq.trans ?_ (congrArg _ e).symm
  exact (dout_out m c t p q).trans (Cert.ReferenceFwdIdeal.Rows.dout1_at (args m c) (R t p) q).symm

end Cert.KernelFwdIdeal.Value

namespace Cert.Proof

instance finite_fwd : Cert.Pre_finite_fwd.Facts := ⟨by decide, by decide, by decide⟩

theorem algebraic_Fwd : Cert.algebraic_KernelFwdIdeal_ReferenceFwdIdeal_pre_finite_fwd := by
  intro m ρ m' ρ' hpre hagree
  have ha : ∀ c, Cert.KernelFwdIdeal.Value.Real (Cert.KernelFwdIdeal.Value.args m c) := fun c =>
    ⟨fun i => isReal_of_test (congrFun (hpre c).1 i), fun i => isReal_of_test (congrFun (hpre c).2.1 i),
     fun i => isReal_of_test (congrFun (hpre c).2.2.1 i), fun i => isReal_of_test (congrFun (hpre c).2.2.2.1 i),
     fun i => isReal_of_test (congrFun (hpre c).2.2.2.2.1 i), fun i => isReal_of_test (congrFun (hpre c).2.2.2.2.2 i)⟩
  refine ⟨_, _, _, _, _, _, (θ_run Cert.KernelFwdIdeal.defs _ _).mono (fun _ h c => ⟨(h c).1.trans (Cert.KernelFwdIdeal.Value.final6 m c),
      (h c).2.1.trans (Cert.KernelFwdIdeal.Value.final7 m c), (h c).2.2.1.trans (Cert.KernelFwdIdeal.Value.final8 m c),
      (h c).2.2.2.1.trans (Cert.KernelFwdIdeal.Value.final9 m c (ha c)), (h c).2.2.2.2.1.trans (Cert.KernelFwdIdeal.Value.final10 m c),
      (h c).2.2.2.2.2.1.trans (Cert.KernelFwdIdeal.Value.final11 m c (ha c)), (h c).2.2.2.2.2.2⟩)
    (Cert.KernelFwdIdeal.Value.run_blocks (F := Ideal) m ρ), ?_⟩
  refine (θ_run Cert.ReferenceFwdIdeal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩)
    (Cert.ReferenceFwdIdeal.Value.run (F := Ideal) m' ρ')
  all_goals
    obtain ⟨a0, a1, a2, a3, a4, a5⟩ := hagree c
    simp only [Cert.KernelFwdIdeal.Value.args]
  · rw [← a0, ← a1]
    exact Cert.ReferenceFwdIdeal.Read.val_main_v78_eq _ _
  · rw [← a0, ← a1, ← a2]
    exact Cert.ReferenceFwdIdeal.Read.val_main_v79_eq _ _ _
  · rw [← a0, ← a1, ← a2]
    exact Cert.ReferenceFwdIdeal.Read.val_main_v81_eq _ _ _
  · rw [← a0, ← a1, ← a2, ← a3, ← a4, ← a5]
    exact Cert.ReferenceFwdIdeal.Read.val_main_v83_eq m' c
  · rw [← a0, ← a1, ← a2, ← a3, ← a4, ← a5]
    exact Cert.ReferenceFwdIdeal.Read.val_main_v84_eq m' c
  · rw [← a0, ← a1, ← a2, ← a3, ← a4, ← a5]
    exact Cert.ReferenceFwdIdeal.Read.val_main_v86_eq m' c

theorem frame_ReferenceFwd : Cert.quiescent_ReferenceFwdIdeal := fun m ρ _ =>
  (θ_run Cert.ReferenceFwdIdeal.defs _ _).mono (fun r h => ⟨fun c => (h c).2.2.2.2.2.2, Idealize.ShloMosaic.sem_eq_zero_of_no_sems (by decide) r.2⟩)
    (Cert.ReferenceFwdIdeal.Value.run (F := Ideal) m ρ)

end Cert.Proof
end
-- ==== Proof.Mix.Bits.lean ====
module
public import proofs.«01_k».proof.Defs
public import proofs.«01_k».proof.Kernel
public import proofs.«01_k».proof.Proof.Mix.Frame
@[expose] public section

/-! The program `Kernel` is the program `KernelIdeal` at the bit-exact arithmetic: the named constants of the latter are, there, the bits of the
    former. So its side conditions and its frame are those of `KernelIdeal`. -/

set_option maxRecDepth 100000
set_option maxHeartbeats 0
noncomputable section
namespace Cert.Proof
open Idealize.ShloMosaic Idealize.SL.Sem

/-- The side conditions over the vocabulary: those of `KernelIdeal`. -/
theorem kernelFacts₀ : Cert.Kernel.Facts₀ :=
  let h := Cert.KernelIdeal.Gen.facts₀
  ⟨h.slices_S4096x5120_S4096x1024_0_0,
   h.bcast_S4096x1024_S1x4096x1024_1_2,
   h.bcast_S_S_,
   h.reduceWindows_S1x4096x1024_S1x4096x1024_w1s1p0_0_w4096s1p4095_0_w1s1p0_0,
   h.h_S_,
   h.bcast_S_S4096,
   h.slices_S1x4096x1024_S1x4096x256_0_0_0,
   h.slices_S1x4096x256_S1x2x256_0_0_0,
   h.bcast_S_S1x2x256,
   h.slices_S1x4096x256_S1x4094x256_0_0_0,
   h.concatenates_S1x2x256_S1x4094x256_S1x4096x256_d1,
   h.bcast_S4096_S1x4096x1_1,
   h.bcast_S1x4096x1_S1x4096x256_0_1_2,
   h.slices_S1x4096x1024_S1x4096x256_0_0_256,
   h.slices_S1x4096x256_S1x4x256_0_0_0,
   h.bcast_S_S1x4x256,
   h.slices_S1x4096x256_S1x4092x256_0_0_0,
   h.concatenates_S1x4x256_S1x4092x256_S1x4096x256_d1,
   h.slices_S1x4096x1024_S1x4096x256_0_0_512,
   h.slices_S1x4096x256_S1x8x256_0_0_0,
   h.bcast_S_S1x8x256,
   h.slices_S1x4096x256_S1x4088x256_0_0_0,
   h.concatenates_S1x8x256_S1x4088x256_S1x4096x256_d1,
   h.slices_S1x4096x1024_S1x4096x256_0_0_768,
   h.slices_S1x4096x256_S1x16x256_0_0_0,
   h.bcast_S_S1x16x256,
   h.slices_S1x4096x256_S1x4080x256_0_0_0,
   h.concatenates_S1x16x256_S1x4080x256_S1x4096x256_d1,
   h.bcast_S1x4096x256_S1x4096x1x256_0_1_3,
   h.concatenates_S1x4096x1x256_S1x4096x1x256_S1x4096x1x256_S1x4096x1x256_S1x4096x4x256_d2,
   h.shapeCasts_S1x4096x4x256_S4096x4x256,
   h.shapeCasts_S4096x4x256_S4096x1024,
   h.bcast_S_S128,
   h.bcast_S128_S128x1_0,
   h.bcast_S128_S1x128_1,
   h.bcast_S128x1_S128x128_0_1,
   h.bcast_S1x128_S128x128_0_1,
   h.bcast_S128x128_S1x128x128_1_2,
   h.bcast_S1x128x128_S4x128x128_0_1_2,
   h.bitsLt_bf16_f32,
   h.transposes_S4x128x128_S4x128x128_0_2_1,
   h.shapeCasts_S4x128_S4x128x1,
   h.bcast_S_S8x128,
   h.shapeCasts_S1024_S1x1024,
   h.inb_S272x1024_S16x1024_256_0,
   h.h_S16x1024,
   h.shapeCasts_S16x1024_S16x1024,
   h.inb_S4x256x256_S4x256x256_0_0_0,
   h.h_S4x256x256,
   h.shapeCasts_S4x256x256_S4x256x256,
   h.inb_S4x128x128_S4x128x128_0_0_0,
   h.h_S4x128x128,
   h.inb_S8x1024_S8x1024_0_0,
   h.h_S8x1024,
   h.inb_S8x5120_S8x5120_0_0,
   h.h_S8x5120,
   h.inb_S128x1024_S128x1024_0_0,
   h.h_S128x1024,
   h.shapeCasts_S128x1024_S128x1024,
   h.inb_S256x1024_S256x1024_0_0,
   h.h_S256x1024,
   h.shapeCasts_S256x1024_S256x1024,
   h.inb_S1024x1024_S1024x1024_0_0,
   h.h_S1024x1024,
   h.shapeCasts_S1024x1024_S1024x1024,
   h.inb_S256x5120_S256x1024_0_1024,
   h.inb_S256x5120_S256x1024_0_2048,
   h.reduces_S256x1024_S256,
   h.shapeCasts_S256_S256x1,
   h.broadcasts_S256x1_S256x1024,
   h.inb_S1x1024_S1x1024_0_0,
   h.h_S1x1024,
   h.shapeCasts_S1x1024_S1x1024,
   h.broadcasts_S1x1024_S256x1024,
   h.inb_S4x128x128_S1x128x128_0_0_0,
   h.h_S1x128x128,
   h.shapeCasts_S1x128x128_S128x128,
   h.slices_S256x1024_o0_0_S128x256,
   h.inb_S4x128x1_S1x128x1_0_0_0,
   h.h_S1x128x1,
   h.shapeCasts_S1x128x1_S128x1,
   h.broadcasts_S128x1_S128x256,
   h.inb_S256x1024_S128x256_0_0,
   h.h_S128x256,
   h.shapeCasts_S128x256_S128x256,
   h.inb_S4x128x128_S1x128x128_1_0_0,
   h.slices_S256x1024_o0_256_S128x256,
   h.inb_S4x128x1_S1x128x1_1_0_0,
   h.inb_S256x1024_S128x256_0_256,
   h.inb_S4x128x128_S1x128x128_2_0_0,
   h.slices_S256x1024_o0_512_S128x256,
   h.inb_S4x128x1_S1x128x1_2_0_0,
   h.inb_S256x1024_S128x256_0_512,
   h.inb_S4x128x128_S1x128x128_3_0_0,
   h.slices_S256x1024_o0_768_S128x256,
   h.inb_S4x128x1_S1x128x1_3_0_0,
   h.inb_S256x1024_S128x256_0_768,
   h.slices_S256x1024_o128_0_S128x256,
   h.inb_S256x1024_S128x256_128_0,
   h.slices_S256x1024_o128_256_S128x256,
   h.inb_S256x1024_S128x256_128_256,
   h.slices_S256x1024_o128_512_S128x256,
   h.inb_S256x1024_S128x256_128_512,
   h.slices_S256x1024_o128_768_S128x256,
   h.inb_S256x1024_S128x256_128_768,
   h.inb_S256x5120_S256x1024_0_3072,
   h.inb_S256x5120_S256x1024_0_4096,
   h.iota_S256x1_d0_w32,
   h.inb_S256x1024_S256x256_0_0,
   h.h_S256x256,
   h.shapeCasts_S256x256_S256x256,
   h.inb_S4x256x256_S1x256x256_0_0_0,
   h.h_S1x256x256,
   h.shapeCasts_S1x256x256_S256x256,
   h.slices_S256x1024_o0_0_S256x256,
   h.inb_S1x1024_S1x256_0_0,
   h.h_S1x256,
   h.shapeCasts_S1x256_S1x256,
   h.inb_S8x1024_S1x256_0_0,
   h.reduces_S256x256_S256,
   h.shapeCasts_S256_S1x256,
   h.broadcasts_S1x256_S256x256,
   h.inb_S256x5120_S256x256_0_3072,
   h.packedbf16_S256x5120_S256x256_0_3072,
   h.inb_S8x5120_S1x256_0_3072,
   h.shapeCasts_S256x256_S1x256x256,
   h.broadcasts_S256x1_S256x256,
   h.inb_S272x1024_S256x256_0_0,
   h.inb_S256x1024_S256x256_0_256,
   h.inb_S4x256x256_S1x256x256_1_0_0,
   h.slices_S256x1024_o0_256_S256x256,
   h.inb_S1x1024_S1x256_0_256,
   h.inb_S8x1024_S1x256_0_256,
   h.inb_S256x5120_S256x256_0_3328,
   h.packedbf16_S256x5120_S256x256_0_3328,
   h.inb_S8x5120_S1x256_0_3328,
   h.inb_S272x1024_S256x256_0_256,
   h.inb_S256x1024_S256x256_0_512,
   h.inb_S4x256x256_S1x256x256_2_0_0,
   h.slices_S256x1024_o0_512_S256x256,
   h.inb_S1x1024_S1x256_0_512,
   h.inb_S8x1024_S1x256_0_512,
   h.inb_S256x5120_S256x256_0_3584,
   h.packedbf16_S256x5120_S256x256_0_3584,
   h.inb_S8x5120_S1x256_0_3584,
   h.inb_S272x1024_S256x256_0_512,
   h.inb_S256x1024_S256x256_0_768,
   h.inb_S4x256x256_S1x256x256_3_0_0,
   h.slices_S256x1024_o0_768_S256x256,
   h.inb_S1x1024_S1x256_0_768,
   h.inb_S8x1024_S1x256_0_768,
   h.inb_S256x5120_S256x256_0_3840,
   h.packedbf16_S256x5120_S256x256_0_3840,
   h.inb_S8x5120_S1x256_0_3840,
   h.inb_S272x1024_S256x256_0_768,
   h.inb_S272x1024_S272x256_0_0,
   h.h_S272x256,
   h.rotates_S272x256_d0,
   h.slices_S272x256_o0_0_S256x256,
   h.inb_S256x5120_S256x256_0_0,
   h.packedbf16_S256x5120_S256x256_0_0,
   h.inb_S8x5120_S1x256_0_0,
   h.inb_S272x1024_S272x256_0_256,
   h.inb_S256x5120_S256x256_0_256,
   h.packedbf16_S256x5120_S256x256_0_256,
   h.inb_S8x5120_S1x256_0_256,
   h.inb_S272x1024_S272x256_0_512,
   h.inb_S256x5120_S256x256_0_512,
   h.packedbf16_S256x5120_S256x256_0_512,
   h.inb_S8x5120_S1x256_0_512,
   h.inb_S272x1024_S272x256_0_768,
   h.inb_S256x5120_S256x256_0_768,
   h.packedbf16_S256x5120_S256x256_0_768,
   h.inb_S8x5120_S1x256_0_768,
   h.inb_S272x1024_S16x1024_0_0,
   h.inb_S256x5120_S256x256_0_4096,
   h.packedbf16_S256x5120_S256x256_0_4096,
   h.inb_S8x5120_S1x256_0_4096,
   h.inb_S256x5120_S256x256_0_4352,
   h.packedbf16_S256x5120_S256x256_0_4352,
   h.inb_S8x5120_S1x256_0_4352,
   h.inb_S256x5120_S256x256_0_4608,
   h.packedbf16_S256x5120_S256x256_0_4608,
   h.inb_S8x5120_S1x256_0_4608,
   h.inb_S256x5120_S256x256_0_4864,
   h.packedbf16_S256x5120_S256x256_0_4864,
   h.inb_S8x5120_S1x256_0_4864,
   h.packedbf16_S256x5120_S256x1024_0_1024,
   h.inb_S8x5120_S1x1024_0_1024,
   h.reduces_S256x1024_S1024,
   h.slices_S256x1024_o0_0_S128x1024,
   h.slices_S256x1024_o128_0_S128x1024,
   h.shapeCasts_S128x128_S1x128x128,
   h.inb_S8x1024_S1x1024_1_0,
   h.inb_S8x1024_S1x1024_2_0,
   h.packedbf16_S256x5120_S256x1024_0_2048,
   h.inb_S8x5120_S1x1024_0_2048,
   h.inb_S128x128_S128x128_0_0,
   h.h_S128x128,
   h.shapeCasts_S128x128_S128x128,
   h.inb_S128x1024_S128x256_0_0,
   h.reduces_S128x256_S128,
   h.shapeCasts_S128_S128x1,
   h.shapeCasts_S128x1_S128x1,
   h.broadcasts_S128x1_S128x128,
   h.inb_S128x512_S128x128_0_0,
   h.inb_S128x1024_S128x256_0_256,
   h.inb_S128x512_S128x128_0_128,
   h.inb_S128x1024_S128x256_0_512,
   h.inb_S128x512_S128x128_0_256,
   h.inb_S128x1024_S128x256_0_768,
   h.inb_S128x512_S128x128_0_384,
   h.inb_S4x256x256_S1x64x256_0_0_0,
   h.h_S1x64x256,
   h.shapeCasts_S1x64x256_S64x256,
   h.inb_S2x4x128x256_S1x1x64x256_0_0_0_0,
   h.h_S1x1x64x256,
   h.shapeCasts_S1x1x64x256_S64x256,
   h.shapeCasts_S64x256_S1x1x64x256,
   h.packedbf16_S2x4x128x256_S1x1x64x256_0_0_0_0,
   h.inb_S4x256x256_S1x64x256_0_64_0,
   h.inb_S2x4x128x256_S1x1x64x256_0_1_0_0,
   h.packedbf16_S2x4x128x256_S1x1x64x256_0_1_0_0,
   h.inb_S4x256x256_S1x64x256_0_128_0,
   h.inb_S2x4x128x256_S1x1x64x256_0_2_0_0,
   h.packedbf16_S2x4x128x256_S1x1x64x256_0_2_0_0,
   h.inb_S4x256x256_S1x64x256_0_192_0,
   h.inb_S2x4x128x256_S1x1x64x256_0_3_0_0,
   h.packedbf16_S2x4x128x256_S1x1x64x256_0_3_0_0,
   h.inb_S4x256x256_S1x64x256_1_0_0,
   h.inb_S2x4x128x256_S1x1x64x256_0_0_64_0,
   h.packedbf16_S2x4x128x256_S1x1x64x256_0_0_64_0,
   h.inb_S4x256x256_S1x64x256_1_64_0,
   h.inb_S2x4x128x256_S1x1x64x256_0_1_64_0,
   h.packedbf16_S2x4x128x256_S1x1x64x256_0_1_64_0,
   h.inb_S4x256x256_S1x64x256_1_128_0,
   h.inb_S2x4x128x256_S1x1x64x256_0_2_64_0,
   h.packedbf16_S2x4x128x256_S1x1x64x256_0_2_64_0,
   h.inb_S4x256x256_S1x64x256_1_192_0,
   h.inb_S2x4x128x256_S1x1x64x256_0_3_64_0,
   h.packedbf16_S2x4x128x256_S1x1x64x256_0_3_64_0,
   h.inb_S4x256x256_S1x64x256_2_0_0,
   h.inb_S2x4x128x256_S1x1x64x256_1_0_0_0,
   h.packedbf16_S2x4x128x256_S1x1x64x256_1_0_0_0,
   h.inb_S4x256x256_S1x64x256_2_64_0,
   h.inb_S2x4x128x256_S1x1x64x256_1_1_0_0,
   h.packedbf16_S2x4x128x256_S1x1x64x256_1_1_0_0,
   h.inb_S4x256x256_S1x64x256_2_128_0,
   h.inb_S2x4x128x256_S1x1x64x256_1_2_0_0,
   h.packedbf16_S2x4x128x256_S1x1x64x256_1_2_0_0,
   h.inb_S4x256x256_S1x64x256_2_192_0,
   h.inb_S2x4x128x256_S1x1x64x256_1_3_0_0,
   h.packedbf16_S2x4x128x256_S1x1x64x256_1_3_0_0,
   h.inb_S4x256x256_S1x64x256_3_0_0,
   h.inb_S2x4x128x256_S1x1x64x256_1_0_64_0,
   h.packedbf16_S2x4x128x256_S1x1x64x256_1_0_64_0,
   h.inb_S4x256x256_S1x64x256_3_64_0,
   h.inb_S2x4x128x256_S1x1x64x256_1_1_64_0,
   h.packedbf16_S2x4x128x256_S1x1x64x256_1_1_64_0,
   h.inb_S4x256x256_S1x64x256_3_128_0,
   h.inb_S2x4x128x256_S1x1x64x256_1_2_64_0,
   h.packedbf16_S2x4x128x256_S1x1x64x256_1_2_64_0,
   h.inb_S4x256x256_S1x64x256_3_192_0,
   h.inb_S2x4x128x256_S1x1x64x256_1_3_64_0,
   h.packedbf16_S2x4x128x256_S1x1x64x256_1_3_64_0,
   h.dot_S256x1024_S1024x1024_S256x1024_1_1_0_0_n_n_wf,
   h.dot_S128x128_S128x256_S128x256_1_0_0_1_n_n_wf,
   h.dot_S256x256_S256x256_S256x256_1_0_0_1_n_n_wf,
   h.dot_S256x256_S256x256_S256x256_0_0_1_1_n_n_wf,
   h.dot_S256x256_S256x256_S256x256_1_1_0_0_n_n_wf,
   h.dot_S128x256_S128x256_S128x128_1_1_0_0_n_n_wf,
   h.hrank0,
   h.hstage0_0,
   h.nbuf0_0,
   h.hreads0_0,
   h.hinb0_0,
   h.hwx0_0,
   h.hstage0_1,
   h.nbuf0_1,
   h.hreads0_1,
   h.hinb0_1,
   h.hwx0_1,
   h.hstage0_2,
   h.nbuf0_2,
   h.hreads0_2,
   h.hinb0_2,
   h.hwx0_2,
   h.hstage0_3,
   h.nbuf0_3,
   h.hreads0_3,
   h.hinb0_3,
   h.hwx0_3,
   h.hstage0_4,
   h.nbuf0_4,
   h.hreads0_4,
   h.hinb0_4,
   h.hwx0_4,
   h.hstage0_5,
   h.nbuf0_5,
   h.hreads0_5,
   h.hinb0_5,
   h.hwx0_5,
   h.hstage0_6,
   h.nbuf0_6,
   h.hreads0_6,
   h.hinb0_6,
   h.hwx0_6,
   h.hstage0_7,
   h.nbuf0_7,
   h.hreads0_7,
   h.hinb0_7,
   h.hwx0_7,
   h.hstage0_8,
   h.nbuf0_8,
   h.hreads0_8,
   h.hinb0_8,
   h.hwx0_8,
   h.hstage0_9,
   h.nbuf0_9,
   h.hreads0_9,
   h.hinb0_9,
   h.hwx0_9,
   h.hstage0_10,
   h.nbuf0_10,
   h.hreads0_10,
   h.hinb0_10,
   h.hwx0_10,
   h.hstage0_11,
   h.nbuf0_11,
   h.hreads0_11,
   h.hinb0_11,
   h.hwx0_11,
   h.hstage0_12,
   h.nbuf0_12,
   h.hreads0_12,
   h.hinb0_12,
   h.hwx0_12,
   h.hstage0_13,
   h.nbuf0_13,
   h.hreads0_13,
   h.hinb0_13,
   h.hwx0_13,
   h.hstage0_14,
   h.nbuf0_14,
   h.hreads0_14,
   h.hinb0_14,
   h.hwx0_14,
   h.hstage0_15,
   h.nbuf0_15,
   h.hreads0_15,
   h.hinb0_15,
   h.hwx0_15,
   h.hstage0_16,
   h.nbuf0_16,
   h.hreads0_16,
   h.hinb0_16,
   h.hwx0_16,
   h.hstage0_17,
   h.nbuf0_17,
   h.hreads0_17,
   h.hinb0_17,
   h.hwx0_17,
   h.hstage0_18,
   h.nbuf0_18,
   h.hreads0_18,
   h.hinb0_18,
   h.hwx0_18,
   h.hstage0_19,
   h.nbuf0_19,
   h.hreads0_19,
   h.hinb0_19,
   h.hwx0_19,
   h.hstage0_20,
   h.nbuf0_20,
   h.hreads0_20,
   h.hinb0_20,
   h.hwx0_20⟩

instance kernelFacts : Cert.Kernel.Facts where
  toFacts₀ := kernelFacts₀

/-- The named constants at the bit-exact arithmetic. -/
@[reducible] def namedBits : Named Bits := ⟨fun _ _ {φ} bits => Scalar.ofBits φ bits⟩
attribute [local instance] namedBits

theorem body_Kernel : @Cert.Kernel.cc0_mix_bwd Bits _ _ = @Cert.KernelIdeal.cc0_mix_bwd Bits _ _ _ := rfl

theorem defs₀_Kernel : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => dsimp only; rw [body_Kernel]; exact rfl
  | ⟨_ + 1, h⟩, _ => exact absurd h (Nat.not_lt.2 (Nat.le_add_left _ _))

theorem frame_Kernel : Cert.quiescent_Kernel := fun m ρ _ => by
  have h := Cert.KernelIdeal.Mix.frame (F := Bits) m ρ
  unfold Cert.Kernel.defs
  rw [defs₀_Kernel]
  exact h

end Cert.Proof
end
-- ==== Proof.Mix.Spec.lean ====
/- # The token mixer's weight gradients, entry by entry

Rows are counted from 0 to 4095; the spatial gate cuts them into 32 blocks of 128. Columns are counted from 0 to 1023; the heads, and
the pooling groups, cut them into 4 runs of 256. -/
module

public import Idealize.ShloMosaic.Lib.Pipeline.ValueKit
public import Idealize.ShloMosaic.Lib.Pointwise

@[expose] public section

set_option maxRecDepth 16384

noncomputable section

open Idealize.ShloMosaic

namespace Cert.MixRows

/-- Row `i` of block `b`. -/
def rw (b : Fin 32) (i : Fin 128) : Fin 4096 := ⟨b.val * 128 + i.val, by omega⟩
/-- Column `c` of head `g`. -/
def col (g : Fin 4) (c : Fin 256) : Fin 1024 := ⟨g.val * 256 + c.val, by omega⟩
/-- The block of a row. -/
def blk (r : Fin 4096) : Fin 32 := ⟨r.val / 128, by omega⟩
/-- A row's place in its block. -/
def lo (r : Fin 4096) : Fin 128 := ⟨r.val % 128, by omega⟩
/-- The head of a column. -/
def hd (q : Fin 1024) : Fin 4 := ⟨q.val / 256, by omega⟩
/-- A column's place in its head. -/
def cl (q : Fin 1024) : Fin 256 := ⟨q.val % 256, by omega⟩

theorem blk_rw (b : Fin 32) (i : Fin 128) : blk (rw b i) = b := Fin.ext (by show (b.val * 128 + i.val) / 128 = b.val; omega)
theorem lo_rw (b : Fin 32) (i : Fin 128) : lo (rw b i) = i := Fin.ext (by show (b.val * 128 + i.val) % 128 = i.val; omega)
theorem hd_col (g : Fin 4) (c : Fin 256) : hd (col g c) = g := Fin.ext (by show (g.val * 256 + c.val) / 256 = g.val; omega)
theorem cl_col (g : Fin 4) (c : Fin 256) : cl (col g c) = c := Fin.ext (by show (g.val * 256 + c.val) % 256 = c.val; omega)
theorem rw_blk (r : Fin 4096) : rw (blk r) (lo r) = r := Fin.ext (by show r.val / 128 * 128 + r.val % 128 = r.val; omega)
theorem col_hd (q : Fin 1024) : col (hd q) (cl q) = q := Fin.ext (by show q.val / 256 * 256 + q.val % 256 = q.val; omega)

/-- The arguments: the input projection's result `z`, the gradient `dy` of the mixer's result, the pooling's weights `wp` and scale `ps`,
the norm's gain `lg` and shift `lb`, the gate's shift `bs`, the weights after the gate `wq` and after the mixer `wo`; and two things made of the arguments by the same
operations on both sides: the pooled columns `pool` and the masked spatial weights `wm`. -/
structure Args where
  z : FVec Ideal (⟨2, ![4096, 5120]⟩ : Shape) .f32
  dy : FVec Ideal (⟨2, ![4096, 1024]⟩ : Shape) .f32
  wp : FVec Ideal (⟨3, ![4, 256, 256]⟩ : Shape) .f32
  ps : FVec Ideal (⟨1, ![1024]⟩ : Shape) .f32
  lg : FVec Ideal (⟨1, ![1024]⟩ : Shape) .f32
  lb : FVec Ideal (⟨1, ![1024]⟩ : Shape) .f32
  bs : FVec Ideal (⟨2, ![4, 128]⟩ : Shape) .f32
  wq : FVec Ideal (⟨3, ![4, 256, 256]⟩ : Shape) .f32
  wo : FVec Ideal (⟨2, ![1024, 1024]⟩ : Shape) .f32
  pool : FVec Ideal (⟨4, ![1, 4096, 4, 256]⟩ : Shape) .f32
  wm : FVec Ideal (⟨3, ![4, 128, 128]⟩ : Shape) .f32

/-- The tanh form of GELU, as the reference writes it. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The logistic function, as the reference writes it. -/
def sigm (x : EReal) : EReal :=
  Ideal.div (Ideal.ofBits .f32 0x3F800000#32) (Ideal.ofBits .f32 0x3F800000#32 + Ideal.exp (-x))

/-- 1024, that a mean over a row divides by. -/
abbrev cD : EReal := Ideal.ofBits .f32 0x44800000#32
/-- A row minus its mean. -/
def cen (x : Fin 1024 → EReal) : Fin 1024 → EReal := fun k => x k - Ideal.div (∑ j : Fin 1024, x j) cD
/-- One over the root of a centered row's mean square. -/
def rstd (x : Fin 1024 → EReal) : EReal := Ideal.rsqrt (Ideal.div (∑ j : Fin 1024, x j * x j) cD + Ideal.ofBits .f32 0x358637BD#32)
/-- The row normed to mean zero and mean square one. -/
def nrm (x : Fin 1024 → EReal) : Fin 1024 → EReal := fun k => cen x k * rstd (cen x)

variable (a : Args)

/-- The gradient of the merged rows. -/
def dm (r : Fin 4096) (q : Fin 1024) : EReal := ∑ k : Fin 1024, a.dy (ix2 r k) * a.wo (ix2 q k)
/-- The gate of the pooled branch. -/
def sa (r : Fin 4096) (q : Fin 1024) : EReal := sigm (a.z (ix2 r ⟨3072 + q.val, by omega⟩))
/-- The gate of the other branch. -/
def sb (r : Fin 4096) (q : Fin 1024) : EReal := sigm (a.z (ix2 r ⟨4096 + q.val, by omega⟩))
/-- The gradient of the pooled branch. -/
def da (r : Fin 4096) (q : Fin 1024) : EReal := sa a r q * dm a r q
/-- The gradient of the other branch. -/
def db (r : Fin 4096) (q : Fin 1024) : EReal := sb a r q * dm a r q
/-- The content. -/
def u (r : Fin 4096) (q : Fin 1024) : EReal := gelu (a.z (ix2 r ⟨1024 + q.val, by omega⟩))
/-- The normed row that the spatial gate mixes, before its gain. -/
def vh (r : Fin 4096) : Fin 1024 → EReal := nrm fun q => gelu (a.z (ix2 r ⟨2048 + q.val, by omega⟩))
/-- The same, with gain and shift. -/
def vb (r : Fin 4096) (q : Fin 1024) : EReal := vh a r q * a.lg (ix1 q) + a.lb (ix1 q)
/-- The gate's factor. -/
def sv (r : Fin 4096) (q : Fin 1024) : EReal :=
  (∑ j : Fin 128, vb a (rw (blk r) j) q * a.wm (ix3 (hd q) (lo r) j)) + a.bs (ix2 (hd q) (lo r))
/-- The gated rows. -/
def gt (r : Fin 4096) (q : Fin 1024) : EReal := u a r q * sv a r q
/-- Their gradient. -/
def dgt (r : Fin 4096) (q : Fin 1024) : EReal := ∑ d : Fin 256, db a r (col (hd q) d) * a.wq (ix3 (hd q) (cl q) d)
/-- The gradient of the gate's factor. -/
def dsv (r : Fin 4096) (q : Fin 1024) : EReal := u a r q * dgt a r q
/-- The gradient of the rows that the gate mixes. -/
def dv (r : Fin 4096) (q : Fin 1024) : EReal := ∑ i : Fin 128, dsv a (rw (blk r) i) q * a.wm (ix3 (hd q) i (lo r))
/-- The pooled columns. -/
def pl (r : Fin 4096) (q : Fin 1024) : EReal := a.pool (ix4 0 r (hd q) (cl q))
/-- The pooled branch, before its scale. -/
def ap (r : Fin 4096) (q : Fin 1024) : EReal := ∑ k : Fin 256, a.wp (ix3 (hd q) k (cl q)) * pl a r (col (hd q) k)
/-- The gradient of the pooling's weights. -/
def dwp (g : Fin 4) (k d : Fin 256) : EReal := ∑ r : Fin 4096, da a r (col g d) * a.ps (ix1 (col g d)) * pl a r (col g k)
/-- The gradient of the weights after the gate. -/
def dwq (g : Fin 4) (k d : Fin 256) : EReal := ∑ r : Fin 4096, db a r (col g d) * gt a r (col g k)
/-- The gradient of the spatial weights, before the mask. -/
def dws (g : Fin 4) (i j : Fin 128) : EReal :=
  ∑ b : Fin 32, ∑ k : Fin 256, dsv a (rw b i) (col g k) * vb a (rw b j) (col g k)
/-- The gradient of the gate's shift. -/
def dbs (g : Fin 4) (i : Fin 128) : EReal := ∑ b : Fin 32, ∑ k : Fin 256, dsv a (rw b i) (col g k)
/-- The gradient of the pooling's scale. -/
def dps (q : Fin 1024) : EReal := ∑ r : Fin 4096, ap a r q * da a r q
/-- The gradient of the norm's gain. -/
def dlg (q : Fin 1024) : EReal := ∑ r : Fin 4096, vh a r q * dv a r q
/-- The gradient of the norm's shift. -/
def dlb (q : Fin 1024) : EReal := ∑ r : Fin 4096, dv a r q

/-! ## The kernel's forms of the two scalar functions -/

theorem half_eq : Ideal.ofBits .f32 0x3F000000#32 = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem c0_eq : Ideal.ofBits .f32 0x3F4C422A#32 = ((6693141 / 8388608 : ℝ) : EReal) := by
  simp [Ideal.ofBits, Ideal.ieee, -EReal.coe_mul]; norm_num
theorem c1_eq : Ideal.ofBits .f32 0x3D372713#32 = ((12003091 / 268435456 : ℝ) : EReal) := by
  simp [Ideal.ofBits, Ideal.ieee, -EReal.coe_mul]; norm_num

/-- The logistic function through tanh of half the argument: of any extended real. -/
theorem sigm_tanh (x : EReal) : Ideal.ofBits .f32 0x3F000000#32 * Ideal.tanh (Ideal.ofBits .f32 0x3F000000#32 * x)
    + Ideal.ofBits .f32 0x3F000000#32 = sigm x := by
  have hp : (0 : ℝ) < 1 / 2 := by norm_num
  unfold sigm
  rw [half_eq, one_eq]
  induction x using EReal.rec with
  | bot =>
    rw [EReal.coe_mul_bot_of_pos hp, EReal.neg_bot]
    show ((1 / 2 : ℝ) : EReal) * (-1 : EReal) + ((1 / 2 : ℝ) : EReal) = Ideal.div ((1 : ℝ) : EReal) (((1 : ℝ) : EReal) + ⊤)
    rw [EReal.coe_add_top]
    unfold Ideal.div
    rw [if_neg (by simp), EReal.inv_top, mul_zero]
    have : (-1 : EReal) = ((-1 : ℝ) : EReal) := by norm_num
    rw [this, ← EReal.coe_mul, ← EReal.coe_add]
    norm_num
  | top =>
    rw [EReal.coe_mul_top_of_pos hp, EReal.neg_top]
    show ((1 / 2 : ℝ) : EReal) * (1 : EReal) + ((1 / 2 : ℝ) : EReal) = Ideal.div ((1 : ℝ) : EReal) (((1 : ℝ) : EReal) + 0)
    rw [add_zero, mul_one, ← EReal.coe_add]
    unfold Ideal.div
    rw [if_neg (by norm_num), ← EReal.coe_inv, ← EReal.coe_mul]
    norm_num
  | coe r =>
    rw [← EReal.coe_neg, ← EReal.coe_mul]
    show ((1 / 2 : ℝ) : EReal) * ((Real.tanh (1 / 2 * r) : ℝ) : EReal) + ((1 / 2 : ℝ) : EReal)
      = Ideal.div ((1 : ℝ) : EReal) (((1 : ℝ) : EReal) + ((Real.exp (-r) : ℝ) : EReal))
    have h1 : 0 < 1 + Real.exp (-r) := by positivity
    rw [← EReal.coe_mul, ← EReal.coe_add, ← EReal.coe_add]
    unfold Ideal.div
    rw [if_neg (by exact_mod_cast h1.ne'), ← EReal.coe_inv, ← EReal.coe_mul, EReal.coe_eq_coe_iff]
    have e2 : Real.exp (-r) = Real.exp (-(1 / 2 * r)) / Real.exp (1 / 2 * r) := by rw [← Real.exp_sub]; congr 1; ring
    have p1 := Real.exp_pos (1 / 2 * r)
    have p2 := Real.exp_pos (-(1 / 2 * r))
    rw [Real.tanh_eq_sinh_div_cosh, Real.sinh_eq, Real.cosh_eq, e2]
    field_simp
    ring

/-- GELU with the cube's coefficient taken inside: of any extended real. -/
theorem gelu_inner (x : EReal) : x * (Ideal.ofBits .f32 0x3F000000#32 * Ideal.tanh (x * (Ideal.ofBits .f32 0x3F4C422A#32
    + ((80338380498831 / 2251799813685248 : ℝ) : EReal) * (x * x))) + Ideal.ofBits .f32 0x3F000000#32) = gelu x := by
  have p0 : (0 : ℝ) < 6693141 / 8388608 := by norm_num
  have p1 : (0 : ℝ) < 12003091 / 268435456 := by norm_num
  have p2 : (0 : ℝ) < 80338380498831 / 2251799813685248 := by norm_num
  unfold gelu
  rw [half_eq, one_eq, c0_eq, c1_eq]
  induction x using EReal.rec with
  | bot =>
    rw [EReal.bot_mul_bot, EReal.coe_mul_top_of_pos p2, EReal.coe_add_top, EReal.bot_mul_top, EReal.top_mul_bot, EReal.coe_mul_bot_of_pos p1,
      EReal.bot_add, EReal.coe_mul_bot_of_pos p0]
    congr 1
    show ((1 / 2 : ℝ) : EReal) * (-1 : EReal) + ((1 / 2 : ℝ) : EReal) = ((1 / 2 : ℝ) : EReal) * (((1 : ℝ) : EReal) + (-1 : EReal))
    have : (-1 : EReal) = ((-1 : ℝ) : EReal) := by norm_num
    rw [this, ← EReal.coe_mul, ← EReal.coe_add, ← EReal.coe_add, ← EReal.coe_mul]
    norm_num
  | top =>
    rw [EReal.top_mul_top, EReal.coe_mul_top_of_pos p2, EReal.coe_add_top, EReal.top_mul_top, EReal.coe_mul_top_of_pos p1,
      EReal.top_add_top, EReal.coe_mul_top_of_pos p0]
    congr 1
    show ((1 / 2 : ℝ) : EReal) * (1 : EReal) + ((1 / 2 : ℝ) : EReal) = ((1 / 2 : ℝ) : EReal) * (((1 : ℝ) : EReal) + (1 : EReal))
    have : (1 : EReal) = ((1 : ℝ) : EReal) := by norm_num
    rw [this, ← EReal.coe_mul, ← EReal.coe_add, ← EReal.coe_add, ← EReal.coe_mul]
    norm_num
  | coe r =>
    simp only [← EReal.coe_mul, ← EReal.coe_add, Ideal.tanh_coe]
    rw [EReal.coe_eq_coe_iff]
    have e : r * (6693141 / 8388608 + 80338380498831 / 2251799813685248 * (r * r))
      = 6693141 / 8388608 * (r + 12003091 / 268435456 * (r * r * r)) := by ring
    rw [e]
    ring

end Cert.MixRows
end
-- ==== Proof.Mix.Pay.lean ====
/- # The token mixer's blocks: what each store computes, entry by entry, of any blocks

A step holds 256 rows, two blocks of 128. Buffers are written in pieces: a head's columns, or a head's columns of one block. -/
module

public import proofs.«01_k».proof.Proof.Mix.Spec
public import proofs.«01_k».proof.Proof.Gen.KernelIdeal.Skeleton

@[expose] public section

set_option maxRecDepth 16384

noncomputable section

open Idealize.ShloMosaic Idealize.ShloMosaic.TcCoe Idealize.SL.Sem

namespace Cert.KernelIdeal.Mix
open Cert.KernelIdeal Cert.KernelIdeal.Gen Cert.MixRows

variable [Facts]

/-! ## Rows -/

theorem dm_pay (D : FVec Ideal S256x1024 .bf16) (W : FVec Ideal S1024x1024 .bf16) (p : Fin 256) (q : Fin 1024) :
    k0_pay56 (F := Ideal) D W (ix2 p q) = ∑ k : Fin 1024, D (ix2 p k) * W (ix2 q k) := by
  pointwise [k0_pay56]
  done

theorem sa_pay (Z : FVec Ideal S256x1024 .f32) (p : Fin 256) (q : Fin 1024) :
    k0_pay81 (F := Ideal) Z (ix2 p q) = sigm (Z (ix2 p q)) := by
  refine Eq.trans ?_ (sigm_tanh _)
  pointwise [k0_pay81]
  done

theorem da_pay (D S : FVec Ideal S256x1024 .f32) (p : Fin 256) (q : Fin 1024) :
    k0_pay83 (F := Ideal) D S (ix2 p q) = D (ix2 p q) * S (ix2 p q) := by
  pointwise [k0_pay83]
  done

theorem db_pay (D Z : FVec Ideal S256x1024 .f32) (p : Fin 256) (q : Fin 1024) :
    k0_pay85 (F := Ideal) D Z (ix2 p q) = D (ix2 p q) * sigm (Z (ix2 p q)) := by
  refine Eq.trans ?_ (congrArg (D (ix2 p q) * ·) (sigm_tanh _))
  pointwise [k0_pay85, k0_pay84, k0_pay82]
  done

theorem c0c1_eq : (Named.named κ "gelu_c0c1" 0x3D122279#32 : Ideal .f32) = ((80338380498831 / 2251799813685248 : ℝ) : EReal) := rfl

theorem u_pay (Z : FVec Ideal S256x1024 .f32) (p : Fin 256) (q : Fin 1024) :
    k0_pay59 (F := Ideal) Z (ix2 p q) = gelu (Z (ix2 p q)) := by
  refine Eq.trans ?_ (gelu_inner _)
  pointwise [k0_pay59, k0_pay58, k0_pay57, c0c1_eq]
  done

theorem gv_pay (Z : FVec Ideal S256x1024 .f32) (p : Fin 256) (q : Fin 1024) :
    k0_pay64 (F := Ideal) Z (k0_pay62 Z) (ix2 p q) = gelu (Z (ix2 p q)) := by
  refine Eq.trans ?_ (gelu_inner _)
  pointwise [k0_pay64, k0_pay63, k0_pay62, k0_pay61, c0c1_eq]
  done

theorem vh_pay (Z : FVec Ideal S256x1024 .f32) (p : Fin 256) (q : Fin 1024) :
    k0_pay68 (F := Ideal) Z (k0_pay62 Z) (ix2 p q) = nrm (fun k => gelu (Z (ix2 p k))) q := by
  have hx : ∀ k : Fin 1024, k0_pay66 (F := Ideal) Z (k0_pay62 Z) (ix2 p k) = cen (fun q => gelu (Z (ix2 p q))) k := fun k => by
    pointwise [k0_pay66, gv_pay, cen]
    done
  pointwise [k0_pay68, k0_pay67, hx, nrm, rstd]
  done

theorem vb_pay (Z : FVec Ideal S256x1024 .f32) (G B : FVec Ideal S1x1024 .f32) (p : Fin 256) (q : Fin 1024) :
    k0_pay69 (F := Ideal) Z (k0_pay62 Z) G B (ix2 p q) = nrm (fun k => gelu (Z (ix2 p k))) q * G (ix2 0 q) + B (ix2 0 q) := by
  pointwise [k0_pay69, vh_pay]
  done

theorem gt_pay (U S : FVec Ideal S256x1024 .f32) (p : Fin 256) (q : Fin 1024) :
    k0_pay80 (F := Ideal) U S (ix2 p q) = U (ix2 p q) * S (ix2 p q) := by
  pointwise [k0_pay80]
  done

/-! ## The gate's factor, a head's columns of one block at a time -/

theorem sv_pay0 (Z : FVec Ideal S256x1024 .f32) (A B : FVec Ideal S1x1024 .f32) (W : FVec Ideal S1x128x128 .bf16) (S : FVec Ideal S1x128x1 .f32) (i : Fin 128) (k : Fin 256) :
    k0_pay72 (F := Ideal) (k0_pay70 W) (k0_pay71 Z (k0_pay62 Z) A B) (constant S128x256 FTy.f32 0#32) S (ix2 i k) = (∑ j : Fin 128, W (ix3 0 i j) * k0_pay69 (F := Ideal) Z (k0_pay62 Z) A B (ix2 ⟨0 + j.val, by omega⟩ ⟨0 + k.val, by omega⟩)) + S (ix3 0 i 0) := by
  pointwise [k0_pay72, k0_pay70, k0_pay71]
  done

theorem sv_pay1 (V : FVec Ideal S256x1024 .bf16) (W : FVec Ideal S1x128x128 .bf16) (S : FVec Ideal S1x128x1 .f32) (i : Fin 128) (k : Fin 256) :
    k0_pay73 (F := Ideal) V W S (ix2 i k) = (∑ j : Fin 128, W (ix3 0 i j) * V (ix2 ⟨0 + j.val, by omega⟩ ⟨256 + k.val, by omega⟩)) + S (ix3 0 i 0) := by
  pointwise [k0_pay73]
  done

theorem sv_pay2 (V : FVec Ideal S256x1024 .bf16) (W : FVec Ideal S1x128x128 .bf16) (S : FVec Ideal S1x128x1 .f32) (i : Fin 128) (k : Fin 256) :
    k0_pay74 (F := Ideal) V W S (ix2 i k) = (∑ j : Fin 128, W (ix3 0 i j) * V (ix2 ⟨0 + j.val, by omega⟩ ⟨512 + k.val, by omega⟩)) + S (ix3 0 i 0) := by
  pointwise [k0_pay74]
  done

theorem sv_pay3 (V : FVec Ideal S256x1024 .bf16) (W : FVec Ideal S1x128x128 .bf16) (S : FVec Ideal S1x128x1 .f32) (i : Fin 128) (k : Fin 256) :
    k0_pay75 (F := Ideal) V W S (ix2 i k) = (∑ j : Fin 128, W (ix3 0 i j) * V (ix2 ⟨0 + j.val, by omega⟩ ⟨768 + k.val, by omega⟩)) + S (ix3 0 i 0) := by
  pointwise [k0_pay75]
  done

theorem sv_pay4 (V : FVec Ideal S256x1024 .bf16) (W : FVec Ideal S1x128x128 .bf16) (S : FVec Ideal S1x128x1 .f32) (i : Fin 128) (k : Fin 256) :
    k0_pay76 (F := Ideal) V W S (ix2 i k) = (∑ j : Fin 128, W (ix3 0 i j) * V (ix2 ⟨128 + j.val, by omega⟩ ⟨0 + k.val, by omega⟩)) + S (ix3 0 i 0) := by
  pointwise [k0_pay76]
  done

theorem sv_pay5 (V : FVec Ideal S256x1024 .bf16) (W : FVec Ideal S1x128x128 .bf16) (S : FVec Ideal S1x128x1 .f32) (i : Fin 128) (k : Fin 256) :
    k0_pay77 (F := Ideal) V W S (ix2 i k) = (∑ j : Fin 128, W (ix3 0 i j) * V (ix2 ⟨128 + j.val, by omega⟩ ⟨256 + k.val, by omega⟩)) + S (ix3 0 i 0) := by
  pointwise [k0_pay77]
  done

theorem sv_pay6 (V : FVec Ideal S256x1024 .bf16) (W : FVec Ideal S1x128x128 .bf16) (S : FVec Ideal S1x128x1 .f32) (i : Fin 128) (k : Fin 256) :
    k0_pay78 (F := Ideal) V W S (ix2 i k) = (∑ j : Fin 128, W (ix3 0 i j) * V (ix2 ⟨128 + j.val, by omega⟩ ⟨512 + k.val, by omega⟩)) + S (ix3 0 i 0) := by
  pointwise [k0_pay78]
  done

theorem sv_pay7 (V : FVec Ideal S256x1024 .bf16) (W : FVec Ideal S1x128x128 .bf16) (S : FVec Ideal S1x128x1 .f32) (i : Fin 128) (k : Fin 256) :
    k0_pay79 (F := Ideal) V W S (ix2 i k) = (∑ j : Fin 128, W (ix3 0 i j) * V (ix2 ⟨128 + j.val, by omega⟩ ⟨768 + k.val, by omega⟩)) + S (ix3 0 i 0) := by
  pointwise [k0_pay79]
  done

/-! ## The pooling's weights, a group at a time -/

theorem dwp_pay0 (P : FVec Ideal S256x256 .bf16) (D S : FVec Ideal S256x1024 .f32) (C : FVec Ideal S1x256 .f32) (X : FVec Ideal S1x256x256 .f32) (i j : Fin 256) :
    k0_pay96 (F := Ideal) (k0_pay87 P) (k0_pay88 D S) (k0_pay89 C) X (ix3 0 i j) = X (ix3 0 i j) + ∑ p : Fin 256, P (ix2 p i) * ((k0_pay83 (F := Ideal) D S) (ix2 p ⟨0 + j.val, by omega⟩) * C (ix2 0 j)) := by
  pointwise [k0_pay96, k0_pay95, k0_pay87, k0_pay88, k0_pay83, k0_pay89]
  done

theorem dwp_pay1 (P : FVec Ideal S256x256 .bf16) (D : FVec Ideal S256x1024 .f32) (C : FVec Ideal S1x256 .f32) (X : FVec Ideal S1x256x256 .f32) (i j : Fin 256) :
    k0_pay110 (F := Ideal) (k0_pay108 X) (k0_pay109 D P C) (ix3 0 i j) = X (ix3 0 i j) + ∑ p : Fin 256, P (ix2 p i) * (D (ix2 p ⟨256 + j.val, by omega⟩) * C (ix2 0 j)) := by
  pointwise [k0_pay110, k0_pay108, k0_pay109, k0_pay99, k0_pay107, k0_pay101, k0_pay100]
  done

theorem dwp_pay2 (P : FVec Ideal S256x256 .bf16) (D : FVec Ideal S256x1024 .f32) (C : FVec Ideal S1x256 .f32) (X : FVec Ideal S1x256x256 .f32) (i j : Fin 256) :
    k0_pay123 (F := Ideal) (k0_pay113 P) (k0_pay114 D) (k0_pay115 C) X (ix3 0 i j) = X (ix3 0 i j) + ∑ p : Fin 256, P (ix2 p i) * (D (ix2 p ⟨512 + j.val, by omega⟩) * C (ix2 0 j)) := by
  pointwise [k0_pay123, k0_pay122, k0_pay113, k0_pay114, k0_pay115]
  done

theorem dwp_pay3 (P : FVec Ideal S256x256 .bf16) (D : FVec Ideal S256x1024 .f32) (C : FVec Ideal S1x256 .f32) (X : FVec Ideal S1x256x256 .f32) (i j : Fin 256) :
    k0_pay136 (F := Ideal) (k0_pay127 P) (k0_pay135 D C) X (ix3 0 i j) = X (ix3 0 i j) + ∑ p : Fin 256, P (ix2 p i) * (D (ix2 p ⟨768 + j.val, by omega⟩) * C (ix2 0 j)) := by
  pointwise [k0_pay136, k0_pay127, k0_pay135, k0_pay129, k0_pay128]
  done

/-! ## The weights after the gate, a head at a time -/

theorem dwq_pay0 (G D : FVec Ideal S256x1024 .bf16) (X : FVec Ideal S1x256x256 .f32) (i j : Fin 256) :
    k0_pay157 (F := Ideal) (k0_pay152 G) (k0_pay153 D) X (ix3 0 i j) = X (ix3 0 i j) + ∑ p : Fin 256, G (ix2 p ⟨0 + i.val, by omega⟩) * D (ix2 p ⟨0 + j.val, by omega⟩) := by
  pointwise [k0_pay157, k0_pay152, k0_pay153]
  done

theorem dwq_pay1 (G D : FVec Ideal S256x1024 .bf16) (X : FVec Ideal S1x256x256 .f32) (i j : Fin 256) :
    k0_pay166 (F := Ideal) (k0_pay161 G) (k0_pay162 D) X (ix3 0 i j) = X (ix3 0 i j) + ∑ p : Fin 256, G (ix2 p ⟨256 + i.val, by omega⟩) * D (ix2 p ⟨256 + j.val, by omega⟩) := by
  pointwise [k0_pay166, k0_pay161, k0_pay162]
  done

theorem dwq_pay2 (G D : FVec Ideal S256x1024 .bf16) (X : FVec Ideal S1x256x256 .f32) (i j : Fin 256) :
    k0_pay176 (F := Ideal) G D X (ix3 0 i j) = X (ix3 0 i j) + ∑ p : Fin 256, G (ix2 p ⟨512 + i.val, by omega⟩) * D (ix2 p ⟨512 + j.val, by omega⟩) := by
  pointwise [k0_pay176, k0_pay171, k0_pay172]
  done

theorem dwq_pay3 (G D : FVec Ideal S256x1024 .bf16) (X : FVec Ideal S1x256x256 .f32) (i j : Fin 256) :
    k0_pay186 (F := Ideal) (k0_pay185 G D X) (ix3 0 i j) = X (ix3 0 i j) + ∑ p : Fin 256, G (ix2 p ⟨768 + i.val, by omega⟩) * D (ix2 p ⟨768 + j.val, by omega⟩) := by
  pointwise [k0_pay186, k0_pay185, k0_pay180, k0_pay181]
  done

/-! ## The gradient of the gate's factor, a head's columns at a time -/

theorem dsv_pay0 (U : FVec Ideal S256x1024 .f32) (D : FVec Ideal S256x1024 .bf16) (W : FVec Ideal S1x256x256 .bf16) (p k : Fin 256) :
    k0_pay159 (F := Ideal) U (k0_pay153 D) W (ix2 p k) = (∑ d : Fin 256, D (ix2 p ⟨0 + d.val, by omega⟩) * W (ix3 0 k d)) * U (ix2 p ⟨0 + k.val, by omega⟩) := by
  pointwise [k0_pay159, k0_pay158, k0_pay153]
  done

theorem dsv_pay1 (U : FVec Ideal S256x1024 .f32) (D : FVec Ideal S256x1024 .bf16) (W : FVec Ideal S1x256x256 .bf16) (p k : Fin 256) :
    k0_pay168 (F := Ideal) U (k0_pay162 D) W (ix2 p k) = (∑ d : Fin 256, D (ix2 p ⟨256 + d.val, by omega⟩) * W (ix3 0 k d)) * U (ix2 p ⟨256 + k.val, by omega⟩) := by
  pointwise [k0_pay168, k0_pay167, k0_pay162]
  done

theorem dsv_pay2 (U : FVec Ideal S256x1024 .f32) (D : FVec Ideal S256x1024 .bf16) (W : FVec Ideal S1x256x256 .bf16) (p k : Fin 256) :
    k0_pay178 (F := Ideal) U (k0_pay177 D W) (ix2 p k) = (∑ d : Fin 256, D (ix2 p ⟨512 + d.val, by omega⟩) * W (ix3 0 k d)) * U (ix2 p ⟨512 + k.val, by omega⟩) := by
  pointwise [k0_pay178, k0_pay177, k0_pay172]
  done

theorem dsv_pay3 (U : FVec Ideal S256x1024 .f32) (D : FVec Ideal S256x1024 .bf16) (W : FVec Ideal S1x256x256 .bf16) (p k : Fin 256) :
    k0_pay188 (F := Ideal) U (k0_pay181 D) W (ix2 p k) = (∑ d : Fin 256, D (ix2 p ⟨768 + d.val, by omega⟩) * W (ix3 0 k d)) * U (ix2 p ⟨768 + k.val, by omega⟩) := by
  pointwise [k0_pay188, k0_pay187, k0_pay181]
  done

/-! ## The gate's shift, the spatial weights, and the gradient of the rows the gate mixes -/

theorem dbs_pay (D : FVec Ideal S256x1024 .f32) (X : FVec Ideal S128x1024 .f32) (i : Fin 128) (q : Fin 1024) :
    k0_pay195 (F := Ideal) (k0_pay194 D X) (ix2 i q) = X (ix2 i q) + (D (ix2 ⟨0 + i.val, by omega⟩ q) + D (ix2 ⟨128 + i.val, by omega⟩ q)) := by
  pointwise [k0_pay195, k0_pay194]
  done

theorem dbs_out0 (X : FVec Ideal S128x256 .f32) (i l : Fin 128) :
    k0_pay9 (F := Ideal) X (ix2 i l) = ∑ k : Fin 256, X (ix2 i k) := by
  pointwise [k0_pay9]
  done

theorem dbs_out1 (X : FVec Ideal S128x256 .f32) (i l : Fin 128) :
    k0_pay11 (F := Ideal) X (ix2 i l) = ∑ k : Fin 256, X (ix2 i k) := by
  pointwise [k0_pay11]
  done

theorem dbs_out2 (X : FVec Ideal S128x256 .f32) (i l : Fin 128) :
    k0_pay13 (F := Ideal) X (ix2 i l) = ∑ k : Fin 256, X (ix2 i k) := by
  pointwise [k0_pay13]
  done

theorem dbs_out3 (X : FVec Ideal S128x256 .f32) (i l : Fin 128) :
    k0_pay16 (F := Ideal) X (ix2 i l) = ∑ k : Fin 256, X (ix2 i k) := by
  pointwise [k0_pay16]
  done

theorem dws_pay0 (V D : FVec Ideal S256x1024 .bf16) (X : FVec Ideal S1x128x128 .f32) (i j : Fin 128) :
    k0_pay196 (F := Ideal) V D X (ix3 0 i j) = X (ix3 0 i j) + ∑ k : Fin 256, D (ix2 ⟨0 + i.val, by omega⟩ ⟨0 + k.val, by omega⟩) * V (ix2 ⟨0 + j.val, by omega⟩ ⟨0 + k.val, by omega⟩) := by
  pointwise [k0_pay196]
  done

theorem dws_pay1 (V D : FVec Ideal S256x1024 .bf16) (X : FVec Ideal S1x128x128 .f32) (i j : Fin 128) :
    k0_pay198 (F := Ideal) V D X (ix3 0 i j) = X (ix3 0 i j) + ∑ k : Fin 256, D (ix2 ⟨0 + i.val, by omega⟩ ⟨256 + k.val, by omega⟩) * V (ix2 ⟨0 + j.val, by omega⟩ ⟨256 + k.val, by omega⟩) := by
  pointwise [k0_pay198]
  done

theorem dws_pay2 (V D : FVec Ideal S256x1024 .bf16) (X : FVec Ideal S1x128x128 .f32) (i j : Fin 128) :
    k0_pay202 (F := Ideal) V D X (ix3 0 i j) = X (ix3 0 i j) + ∑ k : Fin 256, D (ix2 ⟨0 + i.val, by omega⟩ ⟨512 + k.val, by omega⟩) * V (ix2 ⟨0 + j.val, by omega⟩ ⟨512 + k.val, by omega⟩) := by
  pointwise [k0_pay202]
  done

theorem dws_pay3 (V D : FVec Ideal S256x1024 .bf16) (X : FVec Ideal S1x128x128 .f32) (i j : Fin 128) :
    k0_pay204 (F := Ideal) V D X (ix3 0 i j) = X (ix3 0 i j) + ∑ k : Fin 256, D (ix2 ⟨0 + i.val, by omega⟩ ⟨768 + k.val, by omega⟩) * V (ix2 ⟨0 + j.val, by omega⟩ ⟨768 + k.val, by omega⟩) := by
  pointwise [k0_pay204]
  done

theorem dws_pay4 (V D : FVec Ideal S256x1024 .bf16) (X : FVec Ideal S1x128x128 .f32) (i j : Fin 128) :
    k0_pay207 (F := Ideal) V D X (ix3 0 i j) = X (ix3 0 i j) + ∑ k : Fin 256, D (ix2 ⟨128 + i.val, by omega⟩ ⟨0 + k.val, by omega⟩) * V (ix2 ⟨128 + j.val, by omega⟩ ⟨0 + k.val, by omega⟩) := by
  pointwise [k0_pay207]
  done

theorem dws_pay5 (V D : FVec Ideal S256x1024 .bf16) (X : FVec Ideal S1x128x128 .f32) (i j : Fin 128) :
    k0_pay209 (F := Ideal) V D X (ix3 0 i j) = X (ix3 0 i j) + ∑ k : Fin 256, D (ix2 ⟨128 + i.val, by omega⟩ ⟨256 + k.val, by omega⟩) * V (ix2 ⟨128 + j.val, by omega⟩ ⟨256 + k.val, by omega⟩) := by
  pointwise [k0_pay209]
  done

theorem dws_pay6 (V D : FVec Ideal S256x1024 .bf16) (X : FVec Ideal S1x128x128 .f32) (i j : Fin 128) :
    k0_pay211 (F := Ideal) V D X (ix3 0 i j) = X (ix3 0 i j) + ∑ k : Fin 256, D (ix2 ⟨128 + i.val, by omega⟩ ⟨512 + k.val, by omega⟩) * V (ix2 ⟨128 + j.val, by omega⟩ ⟨512 + k.val, by omega⟩) := by
  pointwise [k0_pay211]
  done

theorem dws_pay7 (V D : FVec Ideal S256x1024 .bf16) (X : FVec Ideal S1x128x128 .f32) (i j : Fin 128) :
    k0_pay213 (F := Ideal) V D X (ix3 0 i j) = X (ix3 0 i j) + ∑ k : Fin 256, D (ix2 ⟨128 + i.val, by omega⟩ ⟨768 + k.val, by omega⟩) * V (ix2 ⟨128 + j.val, by omega⟩ ⟨768 + k.val, by omega⟩) := by
  pointwise [k0_pay213]
  done

theorem mask_pay0 (M : FVec Ideal S128x128 .f32) (X : FVec Ideal S1x128x128 .f32) (i j : Fin 128) :
    k0_pay8 (F := Ideal) M X (ix3 0 i j) = if 0 < M (ix2 i j) then X (ix3 0 i j) else 0 := by
  pointwise [k0_pay8]
  done

theorem mask_pay1 (M : FVec Ideal S128x128 .f32) (X : FVec Ideal S1x128x128 .f32) (i j : Fin 128) :
    k0_pay10 (F := Ideal) M X (ix3 0 i j) = if 0 < M (ix2 i j) then X (ix3 0 i j) else 0 := by
  pointwise [k0_pay10]
  done

theorem mask_pay2 (M : FVec Ideal S128x128 .f32) (X : FVec Ideal S1x128x128 .f32) (i j : Fin 128) :
    k0_pay12 (F := Ideal) M X (ix3 0 i j) = if 0 < M (ix2 i j) then X (ix3 0 i j) else 0 := by
  pointwise [k0_pay12]
  done

theorem mask_pay3 (M : FVec Ideal S128x128 .f32) (X : FVec Ideal S1x128x128 .f32) (i j : Fin 128) :
    k0_pay15 (F := Ideal) (k0_pay14 M X) (ix3 0 i j) = if 0 < M (ix2 i j) then X (ix3 0 i j) else 0 := by
  pointwise [k0_pay15, k0_pay14]
  done

theorem dv_pay0 (D : FVec Ideal S256x1024 .bf16) (W : FVec Ideal S1x128x128 .bf16) (j : Fin 128) (k : Fin 256) :
    k0_pay197 (F := Ideal) D W (ix2 j k) = ∑ i : Fin 128, W (ix3 0 j i) * D (ix2 ⟨0 + i.val, by omega⟩ ⟨0 + k.val, by omega⟩) := by
  pointwise [k0_pay197]
  done

theorem dv_pay1 (D : FVec Ideal S256x1024 .bf16) (W : FVec Ideal S1x128x128 .bf16) (j : Fin 128) (k : Fin 256) :
    k0_pay201 (F := Ideal) (k0_pay199 W) (k0_pay200 D) (constant S128x256 FTy.f32 0#32) (ix2 j k) = ∑ i : Fin 128, W (ix3 0 j i) * D (ix2 ⟨0 + i.val, by omega⟩ ⟨256 + k.val, by omega⟩) := by
  pointwise [k0_pay201, k0_pay199, k0_pay200]
  done

theorem dv_pay2 (D : FVec Ideal S256x1024 .bf16) (W : FVec Ideal S1x128x128 .bf16) (j : Fin 128) (k : Fin 256) :
    k0_pay203 (F := Ideal) D W (ix2 j k) = ∑ i : Fin 128, W (ix3 0 j i) * D (ix2 ⟨0 + i.val, by omega⟩ ⟨512 + k.val, by omega⟩) := by
  pointwise [k0_pay203]
  done

theorem dv_pay3 (D : FVec Ideal S256x1024 .bf16) (W : FVec Ideal S1x128x128 .bf16) (j : Fin 128) (k : Fin 256) :
    k0_pay206 (F := Ideal) D (k0_pay205 W) (ix2 j k) = ∑ i : Fin 128, W (ix3 0 j i) * D (ix2 ⟨0 + i.val, by omega⟩ ⟨768 + k.val, by omega⟩) := by
  pointwise [k0_pay206, k0_pay205]
  done

theorem dv_pay4 (D : FVec Ideal S256x1024 .bf16) (W : FVec Ideal S1x128x128 .bf16) (j : Fin 128) (k : Fin 256) :
    k0_pay208 (F := Ideal) D W (ix2 j k) = ∑ i : Fin 128, W (ix3 0 j i) * D (ix2 ⟨128 + i.val, by omega⟩ ⟨0 + k.val, by omega⟩) := by
  pointwise [k0_pay208]
  done

theorem dv_pay5 (D : FVec Ideal S256x1024 .bf16) (W : FVec Ideal S1x128x128 .bf16) (j : Fin 128) (k : Fin 256) :
    k0_pay210 (F := Ideal) D W (ix2 j k) = ∑ i : Fin 128, W (ix3 0 j i) * D (ix2 ⟨128 + i.val, by omega⟩ ⟨256 + k.val, by omega⟩) := by
  pointwise [k0_pay210]
  done

theorem dv_pay6 (D : FVec Ideal S256x1024 .bf16) (W : FVec Ideal S1x128x128 .bf16) (j : Fin 128) (k : Fin 256) :
    k0_pay212 (F := Ideal) D W (ix2 j k) = ∑ i : Fin 128, W (ix3 0 j i) * D (ix2 ⟨128 + i.val, by omega⟩ ⟨512 + k.val, by omega⟩) := by
  pointwise [k0_pay212]
  done

theorem dv_pay7 (D : FVec Ideal S256x1024 .bf16) (W : FVec Ideal S1x128x128 .bf16) (j : Fin 128) (k : Fin 256) :
    k0_pay214 (F := Ideal) D W (ix2 j k) = ∑ i : Fin 128, W (ix3 0 j i) * D (ix2 ⟨128 + i.val, by omega⟩ ⟨768 + k.val, by omega⟩) := by
  pointwise [k0_pay214]
  done

/-! ## The column sums -/

theorem dlg_pay (V D : FVec Ideal S256x1024 .f32) (X : FVec Ideal S1x1024 .f32) (q : Fin 1024) :
    k0_pay215 (F := Ideal) V D X (ix2 0 q) = X (ix2 0 q) + ∑ p : Fin 256, D (ix2 p q) * V (ix2 p q) := by
  pointwise [k0_pay215]
  done

theorem dlb_pay (D : FVec Ideal S256x1024 .f32) (X : FVec Ideal S1x1024 .f32) (q : Fin 1024) :
    k0_pay216 (F := Ideal) D X (ix2 0 q) = X (ix2 0 q) + ∑ p : Fin 256, D (ix2 p q) := by
  pointwise [k0_pay216]
  done

end Cert.KernelIdeal.Mix
end
-- ==== Proof.Mix.Blocks.lean ====
/- # The token mixer: the blocks of the operands at each step, entry by entry -/
module
public import proofs.«01_k».proof.Proof.Mix.Pay
public import proofs.«01_k».proof.Proof.Gen.KernelIdeal.Frame
public import Idealize.ShloMosaic.Lib.Claim
public import Idealize.ShloMosaic.Lib.Pipeline.ValueKit
public import Idealize.ShloMosaic.Lib.Pointwise
@[expose] public section
set_option maxRecDepth 16384
noncomputable section

open Idealize.ShloMosaic Idealize.ShloMosaic.TcCoe Idealize.SL.Sem
open Idealize.ShloMosaic.Pipeline (Dat)
namespace Cert.KernelIdeal.Mix
open Cert.KernelIdeal Cert.KernelIdeal.Gen Cert.MixRows
variable (m : (ℓ : Loc nD τ sig) → Buf (Elt Ideal) ℓ)

/-- Which block of each operand a step takes. -/
theorem idx : ∀ t : Fin cfg0.N, win0_0.index t = ![15 - t.val, 0] ∧ win0_1.index t = ![15 - t.val, 0] ∧ win0_2.index t = ![15 - t.val, 0]
    ∧ win0_3.index t = ![0, 0, 0] ∧ win0_4.index t = ![0, 0] ∧ win0_5.index t = ![0, 0] ∧ win0_6.index t = ![0, 0]
    ∧ win0_7.index t = ![0, 0, 0] ∧ win0_8.index t = ![0, 0, 0] ∧ win0_9.index t = ![0, 0, 0] ∧ win0_10.index t = ![0, 0, 0]
    ∧ win0_11.index t = ![0, 0] ∧ win0_12.index t = ![0, 0] ∧ win0_15.index t = ![0, 0, 0, 0] ∧ win0_16.index t = ![0, 0, 0, 0]
    ∧ win0_17.index t = ![0, 0, 0] ∧ win0_18.index t = ![0, 0] ∧ win0_19.index t = ![0, 0] :=
  (by decide +kernel : ∀ t : Fin grid0.N, _)

/-- Row `p` of the tile of step `t`, among all rows: the steps take the tiles from the last. -/
def R (t : Fin cfg0.N) (p : Fin 256) : Fin 4096 := ⟨256 * (15 - t.val) + p.val, by omega⟩

/-- The arguments of the program, as the reference's; the pooled columns and the masked weights as the program computes them. -/
abbrev args (c : Dev nD) : Args where
  z := m ((c : Thread nD τ).loc main_arg0)
  dy := m ((c : Thread nD τ).loc main_arg1)
  wp := m ((c : Thread nD τ).loc main_arg2)
  ps := m ((c : Thread nD τ).loc main_arg3)
  lg := m ((c : Thread nD τ).loc main_arg4)
  lb := m ((c : Thread nD τ).loc main_arg5)
  bs := m ((c : Thread nD τ).loc main_arg7)
  wq := m ((c : Thread nD τ).loc main_arg8)
  wo := m ((c : Thread nD τ).loc main_arg9)
  pool := fun i => V m c main_v84 (ix2 (i 1) (col (i 2) (i 3)))
  wm := V m c main_v79

theorem z_blk (c : Dev nD) (t : Fin cfg0.N) (p : Fin 256) (q : Fin 5120) : iblk m c 0 t (ix2 p q) = (args m c).z (ix2 (R t p) q) := by
  blk_point [iblk, V, idx t, R]
theorem dy_blk (c : Dev nD) (t : Fin cfg0.N) (p : Fin 256) (q : Fin 1024) : iblk m c 2 t (ix2 p q) = (args m c).dy (ix2 (R t p) q) := by
  blk_point [iblk, V, idx t, R]
theorem wp_blk (c : Dev nD) (t : Fin cfg0.N) (g : Fin 4) (p q : Fin 256) : iblk m c 3 t (ix3 g p q) = (args m c).wp (ix3 g p q) := by
  blk_point [iblk, V, idx t, R]
theorem ps_host (c : Dev nD) (q : Fin 1024) : V m c (Pipeline.arrRef spec0 4) (ix2 0 q) = (args m c).ps (ix1 q) := by
  show V m c main_v87 (ix2 0 q) = _
  simp only [V, hostOps0, hostOps0_1, hostOps0_2, hostOps0_3, hostOps0_4, List.flatten_cons, List.flatten_nil, List.append_nil, List.cons_append, List.nil_append]
  entry_read
  pointwise
theorem ps_blk (c : Dev nD) (t : Fin cfg0.N) (q : Fin 1024) : iblk m c 4 t (ix2 0 q) = (args m c).ps (ix1 q) := by
  have e : (win0_4.blk t).view.emb (ix2 0 q) = (ix2 0 q) := by
    funext a
    apply Fin.ext
    fin_cases a <;> blk_simp [idx t] <;> rfl
  exact (congrArg (V m c (Pipeline.arrRef spec0 4)) e).trans (ps_host m c q)
theorem lg_host (c : Dev nD) (q : Fin 1024) : V m c (Pipeline.arrRef spec0 5) (ix2 0 q) = (args m c).lg (ix1 q) := by
  show V m c main_v88 (ix2 0 q) = _
  simp only [V, hostOps0, hostOps0_1, hostOps0_2, hostOps0_3, hostOps0_4, List.flatten_cons, List.flatten_nil, List.append_nil, List.cons_append, List.nil_append]
  entry_read
  pointwise
theorem lg_blk (c : Dev nD) (t : Fin cfg0.N) (q : Fin 1024) : iblk m c 5 t (ix2 0 q) = (args m c).lg (ix1 q) := by
  have e : (win0_5.blk t).view.emb (ix2 0 q) = (ix2 0 q) := by
    funext a
    apply Fin.ext
    fin_cases a <;> blk_simp [idx t] <;> rfl
  exact (congrArg (V m c (Pipeline.arrRef spec0 5)) e).trans (lg_host m c q)
theorem lb_host (c : Dev nD) (q : Fin 1024) : V m c (Pipeline.arrRef spec0 6) (ix2 0 q) = (args m c).lb (ix1 q) := by
  show V m c main_v89 (ix2 0 q) = _
  simp only [V, hostOps0, hostOps0_1, hostOps0_2, hostOps0_3, hostOps0_4, List.flatten_cons, List.flatten_nil, List.append_nil, List.cons_append, List.nil_append]
  entry_read
  pointwise
theorem lb_blk (c : Dev nD) (t : Fin cfg0.N) (q : Fin 1024) : iblk m c 6 t (ix2 0 q) = (args m c).lb (ix1 q) := by
  have e : (win0_6.blk t).view.emb (ix2 0 q) = (ix2 0 q) := by
    funext a
    apply Fin.ext
    fin_cases a <;> blk_simp [idx t] <;> rfl
  exact (congrArg (V m c (Pipeline.arrRef spec0 6)) e).trans (lb_host m c q)
theorem bs_host (c : Dev nD) (g : Fin 4) (i : Fin 128) : V m c (Pipeline.arrRef spec0 9) (ix3 g i 0) = (args m c).bs (ix2 g i) := by
  show V m c main_v82 (ix3 g i 0) = _
  simp only [V, hostOps0, hostOps0_1, hostOps0_2, hostOps0_3, hostOps0_4, List.flatten_cons, List.flatten_nil, List.append_nil, List.cons_append, List.nil_append]
  entry_read
  pointwise
theorem bs_blk (c : Dev nD) (t : Fin cfg0.N) (g : Fin 4) (i : Fin 128) : iblk m c 9 t (ix3 g i 0) = (args m c).bs (ix2 g i) := by
  have e : (win0_9.blk t).view.emb (ix3 g i 0) = (ix3 g i 0) := by
    funext a
    apply Fin.ext
    fin_cases a <;> blk_simp [idx t] <;> rfl
  exact (congrArg (V m c (Pipeline.arrRef spec0 9)) e).trans (bs_host m c g i)
theorem wq_blk (c : Dev nD) (t : Fin cfg0.N) (g : Fin 4) (p q : Fin 256) : iblk m c 10 t (ix3 g p q) = (args m c).wq (ix3 g p q) := by
  blk_point [iblk, V, idx t, R]
theorem wo_blk (c : Dev nD) (t : Fin cfg0.N) (p q : Fin 1024) : iblk m c 11 t (ix2 p q) = (args m c).wo (ix2 p q) := by
  blk_point [iblk, V, idx t, R]

theorem pool_blk (c : Dev nD) (t : Fin cfg0.N) (p : Fin 256) (q : Fin 1024) : iblk m c 1 t (ix2 p q) = pl (args m c) (R t p) q := by
  have e : iblk m c 1 t (ix2 p q) = V m c main_v84 (ix2 (R t p) q) := by
    blk_point [iblk, idx t, R]
  exact e.trans (congrArg (fun q => V m c main_v84 (ix2 (R t p) q)) (col_hd q).symm)
theorem ws_host (c : Dev nD) (g : Fin 4) (i j : Fin 128) : V m c main_v80 (ix3 g i j) = V m c main_v79 (ix3 g i j) := by
  simp only [V, hostOps0, hostOps0_1, hostOps0_2, hostOps0_3, hostOps0_4, List.flatten_cons, List.flatten_nil, List.append_nil, List.cons_append, List.nil_append]
  entry_read
  pointwise
theorem wst_host (c : Dev nD) (g : Fin 4) (i j : Fin 128) : V m c main_v81 (ix3 g i j) = V m c main_v79 (ix3 g j i) := by
  simp only [V, hostOps0, hostOps0_1, hostOps0_2, hostOps0_3, hostOps0_4, List.flatten_cons, List.flatten_nil, List.append_nil, List.cons_append, List.nil_append]
  entry_read
  pointwise
end Cert.KernelIdeal.Mix
end
-- ==== Proof.Mix.Tile.lean ====
/- # The token mixer: what one step computes of its rows, entry by entry

A step holds 256 rows, two blocks of 128. Three buffers are written a head at a time, or a head of one block at a time, and read back whole. -/
module

public import proofs.«01_k».proof.Proof.Mix.Blocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Mix
open Cert.KernelIdeal Cert.KernelIdeal.Gen Cert.MixRows

/-! ## The entries at a block's row and a head's column -/

section
variable (a : Args) (b : Fin 32) (i : Fin 128) (g : Fin 4) (k : Fin 256) (r : Fin 4096)

theorem sv_rw : sv a (rw b i) (col g k) = (∑ j : Fin 128, vb a (rw b j) (col g k) * a.wm (ix3 g i j)) + a.bs (ix2 g i) := by
  unfold sv
  rw [blk_rw, lo_rw, hd_col]
theorem dv_rw : dv a (rw b i) (col g k) = ∑ j : Fin 128, dsv a (rw b j) (col g k) * a.wm (ix3 g j i) := by
  unfold dv
  rw [blk_rw, lo_rw, hd_col]
theorem dsv_col : dsv a r (col g k) = u a r (col g k) * ∑ d : Fin 256, db a r (col g d) * a.wq (ix3 g k d) := by
  unfold dsv dgt
  rw [hd_col, cl_col]
theorem ap_col : ap a r (col g k) = ∑ d : Fin 256, a.wp (ix3 g d k) * pl a r (col g d) := by
  unfold ap
  rw [hd_col, cl_col]
end

/-! ## Loads of a part of a block -/

section
variable {α : Type}

theorem ld_2 {a b a' b' : ℕ} {Val : EltTy → Type} {e : EltTy} (X : (⟨2, ![a, b]⟩ : Shape).Idx → Val e) (o p : ℕ) (inb) (i : Fin a') (j : Fin b')
    (h0 : o + i.val < a) (h1 : p + j.val < b) :
    View.ld X (Rect.unit (s := ⟨2, ![a, b]⟩) ![o, p] ![a', b'] inb) (ix2 i j) = X (ix2 ⟨o + i.val, h0⟩ ⟨p + j.val, h1⟩) := by
  refine congrArg X ?_
  funext l
  apply Fin.ext
  fin_cases l
  · show o + 1 * i.val = o + i.val
    omega
  · show p + 1 * j.val = p + j.val
    omega
theorem ld_3 {a b c b' c' : ℕ} {Val : EltTy → Type} {e : EltTy} (X : (⟨3, ![a, b, c]⟩ : Shape).Idx → Val e) (g : ℕ) (inb) (i : Fin b') (j : Fin c')
    (h0 : g < a) (h1 : i.val < b) (h2 : j.val < c) :
    View.ld X (Rect.unit (s := ⟨3, ![a, b, c]⟩) ![g, 0, 0] ![1, b', c'] inb) (ix3 0 i j) = X (ix3 ⟨g, h0⟩ ⟨i.val, h1⟩ ⟨j.val, h2⟩) := by
  refine congrArg X ?_
  funext l
  apply Fin.ext
  fin_cases l
  · show g + 1 * 0 = g
    omega
  · show 0 + 1 * i.val = i.val
    omega
  · show 0 + 1 * j.val = j.val
    omega
end

variable (m : (ℓ : Loc nD τ sig) → Buf (Elt Ideal) ℓ)

/-- Block `b` of the two of a step, among all blocks. -/
def Bk (t : Fin cfg0.N) (b : Fin 2) : Fin 32 := ⟨2 * (15 - t.val) + b.val, by omega⟩

theorem R_rw (t : Fin cfg0.N) (b : Fin 2) (i : Fin 128) (p : Fin 256) (h : p.val = 128 * b.val + i.val) : R t p = rw (Bk t b) i :=
  Fin.ext (by show 256 * (15 - t.val) + p.val = (2 * (15 - t.val) + b.val) * 128 + i.val; omega)
theorem col_eq (g : Fin 4) (k : Fin 256) (q : Fin 1024) (h : q.val = 256 * g.val + k.val) : q = col g k :=
  Fin.ext (by show q.val = g.val * 256 + k.val; omega)

/-! ## Rows -/

/-- Columns 1024 to 2047 of the step's rows of `z`. -/
abbrev Z1 (c : Dev nD) (t : Fin cfg0.N) : FVec Ideal S256x1024 .f32 :=
  View.ld (iblk m c 0 t) (Rect.unit ![0, 1024] ![256, 1024] inb_S256x5120_S256x1024_0_1024)
theorem Z1_at (c : Dev nD) (t : Fin cfg0.N) (p : Fin 256) (q : Fin 1024) : Z1 m c t (ix2 p q) = (args m c).z (ix2 (R t p) ⟨1024 + q.val, by omega⟩) := by
  refine (ld_2 (iblk m c 0 t) 0 1024 _ p q (by omega) (by omega)).trans ((z_blk m c t _ _).trans ?_)
  exact congrArg (fun p => (args m c).z (ix2 (R t p) _)) (Fin.ext (Nat.zero_add _))
/-- Columns 2048 to 3071 of the step's rows of `z`. -/
abbrev Z2 (c : Dev nD) (t : Fin cfg0.N) : FVec Ideal S256x1024 .f32 :=
  View.ld (iblk m c 0 t) (Rect.unit ![0, 2048] ![256, 1024] inb_S256x5120_S256x1024_0_2048)
theorem Z2_at (c : Dev nD) (t : Fin cfg0.N) (p : Fin 256) (q : Fin 1024) : Z2 m c t (ix2 p q) = (args m c).z (ix2 (R t p) ⟨2048 + q.val, by omega⟩) := by
  refine (ld_2 (iblk m c 0 t) 0 2048 _ p q (by omega) (by omega)).trans ((z_blk m c t _ _).trans ?_)
  exact congrArg (fun p => (args m c).z (ix2 (R t p) _)) (Fin.ext (Nat.zero_add _))
/-- Columns 3072 to 4095 of the step's rows of `z`. -/
abbrev Z3 (c : Dev nD) (t : Fin cfg0.N) : FVec Ideal S256x1024 .f32 :=
  View.ld (iblk m c 0 t) (Rect.unit ![0, 3072] ![256, 1024] inb_S256x5120_S256x1024_0_3072)
theorem Z3_at (c : Dev nD) (t : Fin cfg0.N) (p : Fin 256) (q : Fin 1024) : Z3 m c t (ix2 p q) = (args m c).z (ix2 (R t p) ⟨3072 + q.val, by omega⟩) := by
  refine (ld_2 (iblk m c 0 t) 0 3072 _ p q (by omega) (by omega)).trans ((z_blk m c t _ _).trans ?_)
  exact congrArg (fun p => (args m c).z (ix2 (R t p) _)) (Fin.ext (Nat.zero_add _))
/-- Columns 4096 to 5119 of the step's rows of `z`. -/
abbrev Z4 (c : Dev nD) (t : Fin cfg0.N) : FVec Ideal S256x1024 .f32 :=
  View.ld (iblk m c 0 t) (Rect.unit ![0, 4096] ![256, 1024] inb_S256x5120_S256x1024_0_4096)
theorem Z4_at (c : Dev nD) (t : Fin cfg0.N) (p : Fin 256) (q : Fin 1024) : Z4 m c t (ix2 p q) = (args m c).z (ix2 (R t p) ⟨4096 + q.val, by omega⟩) := by
  refine (ld_2 (iblk m c 0 t) 0 4096 _ p q (by omega) (by omega)).trans ((z_blk m c t _ _).trans ?_)
  exact congrArg (fun p => (args m c).z (ix2 (R t p) _)) (Fin.ext (Nat.zero_add _))

abbrev U (c : Dev nD) (t : Fin cfg0.N) : FVec Ideal S256x1024 .f32 := k0_pay59 (Z1 m c t)
abbrev VH (c : Dev nD) (t : Fin cfg0.N) : FVec Ideal S256x1024 .f32 := k0_pay68 (Z2 m c t) (k0_pay62 (Z2 m c t))
abbrev VB (c : Dev nD) (t : Fin cfg0.N) : FVec Ideal S256x1024 .bf16 := k0_pay69 (Z2 m c t) (k0_pay62 (Z2 m c t)) (iblk m c 5 t) (iblk m c 6 t)
abbrev DM (c : Dev nD) (t : Fin cfg0.N) : FVec Ideal S256x1024 .f32 := k0_pay56 (iblk m c 2 t) (iblk m c 11 t)
abbrev SA (c : Dev nD) (t : Fin cfg0.N) : FVec Ideal S256x1024 .f32 := k0_pay81 (Z3 m c t)
abbrev DA (c : Dev nD) (t : Fin cfg0.N) : FVec Ideal S256x1024 .f32 := k0_pay83 (DM m c t) (SA m c t)
abbrev DB (c : Dev nD) (t : Fin cfg0.N) : FVec Ideal S256x1024 .bf16 := k0_pay85 (DM m c t) (Z4 m c t)

section
variable (c : Dev nD) (t : Fin cfg0.N) (p : Fin 256) (q : Fin 1024)

theorem U_at : U m c t (ix2 p q) = u (args m c) (R t p) q := (u_pay _ p q).trans (congrArg gelu (Z1_at m c t p q))
theorem VH_at : VH m c t (ix2 p q) = vh (args m c) (R t p) q :=
  (vh_pay _ p q).trans (congrArg (fun f => nrm f q) (funext fun k => congrArg gelu (Z2_at m c t p k)))
theorem VB_at : VB m c t (ix2 p q) = vb (args m c) (R t p) q :=
  (vb_pay _ _ _ p q).trans (congrArg₂ (· + ·) (congrArg₂ (· * ·)
    (congrArg (fun f => nrm f q) (funext fun k => congrArg gelu (Z2_at m c t p k))) (lg_blk m c t q)) (lb_blk m c t q))
theorem DM_at : DM m c t (ix2 p q) = dm (args m c) (R t p) q :=
  (dm_pay _ _ p q).trans (Finset.sum_congr rfl fun k _ => congrArg₂ (· * ·) (dy_blk m c t p k) (wo_blk m c t q k))
theorem SA_at : SA m c t (ix2 p q) = sa (args m c) (R t p) q := (sa_pay _ p q).trans (congrArg sigm (Z3_at m c t p q))
theorem DA_at : DA m c t (ix2 p q) = da (args m c) (R t p) q :=
  (da_pay _ _ p q).trans ((mul_comm _ _).trans (congrArg₂ (· * ·) (SA_at m c t p q) (DM_at m c t p q)))
theorem DB_at : DB m c t (ix2 p q) = db (args m c) (R t p) q :=
  (db_pay _ _ p q).trans ((mul_comm _ _).trans (congrArg₂ (· * ·) (congrArg sigm (Z4_at m c t p q)) (DM_at m c t p q)))
end

/-! ## The gate's factor -/

theorem ws_blk (c : Dev nD) (t : Fin cfg0.N) (g : Fin 4) (i j : Fin 128) : iblk m c 7 t (ix3 g i j) = (args m c).wm (ix3 g i j) := by
  have e : (win0_7.blk t).view.emb (ix3 g i j) = ix3 g i j := by
    funext a
    apply Fin.ext
    fin_cases a <;> blk_simp [idx t] <;> rfl
  exact (congrArg (V m c (Pipeline.arrRef spec0 7)) e).trans (ws_host m c g i j)
theorem wst_blk (c : Dev nD) (t : Fin cfg0.N) (g : Fin 4) (i j : Fin 128) : iblk m c 8 t (ix3 g i j) = (args m c).wm (ix3 g j i) := by
  have e : (win0_8.blk t).view.emb (ix3 g i j) = ix3 g i j := by
    funext a
    apply Fin.ext
    fin_cases a <;> blk_simp [idx t] <;> rfl
  exact (congrArg (V m c (Pipeline.arrRef spec0 8)) e).trans (wst_host m c g i j)

theorem sv_tile (c : Dev nD) (t : Fin cfg0.N) {o0 o1 : ℕ} (b : Fin 2) (g : Fin 4) (e0 : o0 = 128 * b.val) (e1 : o1 = 256 * g.val)
    (W : FVec Ideal S1x128x128 .bf16) (S : FVec Ideal S1x128x1 .f32) (hW : ∀ i j, W (ix3 0 i j) = (args m c).wm (ix3 g i j))
    (hS : ∀ i, S (ix3 0 i 0) = (args m c).bs (ix2 g i)) (i : Fin 128) (k : Fin 256) {y0 : Fin 256} {y1 : Fin 1024}
    (h0 : y0.val = o0 + i.val) (h1 : y1.val = o1 + k.val) (b0 : ∀ j : Fin 128, o0 + j.val < 256) (b1 : o1 + k.val < 1024) :
    (∑ j : Fin 128, W (ix3 0 i j) * VB m c t (ix2 ⟨o0 + j.val, b0 j⟩ ⟨o1 + k.val, b1⟩)) + S (ix3 0 i 0) = sv (args m c) (R t y0) y1 := by
  rw [R_rw t b i y0 (by omega), col_eq g k y1 (by omega), sv_rw]
  refine congrArg₂ (· + ·) (Finset.sum_congr rfl fun j _ => (mul_comm _ _).trans (congrArg₂ (· * ·) ((VB_at m c t _ _).trans ?_) (hW i j))) (hS i)
  exact congrArg₂ (vb (args m c)) (R_rw t b j _ (by subst e0; rfl)) (col_eq g k _ (by subst e1; rfl))

theorem ws_ld0 (c : Dev nD) (t : Fin cfg0.N) (i j : Fin 128) : (View.ld (iblk m c 7 t) (Rect.unit ![0, 0, 0] ![1, 128, 128] inb_S4x128x128_S1x128x128_0_0_0)) (ix3 0 i j) = (args m c).wm (ix3 0 i j) :=
  (ld_3 (iblk m c 7 t) 0 _ i j (by omega) i.isLt j.isLt).trans (ws_blk m c t 0 i j)
theorem wst_ld0 (c : Dev nD) (t : Fin cfg0.N) (i j : Fin 128) : (View.ld (iblk m c 8 t) (Rect.unit ![0, 0, 0] ![1, 128, 128] inb_S4x128x128_S1x128x128_0_0_0)) (ix3 0 i j) = (args m c).wm (ix3 0 j i) :=
  (ld_3 (iblk m c 8 t) 0 _ i j (by omega) i.isLt j.isLt).trans (wst_blk m c t 0 i j)
theorem bs_ld0 (c : Dev nD) (t : Fin cfg0.N) (i : Fin 128) : (View.ld (iblk m c 9 t) (Rect.unit ![0, 0, 0] ![1, 128, 1] inb_S4x128x1_S1x128x1_0_0_0)) (ix3 0 i 0) = (args m c).bs (ix2 0 i) :=
  (ld_3 (iblk m c 9 t) 0 _ i 0 (by omega) i.isLt (by decide)).trans (bs_blk m c t 0 i)
theorem wq_ld0 (c : Dev nD) (t : Fin cfg0.N) (i j : Fin 256) : (View.ld (iblk m c 10 t) (Rect.unit ![0, 0, 0] ![1, 256, 256] inb_S4x256x256_S1x256x256_0_0_0)) (ix3 0 i j) = (args m c).wq (ix3 0 i j) :=
  (ld_3 (iblk m c 10 t) 0 _ i j (by omega) i.isLt j.isLt).trans (wq_blk m c t 0 i j)
theorem ws_ld1 (c : Dev nD) (t : Fin cfg0.N) (i j : Fin 128) : (View.ld (iblk m c 7 t) (Rect.unit ![1, 0, 0] ![1, 128, 128] inb_S4x128x128_S1x128x128_1_0_0)) (ix3 0 i j) = (args m c).wm (ix3 1 i j) :=
  (ld_3 (iblk m c 7 t) 1 _ i j (by omega) i.isLt j.isLt).trans (ws_blk m c t 1 i j)
theorem wst_ld1 (c : Dev nD) (t : Fin cfg0.N) (i j : Fin 128) : (View.ld (iblk m c 8 t) (Rect.unit ![1, 0, 0] ![1, 128, 128] inb_S4x128x128_S1x128x128_1_0_0)) (ix3 0 i j) = (args m c).wm (ix3 1 j i) :=
  (ld_3 (iblk m c 8 t) 1 _ i j (by omega) i.isLt j.isLt).trans (wst_blk m c t 1 i j)
theorem bs_ld1 (c : Dev nD) (t : Fin cfg0.N) (i : Fin 128) : (View.ld (iblk m c 9 t) (Rect.unit ![1, 0, 0] ![1, 128, 1] inb_S4x128x1_S1x128x1_1_0_0)) (ix3 0 i 0) = (args m c).bs (ix2 1 i) :=
  (ld_3 (iblk m c 9 t) 1 _ i 0 (by omega) i.isLt (by decide)).trans (bs_blk m c t 1 i)
theorem wq_ld1 (c : Dev nD) (t : Fin cfg0.N) (i j : Fin 256) : (View.ld (iblk m c 10 t) (Rect.unit ![1, 0, 0] ![1, 256, 256] inb_S4x256x256_S1x256x256_1_0_0)) (ix3 0 i j) = (args m c).wq (ix3 1 i j) :=
  (ld_3 (iblk m c 10 t) 1 _ i j (by omega) i.isLt j.isLt).trans (wq_blk m c t 1 i j)
theorem ws_ld2 (c : Dev nD) (t : Fin cfg0.N) (i j : Fin 128) : (View.ld (iblk m c 7 t) (Rect.unit ![2, 0, 0] ![1, 128, 128] inb_S4x128x128_S1x128x128_2_0_0)) (ix3 0 i j) = (args m c).wm (ix3 2 i j) :=
  (ld_3 (iblk m c 7 t) 2 _ i j (by omega) i.isLt j.isLt).trans (ws_blk m c t 2 i j)
theorem wst_ld2 (c : Dev nD) (t : Fin cfg0.N) (i j : Fin 128) : (View.ld (iblk m c 8 t) (Rect.unit ![2, 0, 0] ![1, 128, 128] inb_S4x128x128_S1x128x128_2_0_0)) (ix3 0 i j) = (args m c).wm (ix3 2 j i) :=
  (ld_3 (iblk m c 8 t) 2 _ i j (by omega) i.isLt j.isLt).trans (wst_blk m c t 2 i j)
theorem bs_ld2 (c : Dev nD) (t : Fin cfg0.N) (i : Fin 128) : (View.ld (iblk m c 9 t) (Rect.unit ![2, 0, 0] ![1, 128, 1] inb_S4x128x1_S1x128x1_2_0_0)) (ix3 0 i 0) = (args m c).bs (ix2 2 i) :=
  (ld_3 (iblk m c 9 t) 2 _ i 0 (by omega) i.isLt (by decide)).trans (bs_blk m c t 2 i)
theorem wq_ld2 (c : Dev nD) (t : Fin cfg0.N) (i j : Fin 256) : (View.ld (iblk m c 10 t) (Rect.unit ![2, 0, 0] ![1, 256, 256] inb_S4x256x256_S1x256x256_2_0_0)) (ix3 0 i j) = (args m c).wq (ix3 2 i j) :=
  (ld_3 (iblk m c 10 t) 2 _ i j (by omega) i.isLt j.isLt).trans (wq_blk m c t 2 i j)
theorem ws_ld3 (c : Dev nD) (t : Fin cfg0.N) (i j : Fin 128) : (View.ld (iblk m c 7 t) (Rect.unit ![3, 0, 0] ![1, 128, 128] inb_S4x128x128_S1x128x128_3_0_0)) (ix3 0 i j) = (args m c).wm (ix3 3 i j) :=
  (ld_3 (iblk m c 7 t) 3 _ i j (by omega) i.isLt j.isLt).trans (ws_blk m c t 3 i j)
theorem wst_ld3 (c : Dev nD) (t : Fin cfg0.N) (i j : Fin 128) : (View.ld (iblk m c 8 t) (Rect.unit ![3, 0, 0] ![1, 128, 128] inb_S4x128x128_S1x128x128_3_0_0)) (ix3 0 i j) = (args m c).wm (ix3 3 j i) :=
  (ld_3 (iblk m c 8 t) 3 _ i j (by omega) i.isLt j.isLt).trans (wst_blk m c t 3 i j)
theorem bs_ld3 (c : Dev nD) (t : Fin cfg0.N) (i : Fin 128) : (View.ld (iblk m c 9 t) (Rect.unit ![3, 0, 0] ![1, 128, 1] inb_S4x128x1_S1x128x1_3_0_0)) (ix3 0 i 0) = (args m c).bs (ix2 3 i) :=
  (ld_3 (iblk m c 9 t) 3 _ i 0 (by omega) i.isLt (by decide)).trans (bs_blk m c t 3 i)
theorem wq_ld3 (c : Dev nD) (t : Fin cfg0.N) (i j : Fin 256) : (View.ld (iblk m c 10 t) (Rect.unit ![3, 0, 0] ![1, 256, 256] inb_S4x256x256_S1x256x256_3_0_0)) (ix3 0 i j) = (args m c).wq (ix3 3 i j) :=
  (ld_3 (iblk m c 10 t) 3 _ i j (by omega) i.isLt j.isLt).trans (wq_blk m c t 3 i j)

/-- The pieces the gate's factor is written in, the last first. -/
abbrev SVL (c : Dev nD) (t : Fin cfg0.N) : List (View.Piece (Elt Ideal) S256x1024 .f32) :=
  [⟨Rect.unit ![128, 768] ![128, 256] inb_S256x1024_S128x256_128_768, k0_pay79 (VB m c t) (View.ld (iblk m c 7 t) (Rect.unit ![3, 0, 0] ![1, 128, 128] inb_S4x128x128_S1x128x128_3_0_0)) (View.ld (iblk m c 9 t) (Rect.unit ![3, 0, 0] ![1, 128, 1] inb_S4x128x1_S1x128x1_3_0_0))⟩,
   ⟨Rect.unit ![128, 512] ![128, 256] inb_S256x1024_S128x256_128_512, k0_pay78 (VB m c t) (View.ld (iblk m c 7 t) (Rect.unit ![2, 0, 0] ![1, 128, 128] inb_S4x128x128_S1x128x128_2_0_0)) (View.ld (iblk m c 9 t) (Rect.unit ![2, 0, 0] ![1, 128, 1] inb_S4x128x1_S1x128x1_2_0_0))⟩,
   ⟨Rect.unit ![128, 256] ![128, 256] inb_S256x1024_S128x256_128_256, k0_pay77 (VB m c t) (View.ld (iblk m c 7 t) (Rect.unit ![1, 0, 0] ![1, 128, 128] inb_S4x128x128_S1x128x128_1_0_0)) (View.ld (iblk m c 9 t) (Rect.unit ![1, 0, 0] ![1, 128, 1] inb_S4x128x1_S1x128x1_1_0_0))⟩,
   ⟨Rect.unit ![128, 0] ![128, 256] inb_S256x1024_S128x256_128_0, k0_pay76 (VB m c t) (View.ld (iblk m c 7 t) (Rect.unit ![0, 0, 0] ![1, 128, 128] inb_S4x128x128_S1x128x128_0_0_0)) (View.ld (iblk m c 9 t) (Rect.unit ![0, 0, 0] ![1, 128, 1] inb_S4x128x1_S1x128x1_0_0_0))⟩,
   ⟨Rect.unit ![0, 768] ![128, 256] inb_S256x1024_S128x256_0_768, k0_pay75 (VB m c t) (View.ld (iblk m c 7 t) (Rect.unit ![3, 0, 0] ![1, 128, 128] inb_S4x128x128_S1x128x128_3_0_0)) (View.ld (iblk m c 9 t) (Rect.unit ![3, 0, 0] ![1, 128, 1] inb_S4x128x1_S1x128x1_3_0_0))⟩,
   ⟨Rect.unit ![0, 512] ![128, 256] inb_S256x1024_S128x256_0_512, k0_pay74 (VB m c t) (View.ld (iblk m c 7 t) (Rect.unit ![2, 0, 0] ![1, 128, 128] inb_S4x128x128_S1x128x128_2_0_0)) (View.ld (iblk m c 9 t) (Rect.unit ![2, 0, 0] ![1, 128, 1] inb_S4x128x1_S1x128x1_2_0_0))⟩,
   ⟨Rect.unit ![0, 256] ![128, 256] inb_S256x1024_S128x256_0_256, k0_pay73 (VB m c t) (View.ld (iblk m c 7 t) (Rect.unit ![1, 0, 0] ![1, 128, 128] inb_S4x128x128_S1x128x128_1_0_0)) (View.ld (iblk m c 9 t) (Rect.unit ![1, 0, 0] ![1, 128, 1] inb_S4x128x1_S1x128x1_1_0_0))⟩,
   ⟨Rect.unit ![0, 0] ![128, 256] inb_S256x1024_S128x256_0_0, k0_pay72 (k0_pay70 (View.ld (iblk m c 7 t) (Rect.unit ![0, 0, 0] ![1, 128, 128] inb_S4x128x128_S1x128x128_0_0_0))) (k0_pay71 (Z2 m c t) (k0_pay62 (Z2 m c t)) (iblk m c 5 t) (iblk m c 6 t)) (constant S128x256 FTy.f32 0#32) (View.ld (iblk m c 9 t) (Rect.unit ![0, 0, 0] ![1, 128, 1] inb_S4x128x1_S1x128x1_0_0_0))⟩]
theorem SVL_at (c : Dev nD) (t : Fin cfg0.N) (y : S256x1024.Idx) : View.canon (SVL m c t) y = sv (args m c) (R t (y 0)) (y 1) := by
  canon_tiles x h
  · exact (congrArg _ (eq_ix2 x)).trans ((sv_pay7 _ _ _ (x 0) (x 1)).trans
      (sv_tile m c t (o0 := 128) (o1 := 768) 1 3 rfl rfl _ _ (ws_ld3 m c t) (bs_ld3 m c t) (x 0) (x 1) (by omega) (by omega) _ _))
  · exact (congrArg _ (eq_ix2 x)).trans ((sv_pay6 _ _ _ (x 0) (x 1)).trans
      (sv_tile m c t (o0 := 128) (o1 := 512) 1 2 rfl rfl _ _ (ws_ld2 m c t) (bs_ld2 m c t) (x 0) (x 1) (by omega) (by omega) _ _))
  · exact (congrArg _ (eq_ix2 x)).trans ((sv_pay5 _ _ _ (x 0) (x 1)).trans
      (sv_tile m c t (o0 := 128) (o1 := 256) 1 1 rfl rfl _ _ (ws_ld1 m c t) (bs_ld1 m c t) (x 0) (x 1) (by omega) (by omega) _ _))
  · exact (congrArg _ (eq_ix2 x)).trans ((sv_pay4 _ _ _ (x 0) (x 1)).trans
      (sv_tile m c t (o0 := 128) (o1 := 0) 1 0 rfl rfl _ _ (ws_ld0 m c t) (bs_ld0 m c t) (x 0) (x 1) (by omega) (by omega) _ _))
  · exact (congrArg _ (eq_ix2 x)).trans ((sv_pay3 _ _ _ (x 0) (x 1)).trans
      (sv_tile m c t (o0 := 0) (o1 := 768) 0 3 rfl rfl _ _ (ws_ld3 m c t) (bs_ld3 m c t) (x 0) (x 1) (by omega) (by omega) _ _))
  · exact (congrArg _ (eq_ix2 x)).trans ((sv_pay2 _ _ _ (x 0) (x 1)).trans
      (sv_tile m c t (o0 := 0) (o1 := 512) 0 2 rfl rfl _ _ (ws_ld2 m c t) (bs_ld2 m c t) (x 0) (x 1) (by omega) (by omega) _ _))
  · exact (congrArg _ (eq_ix2 x)).trans ((sv_pay1 _ _ _ (x 0) (x 1)).trans
      (sv_tile m c t (o0 := 0) (o1 := 256) 0 1 rfl rfl _ _ (ws_ld1 m c t) (bs_ld1 m c t) (x 0) (x 1) (by omega) (by omega) _ _))
  · exact (congrArg _ (eq_ix2 x)).trans ((sv_pay0 _ _ _ _ _ (x 0) (x 1)).trans
      (sv_tile m c t (o0 := 0) (o1 := 0) 0 0 rfl rfl _ _ (ws_ld0 m c t) (bs_ld0 m c t) (x 0) (x 1) (by omega) (by omega) _ _))
/-- The gate's factor. -/
abbrev SV (c : Dev nD) (t : Fin cfg0.N) : FVec Ideal S256x1024 .f32 :=
  View.readCov (Val := Elt Ideal) (s := S256x1024) (e := .f32) (View.whole cc0_scratch1) (SVL m c t) (Rect.unit (s := S256x1024) ![0, 0] ![256, 1024] inb_S256x1024_S256x1024_0_0).toLoadRect

theorem whole_idx (p : Fin 256) (q : Fin 1024) :
    (Rect.unit (s := S256x1024) ![0, 0] ![256, 1024] inb_S256x1024_S256x1024_0_0).toLoadRect.idx (ix2 p q) = ix2 p q := by
  funext l
  apply Fin.ext
  fin_cases l
  · show 0 + 1 * p.val = p.val
    omega
  · show 0 + 1 * q.val = q.val
    omega

theorem SV_at (c : Dev nD) (t : Fin cfg0.N) (p : Fin 256) (q : Fin 1024) : SV m c t (ix2 p q) = sv (args m c) (R t p) q :=
  (congrFun (View.readCov_eq_canon' _ _ _) _).trans ((congrArg _ (whole_idx p q)).trans (SVL_at m c t _))

abbrev GT (c : Dev nD) (t : Fin cfg0.N) : FVec Ideal S256x1024 .bf16 := k0_pay80 (U m c t) (SV m c t)
theorem GT_at (c : Dev nD) (t : Fin cfg0.N) (p : Fin 256) (q : Fin 1024) : GT m c t (ix2 p q) = gt (args m c) (R t p) q :=
  (gt_pay _ _ p q).trans (congrArg₂ (· * ·) (U_at m c t p q) (SV_at m c t p q))

/-! ## The gradient of the gate's factor -/

theorem dsv_tile (c : Dev nD) (t : Fin cfg0.N) {o1 : ℕ} (g : Fin 4) (e1 : o1 = 256 * g.val)
    (W : FVec Ideal S1x256x256 .bf16) (hW : ∀ i j, W (ix3 0 i j) = (args m c).wq (ix3 g i j)) (p k : Fin 256) {y0 : Fin 256} {y1 : Fin 1024}
    (h0 : y0.val = 0 + p.val) (h1 : y1.val = o1 + k.val) (b1 : ∀ k : Fin 256, o1 + k.val < 1024) :
    (∑ d : Fin 256, DB m c t (ix2 p ⟨o1 + d.val, b1 d⟩) * W (ix3 0 k d)) * U m c t (ix2 p ⟨o1 + k.val, b1 k⟩) = dsv (args m c) (R t y0) y1 := by
  have hp : y0 = p := Fin.ext (h0.trans (Nat.zero_add _))
  rw [hp, col_eq g k y1 (by omega), dsv_col, mul_comm]
  refine congrArg₂ (· * ·) ((U_at m c t _ _).trans ?_) (Finset.sum_congr rfl fun d _ => congrArg₂ (· * ·) ((DB_at m c t _ _).trans ?_) (hW k d))
  · exact congrArg (u (args m c) _) (col_eq g k _ (by subst e1; rfl))
  · exact congrArg (db (args m c) _) (col_eq g d _ (by subst e1; rfl))

abbrev DSVL (c : Dev nD) (t : Fin cfg0.N) : List (View.Piece (Elt Ideal) S256x1024 .f32) :=
  [⟨Rect.unit ![0, 768] ![256, 256] inb_S256x1024_S256x256_0_768, k0_pay188 (U m c t) (k0_pay181 (DB m c t)) (View.ld (iblk m c 10 t) (Rect.unit ![3, 0, 0] ![1, 256, 256] inb_S4x256x256_S1x256x256_3_0_0))⟩,
   ⟨Rect.unit ![0, 512] ![256, 256] inb_S256x1024_S256x256_0_512, k0_pay178 (U m c t) (k0_pay177 (DB m c t) (View.ld (iblk m c 10 t) (Rect.unit ![2, 0, 0] ![1, 256, 256] inb_S4x256x256_S1x256x256_2_0_0)))⟩,
   ⟨Rect.unit ![0, 256] ![256, 256] inb_S256x1024_S256x256_0_256, k0_pay168 (U m c t) (k0_pay162 (DB m c t)) (View.ld (iblk m c 10 t) (Rect.unit ![1, 0, 0] ![1, 256, 256] inb_S4x256x256_S1x256x256_1_0_0))⟩,
   ⟨Rect.unit ![0, 0] ![256, 256] inb_S256x1024_S256x256_0_0, k0_pay159 (U m c t) (k0_pay153 (DB m c t)) (View.ld (iblk m c 10 t) (Rect.unit ![0, 0, 0] ![1, 256, 256] inb_S4x256x256_S1x256x256_0_0_0))⟩]
theorem DSVL_at (c : Dev nD) (t : Fin cfg0.N) (y : S256x1024.Idx) : View.canon (DSVL m c t) y = dsv (args m c) (R t (y 0)) (y 1) := by
  canon_tiles x h
  · exact (congrArg _ (eq_ix2 x)).trans ((dsv_pay3 _ _ _ (x 0) (x 1)).trans
      (dsv_tile m c t (o1 := 768) 3 rfl _ (wq_ld3 m c t) (x 0) (x 1) (by omega) (by omega) _))
  · exact (congrArg _ (eq_ix2 x)).trans ((dsv_pay2 _ _ _ (x 0) (x 1)).trans
      (dsv_tile m c t (o1 := 512) 2 rfl _ (wq_ld2 m c t) (x 0) (x 1) (by omega) (by omega) _))
  · exact (congrArg _ (eq_ix2 x)).trans ((dsv_pay1 _ _ _ (x 0) (x 1)).trans
      (dsv_tile m c t (o1 := 256) 1 rfl _ (wq_ld1 m c t) (x 0) (x 1) (by omega) (by omega) _))
  · exact (congrArg _ (eq_ix2 x)).trans ((dsv_pay0 _ _ _ (x 0) (x 1)).trans
      (dsv_tile m c t (o1 := 0) 0 rfl _ (wq_ld0 m c t) (x 0) (x 1) (by omega) (by omega) _))
/-- The gradient of the gate's factor. -/
abbrev DSV (c : Dev nD) (t : Fin cfg0.N) : FVec Ideal S256x1024 .f32 :=
  View.readCov (Val := Elt Ideal) (s := S256x1024) (e := .f32) (View.whole cc0_scratch2) (DSVL m c t) (Rect.unit (s := S256x1024) ![0, 0] ![256, 1024] inb_S256x1024_S256x1024_0_0).toLoadRect
theorem DSV_at (c : Dev nD) (t : Fin cfg0.N) (p : Fin 256) (q : Fin 1024) : DSV m c t (ix2 p q) = dsv (args m c) (R t p) q :=
  (congrFun (View.readCov_eq_canon' _ _ _) _).trans ((congrArg _ (whole_idx p q)).trans (DSVL_at m c t _))

abbrev DSVb (c : Dev nD) (t : Fin cfg0.N) : FVec Ideal S256x1024 .bf16 := k0_pay193 (DSV m c t)
theorem DSVb_at (c : Dev nD) (t : Fin cfg0.N) (p : Fin 256) (q : Fin 1024) : DSVb m c t (ix2 p q) = dsv (args m c) (R t p) q := by
  refine Eq.trans ?_ (DSV_at m c t p q)
  pointwise [k0_pay193]
  done

/-! ## The gradient of the rows that the gate mixes -/

theorem dv_tile (c : Dev nD) (t : Fin cfg0.N) {o0 o1 : ℕ} (b : Fin 2) (g : Fin 4) (e0 : o0 = 128 * b.val) (e1 : o1 = 256 * g.val)
    (W : FVec Ideal S1x128x128 .bf16) (hW : ∀ i j, W (ix3 0 i j) = (args m c).wm (ix3 g j i)) (i : Fin 128) (k : Fin 256) {y0 : Fin 256} {y1 : Fin 1024}
    (h0 : y0.val = o0 + i.val) (h1 : y1.val = o1 + k.val) (b0 : ∀ j : Fin 128, o0 + j.val < 256) (b1 : o1 + k.val < 1024) :
    ∑ j : Fin 128, W (ix3 0 i j) * DSVb m c t (ix2 ⟨o0 + j.val, b0 j⟩ ⟨o1 + k.val, b1⟩) = dv (args m c) (R t y0) y1 := by
  rw [R_rw t b i y0 (by omega), col_eq g k y1 (by omega), dv_rw]
  refine Finset.sum_congr rfl fun j _ => (mul_comm _ _).trans (congrArg₂ (· * ·) ((DSVb_at m c t _ _).trans ?_) (hW i j))
  exact congrArg₂ (dsv (args m c)) (R_rw t b j _ (by subst e0; rfl)) (col_eq g k _ (by subst e1; rfl))

abbrev DVL (c : Dev nD) (t : Fin cfg0.N) : List (View.Piece (Elt Ideal) S256x1024 .f32) :=
  [⟨Rect.unit ![128, 768] ![128, 256] inb_S256x1024_S128x256_128_768, k0_pay214 (DSVb m c t) (View.ld (iblk m c 8 t) (Rect.unit ![3, 0, 0] ![1, 128, 128] inb_S4x128x128_S1x128x128_3_0_0))⟩,
   ⟨Rect.unit ![128, 512] ![128, 256] inb_S256x1024_S128x256_128_512, k0_pay212 (DSVb m c t) (View.ld (iblk m c 8 t) (Rect.unit ![2, 0, 0] ![1, 128, 128] inb_S4x128x128_S1x128x128_2_0_0))⟩,
   ⟨Rect.unit ![128, 256] ![128, 256] inb_S256x1024_S128x256_128_256, k0_pay210 (DSVb m c t) (View.ld (iblk m c 8 t) (Rect.unit ![1, 0, 0] ![1, 128, 128] inb_S4x128x128_S1x128x128_1_0_0))⟩,
   ⟨Rect.unit ![128, 0] ![128, 256] inb_S256x1024_S128x256_128_0, k0_pay208 (DSVb m c t) (View.ld (iblk m c 8 t) (Rect.unit ![0, 0, 0] ![1, 128, 128] inb_S4x128x128_S1x128x128_0_0_0))⟩,
   ⟨Rect.unit ![0, 768] ![128, 256] inb_S256x1024_S128x256_0_768, k0_pay206 (DSVb m c t) (k0_pay205 (View.ld (iblk m c 8 t) (Rect.unit ![3, 0, 0] ![1, 128, 128] inb_S4x128x128_S1x128x128_3_0_0)))⟩,
   ⟨Rect.unit ![0, 512] ![128, 256] inb_S256x1024_S128x256_0_512, k0_pay203 (DSVb m c t) (View.ld (iblk m c 8 t) (Rect.unit ![2, 0, 0] ![1, 128, 128] inb_S4x128x128_S1x128x128_2_0_0))⟩,
   ⟨Rect.unit ![0, 256] ![128, 256] inb_S256x1024_S128x256_0_256, k0_pay201 (k0_pay199 (View.ld (iblk m c 8 t) (Rect.unit ![1, 0, 0] ![1, 128, 128] inb_S4x128x128_S1x128x128_1_0_0))) (k0_pay200 (DSVb m c t)) (constant S128x256 FTy.f32 0#32)⟩,
   ⟨Rect.unit ![0, 0] ![128, 256] inb_S256x1024_S128x256_0_0, k0_pay197 (DSVb m c t) (View.ld (iblk m c 8 t) (Rect.unit ![0, 0, 0] ![1, 128, 128] inb_S4x128x128_S1x128x128_0_0_0))⟩]
theorem DVL_at (c : Dev nD) (t : Fin cfg0.N) (y : S256x1024.Idx) : View.canon (DVL m c t) y = dv (args m c) (R t (y 0)) (y 1) := by
  canon_tiles x h
  · exact (congrArg _ (eq_ix2 x)).trans ((dv_pay7 _ _ (x 0) (x 1)).trans
      (dv_tile m c t (o0 := 128) (o1 := 768) 1 3 rfl rfl _ (wst_ld3 m c t) (x 0) (x 1) (by omega) (by omega) _ _))
  · exact (congrArg _ (eq_ix2 x)).trans ((dv_pay6 _ _ (x 0) (x 1)).trans
      (dv_tile m c t (o0 := 128) (o1 := 512) 1 2 rfl rfl _ (wst_ld2 m c t) (x 0) (x 1) (by omega) (by omega) _ _))
  · exact (congrArg _ (eq_ix2 x)).trans ((dv_pay5 _ _ (x 0) (x 1)).trans
      (dv_tile m c t (o0 := 128) (o1 := 256) 1 1 rfl rfl _ (wst_ld1 m c t) (x 0) (x 1) (by omega) (by omega) _ _))
  · exact (congrArg _ (eq_ix2 x)).trans ((dv_pay4 _ _ (x 0) (x 1)).trans
      (dv_tile m c t (o0 := 128) (o1 := 0) 1 0 rfl rfl _ (wst_ld0 m c t) (x 0) (x 1) (by omega) (by omega) _ _))
  · exact (congrArg _ (eq_ix2 x)).trans ((dv_pay3 _ _ (x 0) (x 1)).trans
      (dv_tile m c t (o0 := 0) (o1 := 768) 0 3 rfl rfl _ (wst_ld3 m c t) (x 0) (x 1) (by omega) (by omega) _ _))
  · exact (congrArg _ (eq_ix2 x)).trans ((dv_pay2 _ _ (x 0) (x 1)).trans
      (dv_tile m c t (o0 := 0) (o1 := 512) 0 2 rfl rfl _ (wst_ld2 m c t) (x 0) (x 1) (by omega) (by omega) _ _))
  · exact (congrArg _ (eq_ix2 x)).trans ((dv_pay1 _ _ (x 0) (x 1)).trans
      (dv_tile m c t (o0 := 0) (o1 := 256) 0 1 rfl rfl _ (wst_ld1 m c t) (x 0) (x 1) (by omega) (by omega) _ _))
  · exact (congrArg _ (eq_ix2 x)).trans ((dv_pay0 _ _ (x 0) (x 1)).trans
      (dv_tile m c t (o0 := 0) (o1 := 0) 0 0 rfl rfl _ (wst_ld0 m c t) (x 0) (x 1) (by omega) (by omega) _ _))
/-- The gradient of the rows that the gate mixes. -/
abbrev DV (c : Dev nD) (t : Fin cfg0.N) : FVec Ideal S256x1024 .f32 :=
  View.readCov (Val := Elt Ideal) (s := S256x1024) (e := .f32) (View.whole cc0_scratch3) (DVL m c t) (Rect.unit (s := S256x1024) ![0, 0] ![256, 1024] inb_S256x1024_S256x1024_0_0).toLoadRect
theorem DV_at (c : Dev nD) (t : Fin cfg0.N) (p : Fin 256) (q : Fin 1024) : DV m c t (ix2 p q) = dv (args m c) (R t p) q :=
  (congrFun (View.readCov_eq_canon' _ _ _) _).trans ((congrArg _ (whole_idx p q)).trans (DVL_at m c t _))

end Cert.KernelIdeal.Mix
end
-- ==== Proof.Mix.Acc.lean ====
/- # The token mixer: the sums that are carried from step to step

Two of them are of products of a step's rows, a head at a time: the weights before the pooling's scale and the weights after the gate. One is of the rows of the gate's gradient. -/
module

public import proofs.«01_k».proof.Proof.Mix.Held
public import proofs.«01_k».proof.Proof.Mix.Tile

@[expose] public section

set_option maxRecDepth 16384
set_option maxHeartbeats 1000000

noncomputable section

open Idealize.ShloMosaic Idealize.ShloMosaic.TcCoe Idealize.SL.Sem
open Idealize.ShloMosaic.Pipeline (Dat)

namespace Cert.KernelIdeal.Mix
open Cert.KernelIdeal Cert.KernelIdeal.Gen Cert.MixRows

variable (m : (ℓ : Loc nD τ sig) → Buf (Elt Ideal) ℓ)

/-- An index whose first place has one entry. -/
theorem eq_ix3_0 {a b : ℕ} (x : (⟨3, ![1, a, b]⟩ : Shape).Idx) : x = ix3 0 (x 1) (x 2) := by
  funext l
  fin_cases l
  · exact Fin.ext (by have : (x 0).val < 1 := (x 0).isLt; show (x 0).val = 0; omega)
  · rfl
  · rfl

/-- An index from its three places. -/
theorem idx3_ext {a b c : ℕ} (y : (⟨3, ![a, b, c]⟩ : Shape).Idx) (g : Fin a) (i : Fin b) (j : Fin c) (h0 : (y 0).val = g.val) (h1 : (y 1).val = i.val)
    (h2 : (y 2).val = j.val) : y = ix3 g i j := by
  funext l
  fin_cases l
  · exact Fin.ext h0
  · exact Fin.ext h1
  · exact Fin.ext h2

/-! ## The weights before the pooling's scale -/

/-- What a step adds. -/
def dwpT (c : Dev nD) (t : Fin cfg0.N) (y : S4x256x256.Idx) : EReal :=
  ∑ p : Fin 256, da (args m c) (R t p) (col (y 0) (y 2)) * (args m c).ps (ix1 (col (y 0) (y 2))) * pl (args m c) (R t p) (col (y 0) (y 1))

theorem pool_ld (c : Dev nD) (t : Fin cfg0.N) {o : ℕ} (g : Fin 4) (e : o = 256 * g.val) (inb) (p i : Fin 256) :
    View.ld (iblk m c 1 t) (Rect.unit (s := S256x1024) ![0, o] ![256, 256] inb) (ix2 p i) = pl (args m c) (R t p) (col g i) :=
  (ld_2 (iblk m c 1 t) 0 o _ p i (by omega) (by omega)).trans ((pool_blk m c t _ _).trans
    (congrArg₂ (pl (args m c)) (congrArg (R t) (Fin.ext (Nat.zero_add _))) (col_eq g i _ (by subst e; rfl))))
theorem ps_ld (c : Dev nD) (t : Fin cfg0.N) {o : ℕ} (g : Fin 4) (e : o = 256 * g.val) (inb) (j : Fin 256) :
    View.ld (iblk m c 4 t) (Rect.unit (s := S1x1024) ![0, o] ![1, 256] inb) (ix2 0 j) = (args m c).ps (ix1 (col g j)) :=
  (ld_2 (iblk m c 4 t) 0 o _ 0 j (by decide) (by omega)).trans ((ps_blk m c t _).trans
    (congrArg (fun q => (args m c).ps (ix1 q)) (col_eq g j _ (by subst e; rfl))))

theorem dwp_tile (c : Dev nD) (t : Fin cfg0.N) {o : ℕ} (g : Fin 4) (e : o = 256 * g.val) (P : FVec Ideal S256x256 .bf16) (hP : ∀ p i, P (ix2 p i) = pl (args m c) (R t p) (col g i))
    (C : FVec Ideal S1x256 .f32) (hC : ∀ j, C (ix2 0 j) = (args m c).ps (ix1 (col g j))) (i j : Fin 256) (b : o + j.val < 1024)
    (y : S4x256x256.Idx) (hy : y = ix3 g i j) :
    ∑ p : Fin 256, P (ix2 p i) * (DA m c t (ix2 p ⟨o + j.val, b⟩) * C (ix2 0 j)) = dwpT m c t y := by
  subst hy
  refine Finset.sum_congr rfl fun p _ => (mul_comm _ _).trans (congrArg₂ (· * ·) (congrArg₂ (· * ·) ((DA_at m c t _ _).trans ?_) (hC j)) (hP p i))
  exact congrArg (da (args m c) _) (col_eq g j _ (by subst e; rfl))

/-- A head's slab of the buffer that the step before left. -/
theorem prev_slab {Val : EltTy → Type} {e : EltTy} {b c o : ℕ} (X : (⟨3, ![4, b, c]⟩ : Shape).Idx → Val e) (inb) (g : Fin 4) (eo : o = g.val) (i : Fin b) (j : Fin c)
    (y : (⟨3, ![4, b, c]⟩ : Shape).Idx) (hy : y = ix3 g i j) :
    View.ld X (Rect.unit (s := ⟨3, ![4, b, c]⟩) ![o, 0, 0] ![1, b, c] inb) (ix3 0 i j) = X y := by
  subst hy eo
  exact ld_3 X g.val inb i j g.isLt i.isLt j.isLt
/-- The pieces the sum is written in, the last first, over what the buffer held. -/
abbrev DWPL (c : Dev nD) (t : Fin cfg0.N) (X : FVec Ideal S4x256x256 .f32) : List (View.Piece (Elt Ideal) S4x256x256 .f32) :=
  [⟨Rect.unit ![3, 0, 0] ![1, 256, 256] inb_S4x256x256_S1x256x256_3_0_0, k0_pay136 (k0_pay127 (View.ld (iblk m c 1 t) (Rect.unit ![0, 768] ![256, 256] inb_S256x1024_S256x256_0_768))) (k0_pay135 (DA m c t) (View.ld (iblk m c 4 t) (Rect.unit ![0, 768] ![1, 256] inb_S1x1024_S1x256_0_768))) (View.ld (Val := Elt Ideal) (e' := .f32) X (Rect.unit (s := S4x256x256) ![3, 0, 0] ![1, 256, 256] inb_S4x256x256_S1x256x256_3_0_0))⟩,
   ⟨Rect.unit ![2, 0, 0] ![1, 256, 256] inb_S4x256x256_S1x256x256_2_0_0, k0_pay123 (k0_pay113 (View.ld (iblk m c 1 t) (Rect.unit ![0, 512] ![256, 256] inb_S256x1024_S256x256_0_512))) (k0_pay114 (DA m c t)) (k0_pay115 (View.ld (iblk m c 4 t) (Rect.unit ![0, 512] ![1, 256] inb_S1x1024_S1x256_0_512))) (View.ld (Val := Elt Ideal) (e' := .f32) X (Rect.unit (s := S4x256x256) ![2, 0, 0] ![1, 256, 256] inb_S4x256x256_S1x256x256_2_0_0))⟩,
   ⟨Rect.unit ![1, 0, 0] ![1, 256, 256] inb_S4x256x256_S1x256x256_1_0_0, k0_pay110 (k0_pay108 (View.ld (Val := Elt Ideal) (e' := .f32) X (Rect.unit (s := S4x256x256) ![1, 0, 0] ![1, 256, 256] inb_S4x256x256_S1x256x256_1_0_0))) (k0_pay109 (DA m c t) (View.ld (iblk m c 1 t) (Rect.unit ![0, 256] ![256, 256] inb_S256x1024_S256x256_0_256)) (View.ld (iblk m c 4 t) (Rect.unit ![0, 256] ![1, 256] inb_S1x1024_S1x256_0_256)))⟩,
   ⟨Rect.unit ![0, 0, 0] ![1, 256, 256] inb_S4x256x256_S1x256x256_0_0_0, k0_pay96 (k0_pay87 (View.ld (iblk m c 1 t) (Rect.unit ![0, 0] ![256, 256] inb_S256x1024_S256x256_0_0))) (k0_pay88 (DM m c t) (SA m c t)) (k0_pay89 (View.ld (iblk m c 4 t) (Rect.unit ![0, 0] ![1, 256] inb_S1x1024_S1x256_0_0))) (View.ld (Val := Elt Ideal) (e' := .f32) X (Rect.unit (s := S4x256x256) ![0, 0, 0] ![1, 256, 256] inb_S4x256x256_S1x256x256_0_0_0))⟩]
theorem DWPL_at (c : Dev nD) (t : Fin cfg0.N) (X : FVec Ideal S4x256x256 .f32) (y : S4x256x256.Idx) : View.canon (DWPL m c t X) y = X y + dwpT m c t y := by
  canon_tiles x h
  · have hx : (x 0).val < 1 := (x 0).isLt
    exact (congrArg _ (eq_ix3_0 x)).trans ((dwp_pay3 _ _ _ _ (x 1) (x 2)).trans
      (congrArg₂ (· + ·) (prev_slab (Val := Elt Ideal) (e := .f32) (b := 256) (c := 256) (o := 3) X _ 3 rfl (x 1) (x 2) y (idx3_ext y 3 (x 1) (x 2) (by omega) (by omega) (by omega))) (dwp_tile m c t (o := 768) 3 rfl _ (pool_ld m c t 3 rfl _) _ (ps_ld m c t 3 rfl _) (x 1) (x 2) (by omega) y (idx3_ext y 3 (x 1) (x 2) (by omega) (by omega) (by omega)))))
  · have hx : (x 0).val < 1 := (x 0).isLt
    exact (congrArg _ (eq_ix3_0 x)).trans ((dwp_pay2 _ _ _ _ (x 1) (x 2)).trans
      (congrArg₂ (· + ·) (prev_slab (Val := Elt Ideal) (e := .f32) (b := 256) (c := 256) (o := 2) X _ 2 rfl (x 1) (x 2) y (idx3_ext y 2 (x 1) (x 2) (by omega) (by omega) (by omega))) (dwp_tile m c t (o := 512) 2 rfl _ (pool_ld m c t 2 rfl _) _ (ps_ld m c t 2 rfl _) (x 1) (x 2) (by omega) y (idx3_ext y 2 (x 1) (x 2) (by omega) (by omega) (by omega)))))
  · have hx : (x 0).val < 1 := (x 0).isLt
    exact (congrArg _ (eq_ix3_0 x)).trans ((dwp_pay1 _ _ _ _ (x 1) (x 2)).trans
      (congrArg₂ (· + ·) (prev_slab (Val := Elt Ideal) (e := .f32) (b := 256) (c := 256) (o := 1) X _ 1 rfl (x 1) (x 2) y (idx3_ext y 1 (x 1) (x 2) (by omega) (by omega) (by omega))) (dwp_tile m c t (o := 256) 1 rfl _ (pool_ld m c t 1 rfl _) _ (ps_ld m c t 1 rfl _) (x 1) (x 2) (by omega) y (idx3_ext y 1 (x 1) (x 2) (by omega) (by omega) (by omega)))))
  · have hx : (x 0).val < 1 := (x 0).isLt
    exact (congrArg _ (eq_ix3_0 x)).trans ((dwp_pay0 _ (DM m c t) (SA m c t) _ _ (x 1) (x 2)).trans
      (congrArg₂ (· + ·) (prev_slab (Val := Elt Ideal) (e := .f32) (b := 256) (c := 256) (o := 0) X _ 0 rfl (x 1) (x 2) y (idx3_ext y 0 (x 1) (x 2) (by omega) (by omega) (by omega))) (dwp_tile m c t (o := 0) 0 rfl _ (pool_ld m c t 0 rfl _) _ (ps_ld m c t 0 rfl _) (x 1) (x 2) (by omega) y (idx3_ext y 0 (x 1) (x 2) (by omega) (by omega) (by omega)))))
theorem zero_k0_pay50 (y : S4x256x256.Idx) : k0_pay50 (F := Ideal) y = 0 := by
  unfold k0_pay50
  pointwise
theorem dwp_A (c : Dev nD) (t : Fin cfg0.N) (h0 : t.val % 16 = 0) (h1 : ¬ t.val % 16 = 15) (y : S4x256x256.Idx) : (stepA m c t h0 h1).2.2.2.2.2.2.2.2.2.1 y = dwpT m c t y := by
  unfold stepA
  frame_open
  frame_out
  refine View.canon_append_of_piecesOf (Val := Elt Ideal) (e := .f32) (dwpT m c t) [_] [_, _, _, _] ⟨fun x => ?_, fun x => ?_, fun x => ?_, fun x => ?_, trivial⟩ y
    (View.cover_of_tiledL (s := S4x256x256) _ S1x256x256.size (by sl_kernel_rfl) y)
  · have hx : (x 0).val < 1 := (x 0).isLt
    refine (congrArg _ (eq_ix3_0 x)).trans ((dwp_pay3 _ _ _ _ (x 1) (x 2)).trans ?_)
    refine (congrArg₂ (· + ·) ?_ (dwp_tile m c t (o := 768) 3 rfl _ (pool_ld m c t 3 rfl _) _ (ps_ld m c t 3 rfl _) (x 1) (x 2) (by omega) _ (idx3_ext _ 3 (x 1) (x 2) (by show 3 + 1 * (x 0).val = 3; omega) (by show 0 + 1 * (x 1).val = (x 1).val; omega) (by show 0 + 1 * (x 2).val = (x 2).val; omega)))).trans (zero_add _)
    rw [View.readCov_skip _ _ _ _ _ (by decide), View.readCov_skip _ _ _ _ _ (by decide), View.readCov_skip _ _ _ _ _ (by decide), View.readCov_fill _ _ _ _ _ (by decide)]
    exact zero_k0_pay50 _
  · have hx : (x 0).val < 1 := (x 0).isLt
    refine (congrArg _ (eq_ix3_0 x)).trans ((dwp_pay2 _ _ _ _ (x 1) (x 2)).trans ?_)
    refine (congrArg₂ (· + ·) ?_ (dwp_tile m c t (o := 512) 2 rfl _ (pool_ld m c t 2 rfl _) _ (ps_ld m c t 2 rfl _) (x 1) (x 2) (by omega) _ (idx3_ext _ 2 (x 1) (x 2) (by show 2 + 1 * (x 0).val = 2; omega) (by show 0 + 1 * (x 1).val = (x 1).val; omega) (by show 0 + 1 * (x 2).val = (x 2).val; omega)))).trans (zero_add _)
    rw [View.readCov_skip _ _ _ _ _ (by decide), View.readCov_skip _ _ _ _ _ (by decide), View.readCov_fill _ _ _ _ _ (by decide)]
    exact zero_k0_pay50 _
  · have hx : (x 0).val < 1 := (x 0).isLt
    refine (congrArg _ (eq_ix3_0 x)).trans ((dwp_pay1 _ _ _ _ (x 1) (x 2)).trans ?_)
    refine (congrArg₂ (· + ·) ?_ (dwp_tile m c t (o := 256) 1 rfl _ (pool_ld m c t 1 rfl _) _ (ps_ld m c t 1 rfl _) (x 1) (x 2) (by omega) _ (idx3_ext _ 1 (x 1) (x 2) (by show 1 + 1 * (x 0).val = 1; omega) (by show 0 + 1 * (x 1).val = (x 1).val; omega) (by show 0 + 1 * (x 2).val = (x 2).val; omega)))).trans (zero_add _)
    rw [View.readCov_skip _ _ _ _ _ (by decide), View.readCov_fill _ _ _ _ _ (by decide)]
    exact zero_k0_pay50 _
  · have hx : (x 0).val < 1 := (x 0).isLt
    refine (congrArg _ (eq_ix3_0 x)).trans ((dwp_pay0 _ (DM m c t) (SA m c t) _ _ (x 1) (x 2)).trans ?_)
    refine (congrArg₂ (· + ·) ?_ (dwp_tile m c t (o := 0) 0 rfl _ (pool_ld m c t 0 rfl _) _ (ps_ld m c t 0 rfl _) (x 1) (x 2) (by omega) _ (idx3_ext _ 0 (x 1) (x 2) (by show 0 + 1 * (x 0).val = 0; omega) (by show 0 + 1 * (x 1).val = (x 1).val; omega) (by show 0 + 1 * (x 2).val = (x 2).val; omega)))).trans (zero_add _)
    rw [View.readCov_fill _ _ _ _ _ (by decide)]
    exact zero_k0_pay50 _
theorem dwp_B (c : Dev nD) (t : Fin cfg0.N) (h0 : ¬ t.val % 16 = 0) (h1 : ¬ t.val % 16 = 15) (p : Held Ideal) (y : S4x256x256.Idx) : (stepB m c t h0 h1 p).2.2.2.2.2.2.2.2.2.1 y = p.2.2.2.2.2.2.2.2.2.1 y + dwpT m c t y := by
  unfold stepB
  frame_open
  frame_out
  refine (DWPL_at m c t _ y).trans ?_
  rw [read_unread_whole]
theorem dwp_C (c : Dev nD) (t : Fin cfg0.N) (h0 : ¬ t.val % 16 = 0) (h1 : t.val % 16 = 15) (p : Held Ideal) (y : S4x256x256.Idx) : (stepC m c t h0 h1 p).2.2.2.2.2.2.2.2.2.1 y = p.2.2.2.2.2.2.2.2.2.1 y + dwpT m c t y := by
  unfold stepC
  frame_open
  frame_out
  refine (DWPL_at m c t _ y).trans ?_
  rw [read_unread_whole]

/-! ## The weights after the gate -/

/-- What a step adds. -/
def dwqT (c : Dev nD) (t : Fin cfg0.N) (y : S4x256x256.Idx) : EReal :=
  ∑ p : Fin 256, db (args m c) (R t p) (col (y 0) (y 2)) * gt (args m c) (R t p) (col (y 0) (y 1))

theorem dwq_tile (c : Dev nD) (t : Fin cfg0.N) {o : ℕ} (g : Fin 4) (e : o = 256 * g.val) (i j : Fin 256) (b : o + j.val < 1024) (b' : o + i.val < 1024)
    (y : S4x256x256.Idx) (hy : y = ix3 g i j) :
    ∑ p : Fin 256, GT m c t (ix2 p ⟨o + i.val, b'⟩) * DB m c t (ix2 p ⟨o + j.val, b⟩) = dwqT m c t y := by
  subst hy
  refine Finset.sum_congr rfl fun p _ => (mul_comm _ _).trans (congrArg₂ (· * ·) ((DB_at m c t _ _).trans ?_) ((GT_at m c t _ _).trans ?_))
  · exact congrArg (db (args m c) _) (col_eq g j _ (by subst e; rfl))
  · exact congrArg (gt (args m c) _) (col_eq g i _ (by subst e; rfl))

/-- The pieces the sum is written in, the last first, over what the buffer held. -/
abbrev DWQL (c : Dev nD) (t : Fin cfg0.N) (X : FVec Ideal S4x256x256 .f32) : List (View.Piece (Elt Ideal) S4x256x256 .f32) :=
  [⟨Rect.unit ![3, 0, 0] ![1, 256, 256] inb_S4x256x256_S1x256x256_3_0_0, k0_pay186 (k0_pay185 (GT m c t) (DB m c t) (View.ld (Val := Elt Ideal) (e' := .f32) X (Rect.unit (s := S4x256x256) ![3, 0, 0] ![1, 256, 256] inb_S4x256x256_S1x256x256_3_0_0)))⟩,
   ⟨Rect.unit ![2, 0, 0] ![1, 256, 256] inb_S4x256x256_S1x256x256_2_0_0, k0_pay176 (GT m c t) (DB m c t) (View.ld (Val := Elt Ideal) (e' := .f32) X (Rect.unit (s := S4x256x256) ![2, 0, 0] ![1, 256, 256] inb_S4x256x256_S1x256x256_2_0_0))⟩,
   ⟨Rect.unit ![1, 0, 0] ![1, 256, 256] inb_S4x256x256_S1x256x256_1_0_0, k0_pay166 (k0_pay161 (GT m c t)) (k0_pay162 (DB m c t)) (View.ld (Val := Elt Ideal) (e' := .f32) X (Rect.unit (s := S4x256x256) ![1, 0, 0] ![1, 256, 256] inb_S4x256x256_S1x256x256_1_0_0))⟩,
   ⟨Rect.unit ![0, 0, 0] ![1, 256, 256] inb_S4x256x256_S1x256x256_0_0_0, k0_pay157 (k0_pay152 (GT m c t)) (k0_pay153 (DB m c t)) (View.ld (Val := Elt Ideal) (e' := .f32) X (Rect.unit (s := S4x256x256) ![0, 0, 0] ![1, 256, 256] inb_S4x256x256_S1x256x256_0_0_0))⟩]
theorem DWQL_at (c : Dev nD) (t : Fin cfg0.N) (X : FVec Ideal S4x256x256 .f32) (y : S4x256x256.Idx) : View.canon (DWQL m c t X) y = X y + dwqT m c t y := by
  canon_tiles x h
  · have hx : (x 0).val < 1 := (x 0).isLt
    exact (congrArg _ (eq_ix3_0 x)).trans ((dwq_pay3 _ _ _ (x 1) (x 2)).trans
      (congrArg₂ (· + ·) (prev_slab (Val := Elt Ideal) (e := .f32) (b := 256) (c := 256) (o := 3) X _ 3 rfl (x 1) (x 2) y (idx3_ext y 3 (x 1) (x 2) (by omega) (by omega) (by omega))) (dwq_tile m c t (o := 768) 3 rfl (x 1) (x 2) (by omega) (by omega) y (idx3_ext y 3 (x 1) (x 2) (by omega) (by omega) (by omega)))))
  · have hx : (x 0).val < 1 := (x 0).isLt
    exact (congrArg _ (eq_ix3_0 x)).trans ((dwq_pay2 _ _ _ (x 1) (x 2)).trans
      (congrArg₂ (· + ·) (prev_slab (Val := Elt Ideal) (e := .f32) (b := 256) (c := 256) (o := 2) X _ 2 rfl (x 1) (x 2) y (idx3_ext y 2 (x 1) (x 2) (by omega) (by omega) (by omega))) (dwq_tile m c t (o := 512) 2 rfl (x 1) (x 2) (by omega) (by omega) y (idx3_ext y 2 (x 1) (x 2) (by omega) (by omega) (by omega)))))
  · have hx : (x 0).val < 1 := (x 0).isLt
    exact (congrArg _ (eq_ix3_0 x)).trans ((dwq_pay1 _ _ _ (x 1) (x 2)).trans
      (congrArg₂ (· + ·) (prev_slab (Val := Elt Ideal) (e := .f32) (b := 256) (c := 256) (o := 1) X _ 1 rfl (x 1) (x 2) y (idx3_ext y 1 (x 1) (x 2) (by omega) (by omega) (by omega))) (dwq_tile m c t (o := 256) 1 rfl (x 1) (x 2) (by omega) (by omega) y (idx3_ext y 1 (x 1) (x 2) (by omega) (by omega) (by omega)))))
  · have hx : (x 0).val < 1 := (x 0).isLt
    exact (congrArg _ (eq_ix3_0 x)).trans ((dwq_pay0 _ _ _ (x 1) (x 2)).trans
      (congrArg₂ (· + ·) (prev_slab (Val := Elt Ideal) (e := .f32) (b := 256) (c := 256) (o := 0) X _ 0 rfl (x 1) (x 2) y (idx3_ext y 0 (x 1) (x 2) (by omega) (by omega) (by omega))) (dwq_tile m c t (o := 0) 0 rfl (x 1) (x 2) (by omega) (by omega) y (idx3_ext y 0 (x 1) (x 2) (by omega) (by omega) (by omega)))))
theorem zero_k0_pay51 (y : S4x256x256.Idx) : k0_pay51 (F := Ideal) y = 0 := by
  unfold k0_pay51
  pointwise
theorem dwq_A (c : Dev nD) (t : Fin cfg0.N) (h0 : t.val % 16 = 0) (h1 : ¬ t.val % 16 = 15) (y : S4x256x256.Idx) : (stepA m c t h0 h1).2.2.2.2.2.2.2.2.2.2 y = dwqT m c t y := by
  unfold stepA
  frame_open
  frame_out
  refine View.canon_append_of_piecesOf (Val := Elt Ideal) (e := .f32) (dwqT m c t) [_] [_, _, _, _] ⟨fun x => ?_, fun x => ?_, fun x => ?_, fun x => ?_, trivial⟩ y
    (View.cover_of_tiledL (s := S4x256x256) _ S1x256x256.size (by sl_kernel_rfl) y)
  · have hx : (x 0).val < 1 := (x 0).isLt
    refine (congrArg _ (eq_ix3_0 x)).trans ((dwq_pay3 _ _ _ (x 1) (x 2)).trans ?_)
    refine (congrArg₂ (· + ·) ?_ (dwq_tile m c t (o := 768) 3 rfl (x 1) (x 2) (by omega) (by omega) _ (idx3_ext _ 3 (x 1) (x 2) (by show 3 + 1 * (x 0).val = 3; omega) (by show 0 + 1 * (x 1).val = (x 1).val; omega) (by show 0 + 1 * (x 2).val = (x 2).val; omega)))).trans (zero_add _)
    rw [View.readCov_skip _ _ _ _ _ (by decide), View.readCov_skip _ _ _ _ _ (by decide), View.readCov_skip _ _ _ _ _ (by decide), View.readCov_fill _ _ _ _ _ (by decide)]
    exact zero_k0_pay51 _
  · have hx : (x 0).val < 1 := (x 0).isLt
    refine (congrArg _ (eq_ix3_0 x)).trans ((dwq_pay2 _ _ _ (x 1) (x 2)).trans ?_)
    refine (congrArg₂ (· + ·) ?_ (dwq_tile m c t (o := 512) 2 rfl (x 1) (x 2) (by omega) (by omega) _ (idx3_ext _ 2 (x 1) (x 2) (by show 2 + 1 * (x 0).val = 2; omega) (by show 0 + 1 * (x 1).val = (x 1).val; omega) (by show 0 + 1 * (x 2).val = (x 2).val; omega)))).trans (zero_add _)
    rw [View.readCov_skip _ _ _ _ _ (by decide), View.readCov_skip _ _ _ _ _ (by decide), View.readCov_fill _ _ _ _ _ (by decide)]
    exact zero_k0_pay51 _
  · have hx : (x 0).val < 1 := (x 0).isLt
    refine (congrArg _ (eq_ix3_0 x)).trans ((dwq_pay1 _ _ _ (x 1) (x 2)).trans ?_)
    refine (congrArg₂ (· + ·) ?_ (dwq_tile m c t (o := 256) 1 rfl (x 1) (x 2) (by omega) (by omega) _ (idx3_ext _ 1 (x 1) (x 2) (by show 1 + 1 * (x 0).val = 1; omega) (by show 0 + 1 * (x 1).val = (x 1).val; omega) (by show 0 + 1 * (x 2).val = (x 2).val; omega)))).trans (zero_add _)
    rw [View.readCov_skip _ _ _ _ _ (by decide), View.readCov_fill _ _ _ _ _ (by decide)]
    exact zero_k0_pay51 _
  · have hx : (x 0).val < 1 := (x 0).isLt
    refine (congrArg _ (eq_ix3_0 x)).trans ((dwq_pay0 _ _ _ (x 1) (x 2)).trans ?_)
    refine (congrArg₂ (· + ·) ?_ (dwq_tile m c t (o := 0) 0 rfl (x 1) (x 2) (by omega) (by omega) _ (idx3_ext _ 0 (x 1) (x 2) (by show 0 + 1 * (x 0).val = 0; omega) (by show 0 + 1 * (x 1).val = (x 1).val; omega) (by show 0 + 1 * (x 2).val = (x 2).val; omega)))).trans (zero_add _)
    rw [View.readCov_fill _ _ _ _ _ (by decide)]
    exact zero_k0_pay51 _
theorem dwq_B (c : Dev nD) (t : Fin cfg0.N) (h0 : ¬ t.val % 16 = 0) (h1 : ¬ t.val % 16 = 15) (p : Held Ideal) (y : S4x256x256.Idx) : (stepB m c t h0 h1 p).2.2.2.2.2.2.2.2.2.2 y = p.2.2.2.2.2.2.2.2.2.2 y + dwqT m c t y := by
  unfold stepB
  frame_open
  frame_out
  refine (DWQL_at m c t _ y).trans ?_
  rw [read_unread_whole]
theorem dwq_C (c : Dev nD) (t : Fin cfg0.N) (h0 : ¬ t.val % 16 = 0) (h1 : t.val % 16 = 15) (p : Held Ideal) (y : S4x256x256.Idx) : (stepC m c t h0 h1 p).2.2.2.2.2.2.2.2.2.2 y = p.2.2.2.2.2.2.2.2.2.2 y + dwqT m c t y := by
  unfold stepC
  frame_open
  frame_out
  refine (DWQL_at m c t _ y).trans ?_
  rw [read_unread_whole]

/-! ## The gradient of the gate's shift -/

/-- What a step adds. -/
def dsvT (c : Dev nD) (t : Fin cfg0.N) (i : Fin 128) (q : Fin 1024) : EReal := dsv (args m c) (rw (Bk t 0) i) q + dsv (args m c) (rw (Bk t 1) i) q

theorem dsv_add (c : Dev nD) (t : Fin cfg0.N) (i : Fin 128) (q : Fin 1024) (b0 b1) :
    DSV m c t (ix2 ⟨0 + i.val, b0⟩ q) + DSV m c t (ix2 ⟨128 + i.val, b1⟩ q) = dsvT m c t i q :=
  congrArg₂ (· + ·) ((DSV_at m c t _ _).trans (congrArg (dsv (args m c) · q) (R_rw t 0 i _ rfl)))
    ((DSV_at m c t _ _).trans (congrArg (dsv (args m c) · q) (R_rw t 1 i _ rfl)))

theorem dsv_A (c : Dev nD) (t : Fin cfg0.N) (h0 : t.val % 16 = 0) (h1 : ¬ t.val % 16 = 15) (i : Fin 128) (q : Fin 1024) : (stepA m c t h0 h1).2.2.2.2.2.2.2.2.1 (ix2 i q) = dsvT m c t i q := by
  unfold stepA
  frame_open
  frame_out
  refine (dbs_pay _ _ i q).trans ((congrArg₂ (· + ·) ?_ (dsv_add m c t i q _ _)).trans (zero_add _))
  pointwise [k0_pay55]
theorem dsv_B (c : Dev nD) (t : Fin cfg0.N) (h0 : ¬ t.val % 16 = 0) (h1 : ¬ t.val % 16 = 15) (p : Held Ideal) (i : Fin 128) (q : Fin 1024) : (stepB m c t h0 h1 p).2.2.2.2.2.2.2.2.1 (ix2 i q) = p.2.2.2.2.2.2.2.2.1 (ix2 i q) + dsvT m c t i q := by
  unfold stepB
  frame_open
  frame_out
  rw [read_unread_whole]
  exact (dbs_pay _ _ i q).trans (congrArg₂ (· + ·) rfl (dsv_add m c t i q _ _))
theorem dsv_C (c : Dev nD) (t : Fin cfg0.N) (h0 : ¬ t.val % 16 = 0) (h1 : t.val % 16 = 15) (p : Held Ideal) (i : Fin 128) (q : Fin 1024) : (stepC m c t h0 h1 p).2.2.2.2.2.2.2.2.1 (ix2 i q) = p.2.2.2.2.2.2.2.2.1 (ix2 i q) + dsvT m c t i q := by
  unfold stepC
  frame_open
  frame_out
  rw [read_unread_whole]
  exact (dbs_pay _ _ i q).trans (congrArg₂ (· + ·) rfl (dsv_add m c t i q _ _))

/-! ## What the last step writes out -/

/-- A part of one head's slab, read back from the sum just written. -/
theorem acc_ld {κ : Kind} (v : View sig κ .vmem S4x256x256 .f32) (L : List (View.Piece (Elt Ideal) S4x256x256 .f32)) (G : S4x256x256.Idx → EReal) (hL : ∀ y, View.canon L y = G y) {g o : ℕ} (inb)
    (r : Fin 64) (d : Fin 256) (y : S4x256x256.Idx) (hy0 : (y 0).val = g) (hy1 : (y 1).val = o + r.val) (hy2 : (y 2).val = d.val) :
    v.readCov L (Rect.unit (s := S4x256x256) ![g, o, 0] ![1, 64, 256] inb).toLoadRect (ix3 0 r d) = G y := by
  refine (congrFun (View.readCov_eq_canon' _ _ _) _).trans ((congrArg _ ?_).trans (hL y))
  funext l
  apply Fin.ext
  fin_cases l
  · exact hy0.symm
  · show o + 1 * r.val = (y 1).val
    omega
  · show 0 + 1 * d.val = (y 2).val
    omega

/-- An index whose first two places have one entry. -/
theorem eq_ix4_00 {a b : ℕ} (x : (⟨4, ![1, 1, a, b]⟩ : Shape).Idx) : x = ix4 0 0 (x 2) (x 3) := by
  funext l
  fin_cases l
  · exact Fin.ext (by have : (x 0).val < 1 := (x 0).isLt; show (x 0).val = 0; omega)
  · exact Fin.ext (by have : (x 1).val < 1 := (x 1).isLt; show (x 1).val = 0; omega)
  · rfl
  · rfl

/-- Where a written entry stands in the sum. -/
def from4 (y : S2x4x128x256.Idx) : S4x256x256.Idx :=
  ix3 ⟨(y 0).val * 2 + (y 2).val / 64, by have h0 : (y 0).val < 2 := (y 0).isLt; have h2 : (y 2).val < 128 := (y 2).isLt; omega⟩ ⟨(y 1).val * 64 + (y 2).val % 64, by have h1 : (y 1).val < 4 := (y 1).isLt; omega⟩ (y 3)

theorem copy_34 (X : FVec Ideal S1x64x256 .f32) (r : Fin 64) (d : Fin 256) : k0_pay34 (F := Ideal) X (ix4 0 0 r d) = X (ix3 0 r d) := by
  pointwise [k0_pay34]
theorem copy_33 (X : FVec Ideal S1x64x256 .f32) (r : Fin 64) (d : Fin 256) : k0_pay33 (F := Ideal) X (ix4 0 0 r d) = X (ix3 0 r d) := by
  pointwise [k0_pay33]
theorem copy_32 (X : FVec Ideal S1x64x256 .f32) (r : Fin 64) (d : Fin 256) : k0_pay32 (F := Ideal) X (ix4 0 0 r d) = X (ix3 0 r d) := by
  pointwise [k0_pay32]
theorem copy_31 (X : FVec Ideal S1x64x256 .f32) (r : Fin 64) (d : Fin 256) : k0_pay31 (F := Ideal) X (ix4 0 0 r d) = X (ix3 0 r d) := by
  pointwise [k0_pay31]
theorem copy_30 (X : FVec Ideal S1x64x256 .f32) (r : Fin 64) (d : Fin 256) : k0_pay30 (F := Ideal) (k0_pay29 X) (ix4 0 0 r d) = X (ix3 0 r d) := by
  pointwise [k0_pay30, k0_pay29]
theorem copy_28 (X : FVec Ideal S1x64x256 .f32) (r : Fin 64) (d : Fin 256) : k0_pay28 (F := Ideal) X (ix4 0 0 r d) = X (ix3 0 r d) := by
  pointwise [k0_pay28]
theorem copy_27 (X : FVec Ideal S1x64x256 .f32) (r : Fin 64) (d : Fin 256) : k0_pay27 (F := Ideal) X (ix4 0 0 r d) = X (ix3 0 r d) := by
  pointwise [k0_pay27]
theorem copy_26 (X : FVec Ideal S1x64x256 .f32) (r : Fin 64) (d : Fin 256) : k0_pay26 (F := Ideal) X (ix4 0 0 r d) = X (ix3 0 r d) := by
  pointwise [k0_pay26]
theorem copy_25 (X : FVec Ideal S1x64x256 .f32) (r : Fin 64) (d : Fin 256) : k0_pay25 (F := Ideal) (k0_pay24 X) (ix4 0 0 r d) = X (ix3 0 r d) := by
  pointwise [k0_pay25, k0_pay24]
theorem copy_23 (X : FVec Ideal S1x64x256 .f32) (r : Fin 64) (d : Fin 256) : k0_pay23 (F := Ideal) X (ix4 0 0 r d) = X (ix3 0 r d) := by
  pointwise [k0_pay23]
theorem copy_22 (X : FVec Ideal S1x64x256 .f32) (r : Fin 64) (d : Fin 256) : k0_pay22 (F := Ideal) X (ix4 0 0 r d) = X (ix3 0 r d) := by
  pointwise [k0_pay22]
theorem copy_21 (X : FVec Ideal S1x64x256 .f32) (r : Fin 64) (d : Fin 256) : k0_pay21 (F := Ideal) X (ix4 0 0 r d) = X (ix3 0 r d) := by
  pointwise [k0_pay21]
theorem copy_20 (X : FVec Ideal S1x64x256 .f32) (r : Fin 64) (d : Fin 256) : k0_pay20 (F := Ideal) X (ix4 0 0 r d) = X (ix3 0 r d) := by
  pointwise [k0_pay20]
theorem copy_19 (X : FVec Ideal S1x64x256 .f32) (r : Fin 64) (d : Fin 256) : k0_pay19 (F := Ideal) X (ix4 0 0 r d) = X (ix3 0 r d) := by
  pointwise [k0_pay19]
theorem copy_18 (X : FVec Ideal S1x64x256 .f32) (r : Fin 64) (d : Fin 256) : k0_pay18 (F := Ideal) X (ix4 0 0 r d) = X (ix3 0 r d) := by
  pointwise [k0_pay18]
theorem copy_17 (X : FVec Ideal S1x64x256 .f32) (r : Fin 64) (d : Fin 256) : k0_pay17 (F := Ideal) X (ix4 0 0 r d) = X (ix3 0 r d) := by
  pointwise [k0_pay17]
theorem dwp_out (c : Dev nD) (t : Fin cfg0.N) (h0 : ¬ t.val % 16 = 0) (h1 : t.val % 16 = 15) (p : Held Ideal) (y : S2x4x128x256.Idx) :
    (stepC m c t h0 h1 p).2.1 y = p.2.2.2.2.2.2.2.2.2.1 (from4 y) + dwpT m c t (from4 y) := by
  unfold stepC
  frame_open
  frame_out
  have hL := fun y' => DWPL_at m c t p.2.2.2.2.2.2.2.2.2.1 y'
  simp only [read_unread_whole]
  canon_tiles x h
  · have hx0 : (x 0).val < 1 := (x 0).isLt
    have hx1 : (x 1).val < 1 := (x 1).isLt
    have hx2 : (x 2).val < 64 := (x 2).isLt
    exact (congrArg _ (eq_ix4_00 x)).trans ((copy_34 _ (x 2) (x 3)).trans (acc_ld (g := 3) (o := 192) _ _ _ hL _ (x 2) (x 3) (from4 y)
      (by show (y 0).val * 2 + (y 2).val / 64 = 3; omega) (by show (y 1).val * 64 + (y 2).val % 64 = 192 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_33 _ (x 2) (x 3)).trans (acc_ld (g := 3) (o := 128) _ _ _ hL _ (x 2) (x 3) (from4 y)
      (by show (y 0).val * 2 + (y 2).val / 64 = 3; omega) (by show (y 1).val * 64 + (y 2).val % 64 = 128 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_32 _ (x 2) (x 3)).trans (acc_ld (g := 3) (o := 64) _ _ _ hL _ (x 2) (x 3) (from4 y)
      (by show (y 0).val * 2 + (y 2).val / 64 = 3; omega) (by show (y 1).val * 64 + (y 2).val % 64 = 64 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_31 _ (x 2) (x 3)).trans (acc_ld (g := 3) (o := 0) _ _ _ hL _ (x 2) (x 3) (from4 y)
      (by show (y 0).val * 2 + (y 2).val / 64 = 3; omega) (by show (y 1).val * 64 + (y 2).val % 64 = 0 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_30 _ (x 2) (x 3)).trans (acc_ld (g := 2) (o := 192) _ _ _ hL _ (x 2) (x 3) (from4 y)
      (by show (y 0).val * 2 + (y 2).val / 64 = 2; omega) (by show (y 1).val * 64 + (y 2).val % 64 = 192 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_28 _ (x 2) (x 3)).trans (acc_ld (g := 2) (o := 128) _ _ _ hL _ (x 2) (x 3) (from4 y)
      (by show (y 0).val * 2 + (y 2).val / 64 = 2; omega) (by show (y 1).val * 64 + (y 2).val % 64 = 128 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_27 _ (x 2) (x 3)).trans (acc_ld (g := 2) (o := 64) _ _ _ hL _ (x 2) (x 3) (from4 y)
      (by show (y 0).val * 2 + (y 2).val / 64 = 2; omega) (by show (y 1).val * 64 + (y 2).val % 64 = 64 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_26 _ (x 2) (x 3)).trans (acc_ld (g := 2) (o := 0) _ _ _ hL _ (x 2) (x 3) (from4 y)
      (by show (y 0).val * 2 + (y 2).val / 64 = 2; omega) (by show (y 1).val * 64 + (y 2).val % 64 = 0 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_25 _ (x 2) (x 3)).trans (acc_ld (g := 1) (o := 192) _ _ _ hL _ (x 2) (x 3) (from4 y)
      (by show (y 0).val * 2 + (y 2).val / 64 = 1; omega) (by show (y 1).val * 64 + (y 2).val % 64 = 192 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_23 _ (x 2) (x 3)).trans (acc_ld (g := 1) (o := 128) _ _ _ hL _ (x 2) (x 3) (from4 y)
      (by show (y 0).val * 2 + (y 2).val / 64 = 1; omega) (by show (y 1).val * 64 + (y 2).val % 64 = 128 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_22 _ (x 2) (x 3)).trans (acc_ld (g := 1) (o := 64) _ _ _ hL _ (x 2) (x 3) (from4 y)
      (by show (y 0).val * 2 + (y 2).val / 64 = 1; omega) (by show (y 1).val * 64 + (y 2).val % 64 = 64 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_21 _ (x 2) (x 3)).trans (acc_ld (g := 1) (o := 0) _ _ _ hL _ (x 2) (x 3) (from4 y)
      (by show (y 0).val * 2 + (y 2).val / 64 = 1; omega) (by show (y 1).val * 64 + (y 2).val % 64 = 0 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_20 _ (x 2) (x 3)).trans (acc_ld (g := 0) (o := 192) _ _ _ hL _ (x 2) (x 3) (from4 y)
      (by show (y 0).val * 2 + (y 2).val / 64 = 0; omega) (by show (y 1).val * 64 + (y 2).val % 64 = 192 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_19 _ (x 2) (x 3)).trans (acc_ld (g := 0) (o := 128) _ _ _ hL _ (x 2) (x 3) (from4 y)
      (by show (y 0).val * 2 + (y 2).val / 64 = 0; omega) (by show (y 1).val * 64 + (y 2).val % 64 = 128 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_18 _ (x 2) (x 3)).trans (acc_ld (g := 0) (o := 64) _ _ _ hL _ (x 2) (x 3) (from4 y)
      (by show (y 0).val * 2 + (y 2).val / 64 = 0; omega) (by show (y 1).val * 64 + (y 2).val % 64 = 64 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_17 _ (x 2) (x 3)).trans (acc_ld (g := 0) (o := 0) _ _ _ hL _ (x 2) (x 3) (from4 y)
      (by show (y 0).val * 2 + (y 2).val / 64 = 0; omega) (by show (y 1).val * 64 + (y 2).val % 64 = 0 + (x 2).val; omega) (by show (y 3).val = (x 3).val; omega)))
theorem copy_7 (X : FVec Ideal S1x64x256 .f32) (r : Fin 64) (d : Fin 256) : k0_pay7 (F := Ideal) X (ix4 0 0 r d) = X (ix3 0 r d) := by
  pointwise [k0_pay7]
theorem copy_6 (X : FVec Ideal S1x64x256 .f32) (r : Fin 64) (d : Fin 256) : k0_pay6 (F := Ideal) X (ix4 0 0 r d) = X (ix3 0 r d) := by
  pointwise [k0_pay6]
theorem copy_5 (X : FVec Ideal S1x64x256 .f32) (r : Fin 64) (d : Fin 256) : k0_pay5 (F := Ideal) X (ix4 0 0 r d) = X (ix3 0 r d) := by
  pointwise [k0_pay5]
theorem copy_4 (X : FVec Ideal S1x64x256 .f32) (r : Fin 64) (d : Fin 256) : k0_pay4 (F := Ideal) (k0_pay48 X) (ix4 0 0 r d) = X (ix3 0 r d) := by
  pointwise [k0_pay4, k0_pay48]
theorem copy_47 (X : FVec Ideal S1x64x256 .f32) (r : Fin 64) (d : Fin 256) : k0_pay47 (F := Ideal) X (ix4 0 0 r d) = X (ix3 0 r d) := by
  pointwise [k0_pay47]
theorem copy_46 (X : FVec Ideal S1x64x256 .f32) (r : Fin 64) (d : Fin 256) : k0_pay46 (F := Ideal) X (ix4 0 0 r d) = X (ix3 0 r d) := by
  pointwise [k0_pay46]
theorem copy_45 (X : FVec Ideal S1x64x256 .f32) (r : Fin 64) (d : Fin 256) : k0_pay45 (F := Ideal) X (ix4 0 0 r d) = X (ix3 0 r d) := by
  pointwise [k0_pay45]
theorem copy_44 (X : FVec Ideal S1x64x256 .f32) (r : Fin 64) (d : Fin 256) : k0_pay44 (F := Ideal) (k0_pay43 X) (ix4 0 0 r d) = X (ix3 0 r d) := by
  pointwise [k0_pay44, k0_pay43]
theorem copy_42 (X : FVec Ideal S1x64x256 .f32) (r : Fin 64) (d : Fin 256) : k0_pay42 (F := Ideal) X (ix4 0 0 r d) = X (ix3 0 r d) := by
  pointwise [k0_pay42]
theorem copy_41 (X : FVec Ideal S1x64x256 .f32) (r : Fin 64) (d : Fin 256) : k0_pay41 (F := Ideal) X (ix4 0 0 r d) = X (ix3 0 r d) := by
  pointwise [k0_pay41]
theorem copy_40 (X : FVec Ideal S1x64x256 .f32) (r : Fin 64) (d : Fin 256) : k0_pay40 (F := Ideal) X (ix4 0 0 r d) = X (ix3 0 r d) := by
  pointwise [k0_pay40]
theorem copy_39 (X : FVec Ideal S1x64x256 .f32) (r : Fin 64) (d : Fin 256) : k0_pay39 (F := Ideal) X (ix4 0 0 r d) = X (ix3 0 r d) := by
  pointwise [k0_pay39]
theorem copy_38 (X : FVec Ideal S1x64x256 .f32) (r : Fin 64) (d : Fin 256) : k0_pay38 (F := Ideal) X (ix4 0 0 r d) = X (ix3 0 r d) := by
  pointwise [k0_pay38]
theorem copy_37 (X : FVec Ideal S1x64x256 .f32) (r : Fin 64) (d : Fin 256) : k0_pay37 (F := Ideal) X (ix4 0 0 r d) = X (ix3 0 r d) := by
  pointwise [k0_pay37]
theorem copy_36 (X : FVec Ideal S1x64x256 .f32) (r : Fin 64) (d : Fin 256) : k0_pay36 (F := Ideal) X (ix4 0 0 r d) = X (ix3 0 r d) := by
  pointwise [k0_pay36]
theorem copy_35 (X : FVec Ideal S1x64x256 .f32) (r : Fin 64) (d : Fin 256) : k0_pay35 (F := Ideal) X (ix4 0 0 r d) = X (ix3 0 r d) := by
  pointwise [k0_pay35]
theorem dwq_out (c : Dev nD) (t : Fin cfg0.N) (h0 : ¬ t.val % 16 = 0) (h1 : t.val % 16 = 15) (p : Held Ideal) (y : S2x4x128x256.Idx) :
    (stepC m c t h0 h1 p).2.2.1 y = p.2.2.2.2.2.2.2.2.2.2 (from4 y) + dwqT m c t (from4 y) := by
  unfold stepC
  frame_open
  frame_out
  have hL := fun y' => DWQL_at m c t p.2.2.2.2.2.2.2.2.2.2 y'
  simp only [read_unread_whole]
  canon_tiles x h
  · have hx0 : (x 0).val < 1 := (x 0).isLt
    have hx1 : (x 1).val < 1 := (x 1).isLt
    have hx2 : (x 2).val < 64 := (x 2).isLt
    exact (congrArg _ (eq_ix4_00 x)).trans ((copy_7 _ (x 2) (x 3)).trans (acc_ld (g := 3) (o := 192) _ _ _ hL _ (x 2) (x 3) (from4 y)
      (by show (y 0).val * 2 + (y 2).val / 64 = 3; omega) (by show (y 1).val * 64 + (y 2).val % 64 = 192 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_6 _ (x 2) (x 3)).trans (acc_ld (g := 3) (o := 128) _ _ _ hL _ (x 2) (x 3) (from4 y)
      (by show (y 0).val * 2 + (y 2).val / 64 = 3; omega) (by show (y 1).val * 64 + (y 2).val % 64 = 128 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_5 _ (x 2) (x 3)).trans (acc_ld (g := 3) (o := 64) _ _ _ hL _ (x 2) (x 3) (from4 y)
      (by show (y 0).val * 2 + (y 2).val / 64 = 3; omega) (by show (y 1).val * 64 + (y 2).val % 64 = 64 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_4 _ (x 2) (x 3)).trans (acc_ld (g := 3) (o := 0) _ _ _ hL _ (x 2) (x 3) (from4 y)
      (by show (y 0).val * 2 + (y 2).val / 64 = 3; omega) (by show (y 1).val * 64 + (y 2).val % 64 = 0 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_47 _ (x 2) (x 3)).trans (acc_ld (g := 2) (o := 192) _ _ _ hL _ (x 2) (x 3) (from4 y)
      (by show (y 0).val * 2 + (y 2).val / 64 = 2; omega) (by show (y 1).val * 64 + (y 2).val % 64 = 192 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_46 _ (x 2) (x 3)).trans (acc_ld (g := 2) (o := 128) _ _ _ hL _ (x 2) (x 3) (from4 y)
      (by show (y 0).val * 2 + (y 2).val / 64 = 2; omega) (by show (y 1).val * 64 + (y 2).val % 64 = 128 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_45 _ (x 2) (x 3)).trans (acc_ld (g := 2) (o := 64) _ _ _ hL _ (x 2) (x 3) (from4 y)
      (by show (y 0).val * 2 + (y 2).val / 64 = 2; omega) (by show (y 1).val * 64 + (y 2).val % 64 = 64 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_44 _ (x 2) (x 3)).trans (acc_ld (g := 2) (o := 0) _ _ _ hL _ (x 2) (x 3) (from4 y)
      (by show (y 0).val * 2 + (y 2).val / 64 = 2; omega) (by show (y 1).val * 64 + (y 2).val % 64 = 0 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_42 _ (x 2) (x 3)).trans (acc_ld (g := 1) (o := 192) _ _ _ hL _ (x 2) (x 3) (from4 y)
      (by show (y 0).val * 2 + (y 2).val / 64 = 1; omega) (by show (y 1).val * 64 + (y 2).val % 64 = 192 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_41 _ (x 2) (x 3)).trans (acc_ld (g := 1) (o := 128) _ _ _ hL _ (x 2) (x 3) (from4 y)
      (by show (y 0).val * 2 + (y 2).val / 64 = 1; omega) (by show (y 1).val * 64 + (y 2).val % 64 = 128 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_40 _ (x 2) (x 3)).trans (acc_ld (g := 1) (o := 64) _ _ _ hL _ (x 2) (x 3) (from4 y)
      (by show (y 0).val * 2 + (y 2).val / 64 = 1; omega) (by show (y 1).val * 64 + (y 2).val % 64 = 64 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_39 _ (x 2) (x 3)).trans (acc_ld (g := 1) (o := 0) _ _ _ hL _ (x 2) (x 3) (from4 y)
      (by show (y 0).val * 2 + (y 2).val / 64 = 1; omega) (by show (y 1).val * 64 + (y 2).val % 64 = 0 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_38 _ (x 2) (x 3)).trans (acc_ld (g := 0) (o := 192) _ _ _ hL _ (x 2) (x 3) (from4 y)
      (by show (y 0).val * 2 + (y 2).val / 64 = 0; omega) (by show (y 1).val * 64 + (y 2).val % 64 = 192 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_37 _ (x 2) (x 3)).trans (acc_ld (g := 0) (o := 128) _ _ _ hL _ (x 2) (x 3) (from4 y)
      (by show (y 0).val * 2 + (y 2).val / 64 = 0; omega) (by show (y 1).val * 64 + (y 2).val % 64 = 128 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_36 _ (x 2) (x 3)).trans (acc_ld (g := 0) (o := 64) _ _ _ hL _ (x 2) (x 3) (from4 y)
      (by show (y 0).val * 2 + (y 2).val / 64 = 0; omega) (by show (y 1).val * 64 + (y 2).val % 64 = 64 + (x 2).val; omega) (by show (y 3).val = (x 3).val; omega)))
  · have hx0 : (x 0).val < 1 := (x 0).isLt
    have hx1 : (x 1).val < 1 := (x 1).isLt
    have hx2 : (x 2).val < 64 := (x 2).isLt
    exact (congrArg _ (eq_ix4_00 x)).trans ((copy_35 _ (x 2) (x 3)).trans (acc_ld (g := 0) (o := 0) _ _ _ hL _ (x 2) (x 3) (from4 y)
      (by show (y 0).val * 2 + (y 2).val / 64 = 0; omega) (by show (y 1).val * 64 + (y 2).val % 64 = 0 + (x 2).val; omega) (by show (y 3).val = (x 3).val; omega)))
theorem dbs_out (c : Dev nD) (t : Fin cfg0.N) (h0 : ¬ t.val % 16 = 0) (h1 : t.val % 16 = 15) (p : Held Ideal) (y : S128x512.Idx) (g : Fin 4) (hg : (y 1).val / 128 = g.val) :
    (stepC m c t h0 h1 p).2.2.2.2.1 y = ∑ k : Fin 256, (p.2.2.2.2.2.2.2.2.1 (ix2 (y 0) (col g k)) + dsvT m c t (y 0) (col g k)) := by
  unfold stepC
  frame_open
  frame_out
  simp only [read_unread_whole]
  canon_tiles x h
  · have hx0 : (x 0).val < 128 := (x 0).isLt
    have hx1 : (x 1).val < 128 := (x 1).isLt
    obtain rfl : g = 3 := Fin.ext (hg.symm.trans (by show (y 1).val / 128 = 3; omega))
    refine (congrArg _ (eq_ix2 x)).trans ((dbs_out3 _ (x 0) (x 1)).trans (Finset.sum_congr rfl fun k _ => ?_))
    rw [View.readCov_fill _ _ _ _ _ (by decide)]
    refine (ld_2 _ 0 768 _ (x 0) k (by omega) (by omega)).trans ((dbs_pay _ _ _ _).trans (congrArg₂ (· + ·) ?_ ((dsv_add m c t _ _ _ _).trans ?_)))
    · exact congrArg _ (by rw [col_eq 3 k ⟨768 + k.val, by omega⟩ rfl]; exact congrArg (ix2 · _) (Fin.ext (by show 0 + (x 0).val = (y 0).val; omega)))
    · exact congrArg₂ (dsvT m c t) (Fin.ext (by show 0 + (x 0).val = (y 0).val; omega)) (col_eq 3 k _ rfl)
  · have hx0 : (x 0).val < 128 := (x 0).isLt
    have hx1 : (x 1).val < 128 := (x 1).isLt
    obtain rfl : g = 2 := Fin.ext (hg.symm.trans (by show (y 1).val / 128 = 2; omega))
    refine (congrArg _ (eq_ix2 x)).trans ((dbs_out2 _ (x 0) (x 1)).trans (Finset.sum_congr rfl fun k _ => ?_))
    rw [View.readCov_fill _ _ _ _ _ (by decide)]
    refine (ld_2 _ 0 512 _ (x 0) k (by omega) (by omega)).trans ((dbs_pay _ _ _ _).trans (congrArg₂ (· + ·) ?_ ((dsv_add m c t _ _ _ _).trans ?_)))
    · exact congrArg _ (by rw [col_eq 2 k ⟨512 + k.val, by omega⟩ rfl]; exact congrArg (ix2 · _) (Fin.ext (by show 0 + (x 0).val = (y 0).val; omega)))
    · exact congrArg₂ (dsvT m c t) (Fin.ext (by show 0 + (x 0).val = (y 0).val; omega)) (col_eq 2 k _ rfl)
  · have hx0 : (x 0).val < 128 := (x 0).isLt
    have hx1 : (x 1).val < 128 := (x 1).isLt
    obtain rfl : g = 1 := Fin.ext (hg.symm.trans (by show (y 1).val / 128 = 1; omega))
    refine (congrArg _ (eq_ix2 x)).trans ((dbs_out1 _ (x 0) (x 1)).trans (Finset.sum_congr rfl fun k _ => ?_))
    rw [View.readCov_fill _ _ _ _ _ (by decide)]
    refine (ld_2 _ 0 256 _ (x 0) k (by omega) (by omega)).trans ((dbs_pay _ _ _ _).trans (congrArg₂ (· + ·) ?_ ((dsv_add m c t _ _ _ _).trans ?_)))
    · exact congrArg _ (by rw [col_eq 1 k ⟨256 + k.val, by omega⟩ rfl]; exact congrArg (ix2 · _) (Fin.ext (by show 0 + (x 0).val = (y 0).val; omega)))
    · exact congrArg₂ (dsvT m c t) (Fin.ext (by show 0 + (x 0).val = (y 0).val; omega)) (col_eq 1 k _ rfl)
  · have hx0 : (x 0).val < 128 := (x 0).isLt
    have hx1 : (x 1).val < 128 := (x 1).isLt
    obtain rfl : g = 0 := Fin.ext (hg.symm.trans (by show (y 1).val / 128 = 0; omega))
    refine (congrArg _ (eq_ix2 x)).trans ((dbs_out0 _ (x 0) (x 1)).trans (Finset.sum_congr rfl fun k _ => ?_))
    rw [View.readCov_fill _ _ _ _ _ (by decide)]
    refine (ld_2 _ 0 0 _ (x 0) k (by omega) (by omega)).trans ((dbs_pay _ _ _ _).trans (congrArg₂ (· + ·) ?_ ((dsv_add m c t _ _ _ _).trans ?_)))
    · exact congrArg _ (by rw [col_eq 0 k ⟨0 + k.val, by omega⟩ rfl]; exact congrArg (ix2 · _) (Fin.ext (by show 0 + (x 0).val = (y 0).val; omega)))
    · exact congrArg₂ (dsvT m c t) (Fin.ext (by show 0 + (x 0).val = (y 0).val; omega)) (col_eq 0 k _ rfl)

end Cert.KernelIdeal.Mix
end
-- ==== Proof.Mix.Ref.lean ====
/- # What the reference makes of the token mixer's arguments, entry by entry -/
module

public import proofs.«01_k».proof.Proof.Gen.ReferenceIdeal.Run
public import proofs.«01_k».proof.Proof.Mix.Spec

@[expose] public section

set_option maxRecDepth 16384

noncomputable section

open Idealize.ShloMosaic Idealize.ShloMosaic.TcCoe Idealize.SL.Sem

namespace Cert.ReferenceIdeal.Rows
open Cert.MixRows Cert.ReferenceIdeal Cert.ReferenceIdeal.Gen Cert.ReferenceIdeal.Value

/-- The arguments a run starts with. -/
abbrev args (V0 : Valuation τ sig (Elt Ideal)) : Args where
  z := V0 (Proc.devRef .tc main_arg0)
  dy := V0 (Proc.devRef .tc main_arg1)
  wp := V0 (Proc.devRef .tc main_arg2)
  ps := V0 (Proc.devRef .tc main_arg3)
  lg := V0 (Proc.devRef .tc main_arg4)
  lb := V0 (Proc.devRef .tc main_arg5)
  bs := V0 (Proc.devRef .tc main_arg7)
  wq := V0 (Proc.devRef .tc main_arg8)
  wo := V0 (Proc.devRef .tc main_arg9)
  pool := res_main_v78 (F := Ideal) V0
  wm := res_main_v162_0 (F := Ideal) V0

variable (V0 : Valuation τ sig (Elt Ideal))

theorem z_at (r : Fin 4096) (k : Fin 5120) : res_main_v4 (F := Ideal) V0 (ix3 0 r k) = (args V0).z (ix2 r k) := by
  pointwise [res_main_v4]
  done

theorem zu_at (r : Fin 4096) (q : Fin 1024) : res_main_v6 (F := Ideal) V0 (ix3 0 r q) = (args V0).z (ix2 r ⟨1024 + q.val, by omega⟩) := by
  pointwise [res_main_v6, z_at]
  done

theorem u_at (r : Fin 4096) (q : Fin 1024) : mulf (F := Ideal) (s := S1x4096x1024) (φ := .f32) (res_main_v6 V0) (res_main_v104 V0) (ix3 0 r q) = u (args V0) r q := by
  pointwise [res_main_v104, res_main_v95, zu_at, u, gelu]
  done

theorem dm_at (r : Fin 4096) (q : Fin 1024) : res_main_v199 (F := Ideal) V0 (ix3 0 r q) = dm (args V0) r q := by
  pointwise [res_main_v199, res_main_v196, dm]
  done

theorem sa_at (r : Fin 4096) (q : Fin 1024) : res_main_v179 (F := Ideal) V0 (ix3 0 r q) = sa (args V0) r q := by
  pointwise [res_main_v179, z_at, sa, sigm]
  done

theorem db_at (b : Fin 32) (i : Fin 128) (g : Fin 4) (d : Fin 256) :
    res_main_v207 (F := Ideal) V0 (ix5 g d 0 b i) = db (args V0) (rw b i) (col g d) := by
  pointwise [res_main_v207, res_main_v189, dm_at, z_at, db, sb, sigm, rw, col]
  done

theorem zv_at (r : Fin 4096) (q : Fin 1024) : res_main_v126 (F := Ideal) V0 (ix3 0 r q) = gelu ((args V0).z (ix2 r ⟨2048 + q.val, by omega⟩)) := by
  pointwise [res_main_v126, res_main_v125, res_main_v116, res_main_v7, z_at, gelu]
  done

theorem vh_at (r : Fin 4096) (q : Fin 1024) : res_main_v145 (F := Ideal) V0 (ix3 0 r q) = vh (args V0) r q := by
  have hx : ∀ k : Fin 1024, res_main_v132 (F := Ideal) V0 (ix3 0 r k) = cen (fun q => gelu ((args V0).z (ix2 r ⟨2048 + q.val, by omega⟩))) k := fun k => by
    pointwise [res_main_v132, zv_at, cen]
    done
  pointwise [res_main_v145, res_main_v140, res_main_v139, hx, vh, nrm, rstd]
  done

theorem vb_at (b : Fin 32) (i : Fin 128) (g : Fin 4) (d : Fin 256) :
    res_main_v152 (F := Ideal) V0 (ix5 0 b i g d) = vb (args V0) (rw b i) (col g d) := by
  pointwise [res_main_v152, res_main_v146, vh_at, vb, rw, col]
  done

theorem us_at (b : Fin 32) (i : Fin 128) (g : Fin 4) (d : Fin 256) :
    res_main_v169 (F := Ideal) V0 (ix5 0 b i g d) = u (args V0) (rw b i) (col g d) := by
  refine Eq.trans ?_ (u_at V0 (rw b i) (col g d))
  pointwise [res_main_v169, rw, col]
  done

theorem gt_at (b : Fin 32) (i : Fin 128) (g : Fin 4) (d : Fin 256) :
    res_main_v170 (F := Ideal) V0 (ix5 0 b i g d) = gt (args V0) (rw b i) (col g d) := by
  unfold gt sv
  rw [hd_col, lo_rw, blk_rw]
  pointwise [res_main_v170, res_main_v168, us_at, vb_at]
  done

theorem dsv_at (b : Fin 32) (i : Fin 128) (g : Fin 4) (d : Fin 256) :
    res_main_v212 (F := Ideal) V0 (ix5 0 b i g d) = dsv (args V0) (rw b i) (col g d) := by
  unfold dsv dgt
  rw [hd_col, cl_col]
  pointwise [res_main_v212, res_main_v209, us_at, db_at]
  done

theorem dv_at (r : Fin 4096) (q : Fin 1024) : res_main_v224 (F := Ideal) V0 (ix3 0 r q) = dv (args V0) r q := by
  rw [← rw_blk r, ← col_hd q]
  generalize blk r = b; generalize lo r = i; generalize hd q = g; generalize cl q = d
  unfold dv
  rw [hd_col, lo_rw, blk_rw]
  pointwise [res_main_v224, res_main_v219, dsv_at, rw, col]
  done

theorem ap_at (r : Fin 4096) (q : Fin 1024) : res_main_v81 (F := Ideal) V0 (ix3 0 r q) = ap (args V0) r q := by
  rw [← col_hd q]
  generalize hd q = g; generalize cl q = d
  unfold ap pl
  simp only [hd_col, cl_col]
  pointwise [res_main_v81, col]
  done

/-! ## The results -/

/-- The group of an entry of the gathered weight gradients, and the row there. -/
def og (x : Fin 2) (y : Fin 128) : Fin 4 := ⟨x.val * 2 + y.val / 64, by omega⟩
def ok (s : Fin 4) (y : Fin 128) : Fin 256 := ⟨s.val * 64 + y.val % 64, by omega⟩

/-! ### Contractions of three axes, and two reductions -/

/-- The contraction index of three coordinates. -/
def contr3 {sl sr so : Shape} (d : DotDims sl sr so) {a b c : Fin sl.rank} (hc : d.lhsContracting = [a, b, c]) (x : Fin (sl.size a))
    (y : Fin (sl.size b)) (z : Fin (sl.size c)) : d.contr.Idx := fun p =>
  have key : ∀ (l : List (Fin sl.rank)) (_ : l = [a, b, c]) (p : Fin (l.map sl.size).length),
      (if p.val = 0 then sl.size a else if p.val = 1 then sl.size b else sl.size c) = (l.map sl.size)[p] := by
    rintro _ rfl ⟨p, hp⟩
    have : p = 0 ∨ p = 1 ∨ p = 2 := by simp at hp; omega
    rcases this with rfl | rfl | rfl <;> rfl
  if h : p.val = 0 then x.cast (by have := key _ hc p; rw [if_pos h] at this; exact this)
  else if h' : p.val = 1 then y.cast (by have := key _ hc p; rw [if_neg h, if_pos h'] at this; exact this)
  else z.cast (by have := key _ hc p; rw [if_neg h, if_neg h'] at this; exact this)

/-- A sum over a contraction of three axes. -/
theorem sum_contr3 {sl sr so : Shape} (d : DotDims sl sr so) {a b c : Fin sl.rank} (hc : d.lhsContracting = [a, b, c])
    (f : d.contr.Idx → EReal) :
    ∑ k, f k = ∑ x : Fin (sl.size a), ∑ y : Fin (sl.size b), ∑ z : Fin (sl.size c), f (contr3 d hc x y z) := by
  have hr : d.contr.rank = 3 := by rw [d.rank_contr, hc]; rfl
  have key : ∀ (l : List (Fin sl.rank)) (_ : l = [a, b, c]) (p : Fin (l.map sl.size).length),
      (if p.val = 0 then sl.size a else if p.val = 1 then sl.size b else sl.size c) = (l.map sl.size)[p] := by
    rintro _ rfl ⟨p, hp⟩
    have : p = 0 ∨ p = 1 ∨ p = 2 := by simp at hp; omega
    rcases this with rfl | rfl | rfl <;> rfl
  have k0 : d.contr.size ⟨0, by omega⟩ = sl.size a := (key _ hc ⟨0, by rw [hc]; simp⟩).symm
  have k1 : d.contr.size ⟨1, by omega⟩ = sl.size b := (key _ hc ⟨1, by rw [hc]; simp⟩).symm
  have k2 : d.contr.size ⟨2, by omega⟩ = sl.size c := (key _ hc ⟨2, by rw [hc]; simp⟩).symm
  let e : Fin (sl.size a) × Fin (sl.size b) × Fin (sl.size c) ≃ d.contr.Idx :=
    { toFun := fun k => contr3 d hc k.1 k.2.1 k.2.2
      invFun := fun k => ((k ⟨0, by omega⟩).cast k0, (k ⟨1, by omega⟩).cast k1, (k ⟨2, by omega⟩).cast k2)
      left_inv := fun _ => rfl
      right_inv := fun k => by
        funext p
        have : p = ⟨0, by omega⟩ ∨ p = ⟨1, by omega⟩ ∨ p = ⟨2, by omega⟩ := by
          rcases p with ⟨p, hp⟩
          simp only [Fin.mk.injEq]; omega
        rcases this with rfl | rfl | rfl <;> rfl }
  rw [← Fintype.sum_equiv e (fun k => f (contr3 d hc k.1 k.2.1 k.2.2)) f fun _ => rfl]
  simp only [Fintype.sum_prod_type]

theorem dwq_dot (L : FVec Ideal S4x256x1x32x128 .f32) (R : FVec Ideal S1x32x128x4x256 .f32) (g : Fin 4) (d k : Fin 256) :
    Ideal.matmul dot_S4x256x1x32x128_S1x32x128x4x256_S4x256x256_234_012_1_4_0_3 L R (fun _ => 0) (ix3 g d k) = ∑ b : Fin 32, ∑ i : Fin 128, L (ix5 g d 0 b i) * R (ix5 0 b i g k) := by
  refine (zero_add _).trans ((sum_contr3 dot_S4x256x1x32x128_S1x32x128x4x256_S4x256x256_234_012_1_4_0_3 rfl _).trans ?_)
  refine (Fin.sum_univ_one _).trans ?_
  refine Finset.sum_congr rfl fun y _ => Finset.sum_congr rfl fun z _ => congrArg₂ (fun p q => L p * R q) ?_ ?_ <;>
    (funext a; apply Fin.ext; fin_cases a <;> rfl)

theorem dws_dot (L : FVec Ideal S4x1x32x256x128 .f32) (R : FVec Ideal S1x32x128x4x256 .f32) (g : Fin 4) (i j : Fin 128) :
    Ideal.matmul dot_S4x1x32x256x128_S1x32x128x4x256_S4x128x128_123_014_4_2_0_3 L R (fun _ => 0) (ix3 g i j) = ∑ b : Fin 32, ∑ k : Fin 256, L (ix5 g 0 b k i) * R (ix5 0 b j g k) := by
  refine (zero_add _).trans ((sum_contr3 dot_S4x1x32x256x128_S1x32x128x4x256_S4x128x128_123_014_4_2_0_3 rfl _).trans ?_)
  refine (Fin.sum_univ_one _).trans ?_
  refine Finset.sum_congr rfl fun y _ => Finset.sum_congr rfl fun z _ => congrArg₂ (fun p q => L p * R q) ?_ ?_ <;>
    (funext a; apply Fin.ext; fin_cases a <;> rfl)

theorem red14 (v : FVec Ideal ⟨5, ![1, 32, 128, 4, 256]⟩ .f32) (z : Fin 1) (i : Fin 128) (g : Fin 4) :
    Ideal.hostReduceAdd reducesTo_S1x32x128x4x256_S1x128x4_d1_4 v 0 (ix3 z i g) = ∑ b : Fin 32, ∑ k : Fin 256, v (ix5 z b i g k) := by
  refine (zero_add _).trans ?_
  refine (Finset.sum_filter_eq_sum_of_fiber _ (fun k : Fin 32 × Fin 256 => ix5 z k.1 i g k.2) (fun _ _ e => Prod.ext (congrFun e 1) (congrFun e 4)) (fun x => ?_) v).trans ?_
  · constructor
    · intro e
      refine ⟨(x 1, x 4), ?_⟩
      funext a; apply Fin.ext
      match a with
      | ⟨0, _⟩ => exact (congrArg Fin.val (congrFun e ⟨0, by decide⟩)).symm
      | ⟨1, _⟩ => exact rfl
      | ⟨2, _⟩ => exact (congrArg Fin.val (congrFun e ⟨1, by decide⟩)).symm
      | ⟨3, _⟩ => exact (congrArg Fin.val (congrFun e ⟨2, by decide⟩)).symm
      | ⟨4, _⟩ => exact rfl
    · rintro ⟨k, rfl⟩
      funext b
      apply Fin.ext
      match b with
      | ⟨0, _⟩ => rfl
      | ⟨1, _⟩ => rfl
      | ⟨2, _⟩ => rfl
  · simp only [Fintype.sum_prod_type, Fin.sum_univ_one]

theorem red014 (v : FVec Ideal ⟨5, ![1, 1, 128, 4, 1]⟩ .f32) (i : Fin 128) (g : Fin 4) :
    Ideal.hostReduceAdd reducesTo_S1x1x128x4x1_S128x4_d0_1_4 v 0 (ix2 i g) = v (ix5 0 0 i g 0) := by
  refine (zero_add _).trans ?_
  refine (Finset.sum_filter_eq_sum_of_fiber _ (fun k : Fin 1 × Fin 1 × Fin 1 => ix5 k.1 k.2.1 i g k.2.2) (fun _ _ e => Prod.ext (congrFun e 0) (Prod.ext (congrFun e 1) (congrFun e 4))) (fun x => ?_) v).trans ?_
  · constructor
    · intro e
      refine ⟨(x 0, x 1, x 4), ?_⟩
      funext a; apply Fin.ext
      match a with
      | ⟨0, _⟩ => exact rfl
      | ⟨1, _⟩ => exact rfl
      | ⟨2, _⟩ => exact (congrArg Fin.val (congrFun e ⟨0, by decide⟩)).symm
      | ⟨3, _⟩ => exact (congrArg Fin.val (congrFun e ⟨1, by decide⟩)).symm
      | ⟨4, _⟩ => exact rfl
    · rintro ⟨k, rfl⟩
      funext b
      apply Fin.ext
      match b with
      | ⟨0, _⟩ => rfl
      | ⟨1, _⟩ => rfl
  · simp only [Fintype.sum_prod_type, Fin.sum_univ_one]

theorem red01 (v : FVec Ideal ⟨3, ![1, 1, 1024]⟩ .f32) (q : Fin 1024) :
    Ideal.hostReduceAdd reducesTo_S1x1x1024_S1024_d0_1 v 0 (ix1 q) = v (ix3 0 0 q) := by
  refine (zero_add _).trans ?_
  refine (Finset.sum_filter_eq_sum_of_fiber _ (fun k : Fin 1 × Fin 1 => ix3 k.1 k.2 q)
    (fun _ _ e => Prod.ext (congrFun e 0) (congrFun e 1)) (fun x => ?_) v).trans ?_
  · constructor
    · intro e
      refine ⟨(x 0, x 1), ?_⟩
      funext a; apply Fin.ext
      match a with
      | ⟨0, _⟩ => exact rfl
      | ⟨1, _⟩ => exact rfl
      | ⟨2, _⟩ => exact (congrArg Fin.val (congrFun e ⟨0, by decide⟩)).symm
    · rintro ⟨k, rfl⟩
      funext b
      apply Fin.ext
      match b with
      | ⟨0, _⟩ => rfl
  · simp only [Fintype.sum_prod_type, Fin.sum_univ_one]

/-- The gradient of the pooling's weights. -/
theorem dwp_at (x : Fin 2) (s : Fin 4) (y : Fin 128) (d : Fin 256) :
    (truncf (F := Ideal) .bf16 (shapeCast _ (transpose S2x4x2x64x256 [0, 2, 1, 3, 4] (shapeCast _ (transpose S4x256x256 [0, 2, 1] (Host.dotGeneral (φ₁ := .f32) (φ₂ := .f32) dot_S4x256x1x4096_S1x4096x4x256_S4x256x256_23_01_1_3_0_2 none (res_main_v289 V0) (res_main_v78 V0)) transposes_S4x256x256_S4x256x256_0_2_1) shapeCasts_S4x256x256_S2x2x4x64x256) transposes_S2x2x4x64x256_S2x4x2x64x256_0_2_1_3_4) shapeCasts_S2x4x2x64x256_S2x4x128x256) bitsLt_bf16_f32 : FVec Ideal S2x4x128x256 .bf16) (ix4 x s y d)
      = dwp (args V0) (og x y) (ok s y) d := by
  unfold dwp da pl
  simp only [hd_col, cl_col]
  pointwise [res_main_v289, res_main_v203, res_main_v82, sa_at, dm_at, og, ok, col]
  simp only [Fin.sum_univ_one]
  done

/-- The gradient of the weights after the gate. -/
theorem dwq_at (x : Fin 2) (s : Fin 4) (y : Fin 128) (d : Fin 256) :
    (truncf (F := Ideal) .bf16 (shapeCast _ (transpose S2x4x2x64x256 [0, 2, 1, 3, 4] (shapeCast _ (transpose S4x256x256 [0, 2, 1] (Host.dotGeneral (φ₁ := .f32) (φ₂ := .f32) dot_S4x256x1x32x128_S1x32x128x4x256_S4x256x256_234_012_1_4_0_3 none (res_main_v207 V0) (res_main_v170 V0)) transposes_S4x256x256_S4x256x256_0_2_1) shapeCasts_S4x256x256_S2x2x4x64x256) transposes_S2x2x4x64x256_S2x4x2x64x256_0_2_1_3_4) shapeCasts_S2x4x2x64x256_S2x4x128x256) bitsLt_bf16_f32 : FVec Ideal S2x4x128x256 .bf16) (ix4 x s y d)
      = ∑ b : Fin 32, ∑ i : Fin 128, db (args V0) (rw b i) (col (og x y) d) * gt (args V0) (rw b i) (col (og x y) (ok s y)) := by
  pointwise [dwq_dot, db_at, gt_at, og, ok]
  done

/-- The gradient of the spatial weights. -/
theorem dws_at (g : Fin 4) (i j : Fin 128) :
    (select (α := Ideal .f32) (res_main_v162_1 V0) (Host.dotGeneral (φ₁ := .f32) (φ₂ := .f32) dot_S4x1x32x256x128_S1x32x128x4x256_S4x128x128_123_014_4_2_0_3 none (res_main_v219 V0) (res_main_v152 V0)) (broadcastInDim S4x128x128 ![] bcast_S_S4x128x128 (constant S_ .f32 0x00000000#32)) : FVec Ideal S4x128x128 .f32) (ix3 g i j)
      = if (res_main_v162_1 (F := Ideal) V0 (ix3 g i j)) = 1#1 then dws (args V0) g i j else 0 := by
  unfold dws
  pointwise [dws_dot, res_main_v219, dsv_at, vb_at, Scalar.select]
  exact if_congr Iff.rfl rfl rfl

/-- The gradient of the gate's shift. -/
theorem dbs_at (i : Fin 128) (l : Fin 512) :
    (shapeCast _ (broadcastInDim S128x4x128 ![0, 1, 2] bcast_S128x4x1_S128x4x128_0_1_2 (broadcastInDim S128x4x1 ![0, 1] bcast_S128x4_S128x4x1_0_1 (transpose S128x4 [1, 0] (transpose S4x128 [1, 0] (Host.reduceAdd (shapeCast _ (Host.reduceAdd (res_main_v212 V0) (constant S_ .f32 0x00000000#32) reducesTo_S1x32x128x4x256_S1x128x4_d1_4 h_S_) shapeCasts_S1x128x4_S1x1x128x4x1) (constant S_ .f32 0x00000000#32) reducesTo_S1x1x128x4x1_S128x4_d0_1_4 h_S_) transposes_S128x4_S4x128_1_0) transposes_S4x128_S128x4_1_0))) shapeCasts_S128x4x128_S128x512 : FVec Ideal S128x512 .f32) (ix2 i l)
      = dbs (args V0) ⟨l.val / 128, by omega⟩ i := by
  unfold dbs
  pointwise [red14, red014, dsv_at]
  done

/-- The column sums. -/
theorem vec_at (s : Fin 8) (q : Fin 1024) :
    (concatenate S8x1024 0 [⟨S3x1024, ((concatenate S3x1024 0 [⟨S1x1024, ((broadcastInDim S1x1024 ![1] bcast_S1024_S1x1024_1 (Host.reduceAdd (shapeCast _ (Host.reduceAdd (mulf (res_main_v81 V0) (res_main_v203 V0)) (constant S_ .f32 0x00000000#32) reducesTo_S1x4096x1024_S1x1024_d1 h_S_) shapeCasts_S1x1024_S1x1x1024) (constant S_ .f32 0x00000000#32) reducesTo_S1x1x1024_S1024_d0_1 h_S_)) : (⟨S1x1024, .f32⟩ : BufTy).Contents (Elt Ideal))⟩, ⟨S1x1024, ((broadcastInDim S1x1024 ![1] bcast_S1024_S1x1024_1 (Host.reduceAdd (shapeCast _ (Host.reduceAdd (mulf (res_main_v145 V0) (res_main_v224 V0)) (constant S_ .f32 0x00000000#32) reducesTo_S1x4096x1024_S1x1024_d1 h_S_) shapeCasts_S1x1024_S1x1x1024) (constant S_ .f32 0x00000000#32) reducesTo_S1x1x1024_S1024_d0_1 h_S_)) : (⟨S1x1024, .f32⟩ : BufTy).Contents (Elt Ideal))⟩, ⟨S1x1024, ((broadcastInDim S1x1024 ![1] bcast_S1024_S1x1024_1 (Host.reduceAdd (shapeCast _ (Host.reduceAdd (res_main_v224 V0) (constant S_ .f32 0x00000000#32) reducesTo_S1x4096x1024_S1x1024_d1 h_S_) shapeCasts_S1x1024_S1x1x1024) (constant S_ .f32 0x00000000#32) reducesTo_S1x1x1024_S1024_d0_1 h_S_)) : (⟨S1x1024, .f32⟩ : BufTy).Contents (Elt Ideal))⟩] concatenates_S1x1024_S1x1024_S1x1024_S3x1024_d0 : (⟨S3x1024, .f32⟩ : BufTy).Contents (Elt Ideal)))⟩, ⟨S5x1024, (broadcastInDim S5x1024 ![] bcast_S_S5x1024 (constant S_ .f32 0x00000000#32))⟩] concatenates_S3x1024_S5x1024_S8x1024_d0 : FVec Ideal S8x1024 .f32) (ix2 s q)
      = if s.val = 0 then dps (args V0) q else if s.val = 1 then dlg (args V0) q else if s.val = 2 then dlb (args V0) q else 0 := by
  unfold dps dlg dlb da
  pointwise [red01, res_main_v203, ap_at, sa_at, dm_at, vh_at, dv_at]
  split_ifs <;> first | rfl | omega

end Cert.ReferenceIdeal.Rows
end
-- ==== Proof.Mix.Host.lean ====
/- # The token mixer: what the program computes before its first step

The pooled columns, the mask and the masked weights of the program are those of the reference. -/
module

public import proofs.«01_k».proof.Proof.Mix.Blocks
public import proofs.«01_k».proof.Proof.Mix.Ref
public import Idealize.ShloMosaic.Lib.StableHlo.RunClose

@[expose] public section

set_option maxRecDepth 16384
set_option maxHeartbeats 4000000

noncomputable section

open Idealize.ShloMosaic Idealize.ShloMosaic.TcCoe Idealize.SL.Sem

namespace Cert.KernelIdeal.Mix
open Cert.KernelIdeal Cert.KernelIdeal.Gen Cert.MixRows
open Cert.ReferenceIdeal.Value

theorem congr4 {A : Type} {B : Type} (f : A → A → A → A → B) {a a' b b' c c' d d' : A} (h1 : a = a') (h2 : b = b') (h3 : c = c') (h4 : d = d') : f a b c d = f a' b' c' d' := by
  subst h1 h2 h3 h4
  rfl

/-! ## The pooled columns -/

/-- From the same columns and the same running sums, the same pooled columns. -/
theorem pooled_eq (W : Valuation τ sig (Elt Ideal)) (V0 : Valuation Cert.ReferenceIdeal.τ Cert.ReferenceIdeal.sig (Elt Ideal))
    (h1 : W main_v1 = res_main_v5 V0) (h2 : W main_v2 = res_main_v10 V0) : StableHlo.after (hostOps0_2 (F := Ideal)) W main_v66 = res_main_v78 V0 := by
  unfold hostOps0_2 res_main_v78
  after_results_simp_entrywise
  refine congr4 (fun a b c d => concatenate S1x4096x4x256 2 [⟨S1x4096x1x256, a⟩, ⟨S1x4096x1x256, b⟩, ⟨S1x4096x1x256, c⟩, ⟨S1x4096x1x256, d⟩] concatenates_S1x4096x1x256_S1x4096x1x256_S1x4096x1x256_S1x4096x1x256_S1x4096x4x256_d2) ?_ ?_ ?_ ?_
  · dsimp only [Matrix.cons_val]
    after_results_simp_entrywise
    refine congrArg (fun x : FVec Ideal S1x4096x256 .f32 => (broadcastInDim S1x4096x1x256 ![0, 1, 3] bcast_S1x4096x256_S1x4096x1x256_0_1_3 x : FVec Ideal S1x4096x1x256 .f32)) (congrArg₂ subf (congrArg₂ Host.divf (congrArg₂ subf ?_ ?_) ?_) ?_)
    · rw [h2]
      rfl
    · refine congrArg₂ (fun a b => concatenate S1x4096x256 1 [⟨S1x2x256, a⟩, ⟨S1x4094x256, b⟩] concatenates_S1x2x256_S1x4094x256_S1x4096x256_d1) ?_ ?_
      · after_results_simp_entrywise
      · after_results_simp_entrywise
        rw [h2]
        rfl
    · rfl
    · rw [h1]
  · dsimp only [Matrix.cons_val]
    after_results_simp_entrywise
    refine congrArg (fun x : FVec Ideal S1x4096x256 .f32 => (broadcastInDim S1x4096x1x256 ![0, 1, 3] bcast_S1x4096x256_S1x4096x1x256_0_1_3 x : FVec Ideal S1x4096x1x256 .f32)) (congrArg₂ subf (congrArg₂ Host.divf (congrArg₂ subf ?_ ?_) ?_) ?_)
    · rw [h2]
      rfl
    · refine congrArg₂ (fun a b => concatenate S1x4096x256 1 [⟨S1x4x256, a⟩, ⟨S1x4092x256, b⟩] concatenates_S1x4x256_S1x4092x256_S1x4096x256_d1) ?_ ?_
      · after_results_simp_entrywise
      · after_results_simp_entrywise
        rw [h2]
        rfl
    · rfl
    · rw [h1]
  · dsimp only [Matrix.cons_val]
    after_results_simp_entrywise
    refine congrArg (fun x : FVec Ideal S1x4096x256 .f32 => (broadcastInDim S1x4096x1x256 ![0, 1, 3] bcast_S1x4096x256_S1x4096x1x256_0_1_3 x : FVec Ideal S1x4096x1x256 .f32)) (congrArg₂ subf (congrArg₂ Host.divf (congrArg₂ subf ?_ ?_) ?_) ?_)
    · rw [h2]
      rfl
    · refine congrArg₂ (fun a b => concatenate S1x4096x256 1 [⟨S1x8x256, a⟩, ⟨S1x4088x256, b⟩] concatenates_S1x8x256_S1x4088x256_S1x4096x256_d1) ?_ ?_
      · after_results_simp_entrywise
      · after_results_simp_entrywise
        rw [h2]
        rfl
    · rfl
    · rw [h1]
  · dsimp only [Matrix.cons_val]
    after_results_simp_entrywise
    refine congrArg (fun x : FVec Ideal S1x4096x256 .f32 => (broadcastInDim S1x4096x1x256 ![0, 1, 3] bcast_S1x4096x256_S1x4096x1x256_0_1_3 x : FVec Ideal S1x4096x1x256 .f32)) (congrArg₂ subf (congrArg₂ Host.divf (congrArg₂ subf ?_ ?_) ?_) ?_)
    · rw [h2]
      rfl
    · refine congrArg₂ (fun a b => concatenate S1x4096x256 1 [⟨S1x16x256, a⟩, ⟨S1x4080x256, b⟩] concatenates_S1x16x256_S1x4080x256_S1x4096x256_d1) ?_ ?_
      · after_results_simp_entrywise
      · after_results_simp_entrywise
        rw [h2]
        rfl
    · rfl
    · rw [h1]

variable (m : (ℓ : Loc nD τ sig) → Buf (Elt Ideal) ℓ)

/-- The contents before the first step, a stretch of operations at a time. -/
theorem V_split (c : Dev nD) (b : Ref sig .tc) : V m c b = StableHlo.after (hostOps0_4 (F := Ideal)) (StableHlo.after hostOps0_3 (StableHlo.after hostOps0_2
    (StableHlo.after hostOps0_1 (StableHlo.after hostOps0 (fun b => m (c, b)))))) b := by
  show StableHlo.after (List.flatten [hostOps0, hostOps0_1, hostOps0_2, hostOps0_3, hostOps0_4]) (fun b => m (c, b)) b = _
  simp only [List.flatten_cons, List.flatten_nil, StableHlo.after_append, StableHlo.after_nil]

theorem read4_84 (W : Valuation τ sig (Elt Ideal)) : StableHlo.after (hostOps0_4 (F := Ideal)) W main_v84 = (truncf .bf16 (W main_v68) bitsLt_bf16_f32 : FVec Ideal S4096x1024 .bf16) := by
  unfold hostOps0_4
  after_results_simp_entrywise
theorem read3_68 (W : Valuation τ sig (Elt Ideal)) : StableHlo.after (hostOps0_3 (F := Ideal)) W main_v68 = W main_v68 := by
  unfold hostOps0_3
  after_results_simp_entrywise
theorem read2_68 (W : Valuation τ sig (Elt Ideal)) : StableHlo.after (hostOps0_2 (F := Ideal)) W main_v68
    = shapeCast S4096x1024 (shapeCast S4096x4x256 (StableHlo.after (hostOps0_2 (F := Ideal)) W main_v66) shapeCasts_S1x4096x4x256_S4096x4x256) shapeCasts_S4096x4x256_S4096x1024 := by
  unfold hostOps0_2
  simp only [StableHlo.after_cons, StableHlo.after_nil]
  after_results_simp_entrywise
  rfl
theorem read1_1 (W : Valuation τ sig (Elt Ideal)) : StableHlo.after (hostOps0_1 (F := Ideal)) W main_v1 = W main_v1 := by
  unfold hostOps0_1
  after_results_simp_entrywise
theorem read1_2 (W : Valuation τ sig (Elt Ideal)) : StableHlo.after (hostOps0_1 (F := Ideal)) W main_v2
    = (Host.reduceWindowAdd ![1, 4096, 1] ![1, 1, 1] ![0, 4095, 0] ![0, 0, 0] (W main_v1 : FVec Ideal S1x4096x1024 .f32) (broadcastInDim S_ ![] bcast_S_S_ (constant S_ .f32 0x00000000#32)) reduceWindows_S1x4096x1024_S1x4096x1024_w1s1p0_0_w4096s1p4095_0_w1s1p0_0 h_S_ : FVec Ideal S1x4096x1024 .f32) := by
  unfold hostOps0_1
  after_results_simp_entrywise
  rfl
theorem read0_1 (W : Valuation τ sig (Elt Ideal)) : StableHlo.after (hostOps0 (F := Ideal)) W main_v1
    = (broadcastInDim S1x4096x1024 ![1, 2] bcast_S4096x1024_S1x4096x1024_1_2 (extractStridedSlice S4096x1024 ![0, 0] (W main_arg0 : FVec Ideal S4096x5120 .f32) slices_S4096x5120_S4096x1024_0_0) : FVec Ideal S1x4096x1024 .f32) := by
  unfold hostOps0
  after_results_simp_entrywise

theorem cols_eq (Z : FVec Ideal S4096x5120 .f32) (V0 : Valuation Cert.ReferenceIdeal.τ Cert.ReferenceIdeal.sig (Elt Ideal)) (h : V0 (Proc.devRef .tc Cert.ReferenceIdeal.main_arg0) = Z) :
    (broadcastInDim S1x4096x1024 ![1, 2] bcast_S4096x1024_S1x4096x1024_1_2 (extractStridedSlice S4096x1024 ![0, 0] Z slices_S4096x5120_S4096x1024_0_0) : FVec Ideal S1x4096x1024 .f32) = res_main_v5 V0 := by
  subst h
  funext y
  rw [show y = ix3 (y 0) (y 1) (y 2) from by funext l; fin_cases l <;> rfl]
  generalize y 0 = a, y 1 = b, y 2 = d
  pointwise [res_main_v5, res_main_v4]

theorem pool_eq (c : Dev nD) (V0 : Valuation Cert.ReferenceIdeal.τ Cert.ReferenceIdeal.sig (Elt Ideal))
    (h : V0 (Proc.devRef .tc Cert.ReferenceIdeal.main_arg0) = m ((c : Thread nD τ).loc main_arg0)) : (args m c).pool = res_main_v78 V0 := by
  funext i
  obtain ⟨a, r, g, k, rfl⟩ : ∃ (a : Fin 1) (r : Fin 4096) (g : Fin 4) (k : Fin 256), i = ix4 a r g k := ⟨i 0, i 1, i 2, i 3, by funext l; fin_cases l <;> rfl⟩
  obtain rfl : a = 0 := Subsingleton.elim _ _
  show V m c main_v84 (ix2 r (col g k)) = _
  have e1 : StableHlo.after (hostOps0_1 (F := Ideal)) (StableHlo.after hostOps0 (fun b => m (c, b))) main_v1 = res_main_v5 V0 :=
    (read1_1 _).trans ((read0_1 _).trans (cols_eq _ V0 h))
  have e2 : StableHlo.after (hostOps0_1 (F := Ideal)) (StableHlo.after hostOps0 (fun b => m (c, b))) main_v2 = res_main_v10 V0 := by
    refine (read1_2 _).trans ?_
    rw [show StableHlo.after (hostOps0 (F := Ideal)) (fun b => m (c, b)) main_v1 = res_main_v5 V0 from (read0_1 _).trans (cols_eq _ V0 h)]
    rfl
  have e3 := pooled_eq _ V0 e1 e2
  rw [V_split, read4_84, read3_68, read2_68, e3]
  generalize res_main_v78 V0 = P
  unfold col
  pointwise

/-! ## The mask -/

/-- Division rounding down, as the program computes it. -/
def fdiv (x : IVec S128 32) (k : IVec S_ 32) : IVec S128 32 :=
  select (andi (cmpi .ne (signi x) (broadcastInDim S128 ![] bcast_S_S128 (signi k)))
      (cmpi .ne (Host.remsi x (broadcastInDim S128 ![] bcast_S_S128 k)) (broadcastInDim S128 ![] bcast_S_S128 (constantI S_ 32 0#32))))
    (subi (Host.divsi x (broadcastInDim S128 ![] bcast_S_S128 k)) (broadcastInDim S128 ![] bcast_S_S128 (constantI S_ 32 1#32)))
    (Host.divsi x (broadcastInDim S128 ![] bcast_S_S128 k))
theorem read4_75 (W : Valuation τ sig (Elt Ideal)) : StableHlo.after (hostOps0_4 (F := Ideal)) W main_v75
    = (cmpi .sge (broadcastInDim S128x128 ![0, 1] bcast_S128x1_S128x128_0_1 (broadcastInDim S128x1 ![0] bcast_S128_S128x1_0 (W main_v70 : IVec S128 32)))
      (broadcastInDim S128x128 ![0, 1] bcast_S1x128_S128x128_0_1 (broadcastInDim S1x128 ![1] bcast_S128_S1x128_1 (W main_v70 : IVec S128 32))) : IVec S128x128 1) := by
  unfold hostOps0_4
  after_results_simp_entrywise
theorem read3_70 (W : Valuation τ sig (Elt Ideal)) : StableHlo.after (hostOps0_3 (F := Ideal)) W main_v70 = fdiv (W main_v69) (W main_c_7) := by
  unfold hostOps0_3
  after_results_simp_entrywise
  rfl
theorem read2_69 (W : Valuation τ sig (Elt Ideal)) : StableHlo.after (hostOps0_2 (F := Ideal)) W main_v69 = (iotaInDim S128 32 0 : IVec S128 32) := by
  unfold hostOps0_2
  after_results_simp_entrywise
theorem read2_c7 (W : Valuation τ sig (Elt Ideal)) : StableHlo.after (hostOps0_2 (F := Ideal)) W main_c_7 = (constantI S_ 32 64#32 : IVec S_ 32) := by
  unfold hostOps0_2
  after_results_simp_entrywise

/-- Where the program keeps a weight, the reference keeps it. -/
theorem bits_eq (W : Valuation τ sig (Elt Ideal)) (V0 : Valuation Cert.ReferenceIdeal.τ Cert.ReferenceIdeal.sig (Elt Ideal)) (g : Fin 4) (i j : Fin 128) :
    (StableHlo.after (hostOps0_4 (F := Ideal)) (StableHlo.after hostOps0_3 (StableHlo.after hostOps0_2 W)) main_v75 : IVec S128x128 1) (ix2 i j) = res_main_v162_1 V0 (ix3 g i j) := by
  rw [read4_75, read3_70, read2_69, read2_c7]
  pointwise [fdiv, res_main_v162_1, res_main_v154, res_main_v156, res_main_v153, res_main_call1_v0, res_main_call1_v2, res_main_call2_v0, res_main_call2_v2]
  rfl
theorem read4_76 (W : Valuation τ sig (Elt Ideal)) : StableHlo.after (hostOps0_4 (F := Ideal)) W main_v76
    = (uitofp .f32 (StableHlo.after (hostOps0_4 (F := Ideal)) W main_v75 : IVec S128x128 1) : FVec Ideal S128x128 .f32) := by
  unfold hostOps0_4
  after_results_simp_entrywise
theorem read4_79 (W : Valuation τ sig (Elt Ideal)) : StableHlo.after (hostOps0_4 (F := Ideal)) W main_v79
    = (mulf (W main_arg6 : FVec Ideal S4x128x128 .f32) (broadcastInDim S4x128x128 ![0, 1, 2] bcast_S1x128x128_S4x128x128_0_1_2 (broadcastInDim S1x128x128 ![1, 2] bcast_S128x128_S1x128x128_1_2 (StableHlo.after (hostOps0_4 (F := Ideal)) W main_v76 : FVec Ideal S128x128 .f32))) : FVec Ideal S4x128x128 .f32) := by
  unfold hostOps0_4
  after_results_simp_entrywise
theorem read0_arg6 (W : Valuation τ sig (Elt Ideal)) : StableHlo.after (hostOps0_3 (F := Ideal)) (StableHlo.after hostOps0_2 (StableHlo.after hostOps0_1 (StableHlo.after hostOps0 W))) main_arg6 = W main_arg6 := by
  unfold hostOps0 hostOps0_1 hostOps0_2 hostOps0_3
  after_results_simp_entrywise

/-- Choosing zero is multiplying by the bit. -/
theorem select_zero (x : EReal) : ∀ b : BitVec 1, x * (if b = 1#1 then 1 else 0) = (Scalar.select b x (id (constant (F := Ideal) (⟨0, ![]⟩ : Shape) .f32 0#32 : FVec Ideal ⟨0, ![]⟩ .f32) ix0) : EReal) := by
  intro b
  have z : (id (constant (F := Ideal) (⟨0, ![]⟩ : Shape) .f32 0#32 : FVec Ideal ⟨0, ![]⟩ .f32) ix0 : EReal) = 0 := by
    exact Ideal.ofBits_zero_f32
  rw [z]
  rcases (by decide : ∀ b : BitVec 1, b = 0#1 ∨ b = 1#1) b with rfl | rfl
  · rw [if_neg (by decide), mul_zero]
    rfl
  · rw [if_pos rfl, mul_one]
    rfl

/-- A bit as a number. -/
theorem bit_real : ∀ b : BitVec 1, FloatOps.uitofp (F := Ideal) FTy.f32 b = if b = 1#1 then (1 : EReal) else 0 := by
  intro b
  rcases (by decide : ∀ b : BitVec 1, b = 0#1 ∨ b = 1#1) b with rfl | rfl
  · rw [if_neg (by decide)]
    show ((((0#1 : BitVec 1).toNat : ℝ) : EReal)) = 0
    simp
  · rw [if_pos rfl]
    show ((((1#1 : BitVec 1).toNat : ℝ) : EReal)) = 1
    simp

/-- The mask, and the weights before it. -/
abbrev M76 (c : Dev nD) : FVec Ideal S128x128 .f32 := V m c main_v76
abbrev A6 (c : Dev nD) : FVec Ideal S4x128x128 .f32 := m ((c : Thread nD τ).loc main_arg6)
/-- The mask, as each step has it. -/
abbrev MK (c : Dev nD) (t : Fin cfg0.N) : FVec Ideal S128x128 .f32 := iblk m c 12 t

/-- The mask as a number: one where a weight is kept, zero elsewhere. -/
theorem mask_at (c : Dev nD) (V0 : Valuation Cert.ReferenceIdeal.τ Cert.ReferenceIdeal.sig (Elt Ideal)) (g : Fin 4) (i j : Fin 128) :
    M76 m c (ix2 i j) = if res_main_v162_1 V0 (ix3 g i j) = 1#1 then (1 : EReal) else 0 := by
  unfold M76
  rw [V_split, read4_76]
  have e := bits_eq (StableHlo.after hostOps0_1 (StableHlo.after hostOps0 (fun b => m (c, b)))) V0 g i j
  rw [← e]
  exact bit_real _
theorem wm_eq (c : Dev nD) (V0 : Valuation Cert.ReferenceIdeal.τ Cert.ReferenceIdeal.sig (Elt Ideal))
    (h : V0 (Proc.devRef .tc Cert.ReferenceIdeal.main_arg6) = m ((c : Thread nD τ).loc main_arg6)) : (args m c).wm = res_main_v162_0 V0 := by
  funext y
  obtain ⟨g, i, j, rfl⟩ : ∃ (g : Fin 4) (i j : Fin 128), y = ix3 g i j := ⟨y 0, y 1, y 2, by funext l; fin_cases l <;> rfl⟩
  have e : (args m c).wm (ix3 g i j) = A6 m c (ix3 g i j) * M76 m c (ix2 i j) := by
    unfold M76
    show V m c main_v79 (ix3 g i j) = _
    rw [V_split, V_split, read4_79, read0_arg6]
    generalize (StableHlo.after (hostOps0_4 (F := Ideal)) _ main_v76 : FVec Ideal S128x128 .f32) = B
    pointwise
  refine e.trans ?_
  rw [mask_at m c V0 g i j, show A6 m c = (V0 (Proc.devRef .tc ReferenceIdeal.main_arg6) : FVec Ideal S4x128x128 .f32) from h.symm]
  pointwise [res_main_v162_0]
  exact select_zero _ _
theorem mask_iff (c : Dev nD) (t : Fin cfg0.N) (V0 : Valuation Cert.ReferenceIdeal.τ Cert.ReferenceIdeal.sig (Elt Ideal)) (g : Fin 4) (i j : Fin 128) :
    0 < MK m c t (ix2 i j) ↔ res_main_v162_1 V0 (ix3 g i j) = 1#1 := by
  have e : iblk m c 12 t (ix2 i j) = V m c main_v76 (ix2 i j) := by
    blk_point [iblk, idx t, R]
  rw [show MK m c t (ix2 i j) = M76 m c (ix2 i j) from e, mask_at m c V0 g i j]
  split_ifs with h
  · exact iff_of_true zero_lt_one h
  · exact iff_of_false (lt_irrefl _) h

end Cert.KernelIdeal.Mix
end
-- ==== Proof.Mix.Sums.lean ====
/- # The token mixer: the two sums that are carried in their own results

One is of the gate's weights, over blocks of 128 rows; the other is eight rows of column sums, of which three are used. -/
module

public import proofs.«01_k».proof.Proof.Mix.Acc
public import proofs.«01_k».proof.Proof.Mix.Host
public import proofs.«01_k».proof.Proof.Rows

@[expose] public section

set_option maxRecDepth 16384
set_option maxHeartbeats 1000000

noncomputable section

open Idealize.ShloMosaic Idealize.ShloMosaic.TcCoe Idealize.SL.Sem
open Idealize.ShloMosaic.Pipeline (Dat)

namespace Cert.KernelIdeal.Mix
open Cert.KernelIdeal Cert.KernelIdeal.Gen Cert.MixRows Cert.Rows

variable (m : (ℓ : Loc nD τ sig) → Buf (Elt Ideal) ℓ)

/-- What was stored last, read back where it was stored. -/
theorem readCov_same {κ : Kind} {sp : Space} {s : Shape} {e : EltTy} (v : View sig κ sp s e) (r : Rect s) (w : r.shape.Idx → Elt Ideal e) (L : List (View.Piece (Elt Ideal) s e)) :
    v.readCov (⟨r, w⟩ :: L) r.toLoadRect = w := by
  rw [View.readCov_eq_canon']
  funext x
  exact View.canon_cons_emb r w L x

/-! ## The gate's weights -/

/-- What a step adds: the products of its two blocks of rows. -/
def dwsT (c : Dev nD) (t : Fin cfg0.N) (y : S4x128x128.Idx) : EReal :=
  ∑ k : Fin 256, dsv (args m c) (rw (Bk t 0) (y 1)) (col (y 0) k) * vb (args m c) (rw (Bk t 0) (y 2)) (col (y 0) k)
    + ∑ k : Fin 256, dsv (args m c) (rw (Bk t 1) (y 1)) (col (y 0) k) * vb (args m c) (rw (Bk t 1) (y 2)) (col (y 0) k)

theorem dws_half (c : Dev nD) (t : Fin cfg0.N) {o q : ℕ} (b : Fin 2) (eb : o = 128 * b.val) (g : Fin 4) (e : q = 256 * g.val) (i j : Fin 128)
    (h1 : o + i.val < 256) (h2 : o + j.val < 256) (h3 : ∀ k : Fin 256, q + k.val < 1024) :
    ∑ k : Fin 256, DSVb m c t (ix2 ⟨o + i.val, h1⟩ ⟨q + k.val, h3 k⟩) * VB m c t (ix2 ⟨o + j.val, h2⟩ ⟨q + k.val, h3 k⟩)
      = ∑ k : Fin 256, dsv (args m c) (rw (Bk t b) i) (col g k) * vb (args m c) (rw (Bk t b) j) (col g k) := by
  subst eb e
  refine Finset.sum_congr rfl fun k _ => congrArg₂ (· * ·) ((DSVb_at m c t _ _).trans ?_) ((VB_at m c t _ _).trans ?_)
  · exact congrArg₂ (dsv (args m c)) (R_rw t b i _ rfl) (col_eq g k _ rfl)
  · exact congrArg₂ (vb (args m c)) (R_rw t b j _ rfl) (col_eq g k _ rfl)

/-- Two halves over what was there. -/
theorem dws_step (c : Dev nD) (t : Fin cfg0.N) (g : Fin 4) (i j : Fin 128) (a a' s s' : EReal) (y : S4x128x128.Idx) (hy : y = ix3 g i j) (ha : a = a')
    (h0 : s = ∑ k : Fin 256, dsv (args m c) (rw (Bk t 0) i) (col g k) * vb (args m c) (rw (Bk t 0) j) (col g k))
    (h1 : s' = ∑ k : Fin 256, dsv (args m c) (rw (Bk t 1) i) (col g k) * vb (args m c) (rw (Bk t 1) j) (col g k)) :
    a + s + s' = a' + dwsT m c t y := by
  subst hy ha h0 h1
  exact add_assoc _ _ _

theorem zero_k0_pay52 (y : S4x128x128.Idx) : k0_pay52 (F := Ideal) y = 0 := by
  unfold k0_pay52
  pointwise

/-- The first 1 of the four squares, masked. -/
abbrev masked0 {κ : Kind} (v : View sig κ .vmem S4x128x128 .f32) (M : FVec Ideal S128x128 .f32) (L : List (View.Piece (Elt Ideal) S4x128x128 .f32)) : List (View.Piece (Elt Ideal) S4x128x128 .f32) :=
  ⟨(Rect.unit (s := S4x128x128) ![0, 0, 0] ![1, 128, 128] inb_S4x128x128_S1x128x128_0_0_0), k0_pay8 M (v.readCov L (Rect.unit (s := S4x128x128) ![0, 0, 0] ![1, 128, 128] inb_S4x128x128_S1x128x128_0_0_0).toLoadRect)⟩ :: L

/-- The first 2 of the four squares, masked. -/
abbrev masked1 {κ : Kind} (v : View sig κ .vmem S4x128x128 .f32) (M : FVec Ideal S128x128 .f32) (L : List (View.Piece (Elt Ideal) S4x128x128 .f32)) : List (View.Piece (Elt Ideal) S4x128x128 .f32) :=
  ⟨(Rect.unit (s := S4x128x128) ![1, 0, 0] ![1, 128, 128] inb_S4x128x128_S1x128x128_1_0_0), k0_pay10 M (v.readCov (masked0 v M L) (Rect.unit (s := S4x128x128) ![1, 0, 0] ![1, 128, 128] inb_S4x128x128_S1x128x128_1_0_0).toLoadRect)⟩ :: masked0 v M L

/-- The first 3 of the four squares, masked. -/
abbrev masked2 {κ : Kind} (v : View sig κ .vmem S4x128x128 .f32) (M : FVec Ideal S128x128 .f32) (L : List (View.Piece (Elt Ideal) S4x128x128 .f32)) : List (View.Piece (Elt Ideal) S4x128x128 .f32) :=
  ⟨(Rect.unit (s := S4x128x128) ![2, 0, 0] ![1, 128, 128] inb_S4x128x128_S1x128x128_2_0_0), k0_pay12 M (v.readCov (masked1 v M L) (Rect.unit (s := S4x128x128) ![2, 0, 0] ![1, 128, 128] inb_S4x128x128_S1x128x128_2_0_0).toLoadRect)⟩ :: masked1 v M L

/-- The first 4 of the four squares, masked. -/
abbrev masked3 {κ : Kind} (v : View sig κ .vmem S4x128x128 .f32) (M : FVec Ideal S128x128 .f32) (L : List (View.Piece (Elt Ideal) S4x128x128 .f32)) : List (View.Piece (Elt Ideal) S4x128x128 .f32) :=
  ⟨(Rect.unit (s := S4x128x128) ![3, 0, 0] ![1, 128, 128] inb_S4x128x128_S1x128x128_3_0_0), k0_pay15 (k0_pay14 M (v.readCov (masked2 v M L) (Rect.unit (s := S4x128x128) ![3, 0, 0] ![1, 128, 128] inb_S4x128x128_S1x128x128_3_0_0).toLoadRect))⟩ :: masked2 v M L

theorem masked_ld {κ : Kind} (v : View sig κ .vmem S4x128x128 .f32) (L : List (View.Piece (Elt Ideal) S4x128x128 .f32)) (G : S4x128x128.Idx → EReal) (hL : ∀ y, View.canon L y = G y) (r : Rect S4x128x128) (x : r.shape.Idx) :
    v.readCov L r.toLoadRect x = G (r.emb x) :=
  (congrFun (View.readCov_eq_canon' _ _ _) x).trans (hL _)

/-- Masking the four squares one after another masks the whole. -/
theorem masked_at {κ : Kind} (v : View sig κ .vmem S4x128x128 .f32) (M : FVec Ideal S128x128 .f32) (L : List (View.Piece (Elt Ideal) S4x128x128 .f32)) (G : S4x128x128.Idx → EReal) (hL : ∀ y, View.canon L y = G y) (y : S4x128x128.Idx) :
    View.canon (masked3 v M L) y = if 0 < M (ix2 (y 1) (y 2)) then G y else 0 := by
  refine View.canon_append_of_piecesOf (Val := Elt Ideal) (e := .f32) (fun y => if 0 < M (ix2 (y 1) (y 2)) then G y else 0) L [_, _, _, _] ⟨fun x => ?_, fun x => ?_, fun x => ?_, fun x => ?_, trivial⟩ y
    (View.cover_of_tiledL (s := S4x128x128) _ S1x128x128.size (by sl_kernel_rfl) y)
  · have hx : (x 0).val < 1 := (x 0).isLt
    have hy : (Rect.unit (s := S4x128x128) ![3, 0, 0] ![1, 128, 128] inb_S4x128x128_S1x128x128_3_0_0).emb x = ix3 3 (x 1) (x 2) := idx3_ext _ 3 (x 1) (x 2) (by show 3 + 1 * (x 0).val = 3; omega) (by show 0 + 1 * (x 1).val = (x 1).val; omega) (by show 0 + 1 * (x 2).val = (x 2).val; omega)
    refine (congrArg _ (eq_ix3_0 x)).trans ((mask_pay3 M _ (x 1) (x 2)).trans ?_)
    rw [View.readCov_skip _ _ _ _ _ (by decide), View.readCov_skip _ _ _ _ _ (by decide), View.readCov_skip _ _ _ _ _ (by decide)]
    refine if_congr (iff_of_eq (congrArg (fun z => 0 < M z) (congrArg₂ ix2 (Fin.ext (by show (x 1).val = 0 + 1 * (x 1).val; omega)) (Fin.ext (by show (x 2).val = 0 + 1 * (x 2).val; omega))))) ?_ rfl
    exact (masked_ld v L G hL _ _).trans (congrArg (fun z => G ((Rect.unit (s := S4x128x128) ![3, 0, 0] ![1, 128, 128] inb_S4x128x128_S1x128x128_3_0_0).emb z)) (eq_ix3_0 x).symm)
  · have hx : (x 0).val < 1 := (x 0).isLt
    have hy : (Rect.unit (s := S4x128x128) ![2, 0, 0] ![1, 128, 128] inb_S4x128x128_S1x128x128_2_0_0).emb x = ix3 2 (x 1) (x 2) := idx3_ext _ 2 (x 1) (x 2) (by show 2 + 1 * (x 0).val = 2; omega) (by show 0 + 1 * (x 1).val = (x 1).val; omega) (by show 0 + 1 * (x 2).val = (x 2).val; omega)
    refine (congrArg _ (eq_ix3_0 x)).trans ((mask_pay2 M _ (x 1) (x 2)).trans ?_)
    rw [View.readCov_skip _ _ _ _ _ (by decide), View.readCov_skip _ _ _ _ _ (by decide)]
    refine if_congr (iff_of_eq (congrArg (fun z => 0 < M z) (congrArg₂ ix2 (Fin.ext (by show (x 1).val = 0 + 1 * (x 1).val; omega)) (Fin.ext (by show (x 2).val = 0 + 1 * (x 2).val; omega))))) ?_ rfl
    exact (masked_ld v L G hL _ _).trans (congrArg (fun z => G ((Rect.unit (s := S4x128x128) ![2, 0, 0] ![1, 128, 128] inb_S4x128x128_S1x128x128_2_0_0).emb z)) (eq_ix3_0 x).symm)
  · have hx : (x 0).val < 1 := (x 0).isLt
    have hy : (Rect.unit (s := S4x128x128) ![1, 0, 0] ![1, 128, 128] inb_S4x128x128_S1x128x128_1_0_0).emb x = ix3 1 (x 1) (x 2) := idx3_ext _ 1 (x 1) (x 2) (by show 1 + 1 * (x 0).val = 1; omega) (by show 0 + 1 * (x 1).val = (x 1).val; omega) (by show 0 + 1 * (x 2).val = (x 2).val; omega)
    refine (congrArg _ (eq_ix3_0 x)).trans ((mask_pay1 M _ (x 1) (x 2)).trans ?_)
    rw [View.readCov_skip _ _ _ _ _ (by decide)]
    refine if_congr (iff_of_eq (congrArg (fun z => 0 < M z) (congrArg₂ ix2 (Fin.ext (by show (x 1).val = 0 + 1 * (x 1).val; omega)) (Fin.ext (by show (x 2).val = 0 + 1 * (x 2).val; omega))))) ?_ rfl
    exact (masked_ld v L G hL _ _).trans (congrArg (fun z => G ((Rect.unit (s := S4x128x128) ![1, 0, 0] ![1, 128, 128] inb_S4x128x128_S1x128x128_1_0_0).emb z)) (eq_ix3_0 x).symm)
  · have hx : (x 0).val < 1 := (x 0).isLt
    have hy : (Rect.unit (s := S4x128x128) ![0, 0, 0] ![1, 128, 128] inb_S4x128x128_S1x128x128_0_0_0).emb x = ix3 0 (x 1) (x 2) := idx3_ext _ 0 (x 1) (x 2) (by show 0 + 1 * (x 0).val = 0; omega) (by show 0 + 1 * (x 1).val = (x 1).val; omega) (by show 0 + 1 * (x 2).val = (x 2).val; omega)
    refine (congrArg _ (eq_ix3_0 x)).trans ((mask_pay0 M _ (x 1) (x 2)).trans ?_)
    refine if_congr (iff_of_eq (congrArg (fun z => 0 < M z) (congrArg₂ ix2 (Fin.ext (by show (x 1).val = 0 + 1 * (x 1).val; omega)) (Fin.ext (by show (x 2).val = 0 + 1 * (x 2).val; omega))))) ?_ rfl
    exact (masked_ld v L G hL _ _).trans (congrArg (fun z => G ((Rect.unit (s := S4x128x128) ![0, 0, 0] ![1, 128, 128] inb_S4x128x128_S1x128x128_0_0_0).emb z)) (eq_ix3_0 x).symm)

theorem dws_A (c : Dev nD) (t : Fin cfg0.N) (h0 : t.val % 16 = 0) (h1 : ¬ t.val % 16 = 15) (y : S4x128x128.Idx) : (stepA m c t h0 h1).2.2.2.1 y = dwsT m c t y := by
  unfold stepA
  frame_open
  frame_out
  refine View.canon_append_of_piecesOf (Val := Elt Ideal) (e := .f32) (dwsT m c t) [_, _, _, _, _] [_, _, _, _] ⟨fun x => ?_, fun x => ?_, fun x => ?_, fun x => ?_, trivial⟩ y
    (View.cover_of_tiledL (s := S4x128x128) _ S1x128x128.size (by sl_kernel_rfl) y)
  · have hx : (x 0).val < 1 := (x 0).isLt
    have hy : (Rect.unit (s := S4x128x128) ![3, 0, 0] ![1, 128, 128] inb_S4x128x128_S1x128x128_3_0_0).emb x = ix3 3 (x 1) (x 2) := idx3_ext _ 3 (x 1) (x 2) (by show 3 + 1 * (x 0).val = 3; omega) (by show 0 + 1 * (x 1).val = (x 1).val; omega) (by show 0 + 1 * (x 2).val = (x 2).val; omega)
    refine (congrArg _ (eq_ix3_0 x)).trans ?_
    refine (dws_pay7 _ _ _ (x 1) (x 2)).trans ?_
    rw [View.readCov_skip _ _ _ _ _ (by decide), View.readCov_skip _ _ _ _ _ (by decide), View.readCov_skip _ _ _ _ _ (by decide), readCov_same]
    refine (congrArg (· + _) (dws_pay3 _ _ _ (x 1) (x 2))).trans ?_
    refine (dws_step m c t 3 (x 1) (x 2) _ 0 _ _ _ hy ?_ (dws_half m c t 0 rfl 3 rfl _ _ _ _ _) (dws_half m c t 1 rfl 3 rfl _ _ _ _ _)).trans (zero_add _)
    rw [View.readCov_skip _ _ _ _ _ (by decide), View.readCov_skip _ _ _ _ _ (by decide), View.readCov_skip _ _ _ _ _ (by decide), View.readCov_fill _ _ _ _ _ (by decide)]
    exact zero_k0_pay52 _
  · have hx : (x 0).val < 1 := (x 0).isLt
    have hy : (Rect.unit (s := S4x128x128) ![2, 0, 0] ![1, 128, 128] inb_S4x128x128_S1x128x128_2_0_0).emb x = ix3 2 (x 1) (x 2) := idx3_ext _ 2 (x 1) (x 2) (by show 2 + 1 * (x 0).val = 2; omega) (by show 0 + 1 * (x 1).val = (x 1).val; omega) (by show 0 + 1 * (x 2).val = (x 2).val; omega)
    refine (congrArg _ (eq_ix3_0 x)).trans ?_
    refine (dws_pay6 _ _ _ (x 1) (x 2)).trans ?_
    rw [View.readCov_skip _ _ _ _ _ (by decide), View.readCov_skip _ _ _ _ _ (by decide), View.readCov_skip _ _ _ _ _ (by decide), readCov_same]
    refine (congrArg (· + _) (dws_pay2 _ _ _ (x 1) (x 2))).trans ?_
    refine (dws_step m c t 2 (x 1) (x 2) _ 0 _ _ _ hy ?_ (dws_half m c t 0 rfl 2 rfl _ _ _ _ _) (dws_half m c t 1 rfl 2 rfl _ _ _ _ _)).trans (zero_add _)
    rw [View.readCov_skip _ _ _ _ _ (by decide), View.readCov_skip _ _ _ _ _ (by decide), View.readCov_fill _ _ _ _ _ (by decide)]
    exact zero_k0_pay52 _
  · have hx : (x 0).val < 1 := (x 0).isLt
    have hy : (Rect.unit (s := S4x128x128) ![1, 0, 0] ![1, 128, 128] inb_S4x128x128_S1x128x128_1_0_0).emb x = ix3 1 (x 1) (x 2) := idx3_ext _ 1 (x 1) (x 2) (by show 1 + 1 * (x 0).val = 1; omega) (by show 0 + 1 * (x 1).val = (x 1).val; omega) (by show 0 + 1 * (x 2).val = (x 2).val; omega)
    refine (congrArg _ (eq_ix3_0 x)).trans ?_
    refine (dws_pay5 _ _ _ (x 1) (x 2)).trans ?_
    rw [View.readCov_skip _ _ _ _ _ (by decide), View.readCov_skip _ _ _ _ _ (by decide), View.readCov_skip _ _ _ _ _ (by decide), readCov_same]
    refine (congrArg (· + _) (dws_pay1 _ _ _ (x 1) (x 2))).trans ?_
    refine (dws_step m c t 1 (x 1) (x 2) _ 0 _ _ _ hy ?_ (dws_half m c t 0 rfl 1 rfl _ _ _ _ _) (dws_half m c t 1 rfl 1 rfl _ _ _ _ _)).trans (zero_add _)
    rw [View.readCov_skip _ _ _ _ _ (by decide), View.readCov_fill _ _ _ _ _ (by decide)]
    exact zero_k0_pay52 _
  · have hx : (x 0).val < 1 := (x 0).isLt
    have hy : (Rect.unit (s := S4x128x128) ![0, 0, 0] ![1, 128, 128] inb_S4x128x128_S1x128x128_0_0_0).emb x = ix3 0 (x 1) (x 2) := idx3_ext _ 0 (x 1) (x 2) (by show 0 + 1 * (x 0).val = 0; omega) (by show 0 + 1 * (x 1).val = (x 1).val; omega) (by show 0 + 1 * (x 2).val = (x 2).val; omega)
    refine (congrArg _ (eq_ix3_0 x)).trans ?_
    refine (dws_pay4 _ _ _ (x 1) (x 2)).trans ?_
    rw [View.readCov_skip _ _ _ _ _ (by decide), View.readCov_skip _ _ _ _ _ (by decide), View.readCov_skip _ _ _ _ _ (by decide), readCov_same]
    refine (congrArg (· + _) (dws_pay0 _ _ _ (x 1) (x 2))).trans ?_
    refine (dws_step m c t 0 (x 1) (x 2) _ 0 _ _ _ hy ?_ (dws_half m c t 0 rfl 0 rfl _ _ _ _ _) (dws_half m c t 1 rfl 0 rfl _ _ _ _ _)).trans (zero_add _)
    rw [View.readCov_fill _ _ _ _ _ (by decide)]
    exact zero_k0_pay52 _

theorem dws_B (c : Dev nD) (t : Fin cfg0.N) (h0 : ¬ t.val % 16 = 0) (h1 : ¬ t.val % 16 = 15) (p : Held Ideal) (y : S4x128x128.Idx) : (stepB m c t h0 h1 p).2.2.2.1 y = p.2.2.2.1 y + dwsT m c t y := by
  unfold stepB
  frame_open
  frame_out
  refine View.canon_append_of_piecesOf (Val := Elt Ideal) (e := .f32) (fun y => p.2.2.2.1 y + dwsT m c t y) [_, _, _, _] [_, _, _, _] ⟨fun x => ?_, fun x => ?_, fun x => ?_, fun x => ?_, trivial⟩ y
    (View.cover_of_tiledL (s := S4x128x128) _ S1x128x128.size (by sl_kernel_rfl) y)
  · have hx : (x 0).val < 1 := (x 0).isLt
    have hy : (Rect.unit (s := S4x128x128) ![3, 0, 0] ![1, 128, 128] inb_S4x128x128_S1x128x128_3_0_0).emb x = ix3 3 (x 1) (x 2) := idx3_ext _ 3 (x 1) (x 2) (by show 3 + 1 * (x 0).val = 3; omega) (by show 0 + 1 * (x 1).val = (x 1).val; omega) (by show 0 + 1 * (x 2).val = (x 2).val; omega)
    refine (congrArg _ (eq_ix3_0 x)).trans ?_
    refine (dws_pay7 _ _ _ (x 1) (x 2)).trans ?_
    rw [View.readCov_skip _ _ _ _ _ (by decide), View.readCov_skip _ _ _ _ _ (by decide), View.readCov_skip _ _ _ _ _ (by decide), readCov_same]
    refine (congrArg (· + _) (dws_pay3 _ _ _ (x 1) (x 2))).trans ?_
    exact dws_step m c t 3 (x 1) (x 2) _ _ _ _ _ hy (prev_slab (Val := Elt Ideal) (e := .f32) (b := 128) (c := 128) (o := 3) p.2.2.2.1 _ 3 rfl (x 1) (x 2) _ hy) (dws_half m c t 0 rfl 3 rfl _ _ _ _ _) (dws_half m c t 1 rfl 3 rfl _ _ _ _ _)
  · have hx : (x 0).val < 1 := (x 0).isLt
    have hy : (Rect.unit (s := S4x128x128) ![2, 0, 0] ![1, 128, 128] inb_S4x128x128_S1x128x128_2_0_0).emb x = ix3 2 (x 1) (x 2) := idx3_ext _ 2 (x 1) (x 2) (by show 2 + 1 * (x 0).val = 2; omega) (by show 0 + 1 * (x 1).val = (x 1).val; omega) (by show 0 + 1 * (x 2).val = (x 2).val; omega)
    refine (congrArg _ (eq_ix3_0 x)).trans ?_
    refine (dws_pay6 _ _ _ (x 1) (x 2)).trans ?_
    rw [View.readCov_skip _ _ _ _ _ (by decide), View.readCov_skip _ _ _ _ _ (by decide), View.readCov_skip _ _ _ _ _ (by decide), readCov_same]
    refine (congrArg (· + _) (dws_pay2 _ _ _ (x 1) (x 2))).trans ?_
    exact dws_step m c t 2 (x 1) (x 2) _ _ _ _ _ hy (prev_slab (Val := Elt Ideal) (e := .f32) (b := 128) (c := 128) (o := 2) p.2.2.2.1 _ 2 rfl (x 1) (x 2) _ hy) (dws_half m c t 0 rfl 2 rfl _ _ _ _ _) (dws_half m c t 1 rfl 2 rfl _ _ _ _ _)
  · have hx : (x 0).val < 1 := (x 0).isLt
    have hy : (Rect.unit (s := S4x128x128) ![1, 0, 0] ![1, 128, 128] inb_S4x128x128_S1x128x128_1_0_0).emb x = ix3 1 (x 1) (x 2) := idx3_ext _ 1 (x 1) (x 2) (by show 1 + 1 * (x 0).val = 1; omega) (by show 0 + 1 * (x 1).val = (x 1).val; omega) (by show 0 + 1 * (x 2).val = (x 2).val; omega)
    refine (congrArg _ (eq_ix3_0 x)).trans ?_
    refine (dws_pay5 _ _ _ (x 1) (x 2)).trans ?_
    rw [View.readCov_skip _ _ _ _ _ (by decide), View.readCov_skip _ _ _ _ _ (by decide), View.readCov_skip _ _ _ _ _ (by decide), readCov_same]
    refine (congrArg (· + _) (dws_pay1 _ _ _ (x 1) (x 2))).trans ?_
    exact dws_step m c t 1 (x 1) (x 2) _ _ _ _ _ hy (prev_slab (Val := Elt Ideal) (e := .f32) (b := 128) (c := 128) (o := 1) p.2.2.2.1 _ 1 rfl (x 1) (x 2) _ hy) (dws_half m c t 0 rfl 1 rfl _ _ _ _ _) (dws_half m c t 1 rfl 1 rfl _ _ _ _ _)
  · have hx : (x 0).val < 1 := (x 0).isLt
    have hy : (Rect.unit (s := S4x128x128) ![0, 0, 0] ![1, 128, 128] inb_S4x128x128_S1x128x128_0_0_0).emb x = ix3 0 (x 1) (x 2) := idx3_ext _ 0 (x 1) (x 2) (by show 0 + 1 * (x 0).val = 0; omega) (by show 0 + 1 * (x 1).val = (x 1).val; omega) (by show 0 + 1 * (x 2).val = (x 2).val; omega)
    refine (congrArg _ (eq_ix3_0 x)).trans ?_
    refine (dws_pay4 _ _ _ (x 1) (x 2)).trans ?_
    rw [View.readCov_skip _ _ _ _ _ (by decide), View.readCov_skip _ _ _ _ _ (by decide), View.readCov_skip _ _ _ _ _ (by decide), readCov_same]
    refine (congrArg (· + _) (dws_pay0 _ _ _ (x 1) (x 2))).trans ?_
    exact dws_step m c t 0 (x 1) (x 2) _ _ _ _ _ hy (prev_slab (Val := Elt Ideal) (e := .f32) (b := 128) (c := 128) (o := 0) p.2.2.2.1 _ 0 rfl (x 1) (x 2) _ hy) (dws_half m c t 0 rfl 0 rfl _ _ _ _ _) (dws_half m c t 1 rfl 0 rfl _ _ _ _ _)

theorem dws_C (c : Dev nD) (t : Fin cfg0.N) (h0 : ¬ t.val % 16 = 0) (h1 : t.val % 16 = 15) (p : Held Ideal) (y : S4x128x128.Idx) : (stepC m c t h0 h1 p).2.2.2.1 y = if 0 < MK m c t (ix2 (y 1) (y 2)) then p.2.2.2.1 y + dwsT m c t y else 0 := by
  unfold stepC
  frame_open
  frame_out
  refine masked_at (ms0_17 t).view (iblk m c 12 t) [_, _, _, _, _, _, _, _] (fun y => p.2.2.2.1 y + dwsT m c t y) (fun y => ?_) y
  refine View.canon_append_of_piecesOf (Val := Elt Ideal) (e := .f32) (fun y => p.2.2.2.1 y + dwsT m c t y) [_, _, _, _] [_, _, _, _] ⟨fun x => ?_, fun x => ?_, fun x => ?_, fun x => ?_, trivial⟩ y
    (View.cover_of_tiledL (s := S4x128x128) _ S1x128x128.size (by sl_kernel_rfl) y)
  · have hx : (x 0).val < 1 := (x 0).isLt
    have hy : (Rect.unit (s := S4x128x128) ![3, 0, 0] ![1, 128, 128] inb_S4x128x128_S1x128x128_3_0_0).emb x = ix3 3 (x 1) (x 2) := idx3_ext _ 3 (x 1) (x 2) (by show 3 + 1 * (x 0).val = 3; omega) (by show 0 + 1 * (x 1).val = (x 1).val; omega) (by show 0 + 1 * (x 2).val = (x 2).val; omega)
    refine (congrArg _ (eq_ix3_0 x)).trans ?_
    refine (dws_pay7 _ _ _ (x 1) (x 2)).trans ?_
    rw [View.readCov_skip _ _ _ _ _ (by decide), View.readCov_skip _ _ _ _ _ (by decide), View.readCov_skip _ _ _ _ _ (by decide), readCov_same]
    refine (congrArg (· + _) (dws_pay3 _ _ _ (x 1) (x 2))).trans ?_
    exact dws_step m c t 3 (x 1) (x 2) _ _ _ _ _ hy (prev_slab (Val := Elt Ideal) (e := .f32) (b := 128) (c := 128) (o := 3) p.2.2.2.1 _ 3 rfl (x 1) (x 2) _ hy) (dws_half m c t 0 rfl 3 rfl _ _ _ _ _) (dws_half m c t 1 rfl 3 rfl _ _ _ _ _)
  · have hx : (x 0).val < 1 := (x 0).isLt
    have hy : (Rect.unit (s := S4x128x128) ![2, 0, 0] ![1, 128, 128] inb_S4x128x128_S1x128x128_2_0_0).emb x = ix3 2 (x 1) (x 2) := idx3_ext _ 2 (x 1) (x 2) (by show 2 + 1 * (x 0).val = 2; omega) (by show 0 + 1 * (x 1).val = (x 1).val; omega) (by show 0 + 1 * (x 2).val = (x 2).val; omega)
    refine (congrArg _ (eq_ix3_0 x)).trans ?_
    refine (dws_pay6 _ _ _ (x 1) (x 2)).trans ?_
    rw [View.readCov_skip _ _ _ _ _ (by decide), View.readCov_skip _ _ _ _ _ (by decide), View.readCov_skip _ _ _ _ _ (by decide), readCov_same]
    refine (congrArg (· + _) (dws_pay2 _ _ _ (x 1) (x 2))).trans ?_
    exact dws_step m c t 2 (x 1) (x 2) _ _ _ _ _ hy (prev_slab (Val := Elt Ideal) (e := .f32) (b := 128) (c := 128) (o := 2) p.2.2.2.1 _ 2 rfl (x 1) (x 2) _ hy) (dws_half m c t 0 rfl 2 rfl _ _ _ _ _) (dws_half m c t 1 rfl 2 rfl _ _ _ _ _)
  · have hx : (x 0).val < 1 := (x 0).isLt
    have hy : (Rect.unit (s := S4x128x128) ![1, 0, 0] ![1, 128, 128] inb_S4x128x128_S1x128x128_1_0_0).emb x = ix3 1 (x 1) (x 2) := idx3_ext _ 1 (x 1) (x 2) (by show 1 + 1 * (x 0).val = 1; omega) (by show 0 + 1 * (x 1).val = (x 1).val; omega) (by show 0 + 1 * (x 2).val = (x 2).val; omega)
    refine (congrArg _ (eq_ix3_0 x)).trans ?_
    refine (dws_pay5 _ _ _ (x 1) (x 2)).trans ?_
    rw [View.readCov_skip _ _ _ _ _ (by decide), View.readCov_skip _ _ _ _ _ (by decide), View.readCov_skip _ _ _ _ _ (by decide), readCov_same]
    refine (congrArg (· + _) (dws_pay1 _ _ _ (x 1) (x 2))).trans ?_
    exact dws_step m c t 1 (x 1) (x 2) _ _ _ _ _ hy (prev_slab (Val := Elt Ideal) (e := .f32) (b := 128) (c := 128) (o := 1) p.2.2.2.1 _ 1 rfl (x 1) (x 2) _ hy) (dws_half m c t 0 rfl 1 rfl _ _ _ _ _) (dws_half m c t 1 rfl 1 rfl _ _ _ _ _)
  · have hx : (x 0).val < 1 := (x 0).isLt
    have hy : (Rect.unit (s := S4x128x128) ![0, 0, 0] ![1, 128, 128] inb_S4x128x128_S1x128x128_0_0_0).emb x = ix3 0 (x 1) (x 2) := idx3_ext _ 0 (x 1) (x 2) (by show 0 + 1 * (x 0).val = 0; omega) (by show 0 + 1 * (x 1).val = (x 1).val; omega) (by show 0 + 1 * (x 2).val = (x 2).val; omega)
    refine (congrArg _ (eq_ix3_0 x)).trans ?_
    refine (dws_pay4 _ _ _ (x 1) (x 2)).trans ?_
    rw [View.readCov_skip _ _ _ _ _ (by decide), View.readCov_skip _ _ _ _ _ (by decide), View.readCov_skip _ _ _ _ _ (by decide), readCov_same]
    refine (congrArg (· + _) (dws_pay0 _ _ _ (x 1) (x 2))).trans ?_
    exact dws_step m c t 0 (x 1) (x 2) _ _ _ _ _ hy (prev_slab (Val := Elt Ideal) (e := .f32) (b := 128) (c := 128) (o := 0) p.2.2.2.1 _ 0 rfl (x 1) (x 2) _ hy) (dws_half m c t 0 rfl 0 rfl _ _ _ _ _) (dws_half m c t 1 rfl 0 rfl _ _ _ _ _)

end Cert.KernelIdeal.Mix
end
-- ==== Proof.Mix.Cols.lean ====
/- # The token mixer: the column sums

Eight rows of column sums are kept in one result: row 0 for the pooling's scale, four parts of 256 columns; row 1 for the norm's gain; row 2 for its shift. The other five rows stay zero. -/
module

public import proofs.«01_k».proof.Proof.Mix.Acc
public import proofs.«01_k».proof.Proof.Vec

@[expose] public section

set_option maxRecDepth 16384
set_option maxHeartbeats 1000000

noncomputable section

open Idealize.ShloMosaic Idealize.ShloMosaic.TcCoe Idealize.SL.Sem
open Idealize.ShloMosaic.Pipeline (Dat)

namespace Cert.KernelIdeal.Mix
open Cert.KernelIdeal Cert.KernelIdeal.Gen Cert.MixRows Cert.Rows

variable (m : (ℓ : Loc nD τ sig) → Buf (Elt Ideal) ℓ)

theorem ps_pay0 (D S : FVec Ideal S256x1024 .f32) (P : FVec Ideal S256x256 .bf16) (W : FVec Ideal S1x256x256 .bf16) (X : FVec Ideal S1x256 .f32) (j : Fin 256) :
    k0_pay91 (F := Ideal) D S P W X (ix2 0 j) = X (ix2 0 j) + ∑ p : Fin 256, k0_pay83 (F := Ideal) D S (ix2 p ⟨0 + j.val, by omega⟩) * ∑ k : Fin 256, P (ix2 p k) * W (ix3 0 k j) := by
  pointwise [k0_pay91, k0_pay90, k0_pay87, k0_pay88, k0_pay83]
  done

theorem ps_pay1 (D : FVec Ideal S256x1024 .f32) (P : FVec Ideal S256x256 .bf16) (W : FVec Ideal S1x256x256 .bf16) (X : FVec Ideal S1x256 .f32) (j : Fin 256) :
    k0_pay103 (F := Ideal) D P W X (ix2 0 j) = X (ix2 0 j) + ∑ p : Fin 256, D (ix2 p ⟨256 + j.val, by omega⟩) * ∑ k : Fin 256, P (ix2 p k) * W (ix3 0 k j) := by
  pointwise [k0_pay103, k0_pay102, k0_pay99, k0_pay100]
  done

theorem ps_pay2 (D : FVec Ideal S256x1024 .f32) (P : FVec Ideal S256x256 .bf16) (W : FVec Ideal S1x256x256 .bf16) (X : FVec Ideal S1x256 .f32) (j : Fin 256) :
    k0_pay117 (F := Ideal) D P W X (ix2 0 j) = X (ix2 0 j) + ∑ p : Fin 256, D (ix2 p ⟨512 + j.val, by omega⟩) * ∑ k : Fin 256, P (ix2 p k) * W (ix3 0 k j) := by
  pointwise [k0_pay117, k0_pay116, k0_pay113, k0_pay114]
  done

theorem ps_pay3 (D : FVec Ideal S256x1024 .f32) (P : FVec Ideal S256x256 .bf16) (W : FVec Ideal S1x256x256 .bf16) (X : FVec Ideal S1x256 .f32) (j : Fin 256) :
    k0_pay131 (F := Ideal) D P W X (ix2 0 j) = X (ix2 0 j) + ∑ p : Fin 256, D (ix2 p ⟨768 + j.val, by omega⟩) * ∑ k : Fin 256, P (ix2 p k) * W (ix3 0 k j) := by
  pointwise [k0_pay131, k0_pay130, k0_pay127, k0_pay128]
  done

theorem zero_k0_pay53 (y : S8x1024.Idx) : k0_pay53 (F := Ideal) y = 0 := by
  unfold k0_pay53
  pointwise

/-- What a step adds to row `s`. -/
def vecT (c : Dev nD) (t : Fin cfg0.N) (s : Fin 8) (q : Fin 1024) : EReal :=
  if s.val = 0 then ∑ p : Fin 256, ap (args m c) (R t p) q * da (args m c) (R t p) q
  else if s.val = 1 then ∑ p : Fin 256, vh (args m c) (R t p) q * dv (args m c) (R t p) q
  else if s.val = 2 then ∑ p : Fin 256, dv (args m c) (R t p) q else 0

theorem wp_ld (c : Dev nD) (t : Fin cfg0.N) (g : Fin 4) {o : ℕ} (e : o = g.val) (inb) (k j : Fin 256) :
    View.ld (iblk m c 3 t) (Rect.unit (s := S4x256x256) ![o, 0, 0] ![1, 256, 256] inb) (ix3 0 k j) = (args m c).wp (ix3 g k j) := by
  subst e
  exact (ld_3 (iblk m c 3 t) g.val _ k j g.isLt k.isLt j.isLt).trans (wp_blk m c t g k j)

/-- One part of row 0. -/
theorem ps_tile (c : Dev nD) (t : Fin cfg0.N) {o : ℕ} (g : Fin 4) (e : o = 256 * g.val) (P : FVec Ideal S256x256 .bf16) (W : FVec Ideal S1x256x256 .bf16)
    (hP : ∀ p i, P (ix2 p i) = pl (args m c) (R t p) (col g i)) (hW : ∀ k j, W (ix3 0 k j) = (args m c).wp (ix3 g k j)) (j : Fin 256) (h : o + j.val < 1024) :
    ∑ p : Fin 256, DA m c t (ix2 p ⟨o + j.val, h⟩) * ∑ k : Fin 256, P (ix2 p k) * W (ix3 0 k j)
      = ∑ p : Fin 256, ap (args m c) (R t p) (col g j) * da (args m c) (R t p) (col g j) := by
  subst e
  refine Finset.sum_congr rfl fun p _ => (mul_comm _ _).trans (congrArg₂ (· * ·) ?_ ((DA_at m c t _ _).trans (congrArg (da (args m c) (R t p)) (col_eq g j _ rfl))))
  show _ = ∑ k : Fin 256, (args m c).wp (ix3 (hd (col g j)) k (cl (col g j))) * pl (args m c) (R t p) (col (hd (col g j)) k)
  rw [hd_col, cl_col]
  exact Finset.sum_congr rfl fun k _ => (mul_comm _ _).trans (congrArg₂ (· * ·) (hW k j) (hP p k))

/-! ## Reading the rows after the stores -/

variable {κ : Kind} {sp : Space} (v : View sig κ sp V8 .f32) (f : v.ty.Contents (Elt Ideal))

theorem seg_mem {o : ℕ} (inb) (w : S1x256.Idx → EReal) (L : List (View.Piece (Elt Ideal) V8 .f32)) (q : Fin 1024) (j : Fin 256) (h : q.val = o + j.val) :
    v.read (Elt Ideal) (v.writes (Elt Ideal) f (⟨Rect.unit (s := V8) ![0, o] ![1, 256] inb, w⟩ :: L)) (ix2 0 q) = w (ix2 0 j) :=
  View.read_writes_cons_unit_of_mem v f inb w L (ix2 0 q) (ix2 0 j) rfl (by
    intro a
    fin_cases a
    · rfl
    · exact h)

theorem seg_ne {o : ℕ} (inb) (w : S1x256.Idx → EReal) (L : List (View.Piece (Elt Ideal) V8 .f32)) (s : Fin 8) (q : Fin 1024) (h : s.val ≠ 0 ∨ q.val < o ∨ o + 256 ≤ q.val) :
    v.read (Elt Ideal) (v.writes (Elt Ideal) f (⟨Rect.unit (s := V8) ![0, o] ![1, 256] inb, w⟩ :: L)) (ix2 s q) = v.read (Elt Ideal) (v.writes (Elt Ideal) f L) (ix2 s q) := by
  rcases h with h | h
  · exact View.read_writes_cons_unit_of_not_mem v f inb w L (ix2 s q) rfl 0 (by
      show s.val < 0 ∨ 0 + 1 ≤ s.val
      omega)
  · exact View.read_writes_cons_unit_of_not_mem v f inb w L (ix2 s q) rfl 1 h

/-- The six stores of a step, read back. -/
theorem six_at (inb0 inb1 inb2 inb3 inb4 inb5) (w2 w1 : (⟨2, ![1, 1024]⟩ : Shape).Idx → EReal) (s3 s2 s1 s0 : S1x256.Idx → EReal) (L : List (View.Piece (Elt Ideal) V8 .f32))
    (G0 G1 G2 : Fin 1024 → EReal) (h0 : ∀ j, s0 (ix2 0 j) = G0 (col 0 j)) (h1 : ∀ j, s1 (ix2 0 j) = G0 (col 1 j)) (h2 : ∀ j, s2 (ix2 0 j) = G0 (col 2 j)) (h3 : ∀ j, s3 (ix2 0 j) = G0 (col 3 j))
    (hw1 : ∀ q, w1 (ix2 0 q) = G1 q) (hw2 : ∀ q, w2 (ix2 0 q) = G2 q) (s : Fin 8) (q : Fin 1024) :
    v.read (Elt Ideal) (v.writes (Elt Ideal) f (⟨Rect.unit (s := V8) ![2, 0] ![1, 1024] inb5, w2⟩ :: ⟨Rect.unit (s := V8) ![1, 0] ![1, 1024] inb4, w1⟩ ::
        ⟨Rect.unit (s := V8) ![0, 768] ![1, 256] inb3, s3⟩ :: ⟨Rect.unit (s := V8) ![0, 512] ![1, 256] inb2, s2⟩ ::
        ⟨Rect.unit (s := V8) ![0, 256] ![1, 256] inb1, s1⟩ :: ⟨Rect.unit (s := V8) ![0, 0] ![1, 256] inb0, s0⟩ :: L)) (ix2 s q)
      = if s.val = 0 then G0 q else if s.val = 1 then G1 q else if s.val = 2 then G2 q else v.read (Elt Ideal) (v.writes (Elt Ideal) f L) (ix2 s q) := by
  by_cases e2 : s.val = 2
  · rw [if_neg (by omega), if_neg (by omega), if_pos e2]
    exact (read_row v f inb5 w2 _ s q e2).trans (hw2 q)
  refine (read_row_ne v f inb5 w2 _ s q e2).trans ?_
  by_cases e1 : s.val = 1
  · rw [if_neg (by omega), if_pos e1]
    exact (read_row v f inb4 w1 _ s q e1).trans (hw1 q)
  refine (read_row_ne v f inb4 w1 _ s q e1).trans ?_
  by_cases e0 : s.val = 0
  · rw [if_pos e0]
    obtain rfl : s = 0 := Fin.ext e0
    by_cases c3 : 768 ≤ q.val
    · refine (seg_mem v f inb3 s3 _ q ⟨q.val - 768, by omega⟩ (by show q.val = 768 + (q.val - 768); omega)).trans ((h3 _).trans (congrArg G0 (Fin.ext ?_)))
      show 3 * 256 + (q.val - 768) = q.val
      omega
    refine (seg_ne v f inb3 s3 _ 0 q (by omega)).trans ?_
    by_cases c2 : 512 ≤ q.val
    · refine (seg_mem v f inb2 s2 _ q ⟨q.val - 512, by omega⟩ (by show q.val = 512 + (q.val - 512); omega)).trans ((h2 _).trans (congrArg G0 (Fin.ext ?_)))
      show 2 * 256 + (q.val - 512) = q.val
      omega
    refine (seg_ne v f inb2 s2 _ 0 q (by omega)).trans ?_
    by_cases c1 : 256 ≤ q.val
    · refine (seg_mem v f inb1 s1 _ q ⟨q.val - 256, by omega⟩ (by show q.val = 256 + (q.val - 256); omega)).trans ((h1 _).trans (congrArg G0 (Fin.ext ?_)))
      show 1 * 256 + (q.val - 256) = q.val
      omega
    refine (seg_ne v f inb1 s1 _ 0 q (by omega)).trans ?_
    refine (seg_mem v f inb0 s0 _ q ⟨q.val, by omega⟩ (Nat.zero_add _).symm).trans ((h0 _).trans (congrArg G0 (Fin.ext ?_)))
    show 0 * 256 + q.val = q.val
    omega
  · rw [if_neg e0, if_neg e1, if_neg e2]
    exact (seg_ne v f inb3 s3 _ s q (.inl e0)).trans ((seg_ne v f inb2 s2 _ s q (.inl e0)).trans ((seg_ne v f inb1 s1 _ s q (.inl e0)).trans (seg_ne v f inb0 s0 _ s q (.inl e0))))

theorem row_ld (X : FVec Ideal S8x1024 .f32) {o : ℕ} (s : Fin 8) (e : o = s.val) (inb) (q : Fin 1024) :
    View.ld (Val := Elt Ideal) (e' := .f32) X (Rect.unit (s := S8x1024) ![o, 0] ![1, 1024] inb) (ix2 0 q) = X (ix2 s q) := by
  subst e
  exact (ld_2 (e := .f32) (Val := Elt Ideal) X s.val 0 _ 0 q (by show s.val + 0 < 8; omega) (by omega)).trans (congrArg X (congrArg₂ ix2 (Fin.ext rfl) (Fin.ext (Nat.zero_add _))))
theorem seg_ld (X : FVec Ideal S8x1024 .f32) {o : ℕ} (g : Fin 4) (e : o = 256 * g.val) (inb) (j : Fin 256) :
    View.ld (Val := Elt Ideal) (e' := .f32) X (Rect.unit (s := S8x1024) ![0, o] ![1, 256] inb) (ix2 0 j) = X (ix2 0 (col g j)) :=
  (ld_2 (e := .f32) (Val := Elt Ideal) X 0 o _ 0 j (by decide) (by omega)).trans (congrArg (fun q => X (ix2 0 q)) (col_eq g j _ (by subst e; rfl)))

theorem vec_A (c : Dev nD) (t : Fin cfg0.N) (h0 : t.val % 16 = 0) (h1 : ¬ t.val % 16 = 15) (s : Fin 8) (q : Fin 1024) : (stepA m c t h0 h1).2.2.2.2.2.1 (ix2 s q) = vecT m c t s q := by
  unfold stepA
  frame_open
  frame_out
  rw [← View.read_writes_junk_eq_canon (ms0_19 t).view]
  refine (six_at (ms0_19 t).view _ _ _ _ _ _ _ _ _ _ _ _ _ [_]
    (fun q => 0 + ∑ p : Fin 256, ap (args m c) (R t p) q * da (args m c) (R t p) q)
    (fun q => 0 + ∑ p : Fin 256, vh (args m c) (R t p) q * dv (args m c) (R t p) q)
    (fun q => 0 + ∑ p : Fin 256, dv (args m c) (R t p) q)
    (fun j => ?_) (fun j => ?_) (fun j => ?_) (fun j => ?_) (fun q => ?_) (fun q => ?_) s q).trans ?_
  · refine (ps_pay0 _ _ _ _ _ j).trans (congrArg₂ (· + ·) ?_ (ps_tile m c t 0 rfl _ _ (fun p i => pool_ld m c t 0 rfl _ p i) (fun k j => wp_ld m c t 0 rfl _ k j) j _))
    rw [View.readCov_fill _ _ _ _ _ (by decide)]
    exact zero_k0_pay53 _
  · refine (ps_pay1 _ _ _ _ j).trans (congrArg₂ (· + ·) ?_ (ps_tile m c t 1 rfl _ _ (fun p i => pool_ld m c t 1 rfl _ p i) (fun k j => wp_ld m c t 1 rfl _ k j) j _))
    rw [View.readCov_skip _ _ _ _ _ (by decide), View.readCov_fill _ _ _ _ _ (by decide)]
    exact zero_k0_pay53 _
  · refine (ps_pay2 _ _ _ _ j).trans (congrArg₂ (· + ·) ?_ (ps_tile m c t 2 rfl _ _ (fun p i => pool_ld m c t 2 rfl _ p i) (fun k j => wp_ld m c t 2 rfl _ k j) j _))
    rw [View.readCov_skip _ _ _ _ _ (by decide), View.readCov_skip _ _ _ _ _ (by decide), View.readCov_fill _ _ _ _ _ (by decide)]
    exact zero_k0_pay53 _
  · refine (ps_pay3 _ _ _ _ j).trans (congrArg₂ (· + ·) ?_ (ps_tile m c t 3 rfl _ _ (fun p i => pool_ld m c t 3 rfl _ p i) (fun k j => wp_ld m c t 3 rfl _ k j) j _))
    rw [View.readCov_skip _ _ _ _ _ (by decide), View.readCov_skip _ _ _ _ _ (by decide), View.readCov_skip _ _ _ _ _ (by decide), View.readCov_fill _ _ _ _ _ (by decide)]
    exact zero_k0_pay53 _
  · refine (dlg_pay (VH m c t) (DV m c t) _ q).trans (congrArg₂ (· + ·) ?_ (Finset.sum_congr rfl fun p _ => (mul_comm _ _).trans (congrArg₂ (· * ·) (VH_at m c t p q) (DV_at m c t p q))))
    rw [View.readCov_skip _ _ _ _ _ (by decide), View.readCov_skip _ _ _ _ _ (by decide), View.readCov_skip _ _ _ _ _ (by decide), View.readCov_skip _ _ _ _ _ (by decide), View.readCov_fill _ _ _ _ _ (by decide)]
    exact zero_k0_pay53 _
  · refine (dlb_pay (DV m c t) _ q).trans (congrArg₂ (· + ·) ?_ (Finset.sum_congr rfl fun p _ => DV_at m c t p q))
    rw [View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
    exact zero_k0_pay53 _
  · unfold vecT
    by_cases e0 : s.val = 0
    · rw [if_pos e0, if_pos e0]; exact zero_add _
    rw [if_neg e0, if_neg e0]
    by_cases e1 : s.val = 1
    · rw [if_pos e1, if_pos e1]; exact zero_add _
    rw [if_neg e1, if_neg e1]
    by_cases e2 : s.val = 2
    · rw [if_pos e2, if_pos e2]; exact zero_add _
    rw [if_neg e2, if_neg e2, View.read_writes_junk_eq_canon, View.canon_cons_unit_lit _ _ _ (by decide)]
    exact zero_k0_pay53 _

theorem vec_B (c : Dev nD) (t : Fin cfg0.N) (h0 : ¬ t.val % 16 = 0) (h1 : ¬ t.val % 16 = 15) (p : Held Ideal) (s : Fin 8) (q : Fin 1024) : (stepB m c t h0 h1 p).2.2.2.2.2.1 (ix2 s q) = p.2.2.2.2.2.1 (ix2 s q) + vecT m c t s q := by
  unfold stepB
  frame_open
  frame_out
  refine (six_at (ms0_19 t).view _ _ _ _ _ _ _ _ _ _ _ _ _ []
    (fun q => p.2.2.2.2.2.1 (ix2 0 q) + ∑ p : Fin 256, ap (args m c) (R t p) q * da (args m c) (R t p) q)
    (fun q => p.2.2.2.2.2.1 (ix2 1 q) + ∑ p : Fin 256, vh (args m c) (R t p) q * dv (args m c) (R t p) q)
    (fun q => p.2.2.2.2.2.1 (ix2 2 q) + ∑ p : Fin 256, dv (args m c) (R t p) q)
    (fun j => ?_) (fun j => ?_) (fun j => ?_) (fun j => ?_) (fun q => ?_) (fun q => ?_) s q).trans ?_
  · refine (ps_pay0 _ _ _ _ _ j).trans (congrArg₂ (· + ·) ?_ (ps_tile m c t 0 rfl _ _ (fun p i => pool_ld m c t 0 rfl _ p i) (fun k j => wp_ld m c t 0 rfl _ k j) j _))
    exact seg_ld p.2.2.2.2.2.1 0 rfl _ j
  · refine (ps_pay1 _ _ _ _ j).trans (congrArg₂ (· + ·) ?_ (ps_tile m c t 1 rfl _ _ (fun p i => pool_ld m c t 1 rfl _ p i) (fun k j => wp_ld m c t 1 rfl _ k j) j _))
    exact seg_ld p.2.2.2.2.2.1 1 rfl _ j
  · refine (ps_pay2 _ _ _ _ j).trans (congrArg₂ (· + ·) ?_ (ps_tile m c t 2 rfl _ _ (fun p i => pool_ld m c t 2 rfl _ p i) (fun k j => wp_ld m c t 2 rfl _ k j) j _))
    exact seg_ld p.2.2.2.2.2.1 2 rfl _ j
  · refine (ps_pay3 _ _ _ _ j).trans (congrArg₂ (· + ·) ?_ (ps_tile m c t 3 rfl _ _ (fun p i => pool_ld m c t 3 rfl _ p i) (fun k j => wp_ld m c t 3 rfl _ k j) j _))
    exact seg_ld p.2.2.2.2.2.1 3 rfl _ j
  · refine (dlg_pay (VH m c t) (DV m c t) _ q).trans (congrArg₂ (· + ·) ?_ (Finset.sum_congr rfl fun p _ => (mul_comm _ _).trans (congrArg₂ (· * ·) (VH_at m c t p q) (DV_at m c t p q))))
    exact row_ld p.2.2.2.2.2.1 1 rfl _ q
  · refine (dlb_pay (DV m c t) _ q).trans (congrArg₂ (· + ·) ?_ (Finset.sum_congr rfl fun p _ => DV_at m c t p q))
    exact row_ld p.2.2.2.2.2.1 2 rfl _ q
  · unfold vecT
    by_cases e0 : s.val = 0
    · rw [if_pos e0, if_pos e0]; obtain rfl : s = 0 := Fin.ext e0; rfl
    rw [if_neg e0, if_neg e0]
    by_cases e1 : s.val = 1
    · rw [if_pos e1, if_pos e1]; obtain rfl : s = 1 := Fin.ext e1; rfl
    rw [if_neg e1, if_neg e1]
    by_cases e2 : s.val = 2
    · rw [if_pos e2, if_pos e2]; obtain rfl : s = 2 := Fin.ext e2; rfl
    rw [if_neg e2, if_neg e2, add_zero]
    exact congrFun (Memref.IsWhole.read_unread _ _) _

theorem vec_C (c : Dev nD) (t : Fin cfg0.N) (h0 : ¬ t.val % 16 = 0) (h1 : t.val % 16 = 15) (p : Held Ideal) (s : Fin 8) (q : Fin 1024) : (stepC m c t h0 h1 p).2.2.2.2.2.1 (ix2 s q) = p.2.2.2.2.2.1 (ix2 s q) + vecT m c t s q := by
  unfold stepC
  frame_open
  frame_out
  refine (six_at (ms0_19 t).view _ _ _ _ _ _ _ _ _ _ _ _ _ []
    (fun q => p.2.2.2.2.2.1 (ix2 0 q) + ∑ p : Fin 256, ap (args m c) (R t p) q * da (args m c) (R t p) q)
    (fun q => p.2.2.2.2.2.1 (ix2 1 q) + ∑ p : Fin 256, vh (args m c) (R t p) q * dv (args m c) (R t p) q)
    (fun q => p.2.2.2.2.2.1 (ix2 2 q) + ∑ p : Fin 256, dv (args m c) (R t p) q)
    (fun j => ?_) (fun j => ?_) (fun j => ?_) (fun j => ?_) (fun q => ?_) (fun q => ?_) s q).trans ?_
  · refine (ps_pay0 _ _ _ _ _ j).trans (congrArg₂ (· + ·) ?_ (ps_tile m c t 0 rfl _ _ (fun p i => pool_ld m c t 0 rfl _ p i) (fun k j => wp_ld m c t 0 rfl _ k j) j _))
    exact seg_ld p.2.2.2.2.2.1 0 rfl _ j
  · refine (ps_pay1 _ _ _ _ j).trans (congrArg₂ (· + ·) ?_ (ps_tile m c t 1 rfl _ _ (fun p i => pool_ld m c t 1 rfl _ p i) (fun k j => wp_ld m c t 1 rfl _ k j) j _))
    exact seg_ld p.2.2.2.2.2.1 1 rfl _ j
  · refine (ps_pay2 _ _ _ _ j).trans (congrArg₂ (· + ·) ?_ (ps_tile m c t 2 rfl _ _ (fun p i => pool_ld m c t 2 rfl _ p i) (fun k j => wp_ld m c t 2 rfl _ k j) j _))
    exact seg_ld p.2.2.2.2.2.1 2 rfl _ j
  · refine (ps_pay3 _ _ _ _ j).trans (congrArg₂ (· + ·) ?_ (ps_tile m c t 3 rfl _ _ (fun p i => pool_ld m c t 3 rfl _ p i) (fun k j => wp_ld m c t 3 rfl _ k j) j _))
    exact seg_ld p.2.2.2.2.2.1 3 rfl _ j
  · refine (dlg_pay (VH m c t) (DV m c t) _ q).trans (congrArg₂ (· + ·) ?_ (Finset.sum_congr rfl fun p _ => (mul_comm _ _).trans (congrArg₂ (· * ·) (VH_at m c t p q) (DV_at m c t p q))))
    exact row_ld p.2.2.2.2.2.1 1 rfl _ q
  · refine (dlb_pay (DV m c t) _ q).trans (congrArg₂ (· + ·) ?_ (Finset.sum_congr rfl fun p _ => DV_at m c t p q))
    exact row_ld p.2.2.2.2.2.1 2 rfl _ q
  · unfold vecT
    by_cases e0 : s.val = 0
    · rw [if_pos e0, if_pos e0]; obtain rfl : s = 0 := Fin.ext e0; rfl
    rw [if_neg e0, if_neg e0]
    by_cases e1 : s.val = 1
    · rw [if_pos e1, if_pos e1]; obtain rfl : s = 1 := Fin.ext e1; rfl
    rw [if_neg e1, if_neg e1]
    by_cases e2 : s.val = 2
    · rw [if_pos e2, if_pos e2]; obtain rfl : s = 2 := Fin.ext e2; rfl
    rw [if_neg e2, if_neg e2, add_zero]
    exact congrFun (Memref.IsWhole.read_unread _ _) _

end Cert.KernelIdeal.Mix
end
-- ==== Proof.Mix.Value.lean ====
/- # The token mixer: its sums over the whole launch, and the value claim

The steps take the rows from the last tile to the first. Each sum is carried from step to step; after the last step it is the sum over all rows, and the reference's result. -/
module

public import proofs.«01_k».proof.Proof.Mix.Sums
public import proofs.«01_k».proof.Proof.Mix.Cols
public import proofs.«01_k».proof.Defs
public import proofs.«01_k».proof.Proof.Mix.Frame

@[expose] public section

set_option maxRecDepth 16384
set_option maxHeartbeats 1000000

noncomputable section

open Idealize.ShloMosaic Idealize.ShloMosaic.TcCoe Idealize.SL.Sem
open Idealize.ShloMosaic.Pipeline (Dat)

namespace Cert.KernelIdeal.Mix
open Cert.KernelIdeal Cert.KernelIdeal.Gen Cert.MixRows Cert.Rows
open Cert.ReferenceIdeal.Rows (og ok)

variable (m : (ℓ : Loc nD τ sig) → Buf (Elt Ideal) ℓ)

/-! ## Sums over the steps -/

/-- A step of the launch. -/
abbrev step (t : Fin 16) : Fin cfg0.N := ⟨t.val, lt_of_lt_of_eq t.isLt N_0.symm⟩

/-- An entry that the first step sets and each later one adds to. -/
theorem acc_sum (c : Dev nD) (f : Held Ideal → EReal) (T : Fin cfg0.N → EReal) (hA : ∀ t h0 h1, f (stepA m c t h0 h1) = T t)
    (hB : ∀ t h0 h1 p, f (stepB m c t h0 h1 p) = f p + T t) :
    ∀ (n : ℕ) (h : n < cfg0.N) (hn : n < 15), f (outsAt0 m c n h) = ∑ t : Fin (n + 1), T (step ⟨t.val, by omega⟩)
  | 0, h, _ => by
    rw [Fin.sum_univ_one]
    exact (congrArg f (outsAt0_A m c ⟨0, h⟩ rfl (by show ¬ (0 : ℕ) % 16 = 15; decide))).trans (hA ⟨0, h⟩ _ _)
  | n + 1, h, hn => by
    refine (congrArg f (outsAt0_B m c ⟨n + 1, h⟩ (by show ¬ (n + 1) % 16 = 0; omega) (by show ¬ (n + 1) % 16 = 15; omega))).trans ((hB ⟨n + 1, h⟩ _ _ _).trans ?_)
    refine (congrArg (· + _) (acc_sum c f T hA hB n (by omega) (by omega))).trans ?_
    exact (Fin.sum_univ_castSucc (fun t : Fin (n + 1 + 1) => T (step ⟨t.val, by omega⟩))).symm

/-- What the last step finds. -/
abbrev held (c : Dev nD) : Held Ideal := outsAt0 m c 14 (by decide)

theorem last_step (c : Dev nD) : outsAt0 m c 15 (by decide) = stepC m c ⟨15, by decide⟩ (by decide) (by decide) (held m c) :=
  outsAt0_C m c ⟨15, by decide⟩ (by decide) (by decide)

/-- What the last step finds, and what it adds. -/
theorem held_sum (c : Dev nD) (f : Held Ideal → EReal) (T : Fin cfg0.N → EReal) (hA : ∀ t h0 h1, f (stepA m c t h0 h1) = T t)
    (hB : ∀ t h0 h1 p, f (stepB m c t h0 h1 p) = f p + T t) : f (held m c) + T ⟨15, by decide⟩ = ∑ t : Fin 16, T (step t) := by
  refine (congrArg (· + _) (acc_sum m c f T hA hB 14 (by decide) (by decide))).trans ?_
  exact (Fin.sum_univ_castSucc (fun t : Fin (14 + 1 + 1) => T (step t))).symm

/-- The rows of all steps are all rows. -/
theorem rows_sum (f : Fin 4096 → EReal) : ∑ t : Fin 16, ∑ p : Fin 256, f (R (step t) p) = ∑ r, f r := by
  refine Eq.trans ?_ (Fin.sum_univ_tiles 16 256 rfl f).symm
  refine Eq.trans ?_ (Equiv.sum_comp Fin.revPerm _)
  refine Finset.sum_congr rfl fun t _ => Finset.sum_congr rfl fun p _ => congrArg f (Fin.ext ?_)
  have ht : (Fin.revPerm t).val = 16 - (t.val + 1) := rfl
  show 256 * (15 - t.val) + p.val = (Fin.revPerm t).val * 256 + p.val
  omega

/-- The blocks of all steps are all blocks. -/
theorem blocks_sum (f : Fin 32 → EReal) : ∑ t : Fin 16, (f (Bk (step t) 0) + f (Bk (step t) 1)) = ∑ b, f b := by
  refine Eq.trans ?_ (Fin.sum_univ_tiles 16 2 rfl f).symm
  refine Eq.trans ?_ (Equiv.sum_comp Fin.revPerm _)
  refine Finset.sum_congr rfl fun t _ => Eq.trans ?_ (Fin.sum_univ_two _).symm
  have ht : (Fin.revPerm t).val = 16 - (t.val + 1) := rfl
  refine congrArg₂ (· + ·) (congrArg f (Fin.ext ?_)) (congrArg f (Fin.ext ?_))
  · show 2 * (15 - t.val) + 0 = (Fin.revPerm t).val * 2 + 0
    omega
  · show 2 * (15 - t.val) + 1 = (Fin.revPerm t).val * 2 + 1
    omega

/-! ## The results -/

theorem dwp_all (c : Dev nD) (y : S4x256x256.Idx) : ∑ t : Fin 16, dwpT m c (step t) y = dwp (args m c) (y 0) (y 1) (y 2) :=
  rows_sum fun r => da (args m c) r (col (y 0) (y 2)) * (args m c).ps (ix1 (col (y 0) (y 2))) * pl (args m c) r (col (y 0) (y 1))

theorem dwq_all (c : Dev nD) (y : S4x256x256.Idx) : ∑ t : Fin 16, dwqT m c (step t) y = ∑ b : Fin 32, ∑ i : Fin 128, db (args m c) (rw b i) (col (y 0) (y 2)) * gt (args m c) (rw b i) (col (y 0) (y 1)) :=
  (rows_sum fun r => db (args m c) r (col (y 0) (y 2)) * gt (args m c) r (col (y 0) (y 1))).trans (Fin.sum_univ_tiles 32 128 rfl _)

theorem dws_all (c : Dev nD) (y : S4x128x128.Idx) : ∑ t : Fin 16, dwsT m c (step t) y = dws (args m c) (y 0) (y 1) (y 2) :=
  blocks_sum fun b => ∑ k : Fin 256, dsv (args m c) (rw b (y 1)) (col (y 0) k) * vb (args m c) (rw b (y 2)) (col (y 0) k)

theorem dsv_all (c : Dev nD) (i : Fin 128) (q : Fin 1024) : ∑ t : Fin 16, dsvT m c (step t) i q = ∑ b : Fin 32, dsv (args m c) (rw b i) q :=
  blocks_sum fun b => dsv (args m c) (rw b i) q

theorem vec_all (c : Dev nD) (s : Fin 8) (q : Fin 1024) : ∑ t : Fin 16, vecT m c (step t) s q
    = if s.val = 0 then dps (args m c) q else if s.val = 1 then dlg (args m c) q else if s.val = 2 then dlb (args m c) q else 0 := by
  unfold vecT
  split_ifs
  · exact rows_sum fun r => ap (args m c) r q * da (args m c) r q
  · exact rows_sum fun r => vh (args m c) r q * dv (args m c) r q
  · exact rows_sum fun r => dv (args m c) r q
  · exact Finset.sum_const_zero

theorem final15 (c : Dev nD) (W : FVec Ideal S2x4x128x256 .bf16) (hW : ∀ x s y d, W (ix4 x s y d) = dwp (args m c) (og x y) (ok s y) d) :
    (dats m 0 c).arrAt 15 (cfgs 0).N = W := by
  refine (dats m 0 c).arrAt_eq_of_after_last 15 ⟨15, by decide⟩ (by decide +kernel) _ fun j => ?_
  rw [after0_15]
  obtain ⟨x, s, y, d, rfl⟩ : ∃ (x : Fin 2) (s : Fin 4) (y : Fin 128) (d : Fin 256), j = ix4 x s y d := ⟨j 0, j 1, j 2, j 3, by funext l; fin_cases l <;> rfl⟩
  refine (congrFun (congrArg (·.2.1) (last_step m c)) (ix4 x s y d)).trans ((dwp_out m c _ _ _ (held m c) (ix4 x s y d)).trans ?_)
  refine (held_sum m c (fun p => p.2.2.2.2.2.2.2.2.2.1 (from4 (ix4 x s y d))) (fun t => dwpT m c t (from4 (ix4 x s y d))) (fun t h0 h1 => dwp_A m c t h0 h1 _) (fun t h0 h1 p => dwp_B m c t h0 h1 p _)).trans ?_
  exact (dwp_all m c _).trans (hW x s y d).symm

theorem final16 (c : Dev nD) (W : FVec Ideal S2x4x128x256 .bf16)
    (hW : ∀ x s y d, W (ix4 x s y d) = ∑ b : Fin 32, ∑ i : Fin 128, db (args m c) (rw b i) (col (og x y) d) * gt (args m c) (rw b i) (col (og x y) (ok s y))) :
    (dats m 0 c).arrAt 16 (cfgs 0).N = W := by
  refine (dats m 0 c).arrAt_eq_of_after_last 16 ⟨15, by decide⟩ (by decide +kernel) _ fun j => ?_
  rw [after0_16]
  obtain ⟨x, s, y, d, rfl⟩ : ∃ (x : Fin 2) (s : Fin 4) (y : Fin 128) (d : Fin 256), j = ix4 x s y d := ⟨j 0, j 1, j 2, j 3, by funext l; fin_cases l <;> rfl⟩
  refine (congrFun (congrArg (·.2.2.1) (last_step m c)) (ix4 x s y d)).trans ((dwq_out m c _ _ _ (held m c) (ix4 x s y d)).trans ?_)
  refine (held_sum m c (fun p => p.2.2.2.2.2.2.2.2.2.2 (from4 (ix4 x s y d))) (fun t => dwqT m c t (from4 (ix4 x s y d))) (fun t h0 h1 => dwq_A m c t h0 h1 _) (fun t h0 h1 p => dwq_B m c t h0 h1 p _)).trans ?_
  exact (dwq_all m c _).trans (hW x s y d).symm

theorem final17 (c : Dev nD) (W : FVec Ideal S4x128x128 .f32) (hW : ∀ g i j, W (ix3 g i j) = if 0 < MK m c ⟨15, by decide⟩ (ix2 i j) then dws (args m c) g i j else 0) :
    (dats m 0 c).arrAt 17 (cfgs 0).N = W := by
  refine (dats m 0 c).arrAt_eq_of_after_last 17 ⟨15, by decide⟩ (by decide +kernel) _ fun j => ?_
  rw [after0_17]
  obtain ⟨g, i, k, rfl⟩ : ∃ (g : Fin 4) (i k : Fin 128), j = ix3 g i k := ⟨j 0, j 1, j 2, by funext l; fin_cases l <;> rfl⟩
  refine (congrFun (congrArg (·.2.2.2.1) (last_step m c)) (ix3 g i k)).trans ((dws_C m c _ _ _ (held m c) (ix3 g i k)).trans ?_)
  refine Eq.trans (if_congr Iff.rfl ?_ rfl) (hW g i k).symm
  refine (held_sum m c (fun p => p.2.2.2.1 (ix3 g i k)) (fun t => dwsT m c t (ix3 g i k)) (fun t h0 h1 => dws_A m c t h0 h1 _) (fun t h0 h1 p => dws_B m c t h0 h1 p _)).trans ?_
  exact dws_all m c _

theorem final18 (c : Dev nD) (W : FVec Ideal S128x512 .f32) (hW : ∀ (i : Fin 128) (l : Fin 512), W (ix2 i l) = dbs (args m c) ⟨l.val / 128, by omega⟩ i) :
    (dats m 0 c).arrAt 18 (cfgs 0).N = W := by
  refine (dats m 0 c).arrAt_eq_of_after_last 18 ⟨15, by decide⟩ (by decide +kernel) _ fun j => ?_
  rw [after0_18]
  obtain ⟨i, l, rfl⟩ : ∃ (i : Fin 128) (l : Fin 512), j = ix2 i l := ⟨j 0, j 1, eq_ix2 j⟩
  refine (congrFun (congrArg (·.2.2.2.2.1) (last_step m c)) (ix2 i l)).trans ((dbs_out m c _ _ _ (held m c) (ix2 i l) ⟨l.val / 128, by omega⟩ rfl).trans ?_)
  refine Eq.trans ?_ (hW i l).symm
  refine (Finset.sum_congr rfl fun k _ => (held_sum m c (fun p => p.2.2.2.2.2.2.2.2.1 (ix2 i (col ⟨l.val / 128, by omega⟩ k))) (fun t => dsvT m c t i (col ⟨l.val / 128, by omega⟩ k))
    (fun t h0 h1 => dsv_A m c t h0 h1 _ _) (fun t h0 h1 p => dsv_B m c t h0 h1 p _ _)).trans (dsv_all m c i _)).trans ?_
  exact Finset.sum_comm

theorem final19 (c : Dev nD) (W : FVec Ideal S8x1024 .f32)
    (hW : ∀ (s : Fin 8) (q : Fin 1024), W (ix2 s q) = if s.val = 0 then dps (args m c) q else if s.val = 1 then dlg (args m c) q else if s.val = 2 then dlb (args m c) q else 0) :
    (dats m 0 c).arrAt 19 (cfgs 0).N = W := by
  refine (dats m 0 c).arrAt_eq_of_after_last 19 ⟨15, by decide⟩ (by decide +kernel) _ fun j => ?_
  rw [after0_19]
  obtain ⟨s, q, rfl⟩ : ∃ (s : Fin 8) (q : Fin 1024), j = ix2 s q := ⟨j 0, j 1, eq_ix2 j⟩
  refine (congrFun (congrArg (·.2.2.2.2.2.1) (last_step m c)) (ix2 s q)).trans ((vec_C m c _ _ _ (held m c) s q).trans ?_)
  refine (held_sum m c (fun p => p.2.2.2.2.2.1 (ix2 s q)) (fun t => vecT m c t s q) (fun t h0 h1 => vec_A m c t h0 h1 s q) (fun t h0 h1 p => vec_B m c t h0 h1 p s q)).trans ?_
  exact (vec_all m c s q).trans (hW s q).symm

end Cert.KernelIdeal.Mix

namespace Cert.Proof
open Cert.KernelIdeal.Mix

theorem args_congr {z z' dy dy' wp wp' ps ps' lg lg' lb lb' bs bs' wq wq' wo wo' pool pool' wm wm'} (h0 : z = z') (h1 : dy = dy') (h2 : wp = wp') (h3 : ps = ps') (h4 : lg = lg') (h5 : lb = lb')
    (h7 : bs = bs') (h8 : wq = wq') (h9 : wo = wo') (hp : pool = pool') (hm : wm = wm') :
    Cert.MixRows.Args.mk z dy wp ps lg lb bs wq wo pool wm = Cert.MixRows.Args.mk z' dy' wp' ps' lg' lb' bs' wq' wo' pool' wm' := by
  subst h0 h1 h2 h3 h4 h5 h7 h8 h9 hp hm
  rfl

theorem algebraic_Mix : Cert.algebraic_KernelIdeal_ReferenceIdeal := by
  intro m ρ m' ρ' _ hagree
  have ha : ∀ c, Cert.KernelIdeal.Mix.args m c = Cert.ReferenceIdeal.Rows.args (StableHlo.launchContents m' c) := fun c => by
    obtain ⟨a0, a1, a2, a3, a4, a5, a6, a7, a8, a9⟩ := hagree c
    exact args_congr a0.symm a1.symm a2.symm a3.symm a4.symm a5.symm a7.symm a8.symm a9.symm (pool_eq m c (StableHlo.launchContents m' c) a0) (wm_eq m c (StableHlo.launchContents m' c) a6)
  refine ⟨_, _, _, _, _, ?_, Cert.ReferenceIdeal.Value.run (F := Ideal) m' ρ'⟩
  refine (θ_run Cert.KernelIdeal.defs _ _).mono (fun r h c => ⟨((h.1 c).1 15).trans (final15 m c _ fun x s y d => ?_), ((h.1 c).1 16).trans (final16 m c _ fun x s y d => ?_),
      ((h.1 c).1 17).trans (final17 m c _ fun g i j => ?_), ((h.1 c).1 18).trans (final18 m c _ fun i l => ?_), ((h.1 c).1 19).trans (final19 m c _ fun s q => ?_), h.2 c⟩)
    (θ_run_and (run_main (F := Ideal) m ρ) (unchanged (F := Ideal) m ρ))
  · rw [ha c]
    exact Cert.ReferenceIdeal.Rows.dwp_at _ x s y d
  · rw [ha c]
    exact Cert.ReferenceIdeal.Rows.dwq_at _ x s y d
  · refine Eq.trans ?_ (if_congr (mask_iff m c _ (StableHlo.launchContents m' c) g i j).symm rfl rfl)
    rw [ha c]
    exact Cert.ReferenceIdeal.Rows.dws_at _ g i j
  · rw [ha c]
    exact Cert.ReferenceIdeal.Rows.dbs_at _ i l
  · rw [ha c]
    exact Cert.ReferenceIdeal.Rows.vec_at _ s q

end Cert.Proof
end
-- ==== Proof.lean ====
/- # The claim, assembled from the modules of `Proof/`

Each frame of a kernel comes from its run, each frame of a reference from its own; the value claims are the theorems `algebraic_…`. -/
module

public import proofs.«01_k».proof.Defs
public import proofs.«01_k».proof.Proof.Mix.Frame
public import proofs.«01_k».proof.Proof.Gen.ReferenceIdeal.Run
public import proofs.«01_k».proof.Proof.Gen.KernelFf2.Frame
public import proofs.«01_k».proof.Proof.Gen.KernelFf2Ideal.Frame
public import proofs.«01_k».proof.Proof.Gen.ReferenceFf2Ideal.Run
public import proofs.«01_k».proof.Proof.Gen.KernelFf1.Frame
public import proofs.«01_k».proof.Proof.Gen.KernelFf1Ideal.Frame
public import proofs.«01_k».proof.Proof.Gen.ReferenceFf1Ideal.Run
public import proofs.«01_k».proof.Proof.Gen.KernelIn.Frame
public import proofs.«01_k».proof.Proof.Gen.KernelInIdeal.Frame
public import proofs.«01_k».proof.Proof.Gen.ReferenceInIdeal.Run
public import proofs.«01_k».proof.Proof.Gen.KernelOut.Frame
public import proofs.«01_k».proof.Proof.Gen.KernelOutIdeal.Frame
public import proofs.«01_k».proof.Proof.Gen.ReferenceOutIdeal.Run
public import proofs.«01_k».proof.Proof.Gen.KernelFfn.Frame
public import proofs.«01_k».proof.Proof.Gen.KernelFfnIdeal.Frame
public import proofs.«01_k».proof.Proof.Gen.ReferenceFfnIdeal.Run
public import proofs.«01_k».proof.Proof.Gen.KernelDx.Frame
public import proofs.«01_k».proof.Proof.Gen.KernelDxIdeal.Frame
public import proofs.«01_k».proof.Proof.Gen.ReferenceDxIdeal.Run
public import proofs.«01_k».proof.Proof.Gen.KernelFwd.Frame
public import proofs.«01_k».proof.Proof.Gen.KernelFwdIdeal.Frame
public import proofs.«01_k».proof.Proof.Gen.ReferenceFwdIdeal.Run
public import proofs.«01_k».proof.Proof.Dw.Ff2
public import proofs.«01_k».proof.Proof.Dw.Ff1
public import proofs.«01_k».proof.Proof.Dw.In
public import proofs.«01_k».proof.Proof.Dw.Out
public import proofs.«01_k».proof.Proof.Ffn
public import proofs.«01_k».proof.Proof.Dx
public import proofs.«01_k».proof.Proof.Fwd
public import proofs.«01_k».proof.Proof.Mix.Bits
public import proofs.«01_k».proof.Proof.Mix.Value

@[expose] public section

noncomputable section

namespace Cert.Proof

open Idealize.ShloMosaic Idealize.SL.Sem

theorem frame_Reference : Cert.quiescent_ReferenceIdeal := fun m ρ _ =>
  (θ_run Cert.ReferenceIdeal.defs _ _).mono (fun r h => ⟨fun c => (h c).2.2.2.2.2, Idealize.ShloMosaic.sem_eq_zero_of_no_sems (by decide) r.2⟩)
    (Cert.ReferenceIdeal.Value.run (F := Ideal) m ρ)

/-- The constants of the tanh form of GELU, folded before they are rounded, named the products of the rounded ones. -/
theorem preserves_Mix : Cert.preserves_Kernel_KernelIdeal :=
  ⟨IdealRules.named_const.statement _ _ _ _ _ rfl, IdealRules.named_const.statement _ _ _ _ _ rfl⟩

theorem claim : Cert.Claim :=
  ⟨kernelFacts, Cert.KernelIdeal.Gen.facts, Cert.ReferenceIdeal.Gen.facts, Cert.KernelFf2.Gen.facts, Cert.KernelFf2Ideal.Gen.facts, Cert.ReferenceFf2Ideal.Gen.facts, Cert.KernelFf1.Gen.facts, Cert.KernelFf1Ideal.Gen.facts, Cert.ReferenceFf1Ideal.Gen.facts, Cert.KernelIn.Gen.facts, Cert.KernelInIdeal.Gen.facts, Cert.ReferenceInIdeal.Gen.facts, Cert.KernelOut.Gen.facts, Cert.KernelOutIdeal.Gen.facts, Cert.ReferenceOutIdeal.Gen.facts, Cert.KernelFfn.Gen.facts, Cert.KernelFfnIdeal.Gen.facts, Cert.ReferenceFfnIdeal.Gen.facts, Cert.KernelDx.Gen.facts, Cert.KernelDxIdeal.Gen.facts, Cert.ReferenceDxIdeal.Gen.facts, Cert.KernelFwd.Gen.facts, Cert.KernelFwdIdeal.Gen.facts, Cert.ReferenceFwdIdeal.Gen.facts, inferInstance, inferInstance, inferInstance,
   frame_Kernel,
   fun m ρ _ => Cert.KernelIdeal.Mix.frame m ρ,
   frame_Reference,
   fun m ρ _ => Cert.KernelFf2.Gen.frame m ρ,
   fun m ρ _ => Cert.KernelFf2Ideal.Gen.frame m ρ,
   frame_ReferenceFf2,
   fun m ρ _ => Cert.KernelFf1.Gen.frame m ρ,
   fun m ρ _ => Cert.KernelFf1Ideal.Gen.frame m ρ,
   frame_ReferenceFf1,
   fun m ρ _ => Cert.KernelIn.Gen.frame m ρ,
   fun m ρ _ => Cert.KernelInIdeal.Gen.frame m ρ,
   frame_ReferenceIn,
   fun m ρ _ => Cert.KernelOut.Gen.frame m ρ,
   fun m ρ _ => Cert.KernelOutIdeal.Gen.frame m ρ,
   frame_ReferenceOut,
   fun m ρ _ => Cert.KernelFfn.Gen.frame m ρ,
   fun m ρ _ => Cert.KernelFfnIdeal.Gen.frame m ρ,
   fun m ρ _ => Cert.KernelFfnIdeal.Gen.frame m ρ,
   frame_ReferenceFfn,
   fun m ρ _ => frame_ReferenceFfn m ρ trivial,
   fun m ρ _ => Cert.KernelDx.Gen.frame m ρ,
   fun m ρ _ => Cert.KernelDxIdeal.Gen.frame m ρ,
   fun m ρ _ => Cert.KernelDxIdeal.Gen.frame m ρ,
   frame_ReferenceDx,
   fun m ρ _ => frame_ReferenceDx m ρ trivial,
   fun m ρ _ => Cert.KernelFwd.Gen.frame m ρ,
   fun m ρ _ => Cert.KernelFwdIdeal.Gen.frame m ρ,
   fun m ρ _ => Cert.KernelFwdIdeal.Gen.frame m ρ,
   frame_ReferenceFwd,
   fun m ρ _ => frame_ReferenceFwd m ρ trivial,
   preserves_Mix,
   algebraic_Mix,
   trivial,
   algebraic_Ff2,
   trivial,
   algebraic_Ff1,
   trivial,
   algebraic_In,
   trivial,
   algebraic_Out,
   trivial,
   algebraic_Ffn,
   trivial,
   algebraic_Dx,
   trivial,
   algebraic_Fwd⟩

end Cert.Proof

end
